-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v208)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v208) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x2048 : Shape := ⟨3, ![4, 2048, 2048]⟩
abbrev S2048x8 : Shape := ⟨2, ![2048, 8]⟩
abbrev S8x2048x5632 : Shape := ⟨3, ![8, 2048, 5632]⟩
abbrev S8x5632x2048 : Shape := ⟨3, ![8, 5632, 2048]⟩
abbrev S8192x2048 : Shape := ⟨2, ![8192, 2048]⟩
abbrev S8192x8 : Shape := ⟨2, ![8192, 8]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S16384 : Shape := ⟨1, ![16384]⟩
abbrev S8 : Shape := ⟨1, ![8]⟩
abbrev S16384x1 : Shape := ⟨2, ![16384, 1]⟩
abbrev S32 : Shape := ⟨1, ![32]⟩
abbrev S32x1 : Shape := ⟨2, ![32, 1]⟩
abbrev S1x8 : Shape := ⟨2, ![1, 8]⟩
abbrev S32x8 : Shape := ⟨2, ![32, 8]⟩
abbrev S256 : Shape := ⟨1, ![256]⟩
abbrev S39 : Shape := ⟨1, ![39]⟩
abbrev S256x1 : Shape := ⟨2, ![256, 1]⟩
abbrev S39x1 : Shape := ⟨2, ![39, 1]⟩
abbrev S1 : Shape := ⟨1, ![1]⟩
abbrev S1x1 : Shape := ⟨2, ![1, 1]⟩
abbrev S16384x2048 : Shape := ⟨2, ![16384, 2048]⟩
abbrev S512x2048 : Shape := ⟨2, ![512, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x512 : Shape := ⟨2, ![512, 512]⟩

abbrev nBuf : Space → Nat
  | .hbm => 329
  | .vmem => 11
  | .smem => 5
  | _ => 0

abbrev hbmTy0_0 (i : Nat) : BufTy := match i % 128 with
  | 0 => ⟨S4x2048x2048, .f32⟩
  | 1 => ⟨S2048x8, .f32⟩
  | 2 => ⟨S8x2048x5632, .f32⟩
  | 3 => ⟨S8x2048x5632, .f32⟩
  | 4 => ⟨S8x5632x2048, .f32⟩
  | 5 => ⟨S8192x2048, .f32⟩
  | 6 => ⟨S8192x8, .f32⟩
  | 7 => ⟨S_, .f32⟩
  | 8 => ⟨S8192, .f32⟩
  | 9 => ⟨S_, .f32⟩
  | 10 => ⟨S8192, .f32⟩
  | 11 => ⟨S8192, .f32⟩
  | 12 => ⟨S8192x1, .f32⟩
  | 13 => ⟨S8192x8, .f32⟩
  | 14 => ⟨S8192x8, .f32⟩
  | 15 => ⟨S8192x8, .f32⟩
  | 16 => ⟨S_, .f32⟩
  | 17 => ⟨S8192, .f32⟩
  | 18 => ⟨S8192x1, .f32⟩
  | 19 => ⟨S8192x8, .f32⟩
  | 20 => ⟨S8192x8, .f32⟩
  | 21 => ⟨S8192x2, .f32⟩
  | 22 => ⟨S8192x2, .i32⟩
  | 23 => ⟨S_, .f32⟩
  | 24 => ⟨S8192, .f32⟩
  | 25 => ⟨S8192x1, .f32⟩
  | 26 => ⟨S8192x2, .f32⟩
  | 27 => ⟨S8192x2, .f32⟩
  | 28 => ⟨S16384, .i32⟩
  | 29 => ⟨S_, .i32⟩
  | 30 => ⟨S8, .i32⟩
  | 31 => ⟨S_, .i32⟩
  | 32 => ⟨S_, .i32⟩
  | 33 => ⟨S16384, .i32⟩
  | 34 => ⟨S16384, .i32⟩
  | 35 => ⟨S_, .i32⟩
  | 36 => ⟨S16384, .i32⟩
  | 37 => ⟨S16384, .i1⟩
  | 38 => ⟨S_, .i32⟩
  | 39 => ⟨S16384, .i32⟩
  | 40 => ⟨S16384, .i32⟩
  | 41 => ⟨S16384, .i32⟩
  | 42 => ⟨S16384x1, .i32⟩
  | 43 => ⟨S_, .i32⟩
  | 44 => ⟨S16384, .i32⟩
  | 45 => ⟨S8, .i32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S_, .f32⟩
  | 53 => ⟨S8, .f32⟩
  | 54 => ⟨S8, .f32⟩
  | 55 => ⟨S8, .f32⟩
  | 56 => ⟨S_, .f32⟩
  | 57 => ⟨S_, .f32⟩
  | 58 => ⟨S_, .f32⟩
  | 59 => ⟨S_, .f32⟩
  | 60 => ⟨S16384, .i32⟩
  | 61 => ⟨S16384, .i32⟩
  | 62 => ⟨S16384, .i32⟩
  | 63 => ⟨S16384, .i32⟩
  | 64 => ⟨S_, .i32⟩
  | 65 => ⟨S_, .i32⟩
  | 66 => ⟨S16384, .i32⟩
  | 67 => ⟨S16384, .i32⟩
  | 68 => ⟨S16384, .i32⟩
  | 69 => ⟨S_, .i32⟩
  | 70 => ⟨S16384, .i32⟩
  | 71 => ⟨S16384, .i1⟩
  | 72 => ⟨S16384, .i32⟩
  | 73 => ⟨S16384, .i32⟩
  | 74 => ⟨S_, .i32⟩
  | 75 => ⟨S16384, .i32⟩
  | 76 => ⟨S16384, .i1⟩
  | 77 => ⟨S16384, .i1⟩
  | 78 => ⟨S_, .i32⟩
  | 79 => ⟨S16384, .i32⟩
  | 80 => ⟨S16384, .i32⟩
  | 81 => ⟨S16384, .i32⟩
  | 82 => ⟨S16384, .f32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S16384x1, .i32⟩
  | 91 => ⟨S16384, .f32⟩
  | 92 => ⟨S_, .i32⟩
  | 93 => ⟨S16384, .i32⟩
  | 94 => ⟨S16384, .i32⟩
  | 95 => ⟨S_, .i32⟩
  | 96 => ⟨S16384, .i32⟩
  | 97 => ⟨S16384, .i1⟩
  | 98 => ⟨S_, .i32⟩
  | 99 => ⟨S16384, .i32⟩
  | 100 => ⟨S16384, .i32⟩
  | 101 => ⟨S16384, .i32⟩
  | 102 => ⟨S16384x1, .i32⟩
  | 103 => ⟨S16384, .i32⟩
  | 104 => ⟨S8192x2, .i32⟩
  | 105 => ⟨S_, .i32⟩
  | 106 => ⟨S_, .i32⟩
  | 107 => ⟨S8, .i32⟩
  | 108 => ⟨S8, .i32⟩
  | 109 => ⟨S8, .i32⟩
  | 110 => ⟨S32, .i32⟩
  | 111 => ⟨S32x1, .i32⟩
  | 112 => ⟨S_, .i32⟩
  | 113 => ⟨S32x1, .i32⟩
  | 114 => ⟨S32x1, .i32⟩
  | 115 => ⟨S_, .i32⟩
  | 116 => ⟨S32x1, .i32⟩
  | 117 => ⟨S32x1, .i32⟩
  | 118 => ⟨S_, .i32⟩
  | 119 => ⟨S32x1, .i32⟩
  | 120 => ⟨S32x1, .i32⟩
  | 121 => ⟨S1x8, .i32⟩
  | 122 => ⟨S1x8, .i32⟩
  | 123 => ⟨S32x8, .i32⟩
  | 124 => ⟨S32x8, .i32⟩
  | 125 => ⟨S32x8, .i1⟩
  | 126 => ⟨S32x8, .i32⟩
  | 127 => ⟨S32x8, .i32⟩
  | _ => ⟨S4x2048x2048, .f32⟩

abbrev hbmTy0_1 (i : Nat) : BufTy := match i % 128 with
  | 0 => ⟨S32x8, .i1⟩
  | 1 => ⟨S32x8, .i1⟩
  | 2 => ⟨S32x8, .i32⟩
  | 3 => ⟨S32x8, .i32⟩
  | 4 => ⟨S32x8, .i32⟩
  | 5 => ⟨S_, .i32⟩
  | 6 => ⟨S_, .i32⟩
  | 7 => ⟨S_, .i32⟩
  | 8 => ⟨S32x8, .i32⟩
  | 9 => ⟨S32x8, .i32⟩
  | 10 => ⟨S_, .i32⟩
  | 11 => ⟨S32x8, .i32⟩
  | 12 => ⟨S32x8, .i32⟩
  | 13 => ⟨S32x8, .i32⟩
  | 14 => ⟨S32x8, .i32⟩
  | 15 => ⟨S32x8, .i32⟩
  | 16 => ⟨S_, .i32⟩
  | 17 => ⟨S_, .i32⟩
  | 18 => ⟨S_, .i32⟩
  | 19 => ⟨S32x8, .i32⟩
  | 20 => ⟨S32x8, .i32⟩
  | 21 => ⟨S_, .i32⟩
  | 22 => ⟨S32x8, .i32⟩
  | 23 => ⟨S32x8, .i32⟩
  | 24 => ⟨S8, .i32⟩
  | 25 => ⟨S1x8, .i32⟩
  | 26 => ⟨S32x8, .i32⟩
  | 27 => ⟨S32x8, .i32⟩
  | 28 => ⟨S256, .i1⟩
  | 29 => ⟨S256, .i32⟩
  | 30 => ⟨S_, .i32⟩
  | 31 => ⟨S_, .i32⟩
  | 32 => ⟨S256, .i32⟩
  | 33 => ⟨S_, .i32⟩
  | 34 => ⟨S256, .i32⟩
  | 35 => ⟨S256, .i32⟩
  | 36 => ⟨S_, .i32⟩
  | 37 => ⟨S_, .i32⟩
  | 38 => ⟨S256, .i32⟩
  | 39 => ⟨S256, .i32⟩
  | 40 => ⟨S256, .i32⟩
  | 41 => ⟨S_, .i32⟩
  | 42 => ⟨S_, .i32⟩
  | 43 => ⟨S_, .i32⟩
  | 44 => ⟨S39, .i32⟩
  | 45 => ⟨S256, .i32⟩
  | 46 => ⟨S_, .i32⟩
  | 47 => ⟨S256, .i32⟩
  | 48 => ⟨S256, .i1⟩
  | 49 => ⟨S_, .i32⟩
  | 50 => ⟨S256, .i32⟩
  | 51 => ⟨S256, .i32⟩
  | 52 => ⟨S256, .i32⟩
  | 53 => ⟨S256x1, .i32⟩
  | 54 => ⟨S39, .i32⟩
  | 55 => ⟨S39, .i32⟩
  | 56 => ⟨S_, .i32⟩
  | 57 => ⟨S_, .i32⟩
  | 58 => ⟨S39, .i32⟩
  | 59 => ⟨S39, .i32⟩
  | 60 => ⟨S_, .i32⟩
  | 61 => ⟨S39, .i32⟩
  | 62 => ⟨S39, .i1⟩
  | 63 => ⟨S_, .i32⟩
  | 64 => ⟨S39, .i32⟩
  | 65 => ⟨S39, .i32⟩
  | 66 => ⟨S39, .i32⟩
  | 67 => ⟨S39x1, .i32⟩
  | 68 => ⟨S_, .i32⟩
  | 69 => ⟨S39, .i32⟩
  | 70 => ⟨S256, .i32⟩
  | 71 => ⟨S_, .i32⟩
  | 72 => ⟨S256, .i32⟩
  | 73 => ⟨S256, .i1⟩
  | 74 => ⟨S_, .i32⟩
  | 75 => ⟨S256, .i32⟩
  | 76 => ⟨S256, .i32⟩
  | 77 => ⟨S256, .i32⟩
  | 78 => ⟨S256x1, .i32⟩
  | 79 => ⟨S39, .i32⟩
  | 80 => ⟨S39, .i32⟩
  | 81 => ⟨S_, .i32⟩
  | 82 => ⟨S_, .i32⟩
  | 83 => ⟨S39, .i32⟩
  | 84 => ⟨S39, .i32⟩
  | 85 => ⟨S_, .i32⟩
  | 86 => ⟨S39, .i32⟩
  | 87 => ⟨S39, .i1⟩
  | 88 => ⟨S_, .i32⟩
  | 89 => ⟨S39, .i32⟩
  | 90 => ⟨S39, .i32⟩
  | 91 => ⟨S39, .i32⟩
  | 92 => ⟨S39x1, .i32⟩
  | 93 => ⟨S_, .i32⟩
  | 94 => ⟨S39, .i32⟩
  | 95 => ⟨S256, .i32⟩
  | 96 => ⟨S_, .i32⟩
  | 97 => ⟨S256, .i32⟩
  | 98 => ⟨S256, .i1⟩
  | 99 => ⟨S_, .i32⟩
  | 100 => ⟨S256, .i32⟩
  | 101 => ⟨S256, .i32⟩
  | 102 => ⟨S256, .i32⟩
  | 103 => ⟨S256x1, .i32⟩
  | 104 => ⟨S39, .i32⟩
  | 105 => ⟨S39, .i32⟩
  | 106 => ⟨S_, .i32⟩
  | 107 => ⟨S_, .i32⟩
  | 108 => ⟨S39, .i32⟩
  | 109 => ⟨S39, .i32⟩
  | 110 => ⟨S_, .i32⟩
  | 111 => ⟨S39, .i32⟩
  | 112 => ⟨S39, .i1⟩
  | 113 => ⟨S_, .i32⟩
  | 114 => ⟨S39, .i32⟩
  | 115 => ⟨S39, .i32⟩
  | 116 => ⟨S39, .i32⟩
  | 117 => ⟨S39x1, .i32⟩
  | 118 => ⟨S_, .i32⟩
  | 119 => ⟨S39, .i32⟩
  | 120 => ⟨S256, .i32⟩
  | 121 => ⟨S_, .i32⟩
  | 122 => ⟨S256, .i32⟩
  | 123 => ⟨S256, .i1⟩
  | 124 => ⟨S_, .i32⟩
  | 125 => ⟨S256, .i32⟩
  | 126 => ⟨S256, .i32⟩
  | 127 => ⟨S256, .i32⟩
  | _ => ⟨S4x2048x2048, .f32⟩

abbrev hbmTy0_2 (i : Nat) : BufTy := match i % 128 with
  | 0 => ⟨S256x1, .i32⟩
  | 1 => ⟨S39, .i32⟩
  | 2 => ⟨S39, .i32⟩
  | 3 => ⟨S_, .i32⟩
  | 4 => ⟨S_, .i32⟩
  | 5 => ⟨S39, .i32⟩
  | 6 => ⟨S39, .i32⟩
  | 7 => ⟨S_, .i32⟩
  | 8 => ⟨S39, .i32⟩
  | 9 => ⟨S39, .i1⟩
  | 10 => ⟨S_, .i32⟩
  | 11 => ⟨S39, .i32⟩
  | 12 => ⟨S39, .i32⟩
  | 13 => ⟨S39, .i32⟩
  | 14 => ⟨S39x1, .i32⟩
  | 15 => ⟨S_, .i32⟩
  | 16 => ⟨S39, .i32⟩
  | 17 => ⟨S39, .i1⟩
  | 18 => ⟨S_, .i32⟩
  | 19 => ⟨S16384, .i32⟩
  | 20 => ⟨S16384, .i1⟩
  | 21 => ⟨S_, .i32⟩
  | 22 => ⟨S16384, .i32⟩
  | 23 => ⟨S16384, .i32⟩
  | 24 => ⟨S16384, .i32⟩
  | 25 => ⟨S16384x1, .i32⟩
  | 26 => ⟨S1, .i32⟩
  | 27 => ⟨S_, .i32⟩
  | 28 => ⟨S16384x1, .i32⟩
  | 29 => ⟨S16384x1, .i1⟩
  | 30 => ⟨S1x1, .i32⟩
  | 31 => ⟨S16384x1, .i32⟩
  | 32 => ⟨S16384x1, .i1⟩
  | 33 => ⟨S16384x1, .i1⟩
  | 34 => ⟨S_, .i1⟩
  | 35 => ⟨S16384, .i1⟩
  | 36 => ⟨S16384x2048, .f32⟩
  | 37 => ⟨S16384x2048, .i1⟩
  | 38 => ⟨S_, .f32⟩
  | 39 => ⟨S16384x2048, .f32⟩
  | 40 => ⟨S16384x2048, .f32⟩
  | 41 => ⟨S16384x2048, .bf16⟩
  | 42 => ⟨S8x2048x5632, .bf16⟩
  | 43 => ⟨S8x2048x5632, .bf16⟩
  | 44 => ⟨S8x5632x2048, .bf16⟩
  | 45 => ⟨S16384x2048, .f32⟩
  | 46 => ⟨S16384x1, .f32⟩
  | 47 => ⟨S16384x2048, .f32⟩
  | 48 => ⟨S16384x2048, .f32⟩
  | 49 => ⟨S8192x1, .i32⟩
  | 50 => ⟨S8192, .i32⟩
  | 51 => ⟨S_, .i32⟩
  | 52 => ⟨S8192, .i32⟩
  | 53 => ⟨S8192, .i1⟩
  | 54 => ⟨S_, .i32⟩
  | 55 => ⟨S8192, .i32⟩
  | 56 => ⟨S8192, .i32⟩
  | 57 => ⟨S8192, .i32⟩
  | 58 => ⟨S8192x1, .i32⟩
  | 59 => ⟨S8192x2048, .f32⟩
  | 60 => ⟨S8192x1, .i32⟩
  | 61 => ⟨S8192, .i32⟩
  | 62 => ⟨S_, .i32⟩
  | 63 => ⟨S8192, .i32⟩
  | 64 => ⟨S8192, .i1⟩
  | 65 => ⟨S_, .i32⟩
  | 66 => ⟨S8192, .i32⟩
  | 67 => ⟨S8192, .i32⟩
  | 68 => ⟨S8192, .i32⟩
  | 69 => ⟨S8192x1, .i32⟩
  | 70 => ⟨S8192x2048, .f32⟩
  | 71 => ⟨S8192x2048, .f32⟩
  | 72 => ⟨S4x2048x2048, .f32⟩
  | _ => ⟨S4x2048x2048, .f32⟩

abbrev hbmTy (i : Nat) : BufTy := match i / 128 with
  | 0 => hbmTy0_0 i
  | 1 => hbmTy0_1 i
  | 2 => hbmTy0_2 i
  | _ => ⟨S4x2048x2048, .f32⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .smem, ⟨0, _⟩ => ⟨S39, .i32⟩
  | .local _ .smem, ⟨1, _⟩ => ⟨S39, .i32⟩
  | .local _ .smem, ⟨2, _⟩ => ⟨S39, .i32⟩
  | .local _ .smem, ⟨3, _⟩ => ⟨S39, .i32⟩
  | .local _ .smem, ⟨4, _⟩ => ⟨S39, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_c_3 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_cst_11 : Ref sig .tc := ⟨.hbm, 58, rfl⟩
abbrev main_v36 : Ref sig .tc := ⟨.hbm, 59, rfl⟩
abbrev main_v37 : Ref sig .tc := ⟨.hbm, 60, rfl⟩
abbrev main_call1_v0 : Ref sig .tc := ⟨.hbm, 61, rfl⟩
abbrev main_call1_v1_0 : Ref sig .tc := ⟨.hbm, 62, rfl⟩
abbrev main_v38 : Ref sig .tc := ⟨.hbm, 63, rfl⟩
abbrev main_c_12 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_c : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_0 : Ref sig .tc := ⟨.hbm, 78, rfl⟩
abbrev main_call2_v12 : Ref sig .tc := ⟨.hbm, 79, rfl⟩
abbrev main_call2_v13 : Ref sig .tc := ⟨.hbm, 80, rfl⟩
abbrev main_v39 : Ref sig .tc := ⟨.hbm, 81, rfl⟩
abbrev main_v40 : Ref sig .tc := ⟨.hbm, 82, rfl⟩
abbrev main_c_13 : Ref sig .tc := ⟨.hbm, 83, rfl⟩
abbrev main_v41 : Ref sig .tc := ⟨.hbm, 84, rfl⟩
abbrev main_v42 : Ref sig .tc := ⟨.hbm, 85, rfl⟩
abbrev main_c_14 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_c_15 : Ref sig .tc := ⟨.hbm, 92, rfl⟩
abbrev main_v48 : Ref sig .tc := ⟨.hbm, 93, rfl⟩
abbrev main_v49 : Ref sig .tc := ⟨.hbm, 94, rfl⟩
abbrev main_c_16 : Ref sig .tc := ⟨.hbm, 95, rfl⟩
abbrev main_v50 : Ref sig .tc := ⟨.hbm, 96, rfl⟩
abbrev main_v51 : Ref sig .tc := ⟨.hbm, 97, rfl⟩
abbrev main_c_17 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_call3_call0_c : Ref sig .tc := ⟨.hbm, 105, rfl⟩
abbrev main_call3_call0_v0 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_c_18 : Ref sig .tc := ⟨.hbm, 112, rfl⟩
abbrev main_v63 : Ref sig .tc := ⟨.hbm, 113, rfl⟩
abbrev main_v64 : Ref sig .tc := ⟨.hbm, 114, rfl⟩
abbrev main_c_19 : Ref sig .tc := ⟨.hbm, 115, rfl⟩
abbrev main_v65 : Ref sig .tc := ⟨.hbm, 116, rfl⟩
abbrev main_v66 : Ref sig .tc := ⟨.hbm, 117, rfl⟩
abbrev main_c_20 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_c_21 : Ref sig .tc := ⟨.hbm, 133, rfl⟩
abbrev main_c_22 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_call4_v3 : Ref sig .tc := ⟨.hbm, 138, rfl⟩
abbrev main_call4_v4 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_c_23 : Ref sig .tc := ⟨.hbm, 144, rfl⟩
abbrev main_c_24 : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_call6_v0 : Ref sig .tc := ⟨.hbm, 157, rfl⟩
abbrev main_call6_call0_c : Ref sig .tc := ⟨.hbm, 158, rfl⟩
abbrev main_call6_call0_v0 : Ref sig .tc := ⟨.hbm, 159, rfl⟩
abbrev main_v91 : Ref sig .tc := ⟨.hbm, 160, rfl⟩
abbrev main_c_25 : Ref sig .tc := ⟨.hbm, 161, rfl⟩
abbrev main_v92 : Ref sig .tc := ⟨.hbm, 162, rfl⟩
abbrev main_v93 : Ref sig .tc := ⟨.hbm, 163, rfl⟩
abbrev main_c_26 : Ref sig .tc := ⟨.hbm, 164, rfl⟩
abbrev main_call7_v0 : Ref sig .tc := ⟨.hbm, 165, rfl⟩
abbrev main_call7_v1 : Ref sig .tc := ⟨.hbm, 166, rfl⟩
abbrev main_v94 : Ref sig .tc := ⟨.hbm, 167, rfl⟩
abbrev main_v95 : Ref sig .tc := ⟨.hbm, 168, rfl⟩
abbrev main_c_27 : Ref sig .tc := ⟨.hbm, 169, rfl⟩
abbrev main_v96 : Ref sig .tc := ⟨.hbm, 170, rfl⟩
abbrev main_c_28 : Ref sig .tc := ⟨.hbm, 171, rfl⟩
abbrev main_v97 : Ref sig .tc := ⟨.hbm, 172, rfl⟩
abbrev main_v98 : Ref sig .tc := ⟨.hbm, 173, rfl⟩
abbrev main_c_29 : Ref sig .tc := ⟨.hbm, 174, rfl⟩
abbrev main_v99 : Ref sig .tc := ⟨.hbm, 175, rfl⟩
abbrev main_v100 : Ref sig .tc := ⟨.hbm, 176, rfl⟩
abbrev main_c_30 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_c_31 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_c_32 : Ref sig .tc := ⟨.hbm, 188, rfl⟩
abbrev main_v110 : Ref sig .tc := ⟨.hbm, 189, rfl⟩
abbrev main_v111 : Ref sig .tc := ⟨.hbm, 190, rfl⟩
abbrev main_c_33 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_c_34 : Ref sig .tc := ⟨.hbm, 196, rfl⟩
abbrev main_v117 : Ref sig .tc := ⟨.hbm, 197, rfl⟩
abbrev main_v118 : Ref sig .tc := ⟨.hbm, 198, rfl⟩
abbrev main_c_35 : Ref sig .tc := ⟨.hbm, 199, rfl⟩
abbrev main_v119 : Ref sig .tc := ⟨.hbm, 200, rfl⟩
abbrev main_v120 : Ref sig .tc := ⟨.hbm, 201, rfl⟩
abbrev main_c_36 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_c_37 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_c_38 : Ref sig .tc := ⟨.hbm, 213, rfl⟩
abbrev main_v130 : Ref sig .tc := ⟨.hbm, 214, rfl⟩
abbrev main_v131 : Ref sig .tc := ⟨.hbm, 215, rfl⟩
abbrev main_c_39 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_c_40 : Ref sig .tc := ⟨.hbm, 221, rfl⟩
abbrev main_v137 : Ref sig .tc := ⟨.hbm, 222, rfl⟩
abbrev main_v138 : Ref sig .tc := ⟨.hbm, 223, rfl⟩
abbrev main_c_41 : Ref sig .tc := ⟨.hbm, 224, rfl⟩
abbrev main_v139 : Ref sig .tc := ⟨.hbm, 225, rfl⟩
abbrev main_v140 : Ref sig .tc := ⟨.hbm, 226, rfl⟩
abbrev main_c_42 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_c_43 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_c_44 : Ref sig .tc := ⟨.hbm, 238, rfl⟩
abbrev main_v150 : Ref sig .tc := ⟨.hbm, 239, rfl⟩
abbrev main_v151 : Ref sig .tc := ⟨.hbm, 240, rfl⟩
abbrev main_c_45 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_c_46 : Ref sig .tc := ⟨.hbm, 246, rfl⟩
abbrev main_v157 : Ref sig .tc := ⟨.hbm, 247, rfl⟩
abbrev main_v158 : Ref sig .tc := ⟨.hbm, 248, rfl⟩
abbrev main_c_47 : Ref sig .tc := ⟨.hbm, 249, rfl⟩
abbrev main_v159 : Ref sig .tc := ⟨.hbm, 250, rfl⟩
abbrev main_v160 : Ref sig .tc := ⟨.hbm, 251, rfl⟩
abbrev main_c_48 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_c_49 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_c_50 : Ref sig .tc := ⟨.hbm, 263, rfl⟩
abbrev main_v170 : Ref sig .tc := ⟨.hbm, 264, rfl⟩
abbrev main_v171 : Ref sig .tc := ⟨.hbm, 265, rfl⟩
abbrev main_c_51 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_c_52 : Ref sig .tc := ⟨.hbm, 271, rfl⟩
abbrev main_v177 : Ref sig .tc := ⟨.hbm, 272, rfl⟩
abbrev main_v178 : Ref sig .tc := ⟨.hbm, 273, rfl⟩
abbrev main_call8_c : Ref sig .tc := ⟨.hbm, 274, rfl⟩
abbrev main_call8_v0 : Ref sig .tc := ⟨.hbm, 275, rfl⟩
abbrev main_call8_v1 : Ref sig .tc := ⟨.hbm, 276, rfl⟩
abbrev main_call8_c_0 : Ref sig .tc := ⟨.hbm, 277, rfl⟩
abbrev main_call8_v2 : Ref sig .tc := ⟨.hbm, 278, rfl⟩
abbrev main_call8_v3 : Ref sig .tc := ⟨.hbm, 279, rfl⟩
abbrev main_call8_v4 : Ref sig .tc := ⟨.hbm, 280, rfl⟩
abbrev main_call8_v5 : Ref sig .tc := ⟨.hbm, 281, rfl⟩
abbrev main_call8_c_1 : Ref sig .tc := ⟨.hbm, 282, rfl⟩
abbrev main_call8_c_2 : Ref sig .tc := ⟨.hbm, 283, rfl⟩
abbrev main_call8_v6 : Ref sig .tc := ⟨.hbm, 284, rfl⟩
abbrev main_call8_v7 : Ref sig .tc := ⟨.hbm, 285, rfl⟩
abbrev main_call8_v8 : Ref sig .tc := ⟨.hbm, 286, rfl⟩
abbrev main_call8_v9 : Ref sig .tc := ⟨.hbm, 287, rfl⟩
abbrev main_call8_v10 : Ref sig .tc := ⟨.hbm, 288, rfl⟩
abbrev main_call8_v11 : Ref sig .tc := ⟨.hbm, 289, rfl⟩
abbrev main_call8_c_3 : Ref sig .tc := ⟨.hbm, 290, rfl⟩
abbrev main_call8_v12 : Ref sig .tc := ⟨.hbm, 291, rfl⟩
abbrev main_call8_v13 : Ref sig .tc := ⟨.hbm, 292, rfl⟩
abbrev main_call8_v14 : Ref sig .tc := ⟨.hbm, 293, rfl⟩
abbrev main_call8_cst : Ref sig .tc := ⟨.hbm, 294, rfl⟩
abbrev main_call8_v15 : Ref sig .tc := ⟨.hbm, 295, rfl⟩
abbrev main_v180 : Ref sig .tc := ⟨.hbm, 296, rfl⟩
abbrev main_v181 : Ref sig .tc := ⟨.hbm, 297, rfl⟩
abbrev main_v182 : Ref sig .tc := ⟨.hbm, 298, rfl⟩
abbrev main_v183 : Ref sig .tc := ⟨.hbm, 299, rfl⟩
abbrev main_v184 : Ref sig .tc := ⟨.hbm, 300, rfl⟩
abbrev main_v185 : Ref sig .tc := ⟨.hbm, 301, rfl⟩
abbrev main_v186 : Ref sig .tc := ⟨.hbm, 302, rfl⟩
abbrev main_v187 : Ref sig .tc := ⟨.hbm, 303, rfl⟩
abbrev main_v188 : Ref sig .tc := ⟨.hbm, 304, rfl⟩
abbrev main_v189 : Ref sig .tc := ⟨.hbm, 305, rfl⟩
abbrev main_v190 : Ref sig .tc := ⟨.hbm, 306, rfl⟩
abbrev main_c_53 : Ref sig .tc := ⟨.hbm, 307, rfl⟩
abbrev main_v191 : Ref sig .tc := ⟨.hbm, 308, rfl⟩
abbrev main_v192 : Ref sig .tc := ⟨.hbm, 309, rfl⟩
abbrev main_c_54 : Ref sig .tc := ⟨.hbm, 310, rfl⟩
abbrev main_v193 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_v197 : Ref sig .tc := ⟨.hbm, 315, rfl⟩
abbrev main_v198 : Ref sig .tc := ⟨.hbm, 316, rfl⟩
abbrev main_v199 : Ref sig .tc := ⟨.hbm, 317, rfl⟩
abbrev main_c_55 : Ref sig .tc := ⟨.hbm, 318, rfl⟩
abbrev main_v200 : Ref sig .tc := ⟨.hbm, 319, rfl⟩
abbrev main_v201 : Ref sig .tc := ⟨.hbm, 320, rfl⟩
abbrev main_c_56 : Ref sig .tc := ⟨.hbm, 321, rfl⟩
abbrev main_v202 : Ref sig .tc := ⟨.hbm, 322, rfl⟩
abbrev main_v203 : Ref sig .tc := ⟨.hbm, 323, rfl⟩
abbrev main_v204 : Ref sig .tc := ⟨.hbm, 324, rfl⟩
abbrev main_v205 : Ref sig .tc := ⟨.hbm, 325, rfl⟩
abbrev main_v206 : Ref sig .tc := ⟨.hbm, 326, rfl⟩
abbrev main_v207 : Ref sig .tc := ⟨.hbm, 327, rfl⟩
abbrev main_v208 : Ref sig .tc := ⟨.hbm, 328, rfl⟩
abbrev main_v116 : Ref sig .tc := ⟨.smem, 0, rfl⟩
abbrev main_v136 : Ref sig .tc := ⟨.smem, 1, rfl⟩
abbrev main_v156 : Ref sig .tc := ⟨.smem, 2, rfl⟩
abbrev main_v176 : Ref sig .tc := ⟨.smem, 3, rfl⟩
abbrev main_v179 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![39, 11], ![false, false]⟩

abbrev pre0 : Pipeline.Prefetch sig := ⟨5, ![main_v116.idx, main_v136.idx, main_v156.idx, main_v176.idx, main_v179.idx], fun | 0 => main_v116.names | 1 => main_v136.names | 2 => main_v156.names | 3 => main_v176.names | 4 => main_v179.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_17 : BitVec 32 := 0#32
  let v25 : BitVec 1 := Scalar.cmpi .ne v24 c0_i32_17
  v25

def k0_off2 (i : grid0.Coords) : Fin 1 → Nat :=
  let arg0 : BitVec 32 := BitVec.ofNat 32 (i 0).val
  let v26 : Index := Scalar.indexCast arg0
  ![v26.toNat]
def cc0_transform_0 (k0_off1_inb : ∀ i : grid0.Coords, ∀ a, (k0_off1 i) a + S1.size a ≤ S39.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S39) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S39.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S39) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S39.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S39) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S39.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S39) ![v0.toNat] S1.size (k0_off1_inb i)) numel1_S1
  let c0_i32 : BitVec 32 := 0#32
  let c0_i32_0 : BitVec 32 := 0#32
  ![v1.toNat, arg1.toNat, c0_i32.toNat]

def cc0_transform_4 (k0_off1_inb : ∀ i : grid0.Coords, ∀ a, (k0_off1 i) a + S1.size a ≤ S39.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S39) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4x2048x2048 : Shape := ⟨3, ![4, 2048, 2048]⟩
abbrev S2048x8 : Shape := ⟨2, ![2048, 8]⟩
abbrev S8x2048x5632 : Shape := ⟨3, ![8, 2048, 5632]⟩
abbrev S8x5632x2048 : Shape := ⟨3, ![8, 5632, 2048]⟩
abbrev S8192x2048 : Shape := ⟨2, ![8192, 2048]⟩
abbrev S8192x8 : Shape := ⟨2, ![8192, 8]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S8192x2x1 : Shape := ⟨3, ![8192, 2, 1]⟩
abbrev S1x1x8 : Shape := ⟨3, ![1, 1, 8]⟩
abbrev S8192x2x8 : Shape := ⟨3, ![8192, 2, 8]⟩
abbrev S8 : Shape := ⟨1, ![8]⟩
abbrev S1x2048x5632 : Shape := ⟨3, ![1, 2048, 5632]⟩
abbrev S2048x5632 : Shape := ⟨2, ![2048, 5632]⟩
abbrev S8192x5632 : Shape := ⟨2, ![8192, 5632]⟩
abbrev S1x5632x2048 : Shape := ⟨3, ![1, 5632, 2048]⟩
abbrev S5632x2048 : Shape := ⟨2, ![5632, 2048]⟩

abbrev nBuf : Space → Nat
  | .hbm => 294
  | .vmem => 0
  | .smem => 0
  | _ => 0

abbrev hbmTy0_0 (i : Nat) : BufTy := match i % 128 with
  | 0 => ⟨S4x2048x2048, .f32⟩
  | 1 => ⟨S2048x8, .f32⟩
  | 2 => ⟨S8x2048x5632, .f32⟩
  | 3 => ⟨S8x2048x5632, .f32⟩
  | 4 => ⟨S8x5632x2048, .f32⟩
  | 5 => ⟨S8192x2048, .f32⟩
  | 6 => ⟨S8192x8, .f32⟩
  | 7 => ⟨S_, .f32⟩
  | 8 => ⟨S8192, .f32⟩
  | 9 => ⟨S_, .f32⟩
  | 10 => ⟨S8192, .f32⟩
  | 11 => ⟨S8192, .f32⟩
  | 12 => ⟨S8192x1, .f32⟩
  | 13 => ⟨S8192x8, .f32⟩
  | 14 => ⟨S8192x8, .f32⟩
  | 15 => ⟨S8192x8, .f32⟩
  | 16 => ⟨S_, .f32⟩
  | 17 => ⟨S8192, .f32⟩
  | 18 => ⟨S8192x1, .f32⟩
  | 19 => ⟨S8192x8, .f32⟩
  | 20 => ⟨S8192x8, .f32⟩
  | 21 => ⟨S8192x2, .f32⟩
  | 22 => ⟨S8192x2, .i32⟩
  | 23 => ⟨S_, .f32⟩
  | 24 => ⟨S8192, .f32⟩
  | 25 => ⟨S8192x1, .f32⟩
  | 26 => ⟨S8192x2, .f32⟩
  | 27 => ⟨S8192x2, .f32⟩
  | 28 => ⟨S8192x2x1, .i32⟩
  | 29 => ⟨S1x1x8, .i32⟩
  | 30 => ⟨S8192x2x8, .i32⟩
  | 31 => ⟨S8192x2x8, .i32⟩
  | 32 => ⟨S8192x2x8, .i1⟩
  | 33 => ⟨S8192x2x8, .f32⟩
  | 34 => ⟨S_, .f32⟩
  | 35 => ⟨S8192x8, .f32⟩
  | 36 => ⟨S_, .f32⟩
  | 37 => ⟨S8, .f32⟩
  | 38 => ⟨S_, .f32⟩
  | 39 => ⟨S8, .f32⟩
  | 40 => ⟨S8, .f32⟩
  | 41 => ⟨S_, .f32⟩
  | 42 => ⟨S8, .f32⟩
  | 43 => ⟨S_, .f32⟩
  | 44 => ⟨S8, .f32⟩
  | 45 => ⟨S8, .f32⟩
  | 46 => ⟨S8, .f32⟩
  | 47 => ⟨S_, .f32⟩
  | 48 => ⟨S_, .f32⟩
  | 49 => ⟨S_, .f32⟩
  | 50 => ⟨S_, .f32⟩
  | 51 => ⟨S_, .f32⟩
  | 52 => ⟨S8192x2048, .f32⟩
  | 53 => ⟨S_, .i32⟩
  | 54 => ⟨S8192x2, .i32⟩
  | 55 => ⟨S8192x2, .i1⟩
  | 56 => ⟨S8192x2, .f32⟩
  | 57 => ⟨S8192x2, .f32⟩
  | 58 => ⟨S_, .f32⟩
  | 59 => ⟨S8192, .f32⟩
  | 60 => ⟨S1x2048x5632, .f32⟩
  | 61 => ⟨S2048x5632, .f32⟩
  | 62 => ⟨S8192x5632, .f32⟩
  | 63 => ⟨S8192x5632, .f32⟩
  | 64 => ⟨S8192x5632, .f32⟩
  | 65 => ⟨S_, .f32⟩
  | 66 => ⟨S8192x5632, .f32⟩
  | 67 => ⟨S8192x5632, .f32⟩
  | 68 => ⟨S_, .f32⟩
  | 69 => ⟨S8192x5632, .f32⟩
  | 70 => ⟨S8192x5632, .f32⟩
  | 71 => ⟨S8192x5632, .f32⟩
  | 72 => ⟨S1x2048x5632, .f32⟩
  | 73 => ⟨S2048x5632, .f32⟩
  | 74 => ⟨S8192x5632, .f32⟩
  | 75 => ⟨S8192x5632, .f32⟩
  | 76 => ⟨S1x5632x2048, .f32⟩
  | 77 => ⟨S5632x2048, .f32⟩
  | 78 => ⟨S8192x2048, .f32⟩
  | 79 => ⟨S8192x1, .f32⟩
  | 80 => ⟨S8192x2048, .f32⟩
  | 81 => ⟨S8192x2048, .f32⟩
  | 82 => ⟨S8192x2048, .f32⟩
  | 83 => ⟨S_, .i32⟩
  | 84 => ⟨S8192x2, .i32⟩
  | 85 => ⟨S8192x2, .i1⟩
  | 86 => ⟨S8192x2, .f32⟩
  | 87 => ⟨S8192x2, .f32⟩
  | 88 => ⟨S_, .f32⟩
  | 89 => ⟨S8192, .f32⟩
  | 90 => ⟨S1x2048x5632, .f32⟩
  | 91 => ⟨S2048x5632, .f32⟩
  | 92 => ⟨S8192x5632, .f32⟩
  | 93 => ⟨S8192x5632, .f32⟩
  | 94 => ⟨S8192x5632, .f32⟩
  | 95 => ⟨S_, .f32⟩
  | 96 => ⟨S8192x5632, .f32⟩
  | 97 => ⟨S8192x5632, .f32⟩
  | 98 => ⟨S_, .f32⟩
  | 99 => ⟨S8192x5632, .f32⟩
  | 100 => ⟨S8192x5632, .f32⟩
  | 101 => ⟨S8192x5632, .f32⟩
  | 102 => ⟨S1x2048x5632, .f32⟩
  | 103 => ⟨S2048x5632, .f32⟩
  | 104 => ⟨S8192x5632, .f32⟩
  | 105 => ⟨S8192x5632, .f32⟩
  | 106 => ⟨S1x5632x2048, .f32⟩
  | 107 => ⟨S5632x2048, .f32⟩
  | 108 => ⟨S8192x2048, .f32⟩
  | 109 => ⟨S8192x1, .f32⟩
  | 110 => ⟨S8192x2048, .f32⟩
  | 111 => ⟨S8192x2048, .f32⟩
  | 112 => ⟨S8192x2048, .f32⟩
  | 113 => ⟨S_, .i32⟩
  | 114 => ⟨S8192x2, .i32⟩
  | 115 => ⟨S8192x2, .i1⟩
  | 116 => ⟨S8192x2, .f32⟩
  | 117 => ⟨S8192x2, .f32⟩
  | 118 => ⟨S_, .f32⟩
  | 119 => ⟨S8192, .f32⟩
  | 120 => ⟨S1x2048x5632, .f32⟩
  | 121 => ⟨S2048x5632, .f32⟩
  | 122 => ⟨S8192x5632, .f32⟩
  | 123 => ⟨S8192x5632, .f32⟩
  | 124 => ⟨S8192x5632, .f32⟩
  | 125 => ⟨S_, .f32⟩
  | 126 => ⟨S8192x5632, .f32⟩
  | 127 => ⟨S8192x5632, .f32⟩
  | _ => ⟨S4x2048x2048, .f32⟩

abbrev hbmTy0_1 (i : Nat) : BufTy := match i % 128 with
  | 0 => ⟨S_, .f32⟩
  | 1 => ⟨S8192x5632, .f32⟩
  | 2 => ⟨S8192x5632, .f32⟩
  | 3 => ⟨S8192x5632, .f32⟩
  | 4 => ⟨S1x2048x5632, .f32⟩
  | 5 => ⟨S2048x5632, .f32⟩
  | 6 => ⟨S8192x5632, .f32⟩
  | 7 => ⟨S8192x5632, .f32⟩
  | 8 => ⟨S1x5632x2048, .f32⟩
  | 9 => ⟨S5632x2048, .f32⟩
  | 10 => ⟨S8192x2048, .f32⟩
  | 11 => ⟨S8192x1, .f32⟩
  | 12 => ⟨S8192x2048, .f32⟩
  | 13 => ⟨S8192x2048, .f32⟩
  | 14 => ⟨S8192x2048, .f32⟩
  | 15 => ⟨S_, .i32⟩
  | 16 => ⟨S8192x2, .i32⟩
  | 17 => ⟨S8192x2, .i1⟩
  | 18 => ⟨S8192x2, .f32⟩
  | 19 => ⟨S8192x2, .f32⟩
  | 20 => ⟨S_, .f32⟩
  | 21 => ⟨S8192, .f32⟩
  | 22 => ⟨S1x2048x5632, .f32⟩
  | 23 => ⟨S2048x5632, .f32⟩
  | 24 => ⟨S8192x5632, .f32⟩
  | 25 => ⟨S8192x5632, .f32⟩
  | 26 => ⟨S8192x5632, .f32⟩
  | 27 => ⟨S_, .f32⟩
  | 28 => ⟨S8192x5632, .f32⟩
  | 29 => ⟨S8192x5632, .f32⟩
  | 30 => ⟨S_, .f32⟩
  | 31 => ⟨S8192x5632, .f32⟩
  | 32 => ⟨S8192x5632, .f32⟩
  | 33 => ⟨S8192x5632, .f32⟩
  | 34 => ⟨S1x2048x5632, .f32⟩
  | 35 => ⟨S2048x5632, .f32⟩
  | 36 => ⟨S8192x5632, .f32⟩
  | 37 => ⟨S8192x5632, .f32⟩
  | 38 => ⟨S1x5632x2048, .f32⟩
  | 39 => ⟨S5632x2048, .f32⟩
  | 40 => ⟨S8192x2048, .f32⟩
  | 41 => ⟨S8192x1, .f32⟩
  | 42 => ⟨S8192x2048, .f32⟩
  | 43 => ⟨S8192x2048, .f32⟩
  | 44 => ⟨S8192x2048, .f32⟩
  | 45 => ⟨S_, .i32⟩
  | 46 => ⟨S8192x2, .i32⟩
  | 47 => ⟨S8192x2, .i1⟩
  | 48 => ⟨S8192x2, .f32⟩
  | 49 => ⟨S8192x2, .f32⟩
  | 50 => ⟨S_, .f32⟩
  | 51 => ⟨S8192, .f32⟩
  | 52 => ⟨S1x2048x5632, .f32⟩
  | 53 => ⟨S2048x5632, .f32⟩
  | 54 => ⟨S8192x5632, .f32⟩
  | 55 => ⟨S8192x5632, .f32⟩
  | 56 => ⟨S8192x5632, .f32⟩
  | 57 => ⟨S_, .f32⟩
  | 58 => ⟨S8192x5632, .f32⟩
  | 59 => ⟨S8192x5632, .f32⟩
  | 60 => ⟨S_, .f32⟩
  | 61 => ⟨S8192x5632, .f32⟩
  | 62 => ⟨S8192x5632, .f32⟩
  | 63 => ⟨S8192x5632, .f32⟩
  | 64 => ⟨S1x2048x5632, .f32⟩
  | 65 => ⟨S2048x5632, .f32⟩
  | 66 => ⟨S8192x5632, .f32⟩
  | 67 => ⟨S8192x5632, .f32⟩
  | 68 => ⟨S1x5632x2048, .f32⟩
  | 69 => ⟨S5632x2048, .f32⟩
  | 70 => ⟨S8192x2048, .f32⟩
  | 71 => ⟨S8192x1, .f32⟩
  | 72 => ⟨S8192x2048, .f32⟩
  | 73 => ⟨S8192x2048, .f32⟩
  | 74 => ⟨S8192x2048, .f32⟩
  | 75 => ⟨S_, .i32⟩
  | 76 => ⟨S8192x2, .i32⟩
  | 77 => ⟨S8192x2, .i1⟩
  | 78 => ⟨S8192x2, .f32⟩
  | 79 => ⟨S8192x2, .f32⟩
  | 80 => ⟨S_, .f32⟩
  | 81 => ⟨S8192, .f32⟩
  | 82 => ⟨S1x2048x5632, .f32⟩
  | 83 => ⟨S2048x5632, .f32⟩
  | 84 => ⟨S8192x5632, .f32⟩
  | 85 => ⟨S8192x5632, .f32⟩
  | 86 => ⟨S8192x5632, .f32⟩
  | 87 => ⟨S_, .f32⟩
  | 88 => ⟨S8192x5632, .f32⟩
  | 89 => ⟨S8192x5632, .f32⟩
  | 90 => ⟨S_, .f32⟩
  | 91 => ⟨S8192x5632, .f32⟩
  | 92 => ⟨S8192x5632, .f32⟩
  | 93 => ⟨S8192x5632, .f32⟩
  | 94 => ⟨S1x2048x5632, .f32⟩
  | 95 => ⟨S2048x5632, .f32⟩
  | 96 => ⟨S8192x5632, .f32⟩
  | 97 => ⟨S8192x5632, .f32⟩
  | 98 => ⟨S1x5632x2048, .f32⟩
  | 99 => ⟨S5632x2048, .f32⟩
  | 100 => ⟨S8192x2048, .f32⟩
  | 101 => ⟨S8192x1, .f32⟩
  | 102 => ⟨S8192x2048, .f32⟩
  | 103 => ⟨S8192x2048, .f32⟩
  | 104 => ⟨S8192x2048, .f32⟩
  | 105 => ⟨S_, .i32⟩
  | 106 => ⟨S8192x2, .i32⟩
  | 107 => ⟨S8192x2, .i1⟩
  | 108 => ⟨S8192x2, .f32⟩
  | 109 => ⟨S8192x2, .f32⟩
  | 110 => ⟨S_, .f32⟩
  | 111 => ⟨S8192, .f32⟩
  | 112 => ⟨S1x2048x5632, .f32⟩
  | 113 => ⟨S2048x5632, .f32⟩
  | 114 => ⟨S8192x5632, .f32⟩
  | 115 => ⟨S8192x5632, .f32⟩
  | 116 => ⟨S8192x5632, .f32⟩
  | 117 => ⟨S_, .f32⟩
  | 118 => ⟨S8192x5632, .f32⟩
  | 119 => ⟨S8192x5632, .f32⟩
  | 120 => ⟨S_, .f32⟩
  | 121 => ⟨S8192x5632, .f32⟩
  | 122 => ⟨S8192x5632, .f32⟩
  | 123 => ⟨S8192x5632, .f32⟩
  | 124 => ⟨S1x2048x5632, .f32⟩
  | 125 => ⟨S2048x5632, .f32⟩
  | 126 => ⟨S8192x5632, .f32⟩
  | 127 => ⟨S8192x5632, .f32⟩
  | _ => ⟨S4x2048x2048, .f32⟩

abbrev hbmTy0_2 (i : Nat) : BufTy := match i % 128 with
  | 0 => ⟨S1x5632x2048, .f32⟩
  | 1 => ⟨S5632x2048, .f32⟩
  | 2 => ⟨S8192x2048, .f32⟩
  | 3 => ⟨S8192x1, .f32⟩
  | 4 => ⟨S8192x2048, .f32⟩
  | 5 => ⟨S8192x2048, .f32⟩
  | 6 => ⟨S8192x2048, .f32⟩
  | 7 => ⟨S_, .i32⟩
  | 8 => ⟨S8192x2, .i32⟩
  | 9 => ⟨S8192x2, .i1⟩
  | 10 => ⟨S8192x2, .f32⟩
  | 11 => ⟨S8192x2, .f32⟩
  | 12 => ⟨S_, .f32⟩
  | 13 => ⟨S8192, .f32⟩
  | 14 => ⟨S1x2048x5632, .f32⟩
  | 15 => ⟨S2048x5632, .f32⟩
  | 16 => ⟨S8192x5632, .f32⟩
  | 17 => ⟨S8192x5632, .f32⟩
  | 18 => ⟨S8192x5632, .f32⟩
  | 19 => ⟨S_, .f32⟩
  | 20 => ⟨S8192x5632, .f32⟩
  | 21 => ⟨S8192x5632, .f32⟩
  | 22 => ⟨S_, .f32⟩
  | 23 => ⟨S8192x5632, .f32⟩
  | 24 => ⟨S8192x5632, .f32⟩
  | 25 => ⟨S8192x5632, .f32⟩
  | 26 => ⟨S1x2048x5632, .f32⟩
  | 27 => ⟨S2048x5632, .f32⟩
  | 28 => ⟨S8192x5632, .f32⟩
  | 29 => ⟨S8192x5632, .f32⟩
  | 30 => ⟨S1x5632x2048, .f32⟩
  | 31 => ⟨S5632x2048, .f32⟩
  | 32 => ⟨S8192x2048, .f32⟩
  | 33 => ⟨S8192x1, .f32⟩
  | 34 => ⟨S8192x2048, .f32⟩
  | 35 => ⟨S8192x2048, .f32⟩
  | 36 => ⟨S8192x2048, .f32⟩
  | 37 => ⟨S4x2048x2048, .f32⟩
  | _ => ⟨S4x2048x2048, .f32⟩

abbrev hbmTy (i : Nat) : BufTy := match i / 128 with
  | 0 => hbmTy0_0 i
  | 1 => hbmTy0_1 i
  | 2 => hbmTy0_2 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_8 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_cst_10 : Ref sig .tc := ⟨.hbm, 51, rfl⟩
abbrev main_v28 : Ref sig .tc := ⟨.hbm, 52, rfl⟩
abbrev main_c : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_11 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_12 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_13 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_call2_v0 : Ref sig .tc := ⟨.hbm, 93, rfl⟩
abbrev main_call2_v1 : Ref sig .tc := ⟨.hbm, 94, rfl⟩
abbrev main_call2_cst : Ref sig .tc := ⟨.hbm, 95, rfl⟩
abbrev main_call2_v2 : Ref sig .tc := ⟨.hbm, 96, rfl⟩
abbrev main_call2_v3 : Ref sig .tc := ⟨.hbm, 97, rfl⟩
abbrev main_call2_cst_0 : Ref sig .tc := ⟨.hbm, 98, rfl⟩
abbrev main_call2_v4 : Ref sig .tc := ⟨.hbm, 99, rfl⟩
abbrev main_call2_v5 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_c_14 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_15 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_call3_v0 : Ref sig .tc := ⟨.hbm, 123, rfl⟩
abbrev main_call3_v1 : Ref sig .tc := ⟨.hbm, 124, rfl⟩
abbrev main_call3_cst : Ref sig .tc := ⟨.hbm, 125, rfl⟩
abbrev main_call3_v2 : Ref sig .tc := ⟨.hbm, 126, rfl⟩
abbrev main_call3_v3 : Ref sig .tc := ⟨.hbm, 127, rfl⟩
abbrev main_call3_cst_0 : Ref sig .tc := ⟨.hbm, 128, rfl⟩
abbrev main_call3_v4 : Ref sig .tc := ⟨.hbm, 129, rfl⟩
abbrev main_call3_v5 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_c_16 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_cst_17 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_call4_v0 : Ref sig .tc := ⟨.hbm, 153, rfl⟩
abbrev main_call4_v1 : Ref sig .tc := ⟨.hbm, 154, rfl⟩
abbrev main_call4_cst : Ref sig .tc := ⟨.hbm, 155, rfl⟩
abbrev main_call4_v2 : Ref sig .tc := ⟨.hbm, 156, rfl⟩
abbrev main_call4_v3 : Ref sig .tc := ⟨.hbm, 157, rfl⟩
abbrev main_call4_cst_0 : Ref sig .tc := ⟨.hbm, 158, rfl⟩
abbrev main_call4_v4 : Ref sig .tc := ⟨.hbm, 159, rfl⟩
abbrev main_call4_v5 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_c_18 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_cst_19 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_call5_v0 : Ref sig .tc := ⟨.hbm, 183, rfl⟩
abbrev main_call5_v1 : Ref sig .tc := ⟨.hbm, 184, rfl⟩
abbrev main_call5_cst : Ref sig .tc := ⟨.hbm, 185, rfl⟩
abbrev main_call5_v2 : Ref sig .tc := ⟨.hbm, 186, rfl⟩
abbrev main_call5_v3 : Ref sig .tc := ⟨.hbm, 187, rfl⟩
abbrev main_call5_cst_0 : Ref sig .tc := ⟨.hbm, 188, rfl⟩
abbrev main_call5_v4 : Ref sig .tc := ⟨.hbm, 189, rfl⟩
abbrev main_call5_v5 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_c_20 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_cst_21 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_call6_v0 : Ref sig .tc := ⟨.hbm, 213, rfl⟩
abbrev main_call6_v1 : Ref sig .tc := ⟨.hbm, 214, rfl⟩
abbrev main_call6_cst : Ref sig .tc := ⟨.hbm, 215, rfl⟩
abbrev main_call6_v2 : Ref sig .tc := ⟨.hbm, 216, rfl⟩
abbrev main_call6_v3 : Ref sig .tc := ⟨.hbm, 217, rfl⟩
abbrev main_call6_cst_0 : Ref sig .tc := ⟨.hbm, 218, rfl⟩
abbrev main_call6_v4 : Ref sig .tc := ⟨.hbm, 219, rfl⟩
abbrev main_call6_v5 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_c_22 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_cst_23 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_call7_v0 : Ref sig .tc := ⟨.hbm, 243, rfl⟩
abbrev main_call7_v1 : Ref sig .tc := ⟨.hbm, 244, rfl⟩
abbrev main_call7_cst : Ref sig .tc := ⟨.hbm, 245, rfl⟩
abbrev main_call7_v2 : Ref sig .tc := ⟨.hbm, 246, rfl⟩
abbrev main_call7_v3 : Ref sig .tc := ⟨.hbm, 247, rfl⟩
abbrev main_call7_cst_0 : Ref sig .tc := ⟨.hbm, 248, rfl⟩
abbrev main_call7_v4 : Ref sig .tc := ⟨.hbm, 249, rfl⟩
abbrev main_call7_v5 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_v167 : Ref sig .tc := ⟨.hbm, 261, rfl⟩
abbrev main_v168 : Ref sig .tc := ⟨.hbm, 262, rfl⟩
abbrev main_c_24 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_cst_25 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_call8_v0 : Ref sig .tc := ⟨.hbm, 273, rfl⟩
abbrev main_call8_v1 : Ref sig .tc := ⟨.hbm, 274, rfl⟩
abbrev main_call8_cst : Ref sig .tc := ⟨.hbm, 275, rfl⟩
abbrev main_call8_v2 : Ref sig .tc := ⟨.hbm, 276, rfl⟩
abbrev main_call8_v3 : Ref sig .tc := ⟨.hbm, 277, rfl⟩
abbrev main_call8_cst_0 : Ref sig .tc := ⟨.hbm, 278, rfl⟩
abbrev main_call8_v4 : Ref sig .tc := ⟨.hbm, 279, rfl⟩
abbrev main_call8_v5 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩

abbrev nD : Nat := 1
abbrev τ : Topo := Topo.v7x

variable {F : FTy → Type} [FloatOps F]
-- ==== Proof.Ssa.lean ====
/- Reads of a straight line of host operations in single-assignment form: when the line writes each buffer once and
   reads it only afterwards, what the whole line leaves at an operation's result is the operation's function of what the
   whole line leaves at its operands. -/
module

public import Idealize.ShloMosaic.Lib.StableHlo.RunRead

@[expose] public section

noncomputable section

namespace Cert.Own

open Idealize.ShloMosaic Idealize.ShloMosaic.StableHlo Idealize.SL.Sem

variable {τ : Topo} {sig : RefSig} {Val : EltTy → Type}

/-- `W` lists, in order, the one buffer each operation of the line writes. -/
def Writes (ops : List (HloOp τ sig Val)) (W : List (Ref sig .tc)) : Prop :=
  ops.map HloOp.writes = W.map fun w => {Proc.devRef (τ := τ) .tc w}

/-- The list of written buffers after the first `i` operations. -/
theorem Writes.drop {ops : List (HloOp τ sig Val)} {W : List (Ref sig .tc)} (h : Writes ops W) (i : ℕ) :
    Writes (ops.drop i) (W.drop i) := by
  unfold Writes at *
  rw [List.map_drop, h, List.map_drop]

/-- A buffer no operation from position `i` on writes is what the first `i` operations left. -/
theorem upto_eq {ops : List (HloOp τ sig Val)} {W : List (Ref sig .tc)} (h : Writes ops W) (i : ℕ) {r : Ref sig .tc}
    (hr : r ∉ W.drop i) (V : Valuation τ sig Val) :
    upto ops V i (Proc.devRef .tc r) = after ops V (Proc.devRef .tc r) := by
  have e : after ops V = after (ops.drop i) (upto ops V i) := by
    conv_lhs => rw [← List.take_append_drop i ops]
    unfold upto
    generalize ops.take i = l
    induction l generalizing V with
    | nil => rfl
    | cons op l ih => exact ih _
  rw [e, after_unwritten (W.drop i) (h.drop i) hr]

/-- What the line leaves at a buffer that no operation after position `i` writes is what operation `i` leaves there. -/
theorem at_op {ops : List (HloOp τ sig Val)} {W : List (Ref sig .tc)} (h : Writes ops W) {i : ℕ}
    {op : HloOp τ sig Val} (hop : ops[i]? = some op) {r : Ref sig .tc}
    (hr : r ∉ W.drop (i + 1)) (V : Valuation τ sig Val) :
    after ops V (Proc.devRef .tc r) = op.result (upto ops V i) (Proc.devRef .tc r) := by
  obtain ⟨hi, rfl⟩ := List.getElem?_eq_some_iff.mp hop
  exact after_last_write (W.drop (i + 1)) (List.drop_eq_getElem_cons hi) (h.drop (i + 1)) hr V

/-- The position of an operation of the line: where the buffer it writes stands in the list of written buffers. -/
theorem position {ops : List (HloOp τ sig Val)} {W : List (Ref sig .tc)} (h : Writes ops W) (hn : W.Nodup)
    {op : HloOp τ sig Val} (hop : op ∈ ops) {y : Ref sig .tc} (hy : op.writes = {Proc.devRef .tc y}) {i : ℕ}
    (hi : W[i]? = some y) : ops[i]? = some op := by
  obtain ⟨j, hj⟩ := List.mem_iff_getElem?.mp hop
  have e := congrArg (·[j]?) h
  simp only [List.getElem?_map, hj, Option.map_some, hy] at e
  cases hw : W[j]? with
  | none => rw [hw] at e; cases e
  | some w =>
    rw [hw] at e
    have e2 : y = w := by
      have := Option.some.inj e
      exact Proc.devRef_injective _ (Finset.singleton_inj.mp this)
    subst e2
    have hjl := (List.getElem?_eq_some_iff.mp hw).1
    have hil := (List.getElem?_eq_some_iff.mp hi).1
    have : i = j := (List.Nodup.getElem_inj_iff hn (hi := hil) (hj := hjl)).mp (by
      rw [(List.getElem?_eq_some_iff.mp hw).2, (List.getElem?_eq_some_iff.mp hi).2])
    subst this
    exact hj

/-- A constant. -/
theorem read0 {ops : List (HloOp τ sig Val)} {W : List (Ref sig .tc)} (h : Writes ops W) (hn : W.Nodup)
    (V : Valuation τ sig Val) (i : ℕ) {y : Ref sig .tc} {v : y.ty.Contents Val} {hy}
    (hop : nullary y v hy ∈ ops) (hi : W[i]? = some y) (hr : y ∉ W.drop (i + 1)) :
    after ops V (Proc.devRef .tc y) = v := by
  rw [at_op h (position h hn hop rfl hi) hr, nullary_result]

/-- An operation of one operand. -/
theorem read1 {ops : List (HloOp τ sig Val)} {W : List (Ref sig .tc)} (h : Writes ops W) (hn : W.Nodup)
    (V : Valuation τ sig Val) (i : ℕ) {x y : Ref sig .tc} {f : x.ty.Contents Val → y.ty.Contents Val} {hx hy}
    (hop : unary x y f hx hy ∈ ops) (hi : W[i]? = some y) (hr : y ∉ W.drop (i + 1) ∧ x ∉ W.drop i) :
    after ops V (Proc.devRef .tc y) = f (after ops V (Proc.devRef .tc x)) := by
  rw [at_op h (position h hn hop rfl hi) hr.1, unary_result, upto_eq h i hr.2]

/-- An operation of two operands. -/
theorem read2 {ops : List (HloOp τ sig Val)} {W : List (Ref sig .tc)} (h : Writes ops W) (hn : W.Nodup)
    (V : Valuation τ sig Val) (i : ℕ) {a b y : Ref sig .tc}
    {f : a.ty.Contents Val → b.ty.Contents Val → y.ty.Contents Val} {ha hb hy}
    (hop : binary a b y f ha hb hy ∈ ops) (hi : W[i]? = some y)
    (hr : y ∉ W.drop (i + 1) ∧ a ∉ W.drop i ∧ b ∉ W.drop i) :
    after ops V (Proc.devRef .tc y) = f (after ops V (Proc.devRef .tc a)) (after ops V (Proc.devRef .tc b)) := by
  rw [at_op h (position h hn hop rfl hi) hr.1, binary_result, upto_eq h i hr.2.1, upto_eq h i hr.2.2]

/-- An operation of three operands. -/
theorem read3 {ops : List (HloOp τ sig Val)} {W : List (Ref sig .tc)} (h : Writes ops W) (hn : W.Nodup)
    (V : Valuation τ sig Val) (i : ℕ) {c a b y : Ref sig .tc}
    {f : c.ty.Contents Val → a.ty.Contents Val → b.ty.Contents Val → y.ty.Contents Val}
    {hc ha hb hy} (hop : ternary c a b y f hc ha hb hy ∈ ops) (hi : W[i]? = some y)
    (hr : y ∉ W.drop (i + 1) ∧ c ∉ W.drop i ∧ a ∉ W.drop i ∧ b ∉ W.drop i) :
    after ops V (Proc.devRef .tc y)
      = f (after ops V (Proc.devRef .tc c)) (after ops V (Proc.devRef .tc a)) (after ops V (Proc.devRef .tc b)) := by
  rw [at_op h (position h hn hop rfl hi) hr.1, ternary_result, upto_eq h i hr.2.1, upto_eq h i hr.2.2.1,
    upto_eq h i hr.2.2.2]

/-- An operation of 1 operand in a called function, its buffers given with their types. -/
theorem readT1 {ops : List (HloOp τ sig Val)} {W : List (Ref sig .tc)} (h : Writes ops W) (hn : W.Nodup)
    (V : Valuation τ sig Val) (i : ℕ) {Tx Ty : BufTy} {x : TRef sig Tx} {y : TRef sig Ty} {f : Tx.Contents Val → Ty.Contents Val}
    (hop : TRef.unary x y f ∈ ops) (hi : W[i]? = some y.ref) (hr : y.ref ∉ W.drop (i + 1) ∧ x.ref ∉ W.drop i)
    {wx : Tx.Contents Val} {w : Ty.Contents Val} (hx : x.ofBuf (after ops V (Proc.devRef .tc x.ref)) = wx) (hy : y.ofBuf (after ops V (Proc.devRef .tc y.ref)) = w) :
    w = f wx := by
  have e := read1 h hn V i hop hi hr
  subst hx; subst hy
  rw [e, TRef.ofBuf_toBuf]

/-- An operation of 2 operands in a called function, its buffers given with their types. -/
theorem readT2 {ops : List (HloOp τ sig Val)} {W : List (Ref sig .tc)} (h : Writes ops W) (hn : W.Nodup)
    (V : Valuation τ sig Val) (i : ℕ) {Ta Tb Ty : BufTy} {a : TRef sig Ta} {b : TRef sig Tb} {y : TRef sig Ty} {f : Ta.Contents Val → Tb.Contents Val → Ty.Contents Val}
    (hop : TRef.binary a b y f ∈ ops) (hi : W[i]? = some y.ref) (hr : y.ref ∉ W.drop (i + 1) ∧ a.ref ∉ W.drop i ∧ b.ref ∉ W.drop i)
    {wa : Ta.Contents Val} {wb : Tb.Contents Val} {w : Ty.Contents Val} (ha : a.ofBuf (after ops V (Proc.devRef .tc a.ref)) = wa) (hb : b.ofBuf (after ops V (Proc.devRef .tc b.ref)) = wb) (hy : y.ofBuf (after ops V (Proc.devRef .tc y.ref)) = w) :
    w = f wa wb := by
  have e := read2 h hn V i hop hi hr
  subst ha; subst hb; subst hy
  rw [e, TRef.ofBuf_toBuf]

/-- An operation of 3 operands in a called function, its buffers given with their types. -/
theorem readT3 {ops : List (HloOp τ sig Val)} {W : List (Ref sig .tc)} (h : Writes ops W) (hn : W.Nodup)
    (V : Valuation τ sig Val) (i : ℕ) {Tc Ta Tb Ty : BufTy} {c : TRef sig Tc} {a : TRef sig Ta} {b : TRef sig Tb} {y : TRef sig Ty} {f : Tc.Contents Val → Ta.Contents Val → Tb.Contents Val → Ty.Contents Val}
    (hop : TRef.ternary c a b y f ∈ ops) (hi : W[i]? = some y.ref) (hr : y.ref ∉ W.drop (i + 1) ∧ c.ref ∉ W.drop i ∧ a.ref ∉ W.drop i ∧ b.ref ∉ W.drop i)
    {wc : Tc.Contents Val} {wa : Ta.Contents Val} {wb : Tb.Contents Val} {w : Ty.Contents Val} (hc : c.ofBuf (after ops V (Proc.devRef .tc c.ref)) = wc) (ha : a.ofBuf (after ops V (Proc.devRef .tc a.ref)) = wa) (hb : b.ofBuf (after ops V (Proc.devRef .tc b.ref)) = wb) (hy : y.ofBuf (after ops V (Proc.devRef .tc y.ref)) = w) :
    w = f wc wa wb := by
  have e := read3 h hn V i hop hi hr
  subst hc; subst ha; subst hb; subst hy
  rw [e, TRef.ofBuf_toBuf]

/-- A typed buffer reads its contents as they are. -/
theorem ofBuf_of {T : BufTy} (x : TRef sig T) {v : x.ref.ty.Contents Val} {w : T.Contents Val} (h : HEq v w) :
    x.ofBuf v = w := by
  obtain ⟨r, rfl, hd, hu⟩ := x
  exact eq_of_heq h

/-- A reshape. -/
theorem readR {ops : List (HloOp τ sig Val)} {W : List (Ref sig .tc)} (h : Writes ops W) (hn : W.Nodup)
    (V : Valuation τ sig Val) (i : ℕ) {x y : Ref sig .tc} {he hn' hx hy}
    (hop : reshape x y he hn' hx hy ∈ ops) (hi : W[i]? = some y) (hr : y ∉ W.drop (i + 1) ∧ x ∉ W.drop i) :
    after ops V (Proc.devRef .tc y)
      = fun j => he ▸ shapeCast y.ty.shape (after ops V (Proc.devRef .tc x)) hn' j := by
  rw [at_op h (position h hn hop rfl hi) hr.1, reshape_result, upto_eq h i hr.2]

/-- The operation at position `j` of a stretch is in the stretch. -/
theorem in_seg {seg : List (HloOp τ sig Val)} (j : ℕ) {op : HloOp τ sig Val} (hj : seg[j]? = some op) : op ∈ seg :=
  List.mem_of_getElem? hj

/-- A buffer the line never writes keeps its contents. -/
theorem readArg {ops : List (HloOp τ sig Val)} {W : List (Ref sig .tc)} (h : Writes ops W) (V : Valuation τ sig Val)
    {x : Ref sig .tc} (hr : x ∉ W) :
    after ops V (Proc.devRef .tc x) = V (Proc.devRef .tc x) := after_unwritten W h hr V

end Cert.Own

end
-- ==== Proof.HostValsK.lean ====
/- What the host operations before the Pallas call leave in each buffer, one equation per operation. -/
module

public import proofs.«01_k».proof.Proof.HostLineK
public import proofs.«01_k».proof.Proof.Ssa

@[expose] public section

set_option maxRecDepth 8000

noncomputable section

namespace Cert.Kernel.Own

open Idealize.ShloMosaic Idealize.ShloMosaic.TcCoe Idealize.SL.Sem Cert.Own Cert.Kernel.Gen

variable {F : FTy → Type} [FloatOps F]

local notation "𝕍" => Valuation τ sig (Elt F)

/-- Argument `main_arg0`. -/
noncomputable def h_arg0 (V : 𝕍) : (⟨S4x2048x2048, .f32⟩ : BufTy).Contents (Elt F) := left V main_arg0
theorem h_arg0_left (V : 𝕍) : left V main_arg0 = V (Proc.devRef .tc main_arg0) := readArg host_writes V (by decide +kernel)

/-- Argument `main_arg1`. -/
noncomputable def h_arg1 (V : 𝕍) : (⟨S2048x8, .f32⟩ : BufTy).Contents (Elt F) := left V main_arg1
theorem h_arg1_left (V : 𝕍) : left V main_arg1 = V (Proc.devRef .tc main_arg1) := readArg host_writes V (by decide +kernel)

/-- Argument `main_arg2`. -/
noncomputable def h_arg2 (V : 𝕍) : (⟨S8x2048x5632, .f32⟩ : BufTy).Contents (Elt F) := left V main_arg2
theorem h_arg2_left (V : 𝕍) : left V main_arg2 = V (Proc.devRef .tc main_arg2) := readArg host_writes V (by decide +kernel)

/-- Argument `main_arg3`. -/
noncomputable def h_arg3 (V : 𝕍) : (⟨S8x2048x5632, .f32⟩ : BufTy).Contents (Elt F) := left V main_arg3
theorem h_arg3_left (V : 𝕍) : left V main_arg3 = V (Proc.devRef .tc main_arg3) := readArg host_writes V (by decide +kernel)

/-- Argument `main_arg4`. -/
noncomputable def h_arg4 (V : 𝕍) : (⟨S8x5632x2048, .f32⟩ : BufTy).Contents (Elt F) := left V main_arg4
theorem h_arg4_left (V : 𝕍) : left V main_arg4 = V (Proc.devRef .tc main_arg4) := readArg host_writes V (by decide +kernel)

noncomputable def h_v61 (V : 𝕍) : (⟨S32, .i32⟩ : BufTy).Contents (Elt F) := left V main_v61
theorem h_v61_eq (V : 𝕍) : h_v61 V = (iotaInDim S32 32 0) := by
  have h := read0 host_writes host_nodup V 105 (y := main_v61) (in_hostOps0_8 (in_seg 2 rfl)) rfl (by decide +kernel)
  unfold h_v61
  exact h

noncomputable def h_v62 (V : 𝕍) : (⟨S32x1, .i32⟩ : BufTy).Contents (Elt F) := left V main_v62
theorem h_v62_eq (V : 𝕍) : h_v62 V = ((broadcastInDim S32x1 ![0] bcast_S32_S32x1_0) : (⟨S32, .i32⟩ : BufTy).Contents (Elt F) → (⟨S32x1, .i32⟩ : BufTy).Contents (Elt F)) (h_v61 V) := by
  have h := read1 host_writes host_nodup V 106 (y := main_v62) (in_hostOps0_8 (in_seg 3 rfl)) rfl (by decide +kernel)
  unfold h_v62 h_v61
  exact h

noncomputable def h_v86 (V : 𝕍) : (⟨S8, .i32⟩ : BufTy).Contents (Elt F) := left V main_v86
theorem h_v86_eq (V : 𝕍) : h_v86 V = (iotaInDim S8 32 0) := by
  have h := read0 host_writes host_nodup V 147 (y := main_v86) (in_hostOps0_12 (in_seg 0 rfl)) rfl (by decide +kernel)
  unfold h_v86
  exact h

noncomputable def h_v87 (V : 𝕍) : (⟨S1x8, .i32⟩ : BufTy).Contents (Elt F) := left V main_v87
theorem h_v87_eq (V : 𝕍) : h_v87 V = ((broadcastInDim S1x8 ![1] bcast_S8_S1x8_1) : (⟨S8, .i32⟩ : BufTy).Contents (Elt F) → (⟨S1x8, .i32⟩ : BufTy).Contents (Elt F)) (h_v86 V) := by
  have h := read1 host_writes host_nodup V 148 (y := main_v87) (in_hostOps0_12 (in_seg 1 rfl)) rfl (by decide +kernel)
  unfold h_v87 h_v86
  exact h

noncomputable def h_v88 (V : 𝕍) : (⟨S32x8, .i32⟩ : BufTy).Contents (Elt F) := left V main_v88
theorem h_v88_eq (V : 𝕍) : h_v88 V = ((broadcastInDim S32x8 ![0, 1] bcast_S1x8_S32x8_0_1) : (⟨S1x8, .i32⟩ : BufTy).Contents (Elt F) → (⟨S32x8, .i32⟩ : BufTy).Contents (Elt F)) (h_v87 V) := by
  have h := read1 host_writes host_nodup V 149 (y := main_v88) (in_hostOps0_12 (in_seg 2 rfl)) rfl (by decide +kernel)
  unfold h_v88 h_v87
  exact h

noncomputable def h_v89 (V : 𝕍) : (⟨S32x8, .i32⟩ : BufTy).Contents (Elt F) := left V main_v89
theorem h_v89_eq (V : 𝕍) : h_v89 V = ((broadcastInDim S32x8 ![0, 1] bcast_S32x1_S32x8_0_1) : (⟨S32x1, .i32⟩ : BufTy).Contents (Elt F) → (⟨S32x8, .i32⟩ : BufTy).Contents (Elt F)) (h_v62 V) := by
  have h := read1 host_writes host_nodup V 150 (y := main_v89) (in_hostOps0_12 (in_seg 3 rfl)) rfl (by decide +kernel)
  unfold h_v89 h_v62
  exact h

noncomputable def h_c_28 (V : 𝕍) : (⟨S_, .i32⟩ : BufTy).Contents (Elt F) := left V main_c_28
theorem h_c_28_eq (V : 𝕍) : h_c_28 V = (constantI S_ 32 0#32) := by
  have h := read0 host_writes host_nodup V 166 (y := main_c_28) (in_hostOps0_16 (in_seg 3 rfl)) rfl (by decide +kernel)
  unfold h_c_28
  exact h

noncomputable def h_v97 (V : 𝕍) : (⟨S39, .i32⟩ : BufTy).Contents (Elt F) := left V main_v97
theorem h_v97_eq (V : 𝕍) : h_v97 V = ((broadcastInDim S39 ![] bcast_S_S39) : (⟨S_, .i32⟩ : BufTy).Contents (Elt F) → (⟨S39, .i32⟩ : BufTy).Contents (Elt F)) (h_c_28 V) := by
  have h := read1 host_writes host_nodup V 167 (y := main_v97) (in_hostOps0_16 (in_seg 4 rfl)) rfl (by decide +kernel)
  unfold h_v97 h_c_28
  exact h

noncomputable def h_v98 (V : 𝕍) : (⟨S256, .i32⟩ : BufTy).Contents (Elt F) := left V main_v98
theorem h_v98_eq (V : 𝕍) : h_v98 V = shapeCast S256 (h_v89 V) shapeCasts_S32x8_S256 := by
  have h := readR host_writes host_nodup V 168 (y := main_v98) (in_hostOps0_16 (in_seg 5 rfl)) rfl (by decide +kernel)
  unfold h_v98 h_v89
  exact h

noncomputable def h_v104 (V : 𝕍) : (⟨S256x1, .i32⟩ : BufTy).Contents (Elt F) := left V main_v104
noncomputable def h_v105 (V : 𝕍) : (⟨S39, .i32⟩ : BufTy).Contents (Elt F) := left V main_v105
theorem h_v105_eq (V : 𝕍) : h_v105 V = ((fun x i u => Host.scatter scatter_S39_S256x1_S256_n_0_0_1 (fun _ b => b) x i u) : (⟨S39, .i32⟩ : BufTy).Contents (Elt F) → (⟨S256x1, .i32⟩ : BufTy).Contents (Elt F) → (⟨S256, .i32⟩ : BufTy).Contents (Elt F) → (⟨S39, .i32⟩ : BufTy).Contents (Elt F)) (h_v97 V) (h_v104 V) (h_v98 V) := by
  have h := read3 host_writes host_nodup V 177 (y := main_v105) (in_hostOps0_16 (in_seg 14 rfl)) rfl (by decide +kernel)
  unfold h_v105 h_v97 h_v104 h_v98
  exact h

noncomputable def h_v115 (V : 𝕍) : (⟨S39x1, .i32⟩ : BufTy).Contents (Elt F) := left V main_v115
noncomputable def h_v116 (V : 𝕍) : (⟨S39, .i32⟩ : BufTy).Contents (Elt F) := left V main_v116
theorem h_v116_eq (V : 𝕍) : h_v116 V = ((fun x i => Host.gather gather_S39_S39x1_S39_n_0_n_n_0_1_1 x i) : (⟨S39, .i32⟩ : BufTy).Contents (Elt F) → (⟨S39x1, .i32⟩ : BufTy).Contents (Elt F) → (⟨S39, .i32⟩ : BufTy).Contents (Elt F)) (h_v105 V) (h_v115 V) := by
  have h := read2 host_writes host_nodup V 191 (y := main_v116) (in_hostOps0_16 (in_seg 28 rfl)) rfl (by decide +kernel)
  unfold h_v116 h_v105 h_v115
  exact h

noncomputable def h_c_34 (V : 𝕍) : (⟨S_, .i32⟩ : BufTy).Contents (Elt F) := left V main_c_34
theorem h_c_34_eq (V : 𝕍) : h_c_34 V = (constantI S_ 32 0#32) := by
  have h := read0 host_writes host_nodup V 192 (y := main_c_34) (in_hostOps0_16 (in_seg 29 rfl)) rfl (by decide +kernel)
  unfold h_c_34
  exact h

noncomputable def h_v117 (V : 𝕍) : (⟨S39, .i32⟩ : BufTy).Contents (Elt F) := left V main_v117
theorem h_v117_eq (V : 𝕍) : h_v117 V = ((broadcastInDim S39 ![] bcast_S_S39) : (⟨S_, .i32⟩ : BufTy).Contents (Elt F) → (⟨S39, .i32⟩ : BufTy).Contents (Elt F)) (h_c_34 V) := by
  have h := read1 host_writes host_nodup V 193 (y := main_v117) (in_hostOps0_16 (in_seg 30 rfl)) rfl (by decide +kernel)
  unfold h_v117 h_c_34
  exact h

noncomputable def h_v118 (V : 𝕍) : (⟨S256, .i32⟩ : BufTy).Contents (Elt F) := left V main_v118
theorem h_v118_eq (V : 𝕍) : h_v118 V = shapeCast S256 (h_v88 V) shapeCasts_S32x8_S256 := by
  have h := readR host_writes host_nodup V 194 (y := main_v118) (in_hostOps0_16 (in_seg 31 rfl)) rfl (by decide +kernel)
  unfold h_v118 h_v88
  exact h

noncomputable def h_v124 (V : 𝕍) : (⟨S256x1, .i32⟩ : BufTy).Contents (Elt F) := left V main_v124
noncomputable def h_v125 (V : 𝕍) : (⟨S39, .i32⟩ : BufTy).Contents (Elt F) := left V main_v125
theorem h_v125_eq (V : 𝕍) : h_v125 V = ((fun x i u => Host.scatter scatter_S39_S256x1_S256_n_0_0_1 (fun _ b => b) x i u) : (⟨S39, .i32⟩ : BufTy).Contents (Elt F) → (⟨S256x1, .i32⟩ : BufTy).Contents (Elt F) → (⟨S256, .i32⟩ : BufTy).Contents (Elt F) → (⟨S39, .i32⟩ : BufTy).Contents (Elt F)) (h_v117 V) (h_v124 V) (h_v118 V) := by
  have h := read3 host_writes host_nodup V 203 (y := main_v125) (in_hostOps0_16 (in_seg 40 rfl)) rfl (by decide +kernel)
  unfold h_v125 h_v117 h_v124 h_v118
  exact h

noncomputable def h_v135 (V : 𝕍) : (⟨S39x1, .i32⟩ : BufTy).Contents (Elt F) := left V main_v135
noncomputable def h_v136 (V : 𝕍) : (⟨S39, .i32⟩ : BufTy).Contents (Elt F) := left V main_v136
theorem h_v136_eq (V : 𝕍) : h_v136 V = ((fun x i => Host.gather gather_S39_S39x1_S39_n_0_n_n_0_1_1 x i) : (⟨S39, .i32⟩ : BufTy).Contents (Elt F) → (⟨S39x1, .i32⟩ : BufTy).Contents (Elt F) → (⟨S39, .i32⟩ : BufTy).Contents (Elt F)) (h_v125 V) (h_v135 V) := by
  have h := read2 host_writes host_nodup V 217 (y := main_v136) (in_hostOps0_16 (in_seg 54 rfl)) rfl (by decide +kernel)
  unfold h_v136 h_v125 h_v135
  exact h
end Cert.Kernel.Own

end
-- ==== Proof.KFrame.Points.lean ====
/- The program: the staging memrefs at a grid point and the body there. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
-- window 1: no schedule fact — its index map reads a prefetched table, so where it is fetched or written back depends on the tables' contents
-- window 2: no schedule fact — its index map reads a prefetched table, so where it is fetched or written back depends on the tables' contents
-- window 3: no schedule fact — its index map reads a prefetched table, so where it is fetched or written back depends on the tables' contents
-- window 4: no schedule fact — its index map reads a prefetched table, so where it is fetched or written back depends on the tables' contents

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__ffn_body (grid0.coords t) (Memref.whole main_v116) (Memref.isWhole_whole _) (Memref.whole main_v136) (Memref.isWhole_whole _) (Memref.whole main_v156) (Memref.isWhole_whole _) (Memref.whole main_v176) (Memref.isWhole_whole _) (Memref.whole main_v179) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

end Cert.Kernel.Gen

end
-- ==== Proof.Range.lean ====
/- A table filled by a scatter into zeros and read by a gather holds only values its updates hold, or zero. -/
module

public import Idealize.ShloMosaic.Lib.Routing.OpsOrder

@[expose] public section

namespace Cert.Own

open Idealize.ShloMosaic Idealize.ShloMosaic.Routing

/-- Any property of zero and of every update word holds of every entry of the placed and gathered table. -/
theorem placed_forall {s si u si' s' : Shape} {w w' : Nat} (d : ScatterDims s si u) (g : GatherDims s si' s') (P : BitVec 32 → Prop)
    (x : IVec s 32) (idx : IVec si w) (upd : IVec u 32) (idx' : IVec si' w') (hx : ∀ i, P (x i)) (hu : ∀ j, P (upd j)) (i : s'.Idx) :
    P (Host.gather g (Host.scatter d (fun _ b => b) x idx upd) idx' i) := by
  unfold Host.gather
  exact scatter_forall d (fun _ b => b) P (fun _ _ _ h => h) x idx upd hx hu _

/-- A reshape of an array of the same words keeps any property of all its entries. -/
theorem cast_forall {s s' : Shape} (P : BitVec 32 → Prop) (x : IVec s 32) (h : s.ShapeCasts s') (hx : ∀ i, P (x i)) (i : s'.Idx) :
    P (shapeCast s' x h i) := hx _

/-- A broadcast of an array of words keeps any property of all its entries. -/
theorem bcast_forall {s s' : Shape} (P : BitVec 32 → Prop) (dims : Fin s.rank → Fin s'.rank) (h : s.BroadcastsInDim s' dims) (x : IVec s 32)
    (hx : ∀ i, P (x i)) (i : s'.Idx) : P (broadcastInDim s' dims h x i) := by
  unfold broadcastInDim
  exact hx _

end Cert.Own
-- ==== Proof.KFrame.RunA.lean ====
/- The Kernel body at an expert entry's first hidden block (the accumulator is zeroed). -/
module

public import proofs.«01_k».proof.Proof.KFrame.Runs

@[expose] public section

-- rectangles of full size (`View.cover_of_tiled`) need the deeper recursion
set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 11, … 418: 39 of 429), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4) at anything, handed back at some contents nothing names. -/
noncomputable def kernelRun0_A (c : Dev nD) (i : grid0.Coords) (arg7 : Memref sig .tc .vmem S512x2048 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x512x2048 .bf16) (harg10 : arg10.IsWhole) (arg11 : Memref sig .tc .vmem S512x2048 .f32) (harg11 : arg11.IsWhole) (arg12 : Memref sig .tc .vmem S512x2048 .f32) (harg12 : arg12.IsWhole) (hc0 : cond0_0 i) (hc1 : ¬cond0_1 i)
    (x0 : Vec F S512x2048 .bf16) (x1 : Vec F S1x2048x512 .bf16) (x2 : Vec F S1x2048x512 .bf16) (x3 : Vec F S1x512x2048 .bf16) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) :
    { LS0 : List (View.Piece (Elt F) S512x2048 .f32) //
      ∀ (E : Set ℕ) (K : PUnit → sProp 𝕄),
        iprop(owns (c : Thread nD τ) arg7 fullShare x0 ∗ owns (c : Thread nD τ) arg8 fullShare x1 ∗ owns (c : Thread nD τ) arg9 fullShare x2 ∗ owns (c : Thread nD τ) arg10 fullShare x3 ∗ (∃ d, owns (c : Thread nD τ) arg11 fullShare d) ∗ (∃ d, owns (c : Thread nD τ) arg12 fullShare d) ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg7 fullShare x0 ∗ owns (c : Thread nD τ) arg8 fullShare x1 ∗ owns (c : Thread nD τ) arg9 fullShare x2 ∗ owns (c : Thread nD τ) arg10 fullShare x3 ∗ (∃ d, owns (c : Thread nD τ) arg11 fullShare d) ∗ (∃ f, arg12.view.loc (c : Thread nD τ) ↦[arg12.view.set]{fullShare} arg12.view.writes (Elt F) f LS0) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0__ffn_body i tbM0_0 htbM0_0 tbM0_1 htbM0_1 tbM0_2 htbM0_2 tbM0_3 htbM0_3 tbM0_4 htbM0_4 arg7 harg7 arg8 harg8 arg9 harg9 arg10 harg10 arg11 harg11 arg12 harg12) K } := by
  refine ⟨?_, fun E K => ?run⟩
  case run =>
    simp only [cc0__ffn_body_eq_skeleton]; unfold cc0__ffn_body_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, HT2, HT3, HT4, Hk⟩
    obtain rfl := harg7.eq_unread hf0; obtain rfl := harg8.eq_unread hf1; obtain rfl := harg9.eq_unread hf2; obtain rfl := harg10.eq_unread hf3
    sl_exec (disch := first | sl_exact hc0 | sl_exact hc1)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _, _; isplitr; swap; · iexact H4
      ipureintro; rfl
    isplitl [HS0]; · iexists _; iexact HS0
    isplitl [HT0]; · iexact HT0
    isplitl [HT1]; · iexact HT1
    isplitl [HT2]; · iexact HT2
    isplitl [HT3]; · iexact HT3
    iexact HT4

end Cert.Kernel.Own

end
-- ==== Proof.KFrame.RunB.lean ====
/- The Kernel body at a middle hidden block (the accumulator grows). -/
module

public import proofs.«01_k».proof.Proof.KFrame.RunA

@[expose] public section

-- rectangles of full size (`View.cover_of_tiled`) need the deeper recursion
set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 427: 351 of 429), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4) at anything, handed back at some contents nothing names. -/
noncomputable def kernelRun0_B (c : Dev nD) (i : grid0.Coords) (arg7 : Memref sig .tc .vmem S512x2048 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x512x2048 .bf16) (harg10 : arg10.IsWhole) (arg11 : Memref sig .tc .vmem S512x2048 .f32) (harg11 : arg11.IsWhole) (arg12 : Memref sig .tc .vmem S512x2048 .f32) (harg12 : arg12.IsWhole) (hc0 : ¬cond0_0 i) (hc1 : ¬cond0_1 i)
    (x0 : Vec F S512x2048 .bf16) (x1 : Vec F S1x2048x512 .bf16) (x2 : Vec F S1x2048x512 .bf16) (x3 : Vec F S1x512x2048 .bf16) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xs0 : Vec F S512x2048 .f32) :
    { LS0 : List (View.Piece (Elt F) S512x2048 .f32) //
      ∀ (E : Set ℕ) (K : PUnit → sProp 𝕄),
        iprop(owns (c : Thread nD τ) arg7 fullShare x0 ∗ owns (c : Thread nD τ) arg8 fullShare x1 ∗ owns (c : Thread nD τ) arg9 fullShare x2 ∗ owns (c : Thread nD τ) arg10 fullShare x3 ∗ (∃ d, owns (c : Thread nD τ) arg11 fullShare d) ∗ owns (c : Thread nD τ) arg12 fullShare xs0 ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg7 fullShare x0 ∗ owns (c : Thread nD τ) arg8 fullShare x1 ∗ owns (c : Thread nD τ) arg9 fullShare x2 ∗ owns (c : Thread nD τ) arg10 fullShare x3 ∗ (∃ d, owns (c : Thread nD τ) arg11 fullShare d) ∗ (∃ f, arg12.view.loc (c : Thread nD τ) ↦[arg12.view.set]{fullShare} arg12.view.writes (Elt F) f LS0) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0__ffn_body i tbM0_0 htbM0_0 tbM0_1 htbM0_1 tbM0_2 htbM0_2 tbM0_3 htbM0_3 tbM0_4 htbM0_4 arg7 harg7 arg8 harg8 arg9 harg9 arg10 harg10 arg11 harg11 arg12 harg12) K } := by
  refine ⟨?_, fun E K => ?run⟩
  case run =>
    simp only [cc0__ffn_body_eq_skeleton]; unfold cc0__ffn_body_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, HT0, HT1, HT2, HT3, HT4, Hk⟩
    obtain rfl := harg7.eq_unread hf0; obtain rfl := harg8.eq_unread hf1; obtain rfl := harg9.eq_unread hf2; obtain rfl := harg10.eq_unread hf3; obtain rfl := harg12.eq_unread hfs0
    sl_exec (disch := first | sl_exact hc0 | sl_exact hc1)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _, _; isplitr; swap; · iexact H4
      ipureintro; rfl
    isplitl [HS0]; · iexists _; iexact HS0
    isplitl [HT0]; · iexact HT0
    isplitl [HT1]; · iexact HT1
    isplitl [HT2]; · iexact HT2
    isplitl [HT3]; · iexact HT3
    iexact HT4

end Cert.Kernel.Own

end
-- ==== Proof.KFrame.RunC.lean ====
/- The Kernel body at the last hidden block (the accumulator grows and the output tile is written). -/
module

public import proofs.«01_k».proof.Proof.KFrame.RunB

@[expose] public section

-- rectangles of full size (`View.cover_of_tiled`) need the deeper recursion
set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 10, 21, … 428: 39 of 429), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4) at anything, handed back at some contents nothing names. -/
noncomputable def kernelRun0_C (c : Dev nD) (i : grid0.Coords) (arg7 : Memref sig .tc .vmem S512x2048 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x512x2048 .bf16) (harg10 : arg10.IsWhole) (arg11 : Memref sig .tc .vmem S512x2048 .f32) (harg11 : arg11.IsWhole) (arg12 : Memref sig .tc .vmem S512x2048 .f32) (harg12 : arg12.IsWhole) (hc0 : ¬cond0_0 i) (hc1 : cond0_1 i)
    (x0 : Vec F S512x2048 .bf16) (x1 : Vec F S1x2048x512 .bf16) (x2 : Vec F S1x2048x512 .bf16) (x3 : Vec F S1x512x2048 .bf16) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xs0 : Vec F S512x2048 .f32) :
    { LS0 : List (View.Piece (Elt F) S512x2048 .f32) //
      ∀ (E : Set ℕ) (K : PUnit → sProp 𝕄),
        iprop(owns (c : Thread nD τ) arg7 fullShare x0 ∗ owns (c : Thread nD τ) arg8 fullShare x1 ∗ owns (c : Thread nD τ) arg9 fullShare x2 ∗ owns (c : Thread nD τ) arg10 fullShare x3 ∗ (∃ d, owns (c : Thread nD τ) arg11 fullShare d) ∗ owns (c : Thread nD τ) arg12 fullShare xs0 ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg7 fullShare x0 ∗ owns (c : Thread nD τ) arg8 fullShare x1 ∗ owns (c : Thread nD τ) arg9 fullShare x2 ∗ owns (c : Thread nD τ) arg10 fullShare x3 ∗ (∃ d, owns (c : Thread nD τ) arg11 fullShare d) ∗ (∃ f, arg12.view.loc (c : Thread nD τ) ↦[arg12.view.set]{fullShare} arg12.view.writes (Elt F) f LS0) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0__ffn_body i tbM0_0 htbM0_0 tbM0_1 htbM0_1 tbM0_2 htbM0_2 tbM0_3 htbM0_3 tbM0_4 htbM0_4 arg7 harg7 arg8 harg8 arg9 harg9 arg10 harg10 arg11 harg11 arg12 harg12) K } := by
  refine ⟨?_, fun E K => ?run⟩
  case run =>
    simp only [cc0__ffn_body_eq_skeleton]; unfold cc0__ffn_body_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, HT0, HT1, HT2, HT3, HT4, Hk⟩
    obtain rfl := harg7.eq_unread hf0; obtain rfl := harg8.eq_unread hf1; obtain rfl := harg9.eq_unread hf2; obtain rfl := harg10.eq_unread hf3; obtain rfl := harg12.eq_unread hfs0
    sl_exec (disch := first | sl_exact hc0 | sl_exact hc1)
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _, _; isplitr; swap; · iexact H4
      ipureintro; rfl
    isplitl [HS0]; · iexists _; iexact HS0
    isplitl [HT0]; · iexact HT0
    isplitl [HT1]; · iexact HT1
    isplitl [HT2]; · iexact HT2
    isplitl [HT3]; · iexact HT3
    iexact HT4

end Cert.Kernel.Own

end
-- ==== Proof.KFrame.Frame.lean ====
/- The Kernel program's frame certificate: scratch contents point by point, the body obligation, the run, the frame. -/
module

public import proofs.«01_k».proof.Proof.KFrame.RunC
public import Idealize.ShloMosaic.Lib.Claim

@[expose] public section

-- rectangles of full size (`View.cover_of_tiled`) need the deeper recursion
set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (∃ d, owns (c : Thread nD τ) (ms0_4 m hO t) fullShare d))

set_option maxHeartbeats 4800000 in
/-- The body at any point: its inputs hold their blocks, it runs whatever the scratch and the output hold, and it hands
    both back at some contents. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = iprop(Pipeline.ΦA spec0 c ∗ Pipeline.ΦT pre0 (tbl m) c) from rfl,
    show (dats m hO 0 c).Φ t.castSucc = iprop(Pipeline.ΦA spec0 c ∗ Pipeline.ΦT pre0 (tbl m) c) from rfl, PhiT0_eq, PhiA0_eq]
  rw [show (dats m hO 0 c).leavesExact 0 t = owns (c : Thread nD τ) (ms0_0 m hO t) fullShare ((dats m hO 0 c).after 0 t) from by
      unfold Dat.leavesExact; rw [liveAt0_0 m hO t]; try rfl, after0_0]
  rw [show (dats m hO 0 c).leavesExact 1 t = owns (c : Thread nD τ) (ms0_1 m hO t) fullShare ((dats m hO 0 c).after 1 t) from by
      unfold Dat.leavesExact; rw [liveAt0_1 m hO t]; try rfl, after0_1]
  rw [show (dats m hO 0 c).leavesExact 2 t = owns (c : Thread nD τ) (ms0_2 m hO t) fullShare ((dats m hO 0 c).after 2 t) from by
      unfold Dat.leavesExact; rw [liveAt0_2 m hO t]; try rfl, after0_2]
  rw [show (dats m hO 0 c).leavesExact 3 t = owns (c : Thread nD τ) (ms0_3 m hO t) fullShare ((dats m hO 0 c).after 3 t) from by
      unfold Dat.leavesExact; rw [liveAt0_3 m hO t]; try rfl, after0_3]
  by_cases h0 : t.val % 11 = 0
  · have h1 : ¬t.val % 11 = 10 := by omega
    iintro ⟨⟨⟨HS0, Hg⟩, ⟨HT0, HT1, HT2, HT3, HT4⟩⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (fun h => h1 ((hcond0_1 t).mp h)) (iblk m hO c 0 t) (iblk m hO c 1 t) (iblk m hO c 2 t) (iblk m hO c 3 t) (tbl m 0) (tbl m 1) (tbl m 2) (tbl m 3) (tbl m 4)).2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    isplitl [HT2]; · iexact HT2
    isplitl [HT3]; · iexact HT3
    isplitl [HT4]; · iexact HT4
    iintro ⟨H0, H1, H2, H3, H4, ⟨%es0, HS0⟩, HT0, HT1, HT2, HT3, HT4⟩
    isplitl [HS0 Hg HT0 HT1 HT2 HT3 HT4]
    · isplitl [HS0 Hg]
      · isplitl [HS0]
        · unfold owns; iexists _, _; isplitr
          swap; · iexact HS0
          ipureintro; rfl
        iexact Hg
      isplitl [HT0]; · iexact HT0
      isplitl [HT1]; · iexact HT1
      isplitl [HT2]; · iexact HT2
      isplitl [HT3]; · iexact HT3
      iexact HT4
    isplitl [Ho]; · iexact Ho
    isplitl [H0]; · iexact H0
    isplitl [H1]; · iexact H1
    isplitl [H2]; · iexact H2
    isplitl [H3]; · iexact H3
    iexact H4
  · by_cases h1 : t.val % 11 = 10
    · iintro ⟨⟨⟨HS0, Hg⟩, ⟨HT0, HT1, HT2, HT3, HT4⟩⟩, Ho, ⟨%d0, H0⟩, ⟨%d1, H1⟩, ⟨%d2, H2⟩, ⟨%d3, H3⟩, ⟨%d4, H4⟩⟩
      icases HS0 with ⟨%s0, HS0⟩
      iapply ((kernelRun0_C c (grid0.coords t) _ _ _ _ _ _ _ _ _ _ _ _ (fun h => h0 ((hcond0_0 t).mp h)) ((hcond0_1 t).mpr h1) (iblk m hO c 0 t) (iblk m hO c 1 t) (iblk m hO c 2 t) (iblk m hO c 3 t) (tbl m 0) (tbl m 1) (tbl m 2) (tbl m 3) (tbl m 4) s0).2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HT0]; · iexact HT0
      isplitl [HT1]; · iexact HT1
      isplitl [HT2]; · iexact HT2
      isplitl [HT3]; · iexact HT3
      isplitl [HT4]; · iexact HT4
      iintro ⟨H0, H1, H2, H3, H4, ⟨%es0, HS0⟩, HT0, HT1, HT2, HT3, HT4⟩
      isplitl [HS0 Hg HT0 HT1 HT2 HT3 HT4]
      · isplitl [HS0 Hg]
        · isplitl [HS0]
          · unfold owns; iexists _, _; isplitr
            swap; · iexact HS0
            ipureintro; rfl
          iexact Hg
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      isplitl [H3]; · iexact H3
      iexact H4
    · iintro ⟨⟨⟨HS0, Hg⟩, ⟨HT0, HT1, HT2, HT3, HT4⟩⟩, Ho, ⟨%d0, H0⟩, ⟨%d1, H1⟩, ⟨%d2, H2⟩, ⟨%d3, H3⟩, ⟨%d4, H4⟩⟩
      icases HS0 with ⟨%s0, HS0⟩
      iapply ((kernelRun0_B c (grid0.coords t) _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (tbl m 0) (tbl m 1) (tbl m 2) (tbl m 3) (tbl m 4) s0).2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HT0]; · iexact HT0
      isplitl [HT1]; · iexact HT1
      isplitl [HT2]; · iexact HT2
      isplitl [HT3]; · iexact HT3
      isplitl [HT4]; · iexact HT4
      iintro ⟨H0, H1, H2, H3, H4, ⟨%es0, HS0⟩, HT0, HT1, HT2, HT3, HT4⟩
      isplitl [HS0 Hg HT0 HT1 HT2 HT3 HT4]
      · isplitl [HS0 Hg]
        · isplitl [HS0]
          · unfold owns; iexists _, _; isplitr
            swap; · iexact HS0
            ipureintro; rfl
          iexact Hg
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      isplitl [H3]; · iexact H3
      iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-- What the launch hands the region is the invariant. -/
theorem hin (hO : Ok m) (c : Dev nD) : iprop(Pipeline.ΦA spec0 c ∗ Pipeline.ΦT pre0 (tbl m) c) ⊢ (dats m hO 0 c).Φ 0 := by
  rw [show (dats m hO 0 c).Φ 0 = iprop(Pipeline.ΦA spec0 c ∗ Pipeline.ΦT pre0 (tbl m) c) from rfl]

/-- After the last point the invariant gives the scoped rest back, the tables' halves dropped. -/
theorem hout (hO : Ok m) (c : Dev nD) : (dats m hO 0 c).Φ (Fin.last (cfgM m hO).N) ⊢ Pipeline.ΦA spec0 c := by
  rw [show (dats m hO 0 c).Φ (Fin.last (cfgM m hO).N) = iprop(Pipeline.ΦA spec0 c ∗ Pipeline.ΦT pre0 (tbl m) c) from rfl]
  iintro ⟨H, -⟩
  iexact H

/-! ## The run and the frame -/

-- `θ_run_frameP_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.RDat.FramePostR ((Pipeline.pin pcfgs fun _ => adm m hO) 0) (fun c => (dats m hO 0 c).toRForget forgets0) T0 (V m)) r ∧ r.2.sem = fun _ => 0) :=
  Pipeline.θ_run_frameP_around_T_track_forget (Q' := _) pcfgs (fun _ => adm m hO) (dats m hO) (0 : Fin 1) launch0 defs₀ Variants.none forgets0 T0 m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m hO) (hpf := V_pre m) (hin := hin m hO) (hout := hout m hO)

/-- At the compiled mesh, for any values, from any memory with zero counters: every weakly fair execution of @main on the
    TensorCores terminates, and every final state has every INPUT array of the pipeline unchanged, nothing stated of the
    FORGOTTEN outputs (window 4) (Lib/Pipeline/Frame.lean `RDat.FramePostR` over the proof data with those windows
    forgotten, Dat.lean `Dat.toRForget`), and every other unscoped buffer outside `T0` at its region-entry contents. -/
theorem run_main (hO : Ok m) : θ_run defs (onTc (τ := τ) (main (F := F))) (s₀ m ρ) (Pipeline.RDat.FramePostR ((Pipeline.pin pcfgs fun _ => adm m hO) 0) (fun c => (dats m hO 0 c).toRForget forgets0) T0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Kernel.Own

end
-- ==== Proof.HostLine.lean ====
/- What the host operations before the Pallas call leave in each buffer, one equation per operation. -/
module

public import proofs.«01_k».proof.Proof.Gen.KernelIdeal.Launch
public import proofs.«01_k».proof.Proof.Ssa

@[expose] public section

set_option maxRecDepth 8000

noncomputable section

namespace Cert.KernelIdeal.Own

open Idealize.ShloMosaic Idealize.ShloMosaic.TcCoe Idealize.SL.Sem Cert.Own Cert.KernelIdeal.Gen

variable {F : FTy → Type} [FloatOps F]

local notation "𝕍" => Valuation τ sig (Elt F)

/-- The host operations before the Pallas call, in order. -/
noncomputable def hostAll : List (HloOp τ sig (Elt F)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- The buffers they write, in order. -/
noncomputable def hostW : List (Ref sig .tc) :=
  [main_v0, main_v1, main_cst, main_v2, main_cst_0, main_v3, main_v4, main_v5, main_v6, main_v7, main_v8, main_cst_1, main_v9, main_v10, main_v11, main_v12, main_values, main_indices, main_cst_2, main_v13, main_v14, main_v15, main_v16, main_v17, main_c, main_v18, main_c_3, main_call0_v0, main_call0_v1, main_v19, main_c_4, main_v20, main_v21, main_c_5, main_v22, main_v23, main_v24, main_v25, main_c_6, main_v26, main_v27, main_v28, main_cst_7, main_v29, main_v30, main_cst_8, main_v31, main_cst_9, main_v32, main_v33, main_v34, main_cst_10, main_v35, main_cst_11, main_v36, main_v37, main_call1_v0, main_call1_v1_0, main_v38, main_c_12, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v39, main_v40, main_c_13, main_v41, main_v42, main_c_14, main_v43, main_v44, main_v45, main_v46, main_v47, main_c_15, main_v48, main_v49, main_c_16, main_v50, main_v51, main_c_17, main_v52, main_v53, main_v54, main_v55, main_v56, main_v57, main_call3_call0_c, main_call3_call0_v0, main_v58, main_v59, main_v60, main_v61, main_v62, main_c_18, main_v63, main_v64, main_c_19, main_v65, main_v66, main_c_20, main_v67, main_v68, main_v69, main_v70, main_v71, main_v72, main_v73, main_v74, main_v75, main_v76, main_v77, main_v78, main_v79, main_v80, main_c_21, main_c_22, main_call4_v0, main_call4_v1, main_call4_v2, main_call4_v3, main_call4_v4, main_v81, main_v82, main_v83, main_v84, main_c_23, main_c_24, main_call5_v0, main_call5_v1, main_call5_v2, main_call5_v3, main_call5_v4, main_v85, main_v86, main_v87, main_v88, main_v89, main_v90, main_call6_v0, main_call6_call0_c, main_call6_call0_v0, main_v91, main_c_25, main_v92, main_v93, main_c_26, main_call7_v0, main_call7_v1, main_v94, main_v95, main_c_27, main_v96, main_c_28, main_v97, main_v98, main_c_29, main_v99, main_v100, main_c_30, main_v101, main_v102, main_v103, main_v104, main_v105, main_v106, main_c_31, main_v107, main_v108, main_v109, main_c_32, main_v110, main_v111, main_c_33, main_v112, main_v113, main_v114, main_v115, main_v116, main_c_34, main_v117, main_v118, main_c_35, main_v119, main_v120, main_c_36, main_v121, main_v122, main_v123, main_v124, main_v125, main_v126, main_c_37, main_v127, main_v128, main_v129, main_c_38, main_v130, main_v131, main_c_39, main_v132, main_v133, main_v134, main_v135, main_v136, main_c_40, main_v137, main_v138, main_c_41, main_v139, main_v140, main_c_42, main_v141, main_v142, main_v143, main_v144, main_v145, main_v146, main_c_43, main_v147, main_v148, main_v149, main_c_44, main_v150, main_v151, main_c_45, main_v152, main_v153, main_v154, main_v155, main_v156, main_c_46, main_v157, main_v158, main_c_47, main_v159, main_v160, main_c_48, main_v161, main_v162, main_v163, main_v164, main_v165, main_v166, main_c_49, main_v167, main_v168, main_v169, main_c_50, main_v170, main_v171, main_c_51, main_v172, main_v173, main_v174, main_v175, main_v176, main_c_52, main_v177, main_v178, main_v179, main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v180, main_v181, main_v182, main_v183, main_v184]

set_option maxHeartbeats 4000000 in
/-- Each operation writes its one buffer. -/
theorem host_writes : Writes (hostAll (F := F)) hostW := rfl
/-- No buffer is written twice. -/
theorem host_nodup : hostW.Nodup := by decide +kernel
theorem in_hostOps0 {op : HloOp τ sig (Elt F)} (h : op ∈ hostOps0) : op ∈ hostAll (F := F) :=
  List.mem_flatten.mpr ⟨_, .head _, h⟩
theorem in_hostOps0_1 {op : HloOp τ sig (Elt F)} (h : op ∈ hostOps0_1) : op ∈ hostAll (F := F) :=
  List.mem_flatten.mpr ⟨_, .tail _ (.head _), h⟩
theorem in_hostOps0_2 {op : HloOp τ sig (Elt F)} (h : op ∈ hostOps0_2) : op ∈ hostAll (F := F) :=
  List.mem_flatten.mpr ⟨_, .tail _ (.tail _ (.head _)), h⟩
theorem in_hostOps0_3 {op : HloOp τ sig (Elt F)} (h : op ∈ hostOps0_3) : op ∈ hostAll (F := F) :=
  List.mem_flatten.mpr ⟨_, .tail _ (.tail _ (.tail _ (.head _))), h⟩
theorem in_hostOps0_4 {op : HloOp τ sig (Elt F)} (h : op ∈ hostOps0_4) : op ∈ hostAll (F := F) :=
  List.mem_flatten.mpr ⟨_, .tail _ (.tail _ (.tail _ (.tail _ (.head _)))), h⟩
theorem in_hostOps0_5 {op : HloOp τ sig (Elt F)} (h : op ∈ hostOps0_5) : op ∈ hostAll (F := F) :=
  List.mem_flatten.mpr ⟨_, .tail _ (.tail _ (.tail _ (.tail _ (.tail _ (.head _))))), h⟩
theorem in_hostOps0_6 {op : HloOp τ sig (Elt F)} (h : op ∈ hostOps0_6) : op ∈ hostAll (F := F) :=
  List.mem_flatten.mpr ⟨_, .tail _ (.tail _ (.tail _ (.tail _ (.tail _ (.tail _ (.head _)))))), h⟩
theorem in_hostOps0_7 {op : HloOp τ sig (Elt F)} (h : op ∈ hostOps0_7) : op ∈ hostAll (F := F) :=
  List.mem_flatten.mpr ⟨_, .tail _ (.tail _ (.tail _ (.tail _ (.tail _ (.tail _ (.tail _ (.head _))))))), h⟩
theorem in_hostOps0_8 {op : HloOp τ sig (Elt F)} (h : op ∈ hostOps0_8) : op ∈ hostAll (F := F) :=
  List.mem_flatten.mpr ⟨_, .tail _ (.tail _ (.tail _ (.tail _ (.tail _ (.tail _ (.tail _ (.tail _ (.head _)))))))), h⟩
theorem in_hostOps0_9 {op : HloOp τ sig (Elt F)} (h : op ∈ hostOps0_9) : op ∈ hostAll (F := F) :=
  List.mem_flatten.mpr ⟨_, .tail _ (.tail _ (.tail _ (.tail _ (.tail _ (.tail _ (.tail _ (.tail _ (.tail _ (.head _))))))))), h⟩
theorem in_hostOps0_10 {op : HloOp τ sig (Elt F)} (h : op ∈ hostOps0_10) : op ∈ hostAll (F := F) :=
  List.mem_flatten.mpr ⟨_, .tail _ (.tail _ (.tail _ (.tail _ (.tail _ (.tail _ (.tail _ (.tail _ (.tail _ (.tail _ (.head _)))))))))), h⟩
theorem in_hostOps0_11 {op : HloOp τ sig (Elt F)} (h : op ∈ hostOps0_11) : op ∈ hostAll (F := F) :=
  List.mem_flatten.mpr ⟨_, .tail _ (.tail _ (.tail _ (.tail _ (.tail _ (.tail _ (.tail _ (.tail _ (.tail _ (.tail _ (.tail _ (.head _))))))))))), h⟩
theorem in_hostOps0_12 {op : HloOp τ sig (Elt F)} (h : op ∈ hostOps0_12) : op ∈ hostAll (F := F) :=
  List.mem_flatten.mpr ⟨_, .tail _ (.tail _ (.tail _ (.tail _ (.tail _ (.tail _ (.tail _ (.tail _ (.tail _ (.tail _ (.tail _ (.tail _ (.head _)))))))))))), h⟩
theorem in_hostOps0_13 {op : HloOp τ sig (Elt F)} (h : op ∈ hostOps0_13) : op ∈ hostAll (F := F) :=
  List.mem_flatten.mpr ⟨_, .tail _ (.tail _ (.tail _ (.tail _ (.tail _ (.tail _ (.tail _ (.tail _ (.tail _ (.tail _ (.tail _ (.tail _ (.tail _ (.head _))))))))))))), h⟩
theorem in_hostOps0_14 {op : HloOp τ sig (Elt F)} (h : op ∈ hostOps0_14) : op ∈ hostAll (F := F) :=
  List.mem_flatten.mpr ⟨_, .tail _ (.tail _ (.tail _ (.tail _ (.tail _ (.tail _ (.tail _ (.tail _ (.tail _ (.tail _ (.tail _ (.tail _ (.tail _ (.tail _ (.head _)))))))))))))), h⟩
theorem in_hostOps0_15 {op : HloOp τ sig (Elt F)} (h : op ∈ hostOps0_15) : op ∈ hostAll (F := F) :=
  List.mem_flatten.mpr ⟨_, .tail _ (.tail _ (.tail _ (.tail _ (.tail _ (.tail _ (.tail _ (.tail _ (.tail _ (.tail _ (.tail _ (.tail _ (.tail _ (.tail _ (.tail _ (.head _))))))))))))))), h⟩
theorem in_hostOps0_16 {op : HloOp τ sig (Elt F)} (h : op ∈ hostOps0_16) : op ∈ hostAll (F := F) :=
  List.mem_flatten.mpr ⟨_, .tail _ (.tail _ (.tail _ (.tail _ (.tail _ (.tail _ (.tail _ (.tail _ (.tail _ (.tail _ (.tail _ (.tail _ (.tail _ (.tail _ (.tail _ (.tail _ (.head _)))))))))))))))), h⟩
theorem in_hostOps0_17 {op : HloOp τ sig (Elt F)} (h : op ∈ hostOps0_17) : op ∈ hostAll (F := F) :=
  List.mem_flatten.mpr ⟨_, .tail _ (.tail _ (.tail _ (.tail _ (.tail _ (.tail _ (.tail _ (.tail _ (.tail _ (.tail _ (.tail _ (.tail _ (.tail _ (.tail _ (.tail _ (.tail _ (.tail _ (.head _))))))))))))))))), h⟩
theorem in_hostOps0_18 {op : HloOp τ sig (Elt F)} (h : op ∈ hostOps0_18) : op ∈ hostAll (F := F) :=
  List.mem_flatten.mpr ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), h⟩

/-- What the host operations leave in buffer `r`, from contents `V`. -/
abbrev left (V : 𝕍) (r : Ref sig .tc) := StableHlo.after hostAll V (Proc.devRef .tc r)

end Cert.KernelIdeal.Own

end
-- ==== Proof.HostDefs.lean ====
/- What the host operations before the Pallas call leave in each buffer, one equation per operation. -/
module

public import proofs.«01_k».proof.Proof.HostLine
public import proofs.«01_k».proof.Proof.Ssa

@[expose] public section

set_option maxRecDepth 8000

noncomputable section

namespace Cert.KernelIdeal.Own

open Idealize.ShloMosaic Idealize.ShloMosaic.TcCoe Idealize.SL.Sem Cert.Own Cert.KernelIdeal.Gen

variable {F : FTy → Type} [FloatOps F]

local notation "𝕍" => Valuation τ sig (Elt F)

/-- Argument `main_arg0`. -/
noncomputable def h_arg0 (V : 𝕍) : (⟨S4x2048x2048, .f32⟩ : BufTy).Contents (Elt F) := left V main_arg0
theorem h_arg0_left (V : 𝕍) : left V main_arg0 = V (Proc.devRef .tc main_arg0) := readArg host_writes V (by decide +kernel)

/-- Argument `main_arg1`. -/
noncomputable def h_arg1 (V : 𝕍) : (⟨S2048x8, .f32⟩ : BufTy).Contents (Elt F) := left V main_arg1
theorem h_arg1_left (V : 𝕍) : left V main_arg1 = V (Proc.devRef .tc main_arg1) := readArg host_writes V (by decide +kernel)

/-- Argument `main_arg2`. -/
noncomputable def h_arg2 (V : 𝕍) : (⟨S8x2048x5632, .f32⟩ : BufTy).Contents (Elt F) := left V main_arg2
theorem h_arg2_left (V : 𝕍) : left V main_arg2 = V (Proc.devRef .tc main_arg2) := readArg host_writes V (by decide +kernel)

/-- Argument `main_arg3`. -/
noncomputable def h_arg3 (V : 𝕍) : (⟨S8x2048x5632, .f32⟩ : BufTy).Contents (Elt F) := left V main_arg3
theorem h_arg3_left (V : 𝕍) : left V main_arg3 = V (Proc.devRef .tc main_arg3) := readArg host_writes V (by decide +kernel)

/-- Argument `main_arg4`. -/
noncomputable def h_arg4 (V : 𝕍) : (⟨S8x5632x2048, .f32⟩ : BufTy).Contents (Elt F) := left V main_arg4
theorem h_arg4_left (V : 𝕍) : left V main_arg4 = V (Proc.devRef .tc main_arg4) := readArg host_writes V (by decide +kernel)

/-- What is left in `main_v0`. -/
noncomputable def h_v0 (V : 𝕍) : (⟨S8192x2048, .f32⟩ : BufTy).Contents (Elt F) := left V main_v0
/-- What is left in `main_v1`. -/
noncomputable def h_v1 (V : 𝕍) : (⟨S8192x8, .f32⟩ : BufTy).Contents (Elt F) := left V main_v1
/-- What is left in `main_cst`. -/
noncomputable def h_cst (V : 𝕍) : (⟨S_, .f32⟩ : BufTy).Contents (Elt F) := left V main_cst
/-- What is left in `main_v2`. -/
noncomputable def h_v2 (V : 𝕍) : (⟨S8192, .f32⟩ : BufTy).Contents (Elt F) := left V main_v2
/-- What is left in `main_cst_0`. -/
noncomputable def h_cst_0 (V : 𝕍) : (⟨S_, .f32⟩ : BufTy).Contents (Elt F) := left V main_cst_0
/-- What is left in `main_v3`. -/
noncomputable def h_v3 (V : 𝕍) : (⟨S8192, .f32⟩ : BufTy).Contents (Elt F) := left V main_v3
/-- What is left in `main_v4`. -/
noncomputable def h_v4 (V : 𝕍) : (⟨S8192, .f32⟩ : BufTy).Contents (Elt F) := left V main_v4
/-- What is left in `main_v5`. -/
noncomputable def h_v5 (V : 𝕍) : (⟨S8192x1, .f32⟩ : BufTy).Contents (Elt F) := left V main_v5
/-- What is left in `main_v6`. -/
noncomputable def h_v6 (V : 𝕍) : (⟨S8192x8, .f32⟩ : BufTy).Contents (Elt F) := left V main_v6
/-- What is left in `main_v7`. -/
noncomputable def h_v7 (V : 𝕍) : (⟨S8192x8, .f32⟩ : BufTy).Contents (Elt F) := left V main_v7
/-- What is left in `main_v8`. -/
noncomputable def h_v8 (V : 𝕍) : (⟨S8192x8, .f32⟩ : BufTy).Contents (Elt F) := left V main_v8
/-- What is left in `main_cst_1`. -/
noncomputable def h_cst_1 (V : 𝕍) : (⟨S_, .f32⟩ : BufTy).Contents (Elt F) := left V main_cst_1
/-- What is left in `main_v9`. -/
noncomputable def h_v9 (V : 𝕍) : (⟨S8192, .f32⟩ : BufTy).Contents (Elt F) := left V main_v9
/-- What is left in `main_v10`. -/
noncomputable def h_v10 (V : 𝕍) : (⟨S8192x1, .f32⟩ : BufTy).Contents (Elt F) := left V main_v10
/-- What is left in `main_v11`. -/
noncomputable def h_v11 (V : 𝕍) : (⟨S8192x8, .f32⟩ : BufTy).Contents (Elt F) := left V main_v11
/-- What is left in `main_v12`. -/
noncomputable def h_v12 (V : 𝕍) : (⟨S8192x8, .f32⟩ : BufTy).Contents (Elt F) := left V main_v12
/-- What is left in `main_values`. -/
noncomputable def h_values (V : 𝕍) : (⟨S8192x2, .f32⟩ : BufTy).Contents (Elt F) := left V main_values
/-- What is left in `main_indices`. -/
noncomputable def h_indices (V : 𝕍) : (⟨S8192x2, .i32⟩ : BufTy).Contents (Elt F) := left V main_indices
/-- What is left in `main_cst_2`. -/
noncomputable def h_cst_2 (V : 𝕍) : (⟨S_, .f32⟩ : BufTy).Contents (Elt F) := left V main_cst_2
/-- What is left in `main_v13`. -/
noncomputable def h_v13 (V : 𝕍) : (⟨S8192, .f32⟩ : BufTy).Contents (Elt F) := left V main_v13
/-- What is left in `main_v14`. -/
noncomputable def h_v14 (V : 𝕍) : (⟨S8192x1, .f32⟩ : BufTy).Contents (Elt F) := left V main_v14
/-- What is left in `main_v15`. -/
noncomputable def h_v15 (V : 𝕍) : (⟨S8192x2, .f32⟩ : BufTy).Contents (Elt F) := left V main_v15
/-- What is left in `main_v16`. -/
noncomputable def h_v16 (V : 𝕍) : (⟨S8192x2, .f32⟩ : BufTy).Contents (Elt F) := left V main_v16
/-- What is left in `main_v17`. -/
noncomputable def h_v17 (V : 𝕍) : (⟨S16384, .i32⟩ : BufTy).Contents (Elt F) := left V main_v17
/-- What is left in `main_c`. -/
noncomputable def h_c (V : 𝕍) : (⟨S_, .i32⟩ : BufTy).Contents (Elt F) := left V main_c
/-- What is left in `main_v18`. -/
noncomputable def h_v18 (V : 𝕍) : (⟨S8, .i32⟩ : BufTy).Contents (Elt F) := left V main_v18
/-- What is left in `main_c_3`. -/
noncomputable def h_c_3 (V : 𝕍) : (⟨S_, .i32⟩ : BufTy).Contents (Elt F) := left V main_c_3
/-- What is left in `main_call0_v0`. -/
noncomputable def h_call0_v0 (V : 𝕍) : (⟨S_, .i32⟩ : BufTy).Contents (Elt F) := left V main_call0_v0
/-- What is left in `main_call0_v1`. -/
noncomputable def h_call0_v1 (V : 𝕍) : (⟨S16384, .i32⟩ : BufTy).Contents (Elt F) := left V main_call0_v1
/-- What is left in `main_v19`. -/
noncomputable def h_v19 (V : 𝕍) : (⟨S16384, .i32⟩ : BufTy).Contents (Elt F) := left V main_v19
/-- What is left in `main_c_4`. -/
noncomputable def h_c_4 (V : 𝕍) : (⟨S_, .i32⟩ : BufTy).Contents (Elt F) := left V main_c_4
/-- What is left in `main_v20`. -/
noncomputable def h_v20 (V : 𝕍) : (⟨S16384, .i32⟩ : BufTy).Contents (Elt F) := left V main_v20
/-- What is left in `main_v21`. -/
noncomputable def h_v21 (V : 𝕍) : (⟨S16384, .i1⟩ : BufTy).Contents (Elt F) := left V main_v21
/-- What is left in `main_c_5`. -/
noncomputable def h_c_5 (V : 𝕍) : (⟨S_, .i32⟩ : BufTy).Contents (Elt F) := left V main_c_5
/-- What is left in `main_v22`. -/
noncomputable def h_v22 (V : 𝕍) : (⟨S16384, .i32⟩ : BufTy).Contents (Elt F) := left V main_v22
/-- What is left in `main_v23`. -/
noncomputable def h_v23 (V : 𝕍) : (⟨S16384, .i32⟩ : BufTy).Contents (Elt F) := left V main_v23
/-- What is left in `main_v24`. -/
noncomputable def h_v24 (V : 𝕍) : (⟨S16384, .i32⟩ : BufTy).Contents (Elt F) := left V main_v24
/-- What is left in `main_v25`. -/
noncomputable def h_v25 (V : 𝕍) : (⟨S16384x1, .i32⟩ : BufTy).Contents (Elt F) := left V main_v25
/-- What is left in `main_c_6`. -/
noncomputable def h_c_6 (V : 𝕍) : (⟨S_, .i32⟩ : BufTy).Contents (Elt F) := left V main_c_6
/-- What is left in `main_v26`. -/
noncomputable def h_v26 (V : 𝕍) : (⟨S16384, .i32⟩ : BufTy).Contents (Elt F) := left V main_v26
/-- What is left in `main_v27`. -/
noncomputable def h_v27 (V : 𝕍) : (⟨S8, .i32⟩ : BufTy).Contents (Elt F) := left V main_v27
/-- What is left in `main_v28`. -/
noncomputable def h_v28 (V : 𝕍) : (⟨S8, .f32⟩ : BufTy).Contents (Elt F) := left V main_v28
/-- What is left in `main_cst_7`. -/
noncomputable def h_cst_7 (V : 𝕍) : (⟨S_, .f32⟩ : BufTy).Contents (Elt F) := left V main_cst_7
/-- What is left in `main_v29`. -/
noncomputable def h_v29 (V : 𝕍) : (⟨S8, .f32⟩ : BufTy).Contents (Elt F) := left V main_v29
/-- What is left in `main_v30`. -/
noncomputable def h_v30 (V : 𝕍) : (⟨S8, .f32⟩ : BufTy).Contents (Elt F) := left V main_v30
/-- What is left in `main_cst_8`. -/
noncomputable def h_cst_8 (V : 𝕍) : (⟨S_, .f32⟩ : BufTy).Contents (Elt F) := left V main_cst_8
/-- What is left in `main_v31`. -/
noncomputable def h_v31 (V : 𝕍) : (⟨S8, .f32⟩ : BufTy).Contents (Elt F) := left V main_v31
/-- What is left in `main_cst_9`. -/
noncomputable def h_cst_9 (V : 𝕍) : (⟨S_, .f32⟩ : BufTy).Contents (Elt F) := left V main_cst_9
/-- What is left in `main_v32`. -/
noncomputable def h_v32 (V : 𝕍) : (⟨S8, .f32⟩ : BufTy).Contents (Elt F) := left V main_v32
/-- What is left in `main_v33`. -/
noncomputable def h_v33 (V : 𝕍) : (⟨S8, .f32⟩ : BufTy).Contents (Elt F) := left V main_v33
/-- What is left in `main_v34`. -/
noncomputable def h_v34 (V : 𝕍) : (⟨S8, .f32⟩ : BufTy).Contents (Elt F) := left V main_v34
/-- What is left in `main_cst_10`. -/
noncomputable def h_cst_10 (V : 𝕍) : (⟨S_, .f32⟩ : BufTy).Contents (Elt F) := left V main_cst_10
/-- What is left in `main_v35`. -/
noncomputable def h_v35 (V : 𝕍) : (⟨S_, .f32⟩ : BufTy).Contents (Elt F) := left V main_v35
/-- What is left in `main_cst_11`. -/
noncomputable def h_cst_11 (V : 𝕍) : (⟨S_, .f32⟩ : BufTy).Contents (Elt F) := left V main_cst_11
/-- What is left in `main_v36`. -/
noncomputable def h_v36 (V : 𝕍) : (⟨S_, .f32⟩ : BufTy).Contents (Elt F) := left V main_v36
/-- What is left in `main_v37`. -/
noncomputable def h_v37 (V : 𝕍) : (⟨S16384, .i32⟩ : BufTy).Contents (Elt F) := left V main_v37
/-- What is left in `main_call1_v0`. -/
noncomputable def h_call1_v0 (V : 𝕍) : (⟨S16384, .i32⟩ : BufTy).Contents (Elt F) := left V main_call1_v0
/-- What is left in `main_call1_v1_0`. -/
noncomputable def h_call1_v1_0 (V : 𝕍) : (⟨S16384, .i32⟩ : BufTy).Contents (Elt F) := left V main_call1_v1_0
/-- What is left in `main_v38`. -/
noncomputable def h_v38 (V : 𝕍) : (⟨S16384, .i32⟩ : BufTy).Contents (Elt F) := left V main_v38
/-- What is left in `main_c_12`. -/
noncomputable def h_c_12 (V : 𝕍) : (⟨S_, .i32⟩ : BufTy).Contents (Elt F) := left V main_c_12
/-- What is left in `main_call2_v0`. -/
noncomputable def h_call2_v0 (V : 𝕍) : (⟨S_, .i32⟩ : BufTy).Contents (Elt F) := left V main_call2_v0
/-- What is left in `main_call2_v1`. -/
noncomputable def h_call2_v1 (V : 𝕍) : (⟨S16384, .i32⟩ : BufTy).Contents (Elt F) := left V main_call2_v1
/-- What is left in `main_call2_v2`. -/
noncomputable def h_call2_v2 (V : 𝕍) : (⟨S16384, .i32⟩ : BufTy).Contents (Elt F) := left V main_call2_v2
/-- What is left in `main_call2_v3`. -/
noncomputable def h_call2_v3 (V : 𝕍) : (⟨S16384, .i32⟩ : BufTy).Contents (Elt F) := left V main_call2_v3
/-- What is left in `main_call2_v4`. -/
noncomputable def h_call2_v4 (V : 𝕍) : (⟨S_, .i32⟩ : BufTy).Contents (Elt F) := left V main_call2_v4
/-- What is left in `main_call2_v5`. -/
noncomputable def h_call2_v5 (V : 𝕍) : (⟨S16384, .i32⟩ : BufTy).Contents (Elt F) := left V main_call2_v5
/-- What is left in `main_call2_v6`. -/
noncomputable def h_call2_v6 (V : 𝕍) : (⟨S16384, .i1⟩ : BufTy).Contents (Elt F) := left V main_call2_v6
/-- What is left in `main_call2_v7`. -/
noncomputable def h_call2_v7 (V : 𝕍) : (⟨S16384, .i32⟩ : BufTy).Contents (Elt F) := left V main_call2_v7
/-- What is left in `main_call2_v8`. -/
noncomputable def h_call2_v8 (V : 𝕍) : (⟨S16384, .i32⟩ : BufTy).Contents (Elt F) := left V main_call2_v8
/-- What is left in `main_call2_c`. -/
noncomputable def h_call2_c (V : 𝕍) : (⟨S_, .i32⟩ : BufTy).Contents (Elt F) := left V main_call2_c
/-- What is left in `main_call2_v9`. -/
noncomputable def h_call2_v9 (V : 𝕍) : (⟨S16384, .i32⟩ : BufTy).Contents (Elt F) := left V main_call2_v9
/-- What is left in `main_call2_v10`. -/
noncomputable def h_call2_v10 (V : 𝕍) : (⟨S16384, .i1⟩ : BufTy).Contents (Elt F) := left V main_call2_v10
/-- What is left in `main_call2_v11`. -/
noncomputable def h_call2_v11 (V : 𝕍) : (⟨S16384, .i1⟩ : BufTy).Contents (Elt F) := left V main_call2_v11
/-- What is left in `main_call2_c_0`. -/
noncomputable def h_call2_c_0 (V : 𝕍) : (⟨S_, .i32⟩ : BufTy).Contents (Elt F) := left V main_call2_c_0
/-- What is left in `main_call2_v12`. -/
noncomputable def h_call2_v12 (V : 𝕍) : (⟨S16384, .i32⟩ : BufTy).Contents (Elt F) := left V main_call2_v12
/-- What is left in `main_call2_v13`. -/
noncomputable def h_call2_v13 (V : 𝕍) : (⟨S16384, .i32⟩ : BufTy).Contents (Elt F) := left V main_call2_v13
/-- What is left in `main_v39`. -/
noncomputable def h_v39 (V : 𝕍) : (⟨S16384, .i32⟩ : BufTy).Contents (Elt F) := left V main_v39
/-- What is left in `main_v40`. -/
noncomputable def h_v40 (V : 𝕍) : (⟨S16384, .f32⟩ : BufTy).Contents (Elt F) := left V main_v40
/-- What is left in `main_c_13`. -/
noncomputable def h_c_13 (V : 𝕍) : (⟨S_, .i32⟩ : BufTy).Contents (Elt F) := left V main_c_13
/-- What is left in `main_v41`. -/
noncomputable def h_v41 (V : 𝕍) : (⟨S16384, .i32⟩ : BufTy).Contents (Elt F) := left V main_v41
/-- What is left in `main_v42`. -/
noncomputable def h_v42 (V : 𝕍) : (⟨S16384, .i1⟩ : BufTy).Contents (Elt F) := left V main_v42
/-- What is left in `main_c_14`. -/
noncomputable def h_c_14 (V : 𝕍) : (⟨S_, .i32⟩ : BufTy).Contents (Elt F) := left V main_c_14
/-- What is left in `main_v43`. -/
noncomputable def h_v43 (V : 𝕍) : (⟨S16384, .i32⟩ : BufTy).Contents (Elt F) := left V main_v43
/-- What is left in `main_v44`. -/
noncomputable def h_v44 (V : 𝕍) : (⟨S16384, .i32⟩ : BufTy).Contents (Elt F) := left V main_v44
/-- What is left in `main_v45`. -/
noncomputable def h_v45 (V : 𝕍) : (⟨S16384, .i32⟩ : BufTy).Contents (Elt F) := left V main_v45
/-- What is left in `main_v46`. -/
noncomputable def h_v46 (V : 𝕍) : (⟨S16384x1, .i32⟩ : BufTy).Contents (Elt F) := left V main_v46
/-- What is left in `main_v47`. -/
noncomputable def h_v47 (V : 𝕍) : (⟨S16384, .f32⟩ : BufTy).Contents (Elt F) := left V main_v47
/-- What is left in `main_c_15`. -/
noncomputable def h_c_15 (V : 𝕍) : (⟨S_, .i32⟩ : BufTy).Contents (Elt F) := left V main_c_15
/-- What is left in `main_v48`. -/
noncomputable def h_v48 (V : 𝕍) : (⟨S16384, .i32⟩ : BufTy).Contents (Elt F) := left V main_v48
/-- What is left in `main_v49`. -/
noncomputable def h_v49 (V : 𝕍) : (⟨S16384, .i32⟩ : BufTy).Contents (Elt F) := left V main_v49
/-- What is left in `main_c_16`. -/
noncomputable def h_c_16 (V : 𝕍) : (⟨S_, .i32⟩ : BufTy).Contents (Elt F) := left V main_c_16
/-- What is left in `main_v50`. -/
noncomputable def h_v50 (V : 𝕍) : (⟨S16384, .i32⟩ : BufTy).Contents (Elt F) := left V main_v50
/-- What is left in `main_v51`. -/
noncomputable def h_v51 (V : 𝕍) : (⟨S16384, .i1⟩ : BufTy).Contents (Elt F) := left V main_v51
/-- What is left in `main_c_17`. -/
noncomputable def h_c_17 (V : 𝕍) : (⟨S_, .i32⟩ : BufTy).Contents (Elt F) := left V main_c_17
/-- What is left in `main_v52`. -/
noncomputable def h_v52 (V : 𝕍) : (⟨S16384, .i32⟩ : BufTy).Contents (Elt F) := left V main_v52
/-- What is left in `main_v53`. -/
noncomputable def h_v53 (V : 𝕍) : (⟨S16384, .i32⟩ : BufTy).Contents (Elt F) := left V main_v53
/-- What is left in `main_v54`. -/
noncomputable def h_v54 (V : 𝕍) : (⟨S16384, .i32⟩ : BufTy).Contents (Elt F) := left V main_v54
/-- What is left in `main_v55`. -/
noncomputable def h_v55 (V : 𝕍) : (⟨S16384x1, .i32⟩ : BufTy).Contents (Elt F) := left V main_v55
/-- What is left in `main_v56`. -/
noncomputable def h_v56 (V : 𝕍) : (⟨S16384, .i32⟩ : BufTy).Contents (Elt F) := left V main_v56
/-- What is left in `main_v57`. -/
noncomputable def h_v57 (V : 𝕍) : (⟨S8192x2, .i32⟩ : BufTy).Contents (Elt F) := left V main_v57
/-- What is left in `main_call3_call0_c`. -/
noncomputable def h_call3_call0_c (V : 𝕍) : (⟨S_, .i32⟩ : BufTy).Contents (Elt F) := left V main_call3_call0_c
/-- What is left in `main_call3_call0_v0`. -/
noncomputable def h_call3_call0_v0 (V : 𝕍) : (⟨S_, .i32⟩ : BufTy).Contents (Elt F) := left V main_call3_call0_v0
/-- What is left in `main_v58`. -/
noncomputable def h_v58 (V : 𝕍) : (⟨S8, .i32⟩ : BufTy).Contents (Elt F) := left V main_v58
/-- What is left in `main_v59`. -/
noncomputable def h_v59 (V : 𝕍) : (⟨S8, .i32⟩ : BufTy).Contents (Elt F) := left V main_v59
/-- What is left in `main_v60`. -/
noncomputable def h_v60 (V : 𝕍) : (⟨S8, .i32⟩ : BufTy).Contents (Elt F) := left V main_v60
/-- What is left in `main_v61`. -/
noncomputable def h_v61 (V : 𝕍) : (⟨S32, .i32⟩ : BufTy).Contents (Elt F) := left V main_v61
/-- What is left in `main_v62`. -/
noncomputable def h_v62 (V : 𝕍) : (⟨S32x1, .i32⟩ : BufTy).Contents (Elt F) := left V main_v62
/-- What is left in `main_c_18`. -/
noncomputable def h_c_18 (V : 𝕍) : (⟨S_, .i32⟩ : BufTy).Contents (Elt F) := left V main_c_18
/-- What is left in `main_v63`. -/
noncomputable def h_v63 (V : 𝕍) : (⟨S32x1, .i32⟩ : BufTy).Contents (Elt F) := left V main_v63
/-- What is left in `main_v64`. -/
noncomputable def h_v64 (V : 𝕍) : (⟨S32x1, .i32⟩ : BufTy).Contents (Elt F) := left V main_v64
/-- What is left in `main_c_19`. -/
noncomputable def h_c_19 (V : 𝕍) : (⟨S_, .i32⟩ : BufTy).Contents (Elt F) := left V main_c_19
/-- What is left in `main_v65`. -/
noncomputable def h_v65 (V : 𝕍) : (⟨S32x1, .i32⟩ : BufTy).Contents (Elt F) := left V main_v65
/-- What is left in `main_v66`. -/
noncomputable def h_v66 (V : 𝕍) : (⟨S32x1, .i32⟩ : BufTy).Contents (Elt F) := left V main_v66
/-- What is left in `main_c_20`. -/
noncomputable def h_c_20 (V : 𝕍) : (⟨S_, .i32⟩ : BufTy).Contents (Elt F) := left V main_c_20
/-- What is left in `main_v67`. -/
noncomputable def h_v67 (V : 𝕍) : (⟨S32x1, .i32⟩ : BufTy).Contents (Elt F) := left V main_v67
/-- What is left in `main_v68`. -/
noncomputable def h_v68 (V : 𝕍) : (⟨S32x1, .i32⟩ : BufTy).Contents (Elt F) := left V main_v68
/-- What is left in `main_v69`. -/
noncomputable def h_v69 (V : 𝕍) : (⟨S1x8, .i32⟩ : BufTy).Contents (Elt F) := left V main_v69
/-- What is left in `main_v70`. -/
noncomputable def h_v70 (V : 𝕍) : (⟨S1x8, .i32⟩ : BufTy).Contents (Elt F) := left V main_v70
/-- What is left in `main_v71`. -/
noncomputable def h_v71 (V : 𝕍) : (⟨S32x8, .i32⟩ : BufTy).Contents (Elt F) := left V main_v71
/-- What is left in `main_v72`. -/
noncomputable def h_v72 (V : 𝕍) : (⟨S32x8, .i32⟩ : BufTy).Contents (Elt F) := left V main_v72
/-- What is left in `main_v73`. -/
noncomputable def h_v73 (V : 𝕍) : (⟨S32x8, .i1⟩ : BufTy).Contents (Elt F) := left V main_v73
/-- What is left in `main_v74`. -/
noncomputable def h_v74 (V : 𝕍) : (⟨S32x8, .i32⟩ : BufTy).Contents (Elt F) := left V main_v74
/-- What is left in `main_v75`. -/
noncomputable def h_v75 (V : 𝕍) : (⟨S32x8, .i32⟩ : BufTy).Contents (Elt F) := left V main_v75
/-- What is left in `main_v76`. -/
noncomputable def h_v76 (V : 𝕍) : (⟨S32x8, .i1⟩ : BufTy).Contents (Elt F) := left V main_v76
/-- What is left in `main_v77`. -/
noncomputable def h_v77 (V : 𝕍) : (⟨S32x8, .i1⟩ : BufTy).Contents (Elt F) := left V main_v77
/-- What is left in `main_v78`. -/
noncomputable def h_v78 (V : 𝕍) : (⟨S32x8, .i32⟩ : BufTy).Contents (Elt F) := left V main_v78
/-- What is left in `main_v79`. -/
noncomputable def h_v79 (V : 𝕍) : (⟨S32x8, .i32⟩ : BufTy).Contents (Elt F) := left V main_v79
/-- What is left in `main_v80`. -/
noncomputable def h_v80 (V : 𝕍) : (⟨S32x8, .i32⟩ : BufTy).Contents (Elt F) := left V main_v80
/-- What is left in `main_c_21`. -/
noncomputable def h_c_21 (V : 𝕍) : (⟨S_, .i32⟩ : BufTy).Contents (Elt F) := left V main_c_21
/-- What is left in `main_c_22`. -/
noncomputable def h_c_22 (V : 𝕍) : (⟨S_, .i32⟩ : BufTy).Contents (Elt F) := left V main_c_22
/-- What is left in `main_call4_v0`. -/
noncomputable def h_call4_v0 (V : 𝕍) : (⟨S_, .i32⟩ : BufTy).Contents (Elt F) := left V main_call4_v0
/-- What is left in `main_call4_v1`. -/
noncomputable def h_call4_v1 (V : 𝕍) : (⟨S32x8, .i32⟩ : BufTy).Contents (Elt F) := left V main_call4_v1
/-- What is left in `main_call4_v2`. -/
noncomputable def h_call4_v2 (V : 𝕍) : (⟨S32x8, .i32⟩ : BufTy).Contents (Elt F) := left V main_call4_v2
/-- What is left in `main_call4_v3`. -/
noncomputable def h_call4_v3 (V : 𝕍) : (⟨S_, .i32⟩ : BufTy).Contents (Elt F) := left V main_call4_v3
/-- What is left in `main_call4_v4`. -/
noncomputable def h_call4_v4 (V : 𝕍) : (⟨S32x8, .i32⟩ : BufTy).Contents (Elt F) := left V main_call4_v4
/-- What is left in `main_v81`. -/
noncomputable def h_v81 (V : 𝕍) : (⟨S32x8, .i32⟩ : BufTy).Contents (Elt F) := left V main_v81
/-- What is left in `main_v82`. -/
noncomputable def h_v82 (V : 𝕍) : (⟨S32x8, .i32⟩ : BufTy).Contents (Elt F) := left V main_v82
/-- What is left in `main_v83`. -/
noncomputable def h_v83 (V : 𝕍) : (⟨S32x8, .i32⟩ : BufTy).Contents (Elt F) := left V main_v83
/-- What is left in `main_v84`. -/
noncomputable def h_v84 (V : 𝕍) : (⟨S32x8, .i32⟩ : BufTy).Contents (Elt F) := left V main_v84
/-- What is left in `main_c_23`. -/
noncomputable def h_c_23 (V : 𝕍) : (⟨S_, .i32⟩ : BufTy).Contents (Elt F) := left V main_c_23
/-- What is left in `main_c_24`. -/
noncomputable def h_c_24 (V : 𝕍) : (⟨S_, .i32⟩ : BufTy).Contents (Elt F) := left V main_c_24
/-- What is left in `main_call5_v0`. -/
noncomputable def h_call5_v0 (V : 𝕍) : (⟨S_, .i32⟩ : BufTy).Contents (Elt F) := left V main_call5_v0
/-- What is left in `main_call5_v1`. -/
noncomputable def h_call5_v1 (V : 𝕍) : (⟨S32x8, .i32⟩ : BufTy).Contents (Elt F) := left V main_call5_v1
/-- What is left in `main_call5_v2`. -/
noncomputable def h_call5_v2 (V : 𝕍) : (⟨S32x8, .i32⟩ : BufTy).Contents (Elt F) := left V main_call5_v2
/-- What is left in `main_call5_v3`. -/
noncomputable def h_call5_v3 (V : 𝕍) : (⟨S_, .i32⟩ : BufTy).Contents (Elt F) := left V main_call5_v3
/-- What is left in `main_call5_v4`. -/
noncomputable def h_call5_v4 (V : 𝕍) : (⟨S32x8, .i32⟩ : BufTy).Contents (Elt F) := left V main_call5_v4
/-- What is left in `main_v85`. -/
noncomputable def h_v85 (V : 𝕍) : (⟨S32x8, .i32⟩ : BufTy).Contents (Elt F) := left V main_v85
/-- What is left in `main_v86`. -/
noncomputable def h_v86 (V : 𝕍) : (⟨S8, .i32⟩ : BufTy).Contents (Elt F) := left V main_v86
/-- What is left in `main_v87`. -/
noncomputable def h_v87 (V : 𝕍) : (⟨S1x8, .i32⟩ : BufTy).Contents (Elt F) := left V main_v87
/-- What is left in `main_v88`. -/
noncomputable def h_v88 (V : 𝕍) : (⟨S32x8, .i32⟩ : BufTy).Contents (Elt F) := left V main_v88
/-- What is left in `main_v89`. -/
noncomputable def h_v89 (V : 𝕍) : (⟨S32x8, .i32⟩ : BufTy).Contents (Elt F) := left V main_v89
/-- What is left in `main_v90`. -/
noncomputable def h_v90 (V : 𝕍) : (⟨S256, .i1⟩ : BufTy).Contents (Elt F) := left V main_v90
/-- What is left in `main_call6_v0`. -/
noncomputable def h_call6_v0 (V : 𝕍) : (⟨S256, .i32⟩ : BufTy).Contents (Elt F) := left V main_call6_v0
/-- What is left in `main_call6_call0_c`. -/
noncomputable def h_call6_call0_c (V : 𝕍) : (⟨S_, .i32⟩ : BufTy).Contents (Elt F) := left V main_call6_call0_c
/-- What is left in `main_call6_call0_v0`. -/
noncomputable def h_call6_call0_v0 (V : 𝕍) : (⟨S_, .i32⟩ : BufTy).Contents (Elt F) := left V main_call6_call0_v0
/-- What is left in `main_v91`. -/
noncomputable def h_v91 (V : 𝕍) : (⟨S256, .i32⟩ : BufTy).Contents (Elt F) := left V main_v91
/-- What is left in `main_c_25`. -/
noncomputable def h_c_25 (V : 𝕍) : (⟨S_, .i32⟩ : BufTy).Contents (Elt F) := left V main_c_25
/-- What is left in `main_v92`. -/
noncomputable def h_v92 (V : 𝕍) : (⟨S256, .i32⟩ : BufTy).Contents (Elt F) := left V main_v92
/-- What is left in `main_v93`. -/
noncomputable def h_v93 (V : 𝕍) : (⟨S256, .i32⟩ : BufTy).Contents (Elt F) := left V main_v93
/-- What is left in `main_c_26`. -/
noncomputable def h_c_26 (V : 𝕍) : (⟨S_, .i32⟩ : BufTy).Contents (Elt F) := left V main_c_26
/-- What is left in `main_call7_v0`. -/
noncomputable def h_call7_v0 (V : 𝕍) : (⟨S_, .i32⟩ : BufTy).Contents (Elt F) := left V main_call7_v0
/-- What is left in `main_call7_v1`. -/
noncomputable def h_call7_v1 (V : 𝕍) : (⟨S256, .i32⟩ : BufTy).Contents (Elt F) := left V main_call7_v1
/-- What is left in `main_v94`. -/
noncomputable def h_v94 (V : 𝕍) : (⟨S256, .i32⟩ : BufTy).Contents (Elt F) := left V main_v94
/-- What is left in `main_v95`. -/
noncomputable def h_v95 (V : 𝕍) : (⟨S256, .i32⟩ : BufTy).Contents (Elt F) := left V main_v95
/-- What is left in `main_c_27`. -/
noncomputable def h_c_27 (V : 𝕍) : (⟨S_, .i32⟩ : BufTy).Contents (Elt F) := left V main_c_27
/-- What is left in `main_v96`. -/
noncomputable def h_v96 (V : 𝕍) : (⟨S_, .i32⟩ : BufTy).Contents (Elt F) := left V main_v96
/-- What is left in `main_c_28`. -/
noncomputable def h_c_28 (V : 𝕍) : (⟨S_, .i32⟩ : BufTy).Contents (Elt F) := left V main_c_28
/-- What is left in `main_v97`. -/
noncomputable def h_v97 (V : 𝕍) : (⟨S39, .i32⟩ : BufTy).Contents (Elt F) := left V main_v97
/-- What is left in `main_v98`. -/
noncomputable def h_v98 (V : 𝕍) : (⟨S256, .i32⟩ : BufTy).Contents (Elt F) := left V main_v98
/-- What is left in `main_c_29`. -/
noncomputable def h_c_29 (V : 𝕍) : (⟨S_, .i32⟩ : BufTy).Contents (Elt F) := left V main_c_29
/-- What is left in `main_v99`. -/
noncomputable def h_v99 (V : 𝕍) : (⟨S256, .i32⟩ : BufTy).Contents (Elt F) := left V main_v99
/-- What is left in `main_v100`. -/
noncomputable def h_v100 (V : 𝕍) : (⟨S256, .i1⟩ : BufTy).Contents (Elt F) := left V main_v100
/-- What is left in `main_c_30`. -/
noncomputable def h_c_30 (V : 𝕍) : (⟨S_, .i32⟩ : BufTy).Contents (Elt F) := left V main_c_30
/-- What is left in `main_v101`. -/
noncomputable def h_v101 (V : 𝕍) : (⟨S256, .i32⟩ : BufTy).Contents (Elt F) := left V main_v101
/-- What is left in `main_v102`. -/
noncomputable def h_v102 (V : 𝕍) : (⟨S256, .i32⟩ : BufTy).Contents (Elt F) := left V main_v102
/-- What is left in `main_v103`. -/
noncomputable def h_v103 (V : 𝕍) : (⟨S256, .i32⟩ : BufTy).Contents (Elt F) := left V main_v103
/-- What is left in `main_v104`. -/
noncomputable def h_v104 (V : 𝕍) : (⟨S256x1, .i32⟩ : BufTy).Contents (Elt F) := left V main_v104
/-- What is left in `main_v105`. -/
noncomputable def h_v105 (V : 𝕍) : (⟨S39, .i32⟩ : BufTy).Contents (Elt F) := left V main_v105
/-- What is left in `main_v106`. -/
noncomputable def h_v106 (V : 𝕍) : (⟨S39, .i32⟩ : BufTy).Contents (Elt F) := left V main_v106
/-- What is left in `main_c_31`. -/
noncomputable def h_c_31 (V : 𝕍) : (⟨S_, .i32⟩ : BufTy).Contents (Elt F) := left V main_c_31
/-- What is left in `main_v107`. -/
noncomputable def h_v107 (V : 𝕍) : (⟨S_, .i32⟩ : BufTy).Contents (Elt F) := left V main_v107
/-- What is left in `main_v108`. -/
noncomputable def h_v108 (V : 𝕍) : (⟨S39, .i32⟩ : BufTy).Contents (Elt F) := left V main_v108
/-- What is left in `main_v109`. -/
noncomputable def h_v109 (V : 𝕍) : (⟨S39, .i32⟩ : BufTy).Contents (Elt F) := left V main_v109
/-- What is left in `main_c_32`. -/
noncomputable def h_c_32 (V : 𝕍) : (⟨S_, .i32⟩ : BufTy).Contents (Elt F) := left V main_c_32
/-- What is left in `main_v110`. -/
noncomputable def h_v110 (V : 𝕍) : (⟨S39, .i32⟩ : BufTy).Contents (Elt F) := left V main_v110
/-- What is left in `main_v111`. -/
noncomputable def h_v111 (V : 𝕍) : (⟨S39, .i1⟩ : BufTy).Contents (Elt F) := left V main_v111
/-- What is left in `main_c_33`. -/
noncomputable def h_c_33 (V : 𝕍) : (⟨S_, .i32⟩ : BufTy).Contents (Elt F) := left V main_c_33
/-- What is left in `main_v112`. -/
noncomputable def h_v112 (V : 𝕍) : (⟨S39, .i32⟩ : BufTy).Contents (Elt F) := left V main_v112
/-- What is left in `main_v113`. -/
noncomputable def h_v113 (V : 𝕍) : (⟨S39, .i32⟩ : BufTy).Contents (Elt F) := left V main_v113
/-- What is left in `main_v114`. -/
noncomputable def h_v114 (V : 𝕍) : (⟨S39, .i32⟩ : BufTy).Contents (Elt F) := left V main_v114
/-- What is left in `main_v115`. -/
noncomputable def h_v115 (V : 𝕍) : (⟨S39x1, .i32⟩ : BufTy).Contents (Elt F) := left V main_v115
/-- What is left in `main_v116`. -/
noncomputable def h_v116 (V : 𝕍) : (⟨S39, .i32⟩ : BufTy).Contents (Elt F) := left V main_v116
/-- What is left in `main_c_34`. -/
noncomputable def h_c_34 (V : 𝕍) : (⟨S_, .i32⟩ : BufTy).Contents (Elt F) := left V main_c_34
/-- What is left in `main_v117`. -/
noncomputable def h_v117 (V : 𝕍) : (⟨S39, .i32⟩ : BufTy).Contents (Elt F) := left V main_v117
/-- What is left in `main_v118`. -/
noncomputable def h_v118 (V : 𝕍) : (⟨S256, .i32⟩ : BufTy).Contents (Elt F) := left V main_v118
/-- What is left in `main_c_35`. -/
noncomputable def h_c_35 (V : 𝕍) : (⟨S_, .i32⟩ : BufTy).Contents (Elt F) := left V main_c_35
/-- What is left in `main_v119`. -/
noncomputable def h_v119 (V : 𝕍) : (⟨S256, .i32⟩ : BufTy).Contents (Elt F) := left V main_v119
/-- What is left in `main_v120`. -/
noncomputable def h_v120 (V : 𝕍) : (⟨S256, .i1⟩ : BufTy).Contents (Elt F) := left V main_v120
/-- What is left in `main_c_36`. -/
noncomputable def h_c_36 (V : 𝕍) : (⟨S_, .i32⟩ : BufTy).Contents (Elt F) := left V main_c_36
/-- What is left in `main_v121`. -/
noncomputable def h_v121 (V : 𝕍) : (⟨S256, .i32⟩ : BufTy).Contents (Elt F) := left V main_v121
/-- What is left in `main_v122`. -/
noncomputable def h_v122 (V : 𝕍) : (⟨S256, .i32⟩ : BufTy).Contents (Elt F) := left V main_v122
/-- What is left in `main_v123`. -/
noncomputable def h_v123 (V : 𝕍) : (⟨S256, .i32⟩ : BufTy).Contents (Elt F) := left V main_v123
/-- What is left in `main_v124`. -/
noncomputable def h_v124 (V : 𝕍) : (⟨S256x1, .i32⟩ : BufTy).Contents (Elt F) := left V main_v124
/-- What is left in `main_v125`. -/
noncomputable def h_v125 (V : 𝕍) : (⟨S39, .i32⟩ : BufTy).Contents (Elt F) := left V main_v125
/-- What is left in `main_v126`. -/
noncomputable def h_v126 (V : 𝕍) : (⟨S39, .i32⟩ : BufTy).Contents (Elt F) := left V main_v126
/-- What is left in `main_c_37`. -/
noncomputable def h_c_37 (V : 𝕍) : (⟨S_, .i32⟩ : BufTy).Contents (Elt F) := left V main_c_37
/-- What is left in `main_v127`. -/
noncomputable def h_v127 (V : 𝕍) : (⟨S_, .i32⟩ : BufTy).Contents (Elt F) := left V main_v127
/-- What is left in `main_v128`. -/
noncomputable def h_v128 (V : 𝕍) : (⟨S39, .i32⟩ : BufTy).Contents (Elt F) := left V main_v128
/-- What is left in `main_v129`. -/
noncomputable def h_v129 (V : 𝕍) : (⟨S39, .i32⟩ : BufTy).Contents (Elt F) := left V main_v129
/-- What is left in `main_c_38`. -/
noncomputable def h_c_38 (V : 𝕍) : (⟨S_, .i32⟩ : BufTy).Contents (Elt F) := left V main_c_38
/-- What is left in `main_v130`. -/
noncomputable def h_v130 (V : 𝕍) : (⟨S39, .i32⟩ : BufTy).Contents (Elt F) := left V main_v130
/-- What is left in `main_v131`. -/
noncomputable def h_v131 (V : 𝕍) : (⟨S39, .i1⟩ : BufTy).Contents (Elt F) := left V main_v131
/-- What is left in `main_c_39`. -/
noncomputable def h_c_39 (V : 𝕍) : (⟨S_, .i32⟩ : BufTy).Contents (Elt F) := left V main_c_39
/-- What is left in `main_v132`. -/
noncomputable def h_v132 (V : 𝕍) : (⟨S39, .i32⟩ : BufTy).Contents (Elt F) := left V main_v132
/-- What is left in `main_v133`. -/
noncomputable def h_v133 (V : 𝕍) : (⟨S39, .i32⟩ : BufTy).Contents (Elt F) := left V main_v133
/-- What is left in `main_v134`. -/
noncomputable def h_v134 (V : 𝕍) : (⟨S39, .i32⟩ : BufTy).Contents (Elt F) := left V main_v134
/-- What is left in `main_v135`. -/
noncomputable def h_v135 (V : 𝕍) : (⟨S39x1, .i32⟩ : BufTy).Contents (Elt F) := left V main_v135
/-- What is left in `main_v136`. -/
noncomputable def h_v136 (V : 𝕍) : (⟨S39, .i32⟩ : BufTy).Contents (Elt F) := left V main_v136
/-- What is left in `main_c_40`. -/
noncomputable def h_c_40 (V : 𝕍) : (⟨S_, .i32⟩ : BufTy).Contents (Elt F) := left V main_c_40
/-- What is left in `main_v137`. -/
noncomputable def h_v137 (V : 𝕍) : (⟨S39, .i32⟩ : BufTy).Contents (Elt F) := left V main_v137
/-- What is left in `main_v138`. -/
noncomputable def h_v138 (V : 𝕍) : (⟨S256, .i32⟩ : BufTy).Contents (Elt F) := left V main_v138
/-- What is left in `main_c_41`. -/
noncomputable def h_c_41 (V : 𝕍) : (⟨S_, .i32⟩ : BufTy).Contents (Elt F) := left V main_c_41
/-- What is left in `main_v139`. -/
noncomputable def h_v139 (V : 𝕍) : (⟨S256, .i32⟩ : BufTy).Contents (Elt F) := left V main_v139
/-- What is left in `main_v140`. -/
noncomputable def h_v140 (V : 𝕍) : (⟨S256, .i1⟩ : BufTy).Contents (Elt F) := left V main_v140
/-- What is left in `main_c_42`. -/
noncomputable def h_c_42 (V : 𝕍) : (⟨S_, .i32⟩ : BufTy).Contents (Elt F) := left V main_c_42
/-- What is left in `main_v141`. -/
noncomputable def h_v141 (V : 𝕍) : (⟨S256, .i32⟩ : BufTy).Contents (Elt F) := left V main_v141
/-- What is left in `main_v142`. -/
noncomputable def h_v142 (V : 𝕍) : (⟨S256, .i32⟩ : BufTy).Contents (Elt F) := left V main_v142
/-- What is left in `main_v143`. -/
noncomputable def h_v143 (V : 𝕍) : (⟨S256, .i32⟩ : BufTy).Contents (Elt F) := left V main_v143
/-- What is left in `main_v144`. -/
noncomputable def h_v144 (V : 𝕍) : (⟨S256x1, .i32⟩ : BufTy).Contents (Elt F) := left V main_v144
/-- What is left in `main_v145`. -/
noncomputable def h_v145 (V : 𝕍) : (⟨S39, .i32⟩ : BufTy).Contents (Elt F) := left V main_v145
/-- What is left in `main_v146`. -/
noncomputable def h_v146 (V : 𝕍) : (⟨S39, .i32⟩ : BufTy).Contents (Elt F) := left V main_v146
/-- What is left in `main_c_43`. -/
noncomputable def h_c_43 (V : 𝕍) : (⟨S_, .i32⟩ : BufTy).Contents (Elt F) := left V main_c_43
/-- What is left in `main_v147`. -/
noncomputable def h_v147 (V : 𝕍) : (⟨S_, .i32⟩ : BufTy).Contents (Elt F) := left V main_v147
/-- What is left in `main_v148`. -/
noncomputable def h_v148 (V : 𝕍) : (⟨S39, .i32⟩ : BufTy).Contents (Elt F) := left V main_v148
/-- What is left in `main_v149`. -/
noncomputable def h_v149 (V : 𝕍) : (⟨S39, .i32⟩ : BufTy).Contents (Elt F) := left V main_v149
/-- What is left in `main_c_44`. -/
noncomputable def h_c_44 (V : 𝕍) : (⟨S_, .i32⟩ : BufTy).Contents (Elt F) := left V main_c_44
/-- What is left in `main_v150`. -/
noncomputable def h_v150 (V : 𝕍) : (⟨S39, .i32⟩ : BufTy).Contents (Elt F) := left V main_v150
/-- What is left in `main_v151`. -/
noncomputable def h_v151 (V : 𝕍) : (⟨S39, .i1⟩ : BufTy).Contents (Elt F) := left V main_v151
/-- What is left in `main_c_45`. -/
noncomputable def h_c_45 (V : 𝕍) : (⟨S_, .i32⟩ : BufTy).Contents (Elt F) := left V main_c_45
/-- What is left in `main_v152`. -/
noncomputable def h_v152 (V : 𝕍) : (⟨S39, .i32⟩ : BufTy).Contents (Elt F) := left V main_v152
/-- What is left in `main_v153`. -/
noncomputable def h_v153 (V : 𝕍) : (⟨S39, .i32⟩ : BufTy).Contents (Elt F) := left V main_v153
/-- What is left in `main_v154`. -/
noncomputable def h_v154 (V : 𝕍) : (⟨S39, .i32⟩ : BufTy).Contents (Elt F) := left V main_v154
/-- What is left in `main_v155`. -/
noncomputable def h_v155 (V : 𝕍) : (⟨S39x1, .i32⟩ : BufTy).Contents (Elt F) := left V main_v155
/-- What is left in `main_v156`. -/
noncomputable def h_v156 (V : 𝕍) : (⟨S39, .i32⟩ : BufTy).Contents (Elt F) := left V main_v156
/-- What is left in `main_c_46`. -/
noncomputable def h_c_46 (V : 𝕍) : (⟨S_, .i32⟩ : BufTy).Contents (Elt F) := left V main_c_46
/-- What is left in `main_v157`. -/
noncomputable def h_v157 (V : 𝕍) : (⟨S39, .i32⟩ : BufTy).Contents (Elt F) := left V main_v157
/-- What is left in `main_v158`. -/
noncomputable def h_v158 (V : 𝕍) : (⟨S256, .i32⟩ : BufTy).Contents (Elt F) := left V main_v158
/-- What is left in `main_c_47`. -/
noncomputable def h_c_47 (V : 𝕍) : (⟨S_, .i32⟩ : BufTy).Contents (Elt F) := left V main_c_47
/-- What is left in `main_v159`. -/
noncomputable def h_v159 (V : 𝕍) : (⟨S256, .i32⟩ : BufTy).Contents (Elt F) := left V main_v159
/-- What is left in `main_v160`. -/
noncomputable def h_v160 (V : 𝕍) : (⟨S256, .i1⟩ : BufTy).Contents (Elt F) := left V main_v160
/-- What is left in `main_c_48`. -/
noncomputable def h_c_48 (V : 𝕍) : (⟨S_, .i32⟩ : BufTy).Contents (Elt F) := left V main_c_48
/-- What is left in `main_v161`. -/
noncomputable def h_v161 (V : 𝕍) : (⟨S256, .i32⟩ : BufTy).Contents (Elt F) := left V main_v161
/-- What is left in `main_v162`. -/
noncomputable def h_v162 (V : 𝕍) : (⟨S256, .i32⟩ : BufTy).Contents (Elt F) := left V main_v162
/-- What is left in `main_v163`. -/
noncomputable def h_v163 (V : 𝕍) : (⟨S256, .i32⟩ : BufTy).Contents (Elt F) := left V main_v163
/-- What is left in `main_v164`. -/
noncomputable def h_v164 (V : 𝕍) : (⟨S256x1, .i32⟩ : BufTy).Contents (Elt F) := left V main_v164
/-- What is left in `main_v165`. -/
noncomputable def h_v165 (V : 𝕍) : (⟨S39, .i32⟩ : BufTy).Contents (Elt F) := left V main_v165
/-- What is left in `main_v166`. -/
noncomputable def h_v166 (V : 𝕍) : (⟨S39, .i32⟩ : BufTy).Contents (Elt F) := left V main_v166
/-- What is left in `main_c_49`. -/
noncomputable def h_c_49 (V : 𝕍) : (⟨S_, .i32⟩ : BufTy).Contents (Elt F) := left V main_c_49
/-- What is left in `main_v167`. -/
noncomputable def h_v167 (V : 𝕍) : (⟨S_, .i32⟩ : BufTy).Contents (Elt F) := left V main_v167
/-- What is left in `main_v168`. -/
noncomputable def h_v168 (V : 𝕍) : (⟨S39, .i32⟩ : BufTy).Contents (Elt F) := left V main_v168
/-- What is left in `main_v169`. -/
noncomputable def h_v169 (V : 𝕍) : (⟨S39, .i32⟩ : BufTy).Contents (Elt F) := left V main_v169
/-- What is left in `main_c_50`. -/
noncomputable def h_c_50 (V : 𝕍) : (⟨S_, .i32⟩ : BufTy).Contents (Elt F) := left V main_c_50
/-- What is left in `main_v170`. -/
noncomputable def h_v170 (V : 𝕍) : (⟨S39, .i32⟩ : BufTy).Contents (Elt F) := left V main_v170
/-- What is left in `main_v171`. -/
noncomputable def h_v171 (V : 𝕍) : (⟨S39, .i1⟩ : BufTy).Contents (Elt F) := left V main_v171
/-- What is left in `main_c_51`. -/
noncomputable def h_c_51 (V : 𝕍) : (⟨S_, .i32⟩ : BufTy).Contents (Elt F) := left V main_c_51
/-- What is left in `main_v172`. -/
noncomputable def h_v172 (V : 𝕍) : (⟨S39, .i32⟩ : BufTy).Contents (Elt F) := left V main_v172
/-- What is left in `main_v173`. -/
noncomputable def h_v173 (V : 𝕍) : (⟨S39, .i32⟩ : BufTy).Contents (Elt F) := left V main_v173
/-- What is left in `main_v174`. -/
noncomputable def h_v174 (V : 𝕍) : (⟨S39, .i32⟩ : BufTy).Contents (Elt F) := left V main_v174
/-- What is left in `main_v175`. -/
noncomputable def h_v175 (V : 𝕍) : (⟨S39x1, .i32⟩ : BufTy).Contents (Elt F) := left V main_v175
/-- What is left in `main_v176`. -/
noncomputable def h_v176 (V : 𝕍) : (⟨S39, .i32⟩ : BufTy).Contents (Elt F) := left V main_v176
/-- What is left in `main_c_52`. -/
noncomputable def h_c_52 (V : 𝕍) : (⟨S_, .i32⟩ : BufTy).Contents (Elt F) := left V main_c_52
/-- What is left in `main_v177`. -/
noncomputable def h_v177 (V : 𝕍) : (⟨S39, .i32⟩ : BufTy).Contents (Elt F) := left V main_v177
/-- What is left in `main_v178`. -/
noncomputable def h_v178 (V : 𝕍) : (⟨S39, .i1⟩ : BufTy).Contents (Elt F) := left V main_v178
/-- What is left in `main_v179`. -/
noncomputable def h_v179 (V : 𝕍) : (⟨S39, .i32⟩ : BufTy).Contents (Elt F) := left V main_v179
/-- What is left in `main_call8_c`. -/
noncomputable def h_call8_c (V : 𝕍) : (⟨S_, .i32⟩ : BufTy).Contents (Elt F) := left V main_call8_c
/-- What is left in `main_call8_v0`. -/
noncomputable def h_call8_v0 (V : 𝕍) : (⟨S16384, .i32⟩ : BufTy).Contents (Elt F) := left V main_call8_v0
/-- What is left in `main_call8_v1`. -/
noncomputable def h_call8_v1 (V : 𝕍) : (⟨S16384, .i1⟩ : BufTy).Contents (Elt F) := left V main_call8_v1
/-- What is left in `main_call8_c_0`. -/
noncomputable def h_call8_c_0 (V : 𝕍) : (⟨S_, .i32⟩ : BufTy).Contents (Elt F) := left V main_call8_c_0
/-- What is left in `main_call8_v2`. -/
noncomputable def h_call8_v2 (V : 𝕍) : (⟨S16384, .i32⟩ : BufTy).Contents (Elt F) := left V main_call8_v2
/-- What is left in `main_call8_v3`. -/
noncomputable def h_call8_v3 (V : 𝕍) : (⟨S16384, .i32⟩ : BufTy).Contents (Elt F) := left V main_call8_v3
/-- What is left in `main_call8_v4`. -/
noncomputable def h_call8_v4 (V : 𝕍) : (⟨S16384, .i32⟩ : BufTy).Contents (Elt F) := left V main_call8_v4
/-- What is left in `main_call8_v5`. -/
noncomputable def h_call8_v5 (V : 𝕍) : (⟨S16384x1, .i32⟩ : BufTy).Contents (Elt F) := left V main_call8_v5
/-- What is left in `main_call8_c_1`. -/
noncomputable def h_call8_c_1 (V : 𝕍) : (⟨S1, .i32⟩ : BufTy).Contents (Elt F) := left V main_call8_c_1
/-- What is left in `main_call8_c_2`. -/
noncomputable def h_call8_c_2 (V : 𝕍) : (⟨S_, .i32⟩ : BufTy).Contents (Elt F) := left V main_call8_c_2
/-- What is left in `main_call8_v6`. -/
noncomputable def h_call8_v6 (V : 𝕍) : (⟨S16384x1, .i32⟩ : BufTy).Contents (Elt F) := left V main_call8_v6
/-- What is left in `main_call8_v7`. -/
noncomputable def h_call8_v7 (V : 𝕍) : (⟨S16384x1, .i1⟩ : BufTy).Contents (Elt F) := left V main_call8_v7
/-- What is left in `main_call8_v8`. -/
noncomputable def h_call8_v8 (V : 𝕍) : (⟨S1x1, .i32⟩ : BufTy).Contents (Elt F) := left V main_call8_v8
/-- What is left in `main_call8_v9`. -/
noncomputable def h_call8_v9 (V : 𝕍) : (⟨S16384x1, .i32⟩ : BufTy).Contents (Elt F) := left V main_call8_v9
/-- What is left in `main_call8_v10`. -/
noncomputable def h_call8_v10 (V : 𝕍) : (⟨S16384x1, .i1⟩ : BufTy).Contents (Elt F) := left V main_call8_v10
/-- What is left in `main_call8_v11`. -/
noncomputable def h_call8_v11 (V : 𝕍) : (⟨S16384x1, .i1⟩ : BufTy).Contents (Elt F) := left V main_call8_v11
/-- What is left in `main_call8_c_3`. -/
noncomputable def h_call8_c_3 (V : 𝕍) : (⟨S_, .i1⟩ : BufTy).Contents (Elt F) := left V main_call8_c_3
/-- What is left in `main_call8_v12`. -/
noncomputable def h_call8_v12 (V : 𝕍) : (⟨S16384, .i1⟩ : BufTy).Contents (Elt F) := left V main_call8_v12
/-- What is left in `main_call8_v13`. -/
noncomputable def h_call8_v13 (V : 𝕍) : (⟨S16384x2048, .f32⟩ : BufTy).Contents (Elt F) := left V main_call8_v13
/-- What is left in `main_call8_v14`. -/
noncomputable def h_call8_v14 (V : 𝕍) : (⟨S16384x2048, .i1⟩ : BufTy).Contents (Elt F) := left V main_call8_v14
/-- What is left in `main_call8_cst`. -/
noncomputable def h_call8_cst (V : 𝕍) : (⟨S_, .f32⟩ : BufTy).Contents (Elt F) := left V main_call8_cst
/-- What is left in `main_call8_v15`. -/
noncomputable def h_call8_v15 (V : 𝕍) : (⟨S16384x2048, .f32⟩ : BufTy).Contents (Elt F) := left V main_call8_v15
/-- What is left in `main_v180`. -/
noncomputable def h_v180 (V : 𝕍) : (⟨S16384x2048, .f32⟩ : BufTy).Contents (Elt F) := left V main_v180
/-- What is left in `main_v181`. -/
noncomputable def h_v181 (V : 𝕍) : (⟨S16384x2048, .bf16⟩ : BufTy).Contents (Elt F) := left V main_v181
/-- What is left in `main_v182`. -/
noncomputable def h_v182 (V : 𝕍) : (⟨S8x2048x5632, .bf16⟩ : BufTy).Contents (Elt F) := left V main_v182
/-- What is left in `main_v183`. -/
noncomputable def h_v183 (V : 𝕍) : (⟨S8x2048x5632, .bf16⟩ : BufTy).Contents (Elt F) := left V main_v183
/-- What is left in `main_v184`. -/
noncomputable def h_v184 (V : 𝕍) : (⟨S8x5632x2048, .bf16⟩ : BufTy).Contents (Elt F) := left V main_v184

end Cert.KernelIdeal.Own

end
-- ==== Proof.HostVals1.lean ====
/- What the host operations before the Pallas call leave in each buffer, one equation per operation. -/
module

public import proofs.«01_k».proof.Proof.HostDefs
public import proofs.«01_k».proof.Proof.Ssa

@[expose] public section

set_option maxRecDepth 8000

noncomputable section

namespace Cert.KernelIdeal.Own

open Idealize.ShloMosaic Idealize.ShloMosaic.TcCoe Idealize.SL.Sem Cert.Own Cert.KernelIdeal.Gen

variable {F : FTy → Type} [FloatOps F]

local notation "𝕍" => Valuation τ sig (Elt F)

theorem h_v0_eq (V : 𝕍) : h_v0 V = shapeCast S8192x2048 (h_arg0 V) shapeCasts_S4x2048x2048_S8192x2048 := by
  have h := readR host_writes host_nodup V 0 (y := main_v0) (in_hostOps0 (in_seg 0 rfl)) rfl (by decide +kernel)
  unfold h_v0 h_arg0
  exact h

theorem h_v1_eq (V : 𝕍) : h_v1 V = ((fun l r => Host.dotGeneral dot_S8192x2048_S2048x8_S8192x8_1_0_0_1_n_n none l r) : (⟨S8192x2048, .f32⟩ : BufTy).Contents (Elt F) → (⟨S2048x8, .f32⟩ : BufTy).Contents (Elt F) → (⟨S8192x8, .f32⟩ : BufTy).Contents (Elt F)) (h_v0 V) (h_arg1 V) := by
  have h := read2 host_writes host_nodup V 1 (y := main_v1) (in_hostOps0 (in_seg 1 rfl)) rfl (by decide +kernel)
  unfold h_v1 h_v0 h_arg1
  exact h

theorem h_cst_eq (V : 𝕍) : h_cst V = (constant S_ .f32 0xFF800000#32) := by
  have h := read0 host_writes host_nodup V 2 (y := main_cst) (in_hostOps0 (in_seg 2 rfl)) rfl (by decide +kernel)
  unfold h_cst
  exact h

theorem h_v2_eq (V : 𝕍) : h_v2 V = ((fun x v => Host.reduce FloatOps.maximumf x v reducesTo_S8192x8_S8192_d1 h_S_) : (⟨S8192x8, .f32⟩ : BufTy).Contents (Elt F) → (⟨S_, .f32⟩ : BufTy).Contents (Elt F) → (⟨S8192, .f32⟩ : BufTy).Contents (Elt F)) (h_v1 V) (h_cst V) := by
  have h := read2 host_writes host_nodup V 3 (y := main_v2) (in_hostOps0 (in_seg 3 rfl)) rfl (by decide +kernel)
  unfold h_v2 h_v1 h_cst
  exact h

theorem h_cst_0_eq (V : 𝕍) : h_cst_0 V = (constant S_ .f32 0xFF800000#32) := by
  have h := read0 host_writes host_nodup V 4 (y := main_cst_0) (in_hostOps0 (in_seg 4 rfl)) rfl (by decide +kernel)
  unfold h_cst_0
  exact h

theorem h_v3_eq (V : 𝕍) : h_v3 V = ((broadcastInDim S8192 ![] bcast_S_S8192) : (⟨S_, .f32⟩ : BufTy).Contents (Elt F) → (⟨S8192, .f32⟩ : BufTy).Contents (Elt F)) (h_cst_0 V) := by
  have h := read1 host_writes host_nodup V 5 (y := main_v3) (in_hostOps0 (in_seg 5 rfl)) rfl (by decide +kernel)
  unfold h_v3 h_cst_0
  exact h

theorem h_v4_eq (V : 𝕍) : h_v4 V = (maximumf : (⟨S8192, .f32⟩ : BufTy).Contents (Elt F) → (⟨S8192, .f32⟩ : BufTy).Contents (Elt F) → (⟨S8192, .f32⟩ : BufTy).Contents (Elt F)) (h_v3 V) (h_v2 V) := by
  have h := read2 host_writes host_nodup V 6 (y := main_v4) (in_hostOps0 (in_seg 6 rfl)) rfl (by decide +kernel)
  unfold h_v4 h_v3 h_v2
  exact h

theorem h_v5_eq (V : 𝕍) : h_v5 V = ((broadcastInDim S8192x1 ![0] bcast_S8192_S8192x1_0) : (⟨S8192, .f32⟩ : BufTy).Contents (Elt F) → (⟨S8192x1, .f32⟩ : BufTy).Contents (Elt F)) (h_v4 V) := by
  have h := read1 host_writes host_nodup V 7 (y := main_v5) (in_hostOps0 (in_seg 7 rfl)) rfl (by decide +kernel)
  unfold h_v5 h_v4
  exact h

theorem h_v6_eq (V : 𝕍) : h_v6 V = ((broadcastInDim S8192x8 ![0, 1] bcast_S8192x1_S8192x8_0_1) : (⟨S8192x1, .f32⟩ : BufTy).Contents (Elt F) → (⟨S8192x8, .f32⟩ : BufTy).Contents (Elt F)) (h_v5 V) := by
  have h := read1 host_writes host_nodup V 8 (y := main_v6) (in_hostOps0 (in_seg 8 rfl)) rfl (by decide +kernel)
  unfold h_v6 h_v5
  exact h

theorem h_v7_eq (V : 𝕍) : h_v7 V = (subf : (⟨S8192x8, .f32⟩ : BufTy).Contents (Elt F) → (⟨S8192x8, .f32⟩ : BufTy).Contents (Elt F) → (⟨S8192x8, .f32⟩ : BufTy).Contents (Elt F)) (h_v1 V) (h_v6 V) := by
  have h := read2 host_writes host_nodup V 9 (y := main_v7) (in_hostOps0 (in_seg 9 rfl)) rfl (by decide +kernel)
  unfold h_v7 h_v1 h_v6
  exact h

theorem h_v8_eq (V : 𝕍) : h_v8 V = (Host.exp : (⟨S8192x8, .f32⟩ : BufTy).Contents (Elt F) → (⟨S8192x8, .f32⟩ : BufTy).Contents (Elt F)) (h_v7 V) := by
  have h := read1 host_writes host_nodup V 10 (y := main_v8) (in_hostOps0 (in_seg 10 rfl)) rfl (by decide +kernel)
  unfold h_v8 h_v7
  exact h

theorem h_cst_1_eq (V : 𝕍) : h_cst_1 V = (constant S_ .f32 0x00000000#32) := by
  have h := read0 host_writes host_nodup V 11 (y := main_cst_1) (in_hostOps0 (in_seg 11 rfl)) rfl (by decide +kernel)
  unfold h_cst_1
  exact h

theorem h_v9_eq (V : 𝕍) : h_v9 V = ((fun x v => Host.reduceAdd x v reducesTo_S8192x8_S8192_d1 h_S_) : (⟨S8192x8, .f32⟩ : BufTy).Contents (Elt F) → (⟨S_, .f32⟩ : BufTy).Contents (Elt F) → (⟨S8192, .f32⟩ : BufTy).Contents (Elt F)) (h_v8 V) (h_cst_1 V) := by
  have h := read2 host_writes host_nodup V 12 (y := main_v9) (in_hostOps0 (in_seg 12 rfl)) rfl (by decide +kernel)
  unfold h_v9 h_v8 h_cst_1
  exact h

theorem h_v10_eq (V : 𝕍) : h_v10 V = ((broadcastInDim S8192x1 ![0] bcast_S8192_S8192x1_0) : (⟨S8192, .f32⟩ : BufTy).Contents (Elt F) → (⟨S8192x1, .f32⟩ : BufTy).Contents (Elt F)) (h_v9 V) := by
  have h := read1 host_writes host_nodup V 13 (y := main_v10) (in_hostOps0 (in_seg 13 rfl)) rfl (by decide +kernel)
  unfold h_v10 h_v9
  exact h

theorem h_v11_eq (V : 𝕍) : h_v11 V = ((broadcastInDim S8192x8 ![0, 1] bcast_S8192x1_S8192x8_0_1) : (⟨S8192x1, .f32⟩ : BufTy).Contents (Elt F) → (⟨S8192x8, .f32⟩ : BufTy).Contents (Elt F)) (h_v10 V) := by
  have h := read1 host_writes host_nodup V 14 (y := main_v11) (in_hostOps0 (in_seg 14 rfl)) rfl (by decide +kernel)
  unfold h_v11 h_v10
  exact h

theorem h_v12_eq (V : 𝕍) : h_v12 V = (Host.divf : (⟨S8192x8, .f32⟩ : BufTy).Contents (Elt F) → (⟨S8192x8, .f32⟩ : BufTy).Contents (Elt F) → (⟨S8192x8, .f32⟩ : BufTy).Contents (Elt F)) (h_v8 V) (h_v11 V) := by
  have h := read2 host_writes host_nodup V 15 (y := main_v12) (in_hostOps0 (in_seg 15 rfl)) rfl (by decide +kernel)
  unfold h_v12 h_v8 h_v11
  exact h

theorem h_values_eq (V : 𝕍) : h_values V = ((fun x => (Host.topK S8192x2 1 (FloatOps.cmpfTotal .gt) x sliceFits_S8192x8_S8192x2).1) : (⟨S8192x8, .f32⟩ : BufTy).Contents (Elt F) → (⟨S8192x2, .f32⟩ : BufTy).Contents (Elt F)) (h_v12 V) := by
  have h := read1 host_writes host_nodup V 16 (y := main_values) (in_hostOps0 (in_seg 16 rfl)) rfl (by decide +kernel)
  unfold h_values h_v12
  exact h

theorem h_indices_eq (V : 𝕍) : h_indices V = ((fun x => (Host.topK S8192x2 1 (FloatOps.cmpfTotal .gt) x sliceFits_S8192x8_S8192x2).2) : (⟨S8192x8, .f32⟩ : BufTy).Contents (Elt F) → (⟨S8192x2, .i32⟩ : BufTy).Contents (Elt F)) (h_v12 V) := by
  have h := read1 host_writes host_nodup V 17 (y := main_indices) (in_hostOps0 (in_seg 17 rfl)) rfl (by decide +kernel)
  unfold h_indices h_v12
  exact h

theorem h_cst_2_eq (V : 𝕍) : h_cst_2 V = (constant S_ .f32 0x00000000#32) := by
  have h := read0 host_writes host_nodup V 18 (y := main_cst_2) (in_hostOps0 (in_seg 18 rfl)) rfl (by decide +kernel)
  unfold h_cst_2
  exact h

theorem h_v13_eq (V : 𝕍) : h_v13 V = ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)) (h_values V) (h_cst_2 V) := by
  have h := read2 host_writes host_nodup V 19 (y := main_v13) (in_hostOps0 (in_seg 19 rfl)) rfl (by decide +kernel)
  unfold h_v13 h_values h_cst_2
  exact h

theorem h_v14_eq (V : 𝕍) : h_v14 V = ((broadcastInDim S8192x1 ![0] bcast_S8192_S8192x1_0) : (⟨S8192, .f32⟩ : BufTy).Contents (Elt F) → (⟨S8192x1, .f32⟩ : BufTy).Contents (Elt F)) (h_v13 V) := by
  have h := read1 host_writes host_nodup V 20 (y := main_v14) (in_hostOps0 (in_seg 20 rfl)) rfl (by decide +kernel)
  unfold h_v14 h_v13
  exact h

theorem h_v15_eq (V : 𝕍) : h_v15 V = ((broadcastInDim S8192x2 ![0, 1] bcast_S8192x1_S8192x2_0_1) : (⟨S8192x1, .f32⟩ : BufTy).Contents (Elt F) → (⟨S8192x2, .f32⟩ : BufTy).Contents (Elt F)) (h_v14 V) := by
  have h := read1 host_writes host_nodup V 21 (y := main_v15) (in_hostOps0 (in_seg 21 rfl)) rfl (by decide +kernel)
  unfold h_v15 h_v14
  exact h

theorem h_v16_eq (V : 𝕍) : h_v16 V = (Host.divf : (⟨S8192x2, .f32⟩ : BufTy).Contents (Elt F) → (⟨S8192x2, .f32⟩ : BufTy).Contents (Elt F) → (⟨S8192x2, .f32⟩ : BufTy).Contents (Elt F)) (h_values V) (h_v15 V) := by
  have h := read2 host_writes host_nodup V 22 (y := main_v16) (in_hostOps0 (in_seg 22 rfl)) rfl (by decide +kernel)
  unfold h_v16 h_values h_v15
  exact h

theorem h_v17_eq (V : 𝕍) : h_v17 V = shapeCast S16384 (h_indices V) shapeCasts_S8192x2_S16384 := by
  have h := readR host_writes host_nodup V 23 (y := main_v17) (in_hostOps0 (in_seg 23 rfl)) rfl (by decide +kernel)
  unfold h_v17 h_indices
  exact h

theorem h_c_eq (V : 𝕍) : h_c V = (constantI S_ 32 0#32) := by
  have h := read0 host_writes host_nodup V 24 (y := main_c) (in_hostOps0 (in_seg 24 rfl)) rfl (by decide +kernel)
  unfold h_c
  exact h

theorem h_v18_eq (V : 𝕍) : h_v18 V = ((broadcastInDim S8 ![] bcast_S_S8) : (⟨S_, .i32⟩ : BufTy).Contents (Elt F) → (⟨S8, .i32⟩ : BufTy).Contents (Elt F)) (h_c V) := by
  have h := read1 host_writes host_nodup V 25 (y := main_v18) (in_hostOps0 (in_seg 25 rfl)) rfl (by decide +kernel)
  unfold h_v18 h_c
  exact h

theorem h_c_3_eq (V : 𝕍) : h_c_3 V = (constantI S_ 32 0#32) := by
  have h := read0 host_writes host_nodup V 26 (y := main_c_3) (in_hostOps0 (in_seg 26 rfl)) rfl (by decide +kernel)
  unfold h_c_3
  exact h

theorem h_call0_v0_eq (V : 𝕍) : h_call0_v0 V = id (h_c_3 V) :=
  readT1 host_writes host_nodup V 27 (in_hostOps0_1 (in_seg 0 rfl)) rfl (by decide +kernel) (ofBuf_of (.of main_c_3 : StableHlo.TRef sig ⟨S_, .i32⟩) (HEq.refl (h_c_3 V))) (ofBuf_of (.of main_call0_v0 : StableHlo.TRef sig ⟨S_, .i32⟩) (HEq.refl (h_call0_v0 V)))

theorem h_call0_v1_eq (V : 𝕍) : h_call0_v1 V = ((broadcastInDim S16384 ![] bcast_S_S16384) : (⟨S_, .i32⟩ : BufTy).Contents (Elt F) → (⟨S16384, .i32⟩ : BufTy).Contents (Elt F)) (h_call0_v0 V) := by
  have h := read1 host_writes host_nodup V 28 (y := main_call0_v1) (in_hostOps0_1 (in_seg 1 rfl)) rfl (by decide +kernel)
  unfold h_call0_v1 h_call0_v0
  exact h

theorem h_v19_eq (V : 𝕍) : h_v19 V = maxsi (h_call0_v1 V) (h_v17 V) :=
  readT2 host_writes host_nodup V 29 (in_hostOps0_1 (in_seg 2 rfl)) rfl (by decide +kernel) (ofBuf_of (.of main_call0_v1 : StableHlo.TRef sig ⟨S16384, .i32⟩) (HEq.refl (h_call0_v1 V))) (ofBuf_of (.of main_v17 : StableHlo.TRef sig ⟨S16384, .i32⟩) (HEq.refl (h_v17 V))) (ofBuf_of (.of main_v19 : StableHlo.TRef sig ⟨S16384, .i32⟩) (HEq.refl (h_v19 V)))

theorem h_c_4_eq (V : 𝕍) : h_c_4 V = (constantI S_ 32 0#32) := by
  have h := read0 host_writes host_nodup V 30 (y := main_c_4) (in_hostOps0_2 (in_seg 0 rfl)) rfl (by decide +kernel)
  unfold h_c_4
  exact h

theorem h_v20_eq (V : 𝕍) : h_v20 V = ((broadcastInDim S16384 ![] bcast_S_S16384) : (⟨S_, .i32⟩ : BufTy).Contents (Elt F) → (⟨S16384, .i32⟩ : BufTy).Contents (Elt F)) (h_c_4 V) := by
  have h := read1 host_writes host_nodup V 31 (y := main_v20) (in_hostOps0_2 (in_seg 1 rfl)) rfl (by decide +kernel)
  unfold h_v20 h_c_4
  exact h

theorem h_v21_eq (V : 𝕍) : h_v21 V = ((cmpi .slt) : (⟨S16384, .i32⟩ : BufTy).Contents (Elt F) → (⟨S16384, .i32⟩ : BufTy).Contents (Elt F) → (⟨S16384, .i1⟩ : BufTy).Contents (Elt F)) (h_v19 V) (h_v20 V) := by
  have h := read2 host_writes host_nodup V 32 (y := main_v21) (in_hostOps0_2 (in_seg 2 rfl)) rfl (by decide +kernel)
  unfold h_v21 h_v19 h_v20
  exact h

theorem h_c_5_eq (V : 𝕍) : h_c_5 V = (constantI S_ 32 8#32) := by
  have h := read0 host_writes host_nodup V 33 (y := main_c_5) (in_hostOps0_2 (in_seg 3 rfl)) rfl (by decide +kernel)
  unfold h_c_5
  exact h

theorem h_v22_eq (V : 𝕍) : h_v22 V = ((broadcastInDim S16384 ![] bcast_S_S16384) : (⟨S_, .i32⟩ : BufTy).Contents (Elt F) → (⟨S16384, .i32⟩ : BufTy).Contents (Elt F)) (h_c_5 V) := by
  have h := read1 host_writes host_nodup V 34 (y := main_v22) (in_hostOps0_2 (in_seg 4 rfl)) rfl (by decide +kernel)
  unfold h_v22 h_c_5
  exact h

theorem h_v23_eq (V : 𝕍) : h_v23 V = (addi : (⟨S16384, .i32⟩ : BufTy).Contents (Elt F) → (⟨S16384, .i32⟩ : BufTy).Contents (Elt F) → (⟨S16384, .i32⟩ : BufTy).Contents (Elt F)) (h_v19 V) (h_v22 V) := by
  have h := read2 host_writes host_nodup V 35 (y := main_v23) (in_hostOps0_2 (in_seg 5 rfl)) rfl (by decide +kernel)
  unfold h_v23 h_v19 h_v22
  exact h

theorem h_v24_eq (V : 𝕍) : h_v24 V = (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) (h_v21 V) (h_v23 V) (h_v19 V) := by
  have h := read3 host_writes host_nodup V 36 (y := main_v24) (in_hostOps0_2 (in_seg 6 rfl)) rfl (by decide +kernel)
  unfold h_v24 h_v21 h_v23 h_v19
  exact h

theorem h_v25_eq (V : 𝕍) : h_v25 V = ((broadcastInDim S16384x1 ![0] bcast_S16384_S16384x1_0) : (⟨S16384, .i32⟩ : BufTy).Contents (Elt F) → (⟨S16384x1, .i32⟩ : BufTy).Contents (Elt F)) (h_v24 V) := by
  have h := read1 host_writes host_nodup V 37 (y := main_v25) (in_hostOps0_2 (in_seg 7 rfl)) rfl (by decide +kernel)
  unfold h_v25 h_v24
  exact h

theorem h_c_6_eq (V : 𝕍) : h_c_6 V = (constantI S_ 32 1#32) := by
  have h := read0 host_writes host_nodup V 38 (y := main_c_6) (in_hostOps0_2 (in_seg 8 rfl)) rfl (by decide +kernel)
  unfold h_c_6
  exact h

theorem h_v26_eq (V : 𝕍) : h_v26 V = ((broadcastInDim S16384 ![] bcast_S_S16384) : (⟨S_, .i32⟩ : BufTy).Contents (Elt F) → (⟨S16384, .i32⟩ : BufTy).Contents (Elt F)) (h_c_6 V) := by
  have h := read1 host_writes host_nodup V 39 (y := main_v26) (in_hostOps0_2 (in_seg 9 rfl)) rfl (by decide +kernel)
  unfold h_v26 h_c_6
  exact h

theorem h_v27_eq (V : 𝕍) : h_v27 V = ((fun x i u => Host.scatter scatter_S8_S16384x1_S16384_n_0_0_1 IntOp.addi x i u) : (⟨S8, .i32⟩ : BufTy).Contents (Elt F) → (⟨S16384x1, .i32⟩ : BufTy).Contents (Elt F) → (⟨S16384, .i32⟩ : BufTy).Contents (Elt F) → (⟨S8, .i32⟩ : BufTy).Contents (Elt F)) (h_v18 V) (h_v25 V) (h_v26 V) := by
  have h := read3 host_writes host_nodup V 40 (y := main_v27) (in_hostOps0_2 (in_seg 10 rfl)) rfl (by decide +kernel)
  unfold h_v27 h_v18 h_v25 h_v26
  exact h

theorem h_v28_eq (V : 𝕍) : h_v28 V = ((sitofp .f32) : (⟨S8, .i32⟩ : BufTy).Contents (Elt F) → (⟨S8, .f32⟩ : BufTy).Contents (Elt F)) (h_v27 V) := by
  have h := read1 host_writes host_nodup V 41 (y := main_v28) (in_hostOps0_2 (in_seg 11 rfl)) rfl (by decide +kernel)
  unfold h_v28 h_v27
  exact h

theorem h_cst_7_eq (V : 𝕍) : h_cst_7 V = (constant S_ .f32 0x46800000#32) := by
  have h := read0 host_writes host_nodup V 42 (y := main_cst_7) (in_hostOps0_2 (in_seg 12 rfl)) rfl (by decide +kernel)
  unfold h_cst_7
  exact h

theorem h_v29_eq (V : 𝕍) : h_v29 V = ((broadcastInDim S8 ![] bcast_S_S8) : (⟨S_, .f32⟩ : BufTy).Contents (Elt F) → (⟨S8, .f32⟩ : BufTy).Contents (Elt F)) (h_cst_7 V) := by
  have h := read1 host_writes host_nodup V 43 (y := main_v29) (in_hostOps0_2 (in_seg 13 rfl)) rfl (by decide +kernel)
  unfold h_v29 h_cst_7
  exact h

theorem h_v30_eq (V : 𝕍) : h_v30 V = (Host.divf : (⟨S8, .f32⟩ : BufTy).Contents (Elt F) → (⟨S8, .f32⟩ : BufTy).Contents (Elt F) → (⟨S8, .f32⟩ : BufTy).Contents (Elt F)) (h_v28 V) (h_v29 V) := by
  have h := read2 host_writes host_nodup V 44 (y := main_v30) (in_hostOps0_2 (in_seg 14 rfl)) rfl (by decide +kernel)
  unfold h_v30 h_v28 h_v29
  exact h

theorem h_cst_8_eq (V : 𝕍) : h_cst_8 V = (constant S_ .f32 0x00000000#32) := by
  have h := read0 host_writes host_nodup V 45 (y := main_cst_8) (in_hostOps0_2 (in_seg 15 rfl)) rfl (by decide +kernel)
  unfold h_cst_8
  exact h

theorem h_v31_eq (V : 𝕍) : h_v31 V = ((fun x v => Host.reduceAdd x v reducesTo_S8192x8_S8_d0 h_S_) : (⟨S8192x8, .f32⟩ : BufTy).Contents (Elt F) → (⟨S_, .f32⟩ : BufTy).Contents (Elt F) → (⟨S8, .f32⟩ : BufTy).Contents (Elt F)) (h_v12 V) (h_cst_8 V) := by
  have h := read2 host_writes host_nodup V 46 (y := main_v31) (in_hostOps0_2 (in_seg 16 rfl)) rfl (by decide +kernel)
  unfold h_v31 h_v12 h_cst_8
  exact h

theorem h_cst_9_eq (V : 𝕍) : h_cst_9 V = (constant S_ .f32 0x46000000#32) := by
  have h := read0 host_writes host_nodup V 47 (y := main_cst_9) (in_hostOps0_2 (in_seg 17 rfl)) rfl (by decide +kernel)
  unfold h_cst_9
  exact h

theorem h_v32_eq (V : 𝕍) : h_v32 V = ((broadcastInDim S8 ![] bcast_S_S8) : (⟨S_, .f32⟩ : BufTy).Contents (Elt F) → (⟨S8, .f32⟩ : BufTy).Contents (Elt F)) (h_cst_9 V) := by
  have h := read1 host_writes host_nodup V 48 (y := main_v32) (in_hostOps0_2 (in_seg 18 rfl)) rfl (by decide +kernel)
  unfold h_v32 h_cst_9
  exact h

theorem h_v33_eq (V : 𝕍) : h_v33 V = (Host.divf : (⟨S8, .f32⟩ : BufTy).Contents (Elt F) → (⟨S8, .f32⟩ : BufTy).Contents (Elt F) → (⟨S8, .f32⟩ : BufTy).Contents (Elt F)) (h_v31 V) (h_v32 V) := by
  have h := read2 host_writes host_nodup V 49 (y := main_v33) (in_hostOps0_2 (in_seg 19 rfl)) rfl (by decide +kernel)
  unfold h_v33 h_v31 h_v32
  exact h

theorem h_v34_eq (V : 𝕍) : h_v34 V = (mulf : (⟨S8, .f32⟩ : BufTy).Contents (Elt F) → (⟨S8, .f32⟩ : BufTy).Contents (Elt F) → (⟨S8, .f32⟩ : BufTy).Contents (Elt F)) (h_v30 V) (h_v33 V) := by
  have h := read2 host_writes host_nodup V 50 (y := main_v34) (in_hostOps0_2 (in_seg 20 rfl)) rfl (by decide +kernel)
  unfold h_v34 h_v30 h_v33
  exact h

theorem h_cst_10_eq (V : 𝕍) : h_cst_10 V = (constant S_ .f32 0x00000000#32) := by
  have h := read0 host_writes host_nodup V 51 (y := main_cst_10) (in_hostOps0_2 (in_seg 21 rfl)) rfl (by decide +kernel)
  unfold h_cst_10
  exact h

theorem h_v35_eq (V : 𝕍) : h_v35 V = ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) (h_v34 V) (h_cst_10 V) := by
  have h := read2 host_writes host_nodup V 52 (y := main_v35) (in_hostOps0_2 (in_seg 22 rfl)) rfl (by decide +kernel)
  unfold h_v35 h_v34 h_cst_10
  exact h

theorem h_cst_11_eq (V : 𝕍) : h_cst_11 V = (constant S_ .f32 0x41000000#32) := by
  have h := read0 host_writes host_nodup V 53 (y := main_cst_11) (in_hostOps0_2 (in_seg 23 rfl)) rfl (by decide +kernel)
  unfold h_cst_11
  exact h

theorem h_v36_eq (V : 𝕍) : h_v36 V = (mulf : (⟨S_, .f32⟩ : BufTy).Contents (Elt F) → (⟨S_, .f32⟩ : BufTy).Contents (Elt F) → (⟨S_, .f32⟩ : BufTy).Contents (Elt F)) (h_cst_11 V) (h_v35 V) := by
  have h := read2 host_writes host_nodup V 54 (y := main_v36) (in_hostOps0_2 (in_seg 24 rfl)) rfl (by decide +kernel)
  unfold h_v36 h_cst_11 h_v35
  exact h

theorem h_v37_eq (V : 𝕍) : h_v37 V = shapeCast S16384 (h_indices V) shapeCasts_S8192x2_S16384 := by
  have h := readR host_writes host_nodup V 55 (y := main_v37) (in_hostOps0_2 (in_seg 25 rfl)) rfl (by decide +kernel)
  unfold h_v37 h_indices
  exact h

theorem h_call1_v0_eq (V : 𝕍) : h_call1_v0 V = (iotaInDim S16384 32 0) := by
  have h := read0 host_writes host_nodup V 56 (y := main_call1_v0) (in_hostOps0_3 (in_seg 0 rfl)) rfl (by decide +kernel)
  unfold h_call1_v0
  exact h

theorem h_call1_v1_0_eq (V : 𝕍) : h_call1_v1_0 V = ((fun x y => (Host.sort2 S16384 0 comparator_i32_i32_d0 x y).1) : (⟨S16384, .i32⟩ : BufTy).Contents (Elt F) → (⟨S16384, .i32⟩ : BufTy).Contents (Elt F) → (⟨S16384, .i32⟩ : BufTy).Contents (Elt F)) (h_v37 V) (h_call1_v0 V) :=
  readT2 host_writes host_nodup V 57 (in_hostOps0_3 (in_seg 1 rfl)) rfl (by decide +kernel) (ofBuf_of (.of main_v37 : StableHlo.TRef sig ⟨S16384, .i32⟩) (HEq.refl (h_v37 V))) (ofBuf_of (.of main_call1_v0 : StableHlo.TRef sig ⟨S16384, .i32⟩) (HEq.refl (h_call1_v0 V))) (ofBuf_of (.of main_call1_v1_0 : StableHlo.TRef sig ⟨S16384, .i32⟩) (HEq.refl (h_call1_v1_0 V)))

theorem h_v38_eq (V : 𝕍) : h_v38 V = ((fun x y => (Host.sort2 S16384 0 comparator_i32_i32_d0 x y).2) : (⟨S16384, .i32⟩ : BufTy).Contents (Elt F) → (⟨S16384, .i32⟩ : BufTy).Contents (Elt F) → (⟨S16384, .i32⟩ : BufTy).Contents (Elt F)) (h_v37 V) (h_call1_v0 V) :=
  readT2 host_writes host_nodup V 58 (in_hostOps0_3 (in_seg 2 rfl)) rfl (by decide +kernel) (ofBuf_of (.of main_v37 : StableHlo.TRef sig ⟨S16384, .i32⟩) (HEq.refl (h_v37 V))) (ofBuf_of (.of main_call1_v0 : StableHlo.TRef sig ⟨S16384, .i32⟩) (HEq.refl (h_call1_v0 V))) (ofBuf_of (.of main_v38 : StableHlo.TRef sig ⟨S16384, .i32⟩) (HEq.refl (h_v38 V)))

end Cert.KernelIdeal.Own

end
-- ==== Proof.HostVals2.lean ====
/- What the host operations before the Pallas call leave in each buffer, one equation per operation. -/
module

public import proofs.«01_k».proof.Proof.HostDefs
public import proofs.«01_k».proof.Proof.Ssa

@[expose] public section

set_option maxRecDepth 8000
set_option maxHeartbeats 2000000

noncomputable section

namespace Cert.KernelIdeal.Own

open Idealize.ShloMosaic Idealize.ShloMosaic.TcCoe Idealize.SL.Sem Cert.Own Cert.KernelIdeal.Gen

variable {F : FTy → Type} [FloatOps F]

local notation "𝕍" => Valuation τ sig (Elt F)

theorem h_c_12_eq (V : 𝕍) : h_c_12 V = (constantI S_ 32 2#32) := by
  have h := read0 host_writes host_nodup V 59 (y := main_c_12) (in_hostOps0_4 (in_seg 0 rfl)) rfl (by decide +kernel)
  unfold h_c_12
  exact h

theorem h_call2_v0_eq (V : 𝕍) : h_call2_v0 V = id (h_c_12 V) :=
  readT1 host_writes host_nodup V 60 (in_hostOps0_5 (in_seg 0 rfl)) rfl (by decide +kernel) (ofBuf_of (.of main_c_12 : StableHlo.TRef sig ⟨S_, .i32⟩) (HEq.refl (h_c_12 V))) (ofBuf_of (.of main_call2_v0 : StableHlo.TRef sig ⟨S_, .i32⟩) (HEq.refl (h_call2_v0 V)))

theorem h_call2_v1_eq (V : 𝕍) : h_call2_v1 V = ((broadcastInDim S16384 ![] bcast_S_S16384) : (⟨S_, .i32⟩ : BufTy).Contents (Elt F) → (⟨S16384, .i32⟩ : BufTy).Contents (Elt F)) (h_call2_v0 V) := by
  have h := read1 host_writes host_nodup V 61 (y := main_call2_v1) (in_hostOps0_5 (in_seg 1 rfl)) rfl (by decide +kernel)
  unfold h_call2_v1 h_call2_v0
  exact h

theorem h_call2_v2_eq (V : 𝕍) : h_call2_v2 V = Host.divsi (h_v38 V) (h_call2_v1 V) :=
  readT2 host_writes host_nodup V 62 (in_hostOps0_5 (in_seg 2 rfl)) rfl (by decide +kernel) (ofBuf_of (.of main_v38 : StableHlo.TRef sig ⟨S16384, .i32⟩) (HEq.refl (h_v38 V))) (ofBuf_of (.of main_call2_v1 : StableHlo.TRef sig ⟨S16384, .i32⟩) (HEq.refl (h_call2_v1 V))) (ofBuf_of (.of main_call2_v2 : StableHlo.TRef sig ⟨S16384, .i32⟩) (HEq.refl (h_call2_v2 V)))

theorem h_call2_v3_eq (V : 𝕍) : h_call2_v3 V = signi (h_v38 V) :=
  readT1 host_writes host_nodup V 63 (in_hostOps0_5 (in_seg 3 rfl)) rfl (by decide +kernel) (ofBuf_of (.of main_v38 : StableHlo.TRef sig ⟨S16384, .i32⟩) (HEq.refl (h_v38 V))) (ofBuf_of (.of main_call2_v3 : StableHlo.TRef sig ⟨S16384, .i32⟩) (HEq.refl (h_call2_v3 V)))

theorem h_call2_v4_eq (V : 𝕍) : h_call2_v4 V = signi (h_call2_v0 V) :=
  readT1 host_writes host_nodup V 64 (in_hostOps0_5 (in_seg 4 rfl)) rfl (by decide +kernel) (ofBuf_of (.of main_call2_v0 : StableHlo.TRef sig ⟨S_, .i32⟩) (HEq.refl (h_call2_v0 V))) (ofBuf_of (.of main_call2_v4 : StableHlo.TRef sig ⟨S_, .i32⟩) (HEq.refl (h_call2_v4 V)))

theorem h_call2_v5_eq (V : 𝕍) : h_call2_v5 V = ((broadcastInDim S16384 ![] bcast_S_S16384) : (⟨S_, .i32⟩ : BufTy).Contents (Elt F) → (⟨S16384, .i32⟩ : BufTy).Contents (Elt F)) (h_call2_v4 V) := by
  have h := read1 host_writes host_nodup V 65 (y := main_call2_v5) (in_hostOps0_5 (in_seg 5 rfl)) rfl (by decide +kernel)
  unfold h_call2_v5 h_call2_v4
  exact h

theorem h_call2_v6_eq (V : 𝕍) : h_call2_v6 V = ((cmpi .ne) : (⟨S16384, .i32⟩ : BufTy).Contents (Elt F) → (⟨S16384, .i32⟩ : BufTy).Contents (Elt F) → (⟨S16384, .i1⟩ : BufTy).Contents (Elt F)) (h_call2_v3 V) (h_call2_v5 V) :=
  readT2 host_writes host_nodup V 66 (in_hostOps0_5 (in_seg 6 rfl)) rfl (by decide +kernel) (ofBuf_of (.of main_call2_v3 : StableHlo.TRef sig ⟨S16384, .i32⟩) (HEq.refl (h_call2_v3 V))) (ofBuf_of (.of main_call2_v5 : StableHlo.TRef sig ⟨S16384, .i32⟩) (HEq.refl (h_call2_v5 V))) (ofBuf_of (.of main_call2_v6 : StableHlo.TRef sig ⟨S16384, .i1⟩) (HEq.refl (h_call2_v6 V)))

theorem h_call2_v7_eq (V : 𝕍) : h_call2_v7 V = ((broadcastInDim S16384 ![] bcast_S_S16384) : (⟨S_, .i32⟩ : BufTy).Contents (Elt F) → (⟨S16384, .i32⟩ : BufTy).Contents (Elt F)) (h_call2_v0 V) := by
  have h := read1 host_writes host_nodup V 67 (y := main_call2_v7) (in_hostOps0_5 (in_seg 7 rfl)) rfl (by decide +kernel)
  unfold h_call2_v7 h_call2_v0
  exact h

theorem h_call2_v8_eq (V : 𝕍) : h_call2_v8 V = Host.remsi (h_v38 V) (h_call2_v7 V) :=
  readT2 host_writes host_nodup V 68 (in_hostOps0_5 (in_seg 8 rfl)) rfl (by decide +kernel) (ofBuf_of (.of main_v38 : StableHlo.TRef sig ⟨S16384, .i32⟩) (HEq.refl (h_v38 V))) (ofBuf_of (.of main_call2_v7 : StableHlo.TRef sig ⟨S16384, .i32⟩) (HEq.refl (h_call2_v7 V))) (ofBuf_of (.of main_call2_v8 : StableHlo.TRef sig ⟨S16384, .i32⟩) (HEq.refl (h_call2_v8 V)))

theorem h_call2_c_eq (V : 𝕍) : h_call2_c V = (constantI S_ 32 0#32) := by
  have h := read0 host_writes host_nodup V 69 (y := main_call2_c) (in_hostOps0_5 (in_seg 9 rfl)) rfl (by decide +kernel)
  unfold h_call2_c
  exact h

theorem h_call2_v9_eq (V : 𝕍) : h_call2_v9 V = ((broadcastInDim S16384 ![] bcast_S_S16384) : (⟨S_, .i32⟩ : BufTy).Contents (Elt F) → (⟨S16384, .i32⟩ : BufTy).Contents (Elt F)) (h_call2_c V) := by
  have h := read1 host_writes host_nodup V 70 (y := main_call2_v9) (in_hostOps0_5 (in_seg 10 rfl)) rfl (by decide +kernel)
  unfold h_call2_v9 h_call2_c
  exact h

theorem h_call2_v10_eq (V : 𝕍) : h_call2_v10 V = ((cmpi .ne) : (⟨S16384, .i32⟩ : BufTy).Contents (Elt F) → (⟨S16384, .i32⟩ : BufTy).Contents (Elt F) → (⟨S16384, .i1⟩ : BufTy).Contents (Elt F)) (h_call2_v8 V) (h_call2_v9 V) :=
  readT2 host_writes host_nodup V 71 (in_hostOps0_5 (in_seg 11 rfl)) rfl (by decide +kernel) (ofBuf_of (.of main_call2_v8 : StableHlo.TRef sig ⟨S16384, .i32⟩) (HEq.refl (h_call2_v8 V))) (ofBuf_of (.of main_call2_v9 : StableHlo.TRef sig ⟨S16384, .i32⟩) (HEq.refl (h_call2_v9 V))) (ofBuf_of (.of main_call2_v10 : StableHlo.TRef sig ⟨S16384, .i1⟩) (HEq.refl (h_call2_v10 V)))

theorem h_call2_v11_eq (V : 𝕍) : h_call2_v11 V = andi (h_call2_v6 V) (h_call2_v10 V) :=
  readT2 host_writes host_nodup V 72 (in_hostOps0_5 (in_seg 12 rfl)) rfl (by decide +kernel) (ofBuf_of (.of main_call2_v6 : StableHlo.TRef sig ⟨S16384, .i1⟩) (HEq.refl (h_call2_v6 V))) (ofBuf_of (.of main_call2_v10 : StableHlo.TRef sig ⟨S16384, .i1⟩) (HEq.refl (h_call2_v10 V))) (ofBuf_of (.of main_call2_v11 : StableHlo.TRef sig ⟨S16384, .i1⟩) (HEq.refl (h_call2_v11 V)))

theorem h_call2_c_0_eq (V : 𝕍) : h_call2_c_0 V = (constantI S_ 32 1#32) := by
  have h := read0 host_writes host_nodup V 73 (y := main_call2_c_0) (in_hostOps0_5 (in_seg 13 rfl)) rfl (by decide +kernel)
  unfold h_call2_c_0
  exact h

theorem h_call2_v12_eq (V : 𝕍) : h_call2_v12 V = ((broadcastInDim S16384 ![] bcast_S_S16384) : (⟨S_, .i32⟩ : BufTy).Contents (Elt F) → (⟨S16384, .i32⟩ : BufTy).Contents (Elt F)) (h_call2_c_0 V) := by
  have h := read1 host_writes host_nodup V 74 (y := main_call2_v12) (in_hostOps0_5 (in_seg 14 rfl)) rfl (by decide +kernel)
  unfold h_call2_v12 h_call2_c_0
  exact h

theorem h_call2_v13_eq (V : 𝕍) : h_call2_v13 V = subi (h_call2_v2 V) (h_call2_v12 V) :=
  readT2 host_writes host_nodup V 75 (in_hostOps0_5 (in_seg 15 rfl)) rfl (by decide +kernel) (ofBuf_of (.of main_call2_v2 : StableHlo.TRef sig ⟨S16384, .i32⟩) (HEq.refl (h_call2_v2 V))) (ofBuf_of (.of main_call2_v12 : StableHlo.TRef sig ⟨S16384, .i32⟩) (HEq.refl (h_call2_v12 V))) (ofBuf_of (.of main_call2_v13 : StableHlo.TRef sig ⟨S16384, .i32⟩) (HEq.refl (h_call2_v13 V)))

theorem h_v39_eq (V : 𝕍) : h_v39 V = select (h_call2_v11 V) (h_call2_v13 V) (h_call2_v2 V) :=
  readT3 host_writes host_nodup V 76 (in_hostOps0_5 (in_seg 16 rfl)) rfl (by decide +kernel) (ofBuf_of (.of main_call2_v11 : StableHlo.TRef sig ⟨S16384, .i1⟩) (HEq.refl (h_call2_v11 V))) (ofBuf_of (.of main_call2_v13 : StableHlo.TRef sig ⟨S16384, .i32⟩) (HEq.refl (h_call2_v13 V))) (ofBuf_of (.of main_call2_v2 : StableHlo.TRef sig ⟨S16384, .i32⟩) (HEq.refl (h_call2_v2 V))) (ofBuf_of (.of main_v39 : StableHlo.TRef sig ⟨S16384, .i32⟩) (HEq.refl (h_v39 V)))

theorem h_v40_eq (V : 𝕍) : h_v40 V = shapeCast S16384 (h_v16 V) shapeCasts_S8192x2_S16384 := by
  have h := readR host_writes host_nodup V 77 (y := main_v40) (in_hostOps0_6 (in_seg 0 rfl)) rfl (by decide +kernel)
  unfold h_v40 h_v16
  exact h

theorem h_c_13_eq (V : 𝕍) : h_c_13 V = (constantI S_ 32 0#32) := by
  have h := read0 host_writes host_nodup V 78 (y := main_c_13) (in_hostOps0_6 (in_seg 1 rfl)) rfl (by decide +kernel)
  unfold h_c_13
  exact h

theorem h_v41_eq (V : 𝕍) : h_v41 V = ((broadcastInDim S16384 ![] bcast_S_S16384) : (⟨S_, .i32⟩ : BufTy).Contents (Elt F) → (⟨S16384, .i32⟩ : BufTy).Contents (Elt F)) (h_c_13 V) := by
  have h := read1 host_writes host_nodup V 79 (y := main_v41) (in_hostOps0_6 (in_seg 2 rfl)) rfl (by decide +kernel)
  unfold h_v41 h_c_13
  exact h

theorem h_v42_eq (V : 𝕍) : h_v42 V = ((cmpi .slt) : (⟨S16384, .i32⟩ : BufTy).Contents (Elt F) → (⟨S16384, .i32⟩ : BufTy).Contents (Elt F) → (⟨S16384, .i1⟩ : BufTy).Contents (Elt F)) (h_v38 V) (h_v41 V) := by
  have h := read2 host_writes host_nodup V 80 (y := main_v42) (in_hostOps0_6 (in_seg 3 rfl)) rfl (by decide +kernel)
  unfold h_v42 h_v38 h_v41
  exact h

theorem h_c_14_eq (V : 𝕍) : h_c_14 V = (constantI S_ 32 16384#32) := by
  have h := read0 host_writes host_nodup V 81 (y := main_c_14) (in_hostOps0_6 (in_seg 4 rfl)) rfl (by decide +kernel)
  unfold h_c_14
  exact h

theorem h_v43_eq (V : 𝕍) : h_v43 V = ((broadcastInDim S16384 ![] bcast_S_S16384) : (⟨S_, .i32⟩ : BufTy).Contents (Elt F) → (⟨S16384, .i32⟩ : BufTy).Contents (Elt F)) (h_c_14 V) := by
  have h := read1 host_writes host_nodup V 82 (y := main_v43) (in_hostOps0_6 (in_seg 5 rfl)) rfl (by decide +kernel)
  unfold h_v43 h_c_14
  exact h

theorem h_v44_eq (V : 𝕍) : h_v44 V = (addi : (⟨S16384, .i32⟩ : BufTy).Contents (Elt F) → (⟨S16384, .i32⟩ : BufTy).Contents (Elt F) → (⟨S16384, .i32⟩ : BufTy).Contents (Elt F)) (h_v38 V) (h_v43 V) := by
  have h := read2 host_writes host_nodup V 83 (y := main_v44) (in_hostOps0_6 (in_seg 6 rfl)) rfl (by decide +kernel)
  unfold h_v44 h_v38 h_v43
  exact h

theorem h_v45_eq (V : 𝕍) : h_v45 V = (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) (h_v42 V) (h_v44 V) (h_v38 V) := by
  have h := read3 host_writes host_nodup V 84 (y := main_v45) (in_hostOps0_6 (in_seg 7 rfl)) rfl (by decide +kernel)
  unfold h_v45 h_v42 h_v44 h_v38
  exact h

theorem h_v46_eq (V : 𝕍) : h_v46 V = ((broadcastInDim S16384x1 ![0] bcast_S16384_S16384x1_0) : (⟨S16384, .i32⟩ : BufTy).Contents (Elt F) → (⟨S16384x1, .i32⟩ : BufTy).Contents (Elt F)) (h_v45 V) := by
  have h := read1 host_writes host_nodup V 85 (y := main_v46) (in_hostOps0_6 (in_seg 8 rfl)) rfl (by decide +kernel)
  unfold h_v46 h_v45
  exact h

theorem h_v47_eq (V : 𝕍) : h_v47 V = ((fun x i => Host.gather gather_S16384_S16384x1_S16384_n_0_n_n_0_1_1 x i) : (⟨S16384, .f32⟩ : BufTy).Contents (Elt F) → (⟨S16384x1, .i32⟩ : BufTy).Contents (Elt F) → (⟨S16384, .f32⟩ : BufTy).Contents (Elt F)) (h_v40 V) (h_v46 V) := by
  have h := read2 host_writes host_nodup V 86 (y := main_v47) (in_hostOps0_6 (in_seg 9 rfl)) rfl (by decide +kernel)
  unfold h_v47 h_v40 h_v46
  exact h

theorem h_c_15_eq (V : 𝕍) : h_c_15 V = (constantI S_ 32 0#32) := by
  have h := read0 host_writes host_nodup V 87 (y := main_c_15) (in_hostOps0_6 (in_seg 10 rfl)) rfl (by decide +kernel)
  unfold h_c_15
  exact h

theorem h_v48_eq (V : 𝕍) : h_v48 V = ((broadcastInDim S16384 ![] bcast_S_S16384) : (⟨S_, .i32⟩ : BufTy).Contents (Elt F) → (⟨S16384, .i32⟩ : BufTy).Contents (Elt F)) (h_c_15 V) := by
  have h := read1 host_writes host_nodup V 88 (y := main_v48) (in_hostOps0_6 (in_seg 11 rfl)) rfl (by decide +kernel)
  unfold h_v48 h_c_15
  exact h

theorem h_v49_eq (V : 𝕍) : h_v49 V = (iotaInDim S16384 32 0) := by
  have h := read0 host_writes host_nodup V 89 (y := main_v49) (in_hostOps0_6 (in_seg 12 rfl)) rfl (by decide +kernel)
  unfold h_v49
  exact h

theorem h_c_16_eq (V : 𝕍) : h_c_16 V = (constantI S_ 32 0#32) := by
  have h := read0 host_writes host_nodup V 90 (y := main_c_16) (in_hostOps0_6 (in_seg 13 rfl)) rfl (by decide +kernel)
  unfold h_c_16
  exact h

theorem h_v50_eq (V : 𝕍) : h_v50 V = ((broadcastInDim S16384 ![] bcast_S_S16384) : (⟨S_, .i32⟩ : BufTy).Contents (Elt F) → (⟨S16384, .i32⟩ : BufTy).Contents (Elt F)) (h_c_16 V) := by
  have h := read1 host_writes host_nodup V 91 (y := main_v50) (in_hostOps0_6 (in_seg 14 rfl)) rfl (by decide +kernel)
  unfold h_v50 h_c_16
  exact h

theorem h_v51_eq (V : 𝕍) : h_v51 V = ((cmpi .slt) : (⟨S16384, .i32⟩ : BufTy).Contents (Elt F) → (⟨S16384, .i32⟩ : BufTy).Contents (Elt F) → (⟨S16384, .i1⟩ : BufTy).Contents (Elt F)) (h_v38 V) (h_v50 V) := by
  have h := read2 host_writes host_nodup V 92 (y := main_v51) (in_hostOps0_6 (in_seg 15 rfl)) rfl (by decide +kernel)
  unfold h_v51 h_v38 h_v50
  exact h

theorem h_c_17_eq (V : 𝕍) : h_c_17 V = (constantI S_ 32 16384#32) := by
  have h := read0 host_writes host_nodup V 93 (y := main_c_17) (in_hostOps0_6 (in_seg 16 rfl)) rfl (by decide +kernel)
  unfold h_c_17
  exact h

theorem h_v52_eq (V : 𝕍) : h_v52 V = ((broadcastInDim S16384 ![] bcast_S_S16384) : (⟨S_, .i32⟩ : BufTy).Contents (Elt F) → (⟨S16384, .i32⟩ : BufTy).Contents (Elt F)) (h_c_17 V) := by
  have h := read1 host_writes host_nodup V 94 (y := main_v52) (in_hostOps0_6 (in_seg 17 rfl)) rfl (by decide +kernel)
  unfold h_v52 h_c_17
  exact h

end Cert.KernelIdeal.Own

end
-- ==== Proof.HostVals3.lean ====
/- What the host operations before the Pallas call leave in each buffer, one equation per operation. -/
module

public import proofs.«01_k».proof.Proof.HostDefs
public import proofs.«01_k».proof.Proof.Ssa

@[expose] public section

set_option maxRecDepth 8000

noncomputable section

namespace Cert.KernelIdeal.Own

open Idealize.ShloMosaic Idealize.ShloMosaic.TcCoe Idealize.SL.Sem Cert.Own Cert.KernelIdeal.Gen

variable {F : FTy → Type} [FloatOps F]

local notation "𝕍" => Valuation τ sig (Elt F)

theorem h_v53_eq (V : 𝕍) : h_v53 V = (addi : (⟨S16384, .i32⟩ : BufTy).Contents (Elt F) → (⟨S16384, .i32⟩ : BufTy).Contents (Elt F) → (⟨S16384, .i32⟩ : BufTy).Contents (Elt F)) (h_v38 V) (h_v52 V) := by
  have h := read2 host_writes host_nodup V 95 (y := main_v53) (in_hostOps0_6 (in_seg 18 rfl)) rfl (by decide +kernel)
  unfold h_v53 h_v38 h_v52
  exact h

theorem h_v54_eq (V : 𝕍) : h_v54 V = (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) (h_v51 V) (h_v53 V) (h_v38 V) := by
  have h := read3 host_writes host_nodup V 96 (y := main_v54) (in_hostOps0_6 (in_seg 19 rfl)) rfl (by decide +kernel)
  unfold h_v54 h_v51 h_v53 h_v38
  exact h

theorem h_v55_eq (V : 𝕍) : h_v55 V = ((broadcastInDim S16384x1 ![0] bcast_S16384_S16384x1_0) : (⟨S16384, .i32⟩ : BufTy).Contents (Elt F) → (⟨S16384x1, .i32⟩ : BufTy).Contents (Elt F)) (h_v54 V) := by
  have h := read1 host_writes host_nodup V 97 (y := main_v55) (in_hostOps0_6 (in_seg 20 rfl)) rfl (by decide +kernel)
  unfold h_v55 h_v54
  exact h

theorem h_v56_eq (V : 𝕍) : h_v56 V = ((fun x i u => Host.scatter scatter_S16384_S16384x1_S16384_n_0_0_1 (fun _ b => b) x i u) : (⟨S16384, .i32⟩ : BufTy).Contents (Elt F) → (⟨S16384x1, .i32⟩ : BufTy).Contents (Elt F) → (⟨S16384, .i32⟩ : BufTy).Contents (Elt F) → (⟨S16384, .i32⟩ : BufTy).Contents (Elt F)) (h_v48 V) (h_v55 V) (h_v49 V) := by
  have h := read3 host_writes host_nodup V 98 (y := main_v56) (in_hostOps0_6 (in_seg 21 rfl)) rfl (by decide +kernel)
  unfold h_v56 h_v48 h_v55 h_v49
  exact h

theorem h_v57_eq (V : 𝕍) : h_v57 V = shapeCast S8192x2 (h_v56 V) shapeCasts_S16384_S8192x2 := by
  have h := readR host_writes host_nodup V 99 (y := main_v57) (in_hostOps0_6 (in_seg 22 rfl)) rfl (by decide +kernel)
  unfold h_v57 h_v56
  exact h

theorem h_call3_call0_c_eq (V : 𝕍) : h_call3_call0_c V = (constantI S_ 32 0#32) := by
  have h := read0 host_writes host_nodup V 100 (y := main_call3_call0_c) (in_hostOps0_7 (in_seg 0 rfl)) rfl (by decide +kernel)
  unfold h_call3_call0_c
  exact h

theorem h_call3_call0_v0_eq (V : 𝕍) : h_call3_call0_v0 V = ((broadcastInDim S_ ![] bcast_S_S_) : (⟨S_, .i32⟩ : BufTy).Contents (Elt F) → (⟨S_, .i32⟩ : BufTy).Contents (Elt F)) (h_call3_call0_c V) := by
  have h := read1 host_writes host_nodup V 101 (y := main_call3_call0_v0) (in_hostOps0_7 (in_seg 1 rfl)) rfl (by decide +kernel)
  unfold h_call3_call0_v0 h_call3_call0_c
  exact h

theorem h_v58_eq (V : 𝕍) : h_v58 V = ((fun x v => Host.reduceWindow IntOp.addi ![8] ![1] ![7] ![0] x v reduceWindows_S8_S8_w8s1p7_0 h_S_) : (⟨S8, .i32⟩ : BufTy).Contents (Elt F) → (⟨S_, .i32⟩ : BufTy).Contents (Elt F) → (⟨S8, .i32⟩ : BufTy).Contents (Elt F)) (h_v27 V) (h_call3_call0_v0 V) :=
  readT2 host_writes host_nodup V 102 (in_hostOps0_7 (in_seg 2 rfl)) rfl (by decide +kernel) (ofBuf_of (.of main_v27 : StableHlo.TRef sig ⟨S8, .i32⟩) (HEq.refl (h_v27 V))) (ofBuf_of (.of main_call3_call0_v0 : StableHlo.TRef sig ⟨S_, .i32⟩) (HEq.refl (h_call3_call0_v0 V))) (ofBuf_of (.of main_v58 : StableHlo.TRef sig ⟨S8, .i32⟩) (HEq.refl (h_v58 V)))

theorem h_v59_eq (V : 𝕍) : h_v59 V = (subi : (⟨S8, .i32⟩ : BufTy).Contents (Elt F) → (⟨S8, .i32⟩ : BufTy).Contents (Elt F) → (⟨S8, .i32⟩ : BufTy).Contents (Elt F)) (h_v58 V) (h_v27 V) := by
  have h := read2 host_writes host_nodup V 103 (y := main_v59) (in_hostOps0_8 (in_seg 0 rfl)) rfl (by decide +kernel)
  unfold h_v59 h_v58 h_v27
  exact h

theorem h_v60_eq (V : 𝕍) : h_v60 V = (addi : (⟨S8, .i32⟩ : BufTy).Contents (Elt F) → (⟨S8, .i32⟩ : BufTy).Contents (Elt F) → (⟨S8, .i32⟩ : BufTy).Contents (Elt F)) (h_v59 V) (h_v27 V) := by
  have h := read2 host_writes host_nodup V 104 (y := main_v60) (in_hostOps0_8 (in_seg 1 rfl)) rfl (by decide +kernel)
  unfold h_v60 h_v59 h_v27
  exact h

theorem h_v61_eq (V : 𝕍) : h_v61 V = (iotaInDim S32 32 0) := by
  have h := read0 host_writes host_nodup V 105 (y := main_v61) (in_hostOps0_8 (in_seg 2 rfl)) rfl (by decide +kernel)
  unfold h_v61
  exact h

theorem h_v62_eq (V : 𝕍) : h_v62 V = ((broadcastInDim S32x1 ![0] bcast_S32_S32x1_0) : (⟨S32, .i32⟩ : BufTy).Contents (Elt F) → (⟨S32x1, .i32⟩ : BufTy).Contents (Elt F)) (h_v61 V) := by
  have h := read1 host_writes host_nodup V 106 (y := main_v62) (in_hostOps0_8 (in_seg 3 rfl)) rfl (by decide +kernel)
  unfold h_v62 h_v61
  exact h

theorem h_c_18_eq (V : 𝕍) : h_c_18 V = (constantI S_ 32 512#32) := by
  have h := read0 host_writes host_nodup V 107 (y := main_c_18) (in_hostOps0_8 (in_seg 4 rfl)) rfl (by decide +kernel)
  unfold h_c_18
  exact h

theorem h_v63_eq (V : 𝕍) : h_v63 V = ((broadcastInDim S32x1 ![] bcast_S_S32x1) : (⟨S_, .i32⟩ : BufTy).Contents (Elt F) → (⟨S32x1, .i32⟩ : BufTy).Contents (Elt F)) (h_c_18 V) := by
  have h := read1 host_writes host_nodup V 108 (y := main_v63) (in_hostOps0_8 (in_seg 5 rfl)) rfl (by decide +kernel)
  unfold h_v63 h_c_18
  exact h

theorem h_v64_eq (V : 𝕍) : h_v64 V = (muli : (⟨S32x1, .i32⟩ : BufTy).Contents (Elt F) → (⟨S32x1, .i32⟩ : BufTy).Contents (Elt F) → (⟨S32x1, .i32⟩ : BufTy).Contents (Elt F)) (h_v62 V) (h_v63 V) := by
  have h := read2 host_writes host_nodup V 109 (y := main_v64) (in_hostOps0_8 (in_seg 6 rfl)) rfl (by decide +kernel)
  unfold h_v64 h_v62 h_v63
  exact h

theorem h_c_19_eq (V : 𝕍) : h_c_19 V = (constantI S_ 32 1#32) := by
  have h := read0 host_writes host_nodup V 110 (y := main_c_19) (in_hostOps0_8 (in_seg 7 rfl)) rfl (by decide +kernel)
  unfold h_c_19
  exact h

theorem h_v65_eq (V : 𝕍) : h_v65 V = ((broadcastInDim S32x1 ![] bcast_S_S32x1) : (⟨S_, .i32⟩ : BufTy).Contents (Elt F) → (⟨S32x1, .i32⟩ : BufTy).Contents (Elt F)) (h_c_19 V) := by
  have h := read1 host_writes host_nodup V 111 (y := main_v65) (in_hostOps0_8 (in_seg 8 rfl)) rfl (by decide +kernel)
  unfold h_v65 h_c_19
  exact h

theorem h_v66_eq (V : 𝕍) : h_v66 V = (addi : (⟨S32x1, .i32⟩ : BufTy).Contents (Elt F) → (⟨S32x1, .i32⟩ : BufTy).Contents (Elt F) → (⟨S32x1, .i32⟩ : BufTy).Contents (Elt F)) (h_v62 V) (h_v65 V) := by
  have h := read2 host_writes host_nodup V 112 (y := main_v66) (in_hostOps0_8 (in_seg 9 rfl)) rfl (by decide +kernel)
  unfold h_v66 h_v62 h_v65
  exact h

theorem h_c_20_eq (V : 𝕍) : h_c_20 V = (constantI S_ 32 512#32) := by
  have h := read0 host_writes host_nodup V 113 (y := main_c_20) (in_hostOps0_8 (in_seg 10 rfl)) rfl (by decide +kernel)
  unfold h_c_20
  exact h

theorem h_v67_eq (V : 𝕍) : h_v67 V = ((broadcastInDim S32x1 ![] bcast_S_S32x1) : (⟨S_, .i32⟩ : BufTy).Contents (Elt F) → (⟨S32x1, .i32⟩ : BufTy).Contents (Elt F)) (h_c_20 V) := by
  have h := read1 host_writes host_nodup V 114 (y := main_v67) (in_hostOps0_8 (in_seg 11 rfl)) rfl (by decide +kernel)
  unfold h_v67 h_c_20
  exact h

theorem h_v68_eq (V : 𝕍) : h_v68 V = (muli : (⟨S32x1, .i32⟩ : BufTy).Contents (Elt F) → (⟨S32x1, .i32⟩ : BufTy).Contents (Elt F) → (⟨S32x1, .i32⟩ : BufTy).Contents (Elt F)) (h_v66 V) (h_v67 V) := by
  have h := read2 host_writes host_nodup V 115 (y := main_v68) (in_hostOps0_8 (in_seg 12 rfl)) rfl (by decide +kernel)
  unfold h_v68 h_v66 h_v67
  exact h

theorem h_v69_eq (V : 𝕍) : h_v69 V = ((broadcastInDim S1x8 ![1] bcast_S8_S1x8_1) : (⟨S8, .i32⟩ : BufTy).Contents (Elt F) → (⟨S1x8, .i32⟩ : BufTy).Contents (Elt F)) (h_v59 V) := by
  have h := read1 host_writes host_nodup V 116 (y := main_v69) (in_hostOps0_8 (in_seg 13 rfl)) rfl (by decide +kernel)
  unfold h_v69 h_v59
  exact h

theorem h_v70_eq (V : 𝕍) : h_v70 V = ((broadcastInDim S1x8 ![1] bcast_S8_S1x8_1) : (⟨S8, .i32⟩ : BufTy).Contents (Elt F) → (⟨S1x8, .i32⟩ : BufTy).Contents (Elt F)) (h_v60 V) := by
  have h := read1 host_writes host_nodup V 117 (y := main_v70) (in_hostOps0_8 (in_seg 14 rfl)) rfl (by decide +kernel)
  unfold h_v70 h_v60
  exact h

theorem h_v71_eq (V : 𝕍) : h_v71 V = ((broadcastInDim S32x8 ![0, 1] bcast_S1x8_S32x8_0_1) : (⟨S1x8, .i32⟩ : BufTy).Contents (Elt F) → (⟨S32x8, .i32⟩ : BufTy).Contents (Elt F)) (h_v69 V) := by
  have h := read1 host_writes host_nodup V 118 (y := main_v71) (in_hostOps0_8 (in_seg 15 rfl)) rfl (by decide +kernel)
  unfold h_v71 h_v69
  exact h

theorem h_v72_eq (V : 𝕍) : h_v72 V = ((broadcastInDim S32x8 ![0, 1] bcast_S32x1_S32x8_0_1) : (⟨S32x1, .i32⟩ : BufTy).Contents (Elt F) → (⟨S32x8, .i32⟩ : BufTy).Contents (Elt F)) (h_v68 V) := by
  have h := read1 host_writes host_nodup V 119 (y := main_v72) (in_hostOps0_8 (in_seg 16 rfl)) rfl (by decide +kernel)
  unfold h_v72 h_v68
  exact h

theorem h_v73_eq (V : 𝕍) : h_v73 V = ((cmpi .slt) : (⟨S32x8, .i32⟩ : BufTy).Contents (Elt F) → (⟨S32x8, .i32⟩ : BufTy).Contents (Elt F) → (⟨S32x8, .i1⟩ : BufTy).Contents (Elt F)) (h_v71 V) (h_v72 V) := by
  have h := read2 host_writes host_nodup V 120 (y := main_v73) (in_hostOps0_8 (in_seg 17 rfl)) rfl (by decide +kernel)
  unfold h_v73 h_v71 h_v72
  exact h

theorem h_v74_eq (V : 𝕍) : h_v74 V = ((broadcastInDim S32x8 ![0, 1] bcast_S1x8_S32x8_0_1) : (⟨S1x8, .i32⟩ : BufTy).Contents (Elt F) → (⟨S32x8, .i32⟩ : BufTy).Contents (Elt F)) (h_v70 V) := by
  have h := read1 host_writes host_nodup V 121 (y := main_v74) (in_hostOps0_8 (in_seg 18 rfl)) rfl (by decide +kernel)
  unfold h_v74 h_v70
  exact h

theorem h_v75_eq (V : 𝕍) : h_v75 V = ((broadcastInDim S32x8 ![0, 1] bcast_S32x1_S32x8_0_1) : (⟨S32x1, .i32⟩ : BufTy).Contents (Elt F) → (⟨S32x8, .i32⟩ : BufTy).Contents (Elt F)) (h_v64 V) := by
  have h := read1 host_writes host_nodup V 122 (y := main_v75) (in_hostOps0_8 (in_seg 19 rfl)) rfl (by decide +kernel)
  unfold h_v75 h_v64
  exact h

theorem h_v76_eq (V : 𝕍) : h_v76 V = ((cmpi .sgt) : (⟨S32x8, .i32⟩ : BufTy).Contents (Elt F) → (⟨S32x8, .i32⟩ : BufTy).Contents (Elt F) → (⟨S32x8, .i1⟩ : BufTy).Contents (Elt F)) (h_v74 V) (h_v75 V) := by
  have h := read2 host_writes host_nodup V 123 (y := main_v76) (in_hostOps0_8 (in_seg 20 rfl)) rfl (by decide +kernel)
  unfold h_v76 h_v74 h_v75
  exact h

theorem h_v77_eq (V : 𝕍) : h_v77 V = (andi : (⟨S32x8, .i1⟩ : BufTy).Contents (Elt F) → (⟨S32x8, .i1⟩ : BufTy).Contents (Elt F) → (⟨S32x8, .i1⟩ : BufTy).Contents (Elt F)) (h_v73 V) (h_v76 V) := by
  have h := read2 host_writes host_nodup V 124 (y := main_v77) (in_hostOps0_8 (in_seg 21 rfl)) rfl (by decide +kernel)
  unfold h_v77 h_v73 h_v76
  exact h

theorem h_v78_eq (V : 𝕍) : h_v78 V = ((broadcastInDim S32x8 ![0, 1] bcast_S1x8_S32x8_0_1) : (⟨S1x8, .i32⟩ : BufTy).Contents (Elt F) → (⟨S32x8, .i32⟩ : BufTy).Contents (Elt F)) (h_v69 V) := by
  have h := read1 host_writes host_nodup V 125 (y := main_v78) (in_hostOps0_8 (in_seg 22 rfl)) rfl (by decide +kernel)
  unfold h_v78 h_v69
  exact h

theorem h_v79_eq (V : 𝕍) : h_v79 V = ((broadcastInDim S32x8 ![0, 1] bcast_S32x1_S32x8_0_1) : (⟨S32x1, .i32⟩ : BufTy).Contents (Elt F) → (⟨S32x8, .i32⟩ : BufTy).Contents (Elt F)) (h_v64 V) := by
  have h := read1 host_writes host_nodup V 126 (y := main_v79) (in_hostOps0_8 (in_seg 23 rfl)) rfl (by decide +kernel)
  unfold h_v79 h_v64
  exact h

theorem h_v80_eq (V : 𝕍) : h_v80 V = (subi : (⟨S32x8, .i32⟩ : BufTy).Contents (Elt F) → (⟨S32x8, .i32⟩ : BufTy).Contents (Elt F) → (⟨S32x8, .i32⟩ : BufTy).Contents (Elt F)) (h_v78 V) (h_v79 V) := by
  have h := read2 host_writes host_nodup V 127 (y := main_v80) (in_hostOps0_8 (in_seg 24 rfl)) rfl (by decide +kernel)
  unfold h_v80 h_v78 h_v79
  exact h

theorem h_c_21_eq (V : 𝕍) : h_c_21 V = (constantI S_ 32 0#32) := by
  have h := read0 host_writes host_nodup V 128 (y := main_c_21) (in_hostOps0_8 (in_seg 25 rfl)) rfl (by decide +kernel)
  unfold h_c_21
  exact h

theorem h_c_22_eq (V : 𝕍) : h_c_22 V = (constantI S_ 32 512#32) := by
  have h := read0 host_writes host_nodup V 129 (y := main_c_22) (in_hostOps0_8 (in_seg 26 rfl)) rfl (by decide +kernel)
  unfold h_c_22
  exact h

theorem h_call4_v0_eq (V : 𝕍) : h_call4_v0 V = id (h_c_21 V) :=
  readT1 host_writes host_nodup V 130 (in_hostOps0_9 (in_seg 0 rfl)) rfl (by decide +kernel) (ofBuf_of (.of main_c_21 : StableHlo.TRef sig ⟨S_, .i32⟩) (HEq.refl (h_c_21 V))) (ofBuf_of (.of main_call4_v0 : StableHlo.TRef sig ⟨S_, .i32⟩) (HEq.refl (h_call4_v0 V)))

theorem h_call4_v1_eq (V : 𝕍) : h_call4_v1 V = ((broadcastInDim S32x8 ![] bcast_S_S32x8) : (⟨S_, .i32⟩ : BufTy).Contents (Elt F) → (⟨S32x8, .i32⟩ : BufTy).Contents (Elt F)) (h_call4_v0 V) := by
  have h := read1 host_writes host_nodup V 131 (y := main_call4_v1) (in_hostOps0_9 (in_seg 1 rfl)) rfl (by decide +kernel)
  unfold h_call4_v1 h_call4_v0
  exact h

theorem h_call4_v2_eq (V : 𝕍) : h_call4_v2 V = maxsi (h_call4_v1 V) (h_v80 V) :=
  readT2 host_writes host_nodup V 132 (in_hostOps0_9 (in_seg 2 rfl)) rfl (by decide +kernel) (ofBuf_of (.of main_call4_v1 : StableHlo.TRef sig ⟨S32x8, .i32⟩) (HEq.refl (h_call4_v1 V))) (ofBuf_of (.of main_v80 : StableHlo.TRef sig ⟨S32x8, .i32⟩) (HEq.refl (h_v80 V))) (ofBuf_of (.of main_call4_v2 : StableHlo.TRef sig ⟨S32x8, .i32⟩) (HEq.refl (h_call4_v2 V)))

theorem h_call4_v3_eq (V : 𝕍) : h_call4_v3 V = id (h_c_22 V) :=
  readT1 host_writes host_nodup V 133 (in_hostOps0_9 (in_seg 3 rfl)) rfl (by decide +kernel) (ofBuf_of (.of main_c_22 : StableHlo.TRef sig ⟨S_, .i32⟩) (HEq.refl (h_c_22 V))) (ofBuf_of (.of main_call4_v3 : StableHlo.TRef sig ⟨S_, .i32⟩) (HEq.refl (h_call4_v3 V)))

theorem h_call4_v4_eq (V : 𝕍) : h_call4_v4 V = ((broadcastInDim S32x8 ![] bcast_S_S32x8) : (⟨S_, .i32⟩ : BufTy).Contents (Elt F) → (⟨S32x8, .i32⟩ : BufTy).Contents (Elt F)) (h_call4_v3 V) := by
  have h := read1 host_writes host_nodup V 134 (y := main_call4_v4) (in_hostOps0_9 (in_seg 4 rfl)) rfl (by decide +kernel)
  unfold h_call4_v4 h_call4_v3
  exact h

theorem h_v81_eq (V : 𝕍) : h_v81 V = minsi (h_call4_v4 V) (h_call4_v2 V) :=
  readT2 host_writes host_nodup V 135 (in_hostOps0_9 (in_seg 5 rfl)) rfl (by decide +kernel) (ofBuf_of (.of main_call4_v4 : StableHlo.TRef sig ⟨S32x8, .i32⟩) (HEq.refl (h_call4_v4 V))) (ofBuf_of (.of main_call4_v2 : StableHlo.TRef sig ⟨S32x8, .i32⟩) (HEq.refl (h_call4_v2 V))) (ofBuf_of (.of main_v81 : StableHlo.TRef sig ⟨S32x8, .i32⟩) (HEq.refl (h_v81 V)))

theorem h_v82_eq (V : 𝕍) : h_v82 V = ((broadcastInDim S32x8 ![0, 1] bcast_S1x8_S32x8_0_1) : (⟨S1x8, .i32⟩ : BufTy).Contents (Elt F) → (⟨S32x8, .i32⟩ : BufTy).Contents (Elt F)) (h_v70 V) := by
  have h := read1 host_writes host_nodup V 136 (y := main_v82) (in_hostOps0_10 (in_seg 0 rfl)) rfl (by decide +kernel)
  unfold h_v82 h_v70
  exact h

theorem h_v83_eq (V : 𝕍) : h_v83 V = ((broadcastInDim S32x8 ![0, 1] bcast_S32x1_S32x8_0_1) : (⟨S32x1, .i32⟩ : BufTy).Contents (Elt F) → (⟨S32x8, .i32⟩ : BufTy).Contents (Elt F)) (h_v64 V) := by
  have h := read1 host_writes host_nodup V 137 (y := main_v83) (in_hostOps0_10 (in_seg 1 rfl)) rfl (by decide +kernel)
  unfold h_v83 h_v64
  exact h

theorem h_v84_eq (V : 𝕍) : h_v84 V = (subi : (⟨S32x8, .i32⟩ : BufTy).Contents (Elt F) → (⟨S32x8, .i32⟩ : BufTy).Contents (Elt F) → (⟨S32x8, .i32⟩ : BufTy).Contents (Elt F)) (h_v82 V) (h_v83 V) := by
  have h := read2 host_writes host_nodup V 138 (y := main_v84) (in_hostOps0_10 (in_seg 2 rfl)) rfl (by decide +kernel)
  unfold h_v84 h_v82 h_v83
  exact h

theorem h_c_23_eq (V : 𝕍) : h_c_23 V = (constantI S_ 32 0#32) := by
  have h := read0 host_writes host_nodup V 139 (y := main_c_23) (in_hostOps0_10 (in_seg 3 rfl)) rfl (by decide +kernel)
  unfold h_c_23
  exact h

theorem h_c_24_eq (V : 𝕍) : h_c_24 V = (constantI S_ 32 512#32) := by
  have h := read0 host_writes host_nodup V 140 (y := main_c_24) (in_hostOps0_10 (in_seg 4 rfl)) rfl (by decide +kernel)
  unfold h_c_24
  exact h

theorem h_call5_v0_eq (V : 𝕍) : h_call5_v0 V = id (h_c_23 V) :=
  readT1 host_writes host_nodup V 141 (in_hostOps0_11 (in_seg 0 rfl)) rfl (by decide +kernel) (ofBuf_of (.of main_c_23 : StableHlo.TRef sig ⟨S_, .i32⟩) (HEq.refl (h_c_23 V))) (ofBuf_of (.of main_call5_v0 : StableHlo.TRef sig ⟨S_, .i32⟩) (HEq.refl (h_call5_v0 V)))

theorem h_call5_v1_eq (V : 𝕍) : h_call5_v1 V = ((broadcastInDim S32x8 ![] bcast_S_S32x8) : (⟨S_, .i32⟩ : BufTy).Contents (Elt F) → (⟨S32x8, .i32⟩ : BufTy).Contents (Elt F)) (h_call5_v0 V) := by
  have h := read1 host_writes host_nodup V 142 (y := main_call5_v1) (in_hostOps0_11 (in_seg 1 rfl)) rfl (by decide +kernel)
  unfold h_call5_v1 h_call5_v0
  exact h

theorem h_call5_v2_eq (V : 𝕍) : h_call5_v2 V = maxsi (h_call5_v1 V) (h_v84 V) :=
  readT2 host_writes host_nodup V 143 (in_hostOps0_11 (in_seg 2 rfl)) rfl (by decide +kernel) (ofBuf_of (.of main_call5_v1 : StableHlo.TRef sig ⟨S32x8, .i32⟩) (HEq.refl (h_call5_v1 V))) (ofBuf_of (.of main_v84 : StableHlo.TRef sig ⟨S32x8, .i32⟩) (HEq.refl (h_v84 V))) (ofBuf_of (.of main_call5_v2 : StableHlo.TRef sig ⟨S32x8, .i32⟩) (HEq.refl (h_call5_v2 V)))

end Cert.KernelIdeal.Own

end
-- ==== Proof.HostVals4.lean ====
/- What the host operations before the Pallas call leave in each buffer, one equation per operation. -/
module

public import proofs.«01_k».proof.Proof.HostDefs
public import proofs.«01_k».proof.Proof.Ssa

@[expose] public section

set_option maxRecDepth 8000
set_option maxHeartbeats 2000000

noncomputable section

namespace Cert.KernelIdeal.Own

open Idealize.ShloMosaic Idealize.ShloMosaic.TcCoe Idealize.SL.Sem Cert.Own Cert.KernelIdeal.Gen

variable {F : FTy → Type} [FloatOps F]

local notation "𝕍" => Valuation τ sig (Elt F)

theorem h_call5_v3_eq (V : 𝕍) : h_call5_v3 V = id (h_c_24 V) :=
  readT1 host_writes host_nodup V 144 (in_hostOps0_11 (in_seg 3 rfl)) rfl (by decide +kernel) (ofBuf_of (.of main_c_24 : StableHlo.TRef sig ⟨S_, .i32⟩) (HEq.refl (h_c_24 V))) (ofBuf_of (.of main_call5_v3 : StableHlo.TRef sig ⟨S_, .i32⟩) (HEq.refl (h_call5_v3 V)))

theorem h_call5_v4_eq (V : 𝕍) : h_call5_v4 V = ((broadcastInDim S32x8 ![] bcast_S_S32x8) : (⟨S_, .i32⟩ : BufTy).Contents (Elt F) → (⟨S32x8, .i32⟩ : BufTy).Contents (Elt F)) (h_call5_v3 V) := by
  have h := read1 host_writes host_nodup V 145 (y := main_call5_v4) (in_hostOps0_11 (in_seg 4 rfl)) rfl (by decide +kernel)
  unfold h_call5_v4 h_call5_v3
  exact h

theorem h_v85_eq (V : 𝕍) : h_v85 V = minsi (h_call5_v4 V) (h_call5_v2 V) :=
  readT2 host_writes host_nodup V 146 (in_hostOps0_11 (in_seg 5 rfl)) rfl (by decide +kernel) (ofBuf_of (.of main_call5_v4 : StableHlo.TRef sig ⟨S32x8, .i32⟩) (HEq.refl (h_call5_v4 V))) (ofBuf_of (.of main_call5_v2 : StableHlo.TRef sig ⟨S32x8, .i32⟩) (HEq.refl (h_call5_v2 V))) (ofBuf_of (.of main_v85 : StableHlo.TRef sig ⟨S32x8, .i32⟩) (HEq.refl (h_v85 V)))

theorem h_v86_eq (V : 𝕍) : h_v86 V = (iotaInDim S8 32 0) := by
  have h := read0 host_writes host_nodup V 147 (y := main_v86) (in_hostOps0_12 (in_seg 0 rfl)) rfl (by decide +kernel)
  unfold h_v86
  exact h

theorem h_v87_eq (V : 𝕍) : h_v87 V = ((broadcastInDim S1x8 ![1] bcast_S8_S1x8_1) : (⟨S8, .i32⟩ : BufTy).Contents (Elt F) → (⟨S1x8, .i32⟩ : BufTy).Contents (Elt F)) (h_v86 V) := by
  have h := read1 host_writes host_nodup V 148 (y := main_v87) (in_hostOps0_12 (in_seg 1 rfl)) rfl (by decide +kernel)
  unfold h_v87 h_v86
  exact h

theorem h_v88_eq (V : 𝕍) : h_v88 V = ((broadcastInDim S32x8 ![0, 1] bcast_S1x8_S32x8_0_1) : (⟨S1x8, .i32⟩ : BufTy).Contents (Elt F) → (⟨S32x8, .i32⟩ : BufTy).Contents (Elt F)) (h_v87 V) := by
  have h := read1 host_writes host_nodup V 149 (y := main_v88) (in_hostOps0_12 (in_seg 2 rfl)) rfl (by decide +kernel)
  unfold h_v88 h_v87
  exact h

theorem h_v89_eq (V : 𝕍) : h_v89 V = ((broadcastInDim S32x8 ![0, 1] bcast_S32x1_S32x8_0_1) : (⟨S32x1, .i32⟩ : BufTy).Contents (Elt F) → (⟨S32x8, .i32⟩ : BufTy).Contents (Elt F)) (h_v62 V) := by
  have h := read1 host_writes host_nodup V 150 (y := main_v89) (in_hostOps0_12 (in_seg 3 rfl)) rfl (by decide +kernel)
  unfold h_v89 h_v62
  exact h

theorem h_v90_eq (V : 𝕍) : h_v90 V = shapeCast S256 (h_v77 V) shapeCasts_S32x8_S256 := by
  have h := readR host_writes host_nodup V 151 (y := main_v90) (in_hostOps0_12 (in_seg 4 rfl)) rfl (by decide +kernel)
  unfold h_v90 h_v77
  exact h

theorem h_call6_v0_eq (V : 𝕍) : h_call6_v0 V = ((extui 32 · natLt_1_32) : (⟨S256, .i1⟩ : BufTy).Contents (Elt F) → (⟨S256, .i32⟩ : BufTy).Contents (Elt F)) (h_v90 V) :=
  readT1 host_writes host_nodup V 152 (in_hostOps0_13 (in_seg 0 rfl)) rfl (by decide +kernel) (ofBuf_of (.of main_v90 : StableHlo.TRef sig ⟨S256, .i1⟩) (HEq.refl (h_v90 V))) (ofBuf_of (.of main_call6_v0 : StableHlo.TRef sig ⟨S256, .i32⟩) (HEq.refl (h_call6_v0 V)))

theorem h_call6_call0_c_eq (V : 𝕍) : h_call6_call0_c V = (constantI S_ 32 0#32) := by
  have h := read0 host_writes host_nodup V 153 (y := main_call6_call0_c) (in_hostOps0_13 (in_seg 1 rfl)) rfl (by decide +kernel)
  unfold h_call6_call0_c
  exact h

theorem h_call6_call0_v0_eq (V : 𝕍) : h_call6_call0_v0 V = ((broadcastInDim S_ ![] bcast_S_S_) : (⟨S_, .i32⟩ : BufTy).Contents (Elt F) → (⟨S_, .i32⟩ : BufTy).Contents (Elt F)) (h_call6_call0_c V) := by
  have h := read1 host_writes host_nodup V 154 (y := main_call6_call0_v0) (in_hostOps0_13 (in_seg 2 rfl)) rfl (by decide +kernel)
  unfold h_call6_call0_v0 h_call6_call0_c
  exact h

theorem h_v91_eq (V : 𝕍) : h_v91 V = ((fun x v => Host.reduceWindow IntOp.addi ![256] ![1] ![255] ![0] x v reduceWindows_S256_S256_w256s1p255_0 h_S_) : (⟨S256, .i32⟩ : BufTy).Contents (Elt F) → (⟨S_, .i32⟩ : BufTy).Contents (Elt F) → (⟨S256, .i32⟩ : BufTy).Contents (Elt F)) (h_call6_v0 V) (h_call6_call0_v0 V) :=
  readT2 host_writes host_nodup V 155 (in_hostOps0_13 (in_seg 3 rfl)) rfl (by decide +kernel) (ofBuf_of (.of main_call6_v0 : StableHlo.TRef sig ⟨S256, .i32⟩) (HEq.refl (h_call6_v0 V))) (ofBuf_of (.of main_call6_call0_v0 : StableHlo.TRef sig ⟨S_, .i32⟩) (HEq.refl (h_call6_call0_v0 V))) (ofBuf_of (.of main_v91 : StableHlo.TRef sig ⟨S256, .i32⟩) (HEq.refl (h_v91 V)))

theorem h_c_25_eq (V : 𝕍) : h_c_25 V = (constantI S_ 32 1#32) := by
  have h := read0 host_writes host_nodup V 156 (y := main_c_25) (in_hostOps0_14 (in_seg 0 rfl)) rfl (by decide +kernel)
  unfold h_c_25
  exact h

theorem h_v92_eq (V : 𝕍) : h_v92 V = ((broadcastInDim S256 ![] bcast_S_S256) : (⟨S_, .i32⟩ : BufTy).Contents (Elt F) → (⟨S256, .i32⟩ : BufTy).Contents (Elt F)) (h_c_25 V) := by
  have h := read1 host_writes host_nodup V 157 (y := main_v92) (in_hostOps0_14 (in_seg 1 rfl)) rfl (by decide +kernel)
  unfold h_v92 h_c_25
  exact h

theorem h_v93_eq (V : 𝕍) : h_v93 V = (subi : (⟨S256, .i32⟩ : BufTy).Contents (Elt F) → (⟨S256, .i32⟩ : BufTy).Contents (Elt F) → (⟨S256, .i32⟩ : BufTy).Contents (Elt F)) (h_v91 V) (h_v92 V) := by
  have h := read2 host_writes host_nodup V 158 (y := main_v93) (in_hostOps0_14 (in_seg 2 rfl)) rfl (by decide +kernel)
  unfold h_v93 h_v91 h_v92
  exact h

theorem h_c_26_eq (V : 𝕍) : h_c_26 V = (constantI S_ 32 40#32) := by
  have h := read0 host_writes host_nodup V 159 (y := main_c_26) (in_hostOps0_14 (in_seg 3 rfl)) rfl (by decide +kernel)
  unfold h_c_26
  exact h

theorem h_call7_v0_eq (V : 𝕍) : h_call7_v0 V = id (h_c_26 V) :=
  readT1 host_writes host_nodup V 160 (in_hostOps0_15 (in_seg 0 rfl)) rfl (by decide +kernel) (ofBuf_of (.of main_c_26 : StableHlo.TRef sig ⟨S_, .i32⟩) (HEq.refl (h_c_26 V))) (ofBuf_of (.of main_call7_v0 : StableHlo.TRef sig ⟨S_, .i32⟩) (HEq.refl (h_call7_v0 V)))

theorem h_call7_v1_eq (V : 𝕍) : h_call7_v1 V = ((broadcastInDim S256 ![] bcast_S_S256) : (⟨S_, .i32⟩ : BufTy).Contents (Elt F) → (⟨S256, .i32⟩ : BufTy).Contents (Elt F)) (h_call7_v0 V) := by
  have h := read1 host_writes host_nodup V 161 (y := main_call7_v1) (in_hostOps0_15 (in_seg 1 rfl)) rfl (by decide +kernel)
  unfold h_call7_v1 h_call7_v0
  exact h

theorem h_v94_eq (V : 𝕍) : h_v94 V = select (h_v90 V) (h_v93 V) (h_call7_v1 V) :=
  readT3 host_writes host_nodup V 162 (in_hostOps0_15 (in_seg 2 rfl)) rfl (by decide +kernel) (ofBuf_of (.of main_v90 : StableHlo.TRef sig ⟨S256, .i1⟩) (HEq.refl (h_v90 V))) (ofBuf_of (.of main_v93 : StableHlo.TRef sig ⟨S256, .i32⟩) (HEq.refl (h_v93 V))) (ofBuf_of (.of main_call7_v1 : StableHlo.TRef sig ⟨S256, .i32⟩) (HEq.refl (h_call7_v1 V))) (ofBuf_of (.of main_v94 : StableHlo.TRef sig ⟨S256, .i32⟩) (HEq.refl (h_v94 V)))

theorem h_v95_eq (V : 𝕍) : h_v95 V = ((extui 32 · natLt_1_32) : (⟨S256, .i1⟩ : BufTy).Contents (Elt F) → (⟨S256, .i32⟩ : BufTy).Contents (Elt F)) (h_v90 V) := by
  have h := read1 host_writes host_nodup V 163 (y := main_v95) (in_hostOps0_16 (in_seg 0 rfl)) rfl (by decide +kernel)
  unfold h_v95 h_v90
  exact h

theorem h_c_27_eq (V : 𝕍) : h_c_27 V = (constantI S_ 32 0#32) := by
  have h := read0 host_writes host_nodup V 164 (y := main_c_27) (in_hostOps0_16 (in_seg 1 rfl)) rfl (by decide +kernel)
  unfold h_c_27
  exact h

theorem h_v96_eq (V : 𝕍) : h_v96 V = ((fun x v => Host.reduce IntOp.addi x v reducesTo_S256_S_d0 h_S_) : (⟨S256, .i32⟩ : BufTy).Contents (Elt F) → (⟨S_, .i32⟩ : BufTy).Contents (Elt F) → (⟨S_, .i32⟩ : BufTy).Contents (Elt F)) (h_v95 V) (h_c_27 V) := by
  have h := read2 host_writes host_nodup V 165 (y := main_v96) (in_hostOps0_16 (in_seg 2 rfl)) rfl (by decide +kernel)
  unfold h_v96 h_v95 h_c_27
  exact h

theorem h_c_28_eq (V : 𝕍) : h_c_28 V = (constantI S_ 32 0#32) := by
  have h := read0 host_writes host_nodup V 166 (y := main_c_28) (in_hostOps0_16 (in_seg 3 rfl)) rfl (by decide +kernel)
  unfold h_c_28
  exact h

theorem h_v97_eq (V : 𝕍) : h_v97 V = ((broadcastInDim S39 ![] bcast_S_S39) : (⟨S_, .i32⟩ : BufTy).Contents (Elt F) → (⟨S39, .i32⟩ : BufTy).Contents (Elt F)) (h_c_28 V) := by
  have h := read1 host_writes host_nodup V 167 (y := main_v97) (in_hostOps0_16 (in_seg 4 rfl)) rfl (by decide +kernel)
  unfold h_v97 h_c_28
  exact h

theorem h_v98_eq (V : 𝕍) : h_v98 V = shapeCast S256 (h_v89 V) shapeCasts_S32x8_S256 := by
  have h := readR host_writes host_nodup V 168 (y := main_v98) (in_hostOps0_16 (in_seg 5 rfl)) rfl (by decide +kernel)
  unfold h_v98 h_v89
  exact h

theorem h_c_29_eq (V : 𝕍) : h_c_29 V = (constantI S_ 32 0#32) := by
  have h := read0 host_writes host_nodup V 169 (y := main_c_29) (in_hostOps0_16 (in_seg 6 rfl)) rfl (by decide +kernel)
  unfold h_c_29
  exact h

theorem h_v99_eq (V : 𝕍) : h_v99 V = ((broadcastInDim S256 ![] bcast_S_S256) : (⟨S_, .i32⟩ : BufTy).Contents (Elt F) → (⟨S256, .i32⟩ : BufTy).Contents (Elt F)) (h_c_29 V) := by
  have h := read1 host_writes host_nodup V 170 (y := main_v99) (in_hostOps0_16 (in_seg 7 rfl)) rfl (by decide +kernel)
  unfold h_v99 h_c_29
  exact h

theorem h_v100_eq (V : 𝕍) : h_v100 V = ((cmpi .slt) : (⟨S256, .i32⟩ : BufTy).Contents (Elt F) → (⟨S256, .i32⟩ : BufTy).Contents (Elt F) → (⟨S256, .i1⟩ : BufTy).Contents (Elt F)) (h_v94 V) (h_v99 V) := by
  have h := read2 host_writes host_nodup V 171 (y := main_v100) (in_hostOps0_16 (in_seg 8 rfl)) rfl (by decide +kernel)
  unfold h_v100 h_v94 h_v99
  exact h

theorem h_c_30_eq (V : 𝕍) : h_c_30 V = (constantI S_ 32 39#32) := by
  have h := read0 host_writes host_nodup V 172 (y := main_c_30) (in_hostOps0_16 (in_seg 9 rfl)) rfl (by decide +kernel)
  unfold h_c_30
  exact h

theorem h_v101_eq (V : 𝕍) : h_v101 V = ((broadcastInDim S256 ![] bcast_S_S256) : (⟨S_, .i32⟩ : BufTy).Contents (Elt F) → (⟨S256, .i32⟩ : BufTy).Contents (Elt F)) (h_c_30 V) := by
  have h := read1 host_writes host_nodup V 173 (y := main_v101) (in_hostOps0_16 (in_seg 10 rfl)) rfl (by decide +kernel)
  unfold h_v101 h_c_30
  exact h

theorem h_v102_eq (V : 𝕍) : h_v102 V = (addi : (⟨S256, .i32⟩ : BufTy).Contents (Elt F) → (⟨S256, .i32⟩ : BufTy).Contents (Elt F) → (⟨S256, .i32⟩ : BufTy).Contents (Elt F)) (h_v94 V) (h_v101 V) := by
  have h := read2 host_writes host_nodup V 174 (y := main_v102) (in_hostOps0_16 (in_seg 11 rfl)) rfl (by decide +kernel)
  unfold h_v102 h_v94 h_v101
  exact h

theorem h_v103_eq (V : 𝕍) : h_v103 V = (select : (⟨S256, .i1⟩ : BufTy).Contents (Elt F) → (⟨S256, .i32⟩ : BufTy).Contents (Elt F) → (⟨S256, .i32⟩ : BufTy).Contents (Elt F) → (⟨S256, .i32⟩ : BufTy).Contents (Elt F)) (h_v100 V) (h_v102 V) (h_v94 V) := by
  have h := read3 host_writes host_nodup V 175 (y := main_v103) (in_hostOps0_16 (in_seg 12 rfl)) rfl (by decide +kernel)
  unfold h_v103 h_v100 h_v102 h_v94
  exact h

theorem h_v104_eq (V : 𝕍) : h_v104 V = ((broadcastInDim S256x1 ![0] bcast_S256_S256x1_0) : (⟨S256, .i32⟩ : BufTy).Contents (Elt F) → (⟨S256x1, .i32⟩ : BufTy).Contents (Elt F)) (h_v103 V) := by
  have h := read1 host_writes host_nodup V 176 (y := main_v104) (in_hostOps0_16 (in_seg 13 rfl)) rfl (by decide +kernel)
  unfold h_v104 h_v103
  exact h

theorem h_v105_eq (V : 𝕍) : h_v105 V = ((fun x i u => Host.scatter scatter_S39_S256x1_S256_n_0_0_1 (fun _ b => b) x i u) : (⟨S39, .i32⟩ : BufTy).Contents (Elt F) → (⟨S256x1, .i32⟩ : BufTy).Contents (Elt F) → (⟨S256, .i32⟩ : BufTy).Contents (Elt F) → (⟨S39, .i32⟩ : BufTy).Contents (Elt F)) (h_v97 V) (h_v104 V) (h_v98 V) := by
  have h := read3 host_writes host_nodup V 177 (y := main_v105) (in_hostOps0_16 (in_seg 14 rfl)) rfl (by decide +kernel)
  unfold h_v105 h_v97 h_v104 h_v98
  exact h

theorem h_v106_eq (V : 𝕍) : h_v106 V = (iotaInDim S39 32 0) := by
  have h := read0 host_writes host_nodup V 178 (y := main_v106) (in_hostOps0_16 (in_seg 15 rfl)) rfl (by decide +kernel)
  unfold h_v106
  exact h

theorem h_c_31_eq (V : 𝕍) : h_c_31 V = (constantI S_ 32 1#32) := by
  have h := read0 host_writes host_nodup V 179 (y := main_c_31) (in_hostOps0_16 (in_seg 16 rfl)) rfl (by decide +kernel)
  unfold h_c_31
  exact h

theorem h_v107_eq (V : 𝕍) : h_v107 V = (subi : (⟨S_, .i32⟩ : BufTy).Contents (Elt F) → (⟨S_, .i32⟩ : BufTy).Contents (Elt F) → (⟨S_, .i32⟩ : BufTy).Contents (Elt F)) (h_v96 V) (h_c_31 V) := by
  have h := read2 host_writes host_nodup V 180 (y := main_v107) (in_hostOps0_16 (in_seg 17 rfl)) rfl (by decide +kernel)
  unfold h_v107 h_v96 h_c_31
  exact h

theorem h_v108_eq (V : 𝕍) : h_v108 V = ((broadcastInDim S39 ![] bcast_S_S39) : (⟨S_, .i32⟩ : BufTy).Contents (Elt F) → (⟨S39, .i32⟩ : BufTy).Contents (Elt F)) (h_v107 V) := by
  have h := read1 host_writes host_nodup V 181 (y := main_v108) (in_hostOps0_16 (in_seg 18 rfl)) rfl (by decide +kernel)
  unfold h_v108 h_v107
  exact h

theorem h_v109_eq (V : 𝕍) : h_v109 V = (minsi : (⟨S39, .i32⟩ : BufTy).Contents (Elt F) → (⟨S39, .i32⟩ : BufTy).Contents (Elt F) → (⟨S39, .i32⟩ : BufTy).Contents (Elt F)) (h_v106 V) (h_v108 V) := by
  have h := read2 host_writes host_nodup V 182 (y := main_v109) (in_hostOps0_16 (in_seg 19 rfl)) rfl (by decide +kernel)
  unfold h_v109 h_v106 h_v108
  exact h

theorem h_c_32_eq (V : 𝕍) : h_c_32 V = (constantI S_ 32 0#32) := by
  have h := read0 host_writes host_nodup V 183 (y := main_c_32) (in_hostOps0_16 (in_seg 20 rfl)) rfl (by decide +kernel)
  unfold h_c_32
  exact h

theorem h_v110_eq (V : 𝕍) : h_v110 V = ((broadcastInDim S39 ![] bcast_S_S39) : (⟨S_, .i32⟩ : BufTy).Contents (Elt F) → (⟨S39, .i32⟩ : BufTy).Contents (Elt F)) (h_c_32 V) := by
  have h := read1 host_writes host_nodup V 184 (y := main_v110) (in_hostOps0_16 (in_seg 21 rfl)) rfl (by decide +kernel)
  unfold h_v110 h_c_32
  exact h

theorem h_v111_eq (V : 𝕍) : h_v111 V = ((cmpi .slt) : (⟨S39, .i32⟩ : BufTy).Contents (Elt F) → (⟨S39, .i32⟩ : BufTy).Contents (Elt F) → (⟨S39, .i1⟩ : BufTy).Contents (Elt F)) (h_v109 V) (h_v110 V) := by
  have h := read2 host_writes host_nodup V 185 (y := main_v111) (in_hostOps0_16 (in_seg 22 rfl)) rfl (by decide +kernel)
  unfold h_v111 h_v109 h_v110
  exact h

theorem h_c_33_eq (V : 𝕍) : h_c_33 V = (constantI S_ 32 39#32) := by
  have h := read0 host_writes host_nodup V 186 (y := main_c_33) (in_hostOps0_16 (in_seg 23 rfl)) rfl (by decide +kernel)
  unfold h_c_33
  exact h

theorem h_v112_eq (V : 𝕍) : h_v112 V = ((broadcastInDim S39 ![] bcast_S_S39) : (⟨S_, .i32⟩ : BufTy).Contents (Elt F) → (⟨S39, .i32⟩ : BufTy).Contents (Elt F)) (h_c_33 V) := by
  have h := read1 host_writes host_nodup V 187 (y := main_v112) (in_hostOps0_16 (in_seg 24 rfl)) rfl (by decide +kernel)
  unfold h_v112 h_c_33
  exact h

theorem h_v113_eq (V : 𝕍) : h_v113 V = (addi : (⟨S39, .i32⟩ : BufTy).Contents (Elt F) → (⟨S39, .i32⟩ : BufTy).Contents (Elt F) → (⟨S39, .i32⟩ : BufTy).Contents (Elt F)) (h_v109 V) (h_v112 V) := by
  have h := read2 host_writes host_nodup V 188 (y := main_v113) (in_hostOps0_16 (in_seg 25 rfl)) rfl (by decide +kernel)
  unfold h_v113 h_v109 h_v112
  exact h

theorem h_v114_eq (V : 𝕍) : h_v114 V = (select : (⟨S39, .i1⟩ : BufTy).Contents (Elt F) → (⟨S39, .i32⟩ : BufTy).Contents (Elt F) → (⟨S39, .i32⟩ : BufTy).Contents (Elt F) → (⟨S39, .i32⟩ : BufTy).Contents (Elt F)) (h_v111 V) (h_v113 V) (h_v109 V) := by
  have h := read3 host_writes host_nodup V 189 (y := main_v114) (in_hostOps0_16 (in_seg 26 rfl)) rfl (by decide +kernel)
  unfold h_v114 h_v111 h_v113 h_v109
  exact h

theorem h_v115_eq (V : 𝕍) : h_v115 V = ((broadcastInDim S39x1 ![0] bcast_S39_S39x1_0) : (⟨S39, .i32⟩ : BufTy).Contents (Elt F) → (⟨S39x1, .i32⟩ : BufTy).Contents (Elt F)) (h_v114 V) := by
  have h := read1 host_writes host_nodup V 190 (y := main_v115) (in_hostOps0_16 (in_seg 27 rfl)) rfl (by decide +kernel)
  unfold h_v115 h_v114
  exact h

theorem h_v116_eq (V : 𝕍) : h_v116 V = ((fun x i => Host.gather gather_S39_S39x1_S39_n_0_n_n_0_1_1 x i) : (⟨S39, .i32⟩ : BufTy).Contents (Elt F) → (⟨S39x1, .i32⟩ : BufTy).Contents (Elt F) → (⟨S39, .i32⟩ : BufTy).Contents (Elt F)) (h_v105 V) (h_v115 V) := by
  have h := read2 host_writes host_nodup V 191 (y := main_v116) (in_hostOps0_16 (in_seg 28 rfl)) rfl (by decide +kernel)
  unfold h_v116 h_v105 h_v115
  exact h

end Cert.KernelIdeal.Own

end
-- ==== Proof.HostVals5.lean ====
/- What the host operations before the Pallas call leave in each buffer, one equation per operation. -/
module

public import proofs.«01_k».proof.Proof.HostDefs
public import proofs.«01_k».proof.Proof.Ssa

@[expose] public section

set_option maxRecDepth 8000

noncomputable section

namespace Cert.KernelIdeal.Own

open Idealize.ShloMosaic Idealize.ShloMosaic.TcCoe Idealize.SL.Sem Cert.Own Cert.KernelIdeal.Gen

variable {F : FTy → Type} [FloatOps F]

local notation "𝕍" => Valuation τ sig (Elt F)

theorem h_c_34_eq (V : 𝕍) : h_c_34 V = (constantI S_ 32 0#32) := by
  have h := read0 host_writes host_nodup V 192 (y := main_c_34) (in_hostOps0_16 (in_seg 29 rfl)) rfl (by decide +kernel)
  unfold h_c_34
  exact h

theorem h_v117_eq (V : 𝕍) : h_v117 V = ((broadcastInDim S39 ![] bcast_S_S39) : (⟨S_, .i32⟩ : BufTy).Contents (Elt F) → (⟨S39, .i32⟩ : BufTy).Contents (Elt F)) (h_c_34 V) := by
  have h := read1 host_writes host_nodup V 193 (y := main_v117) (in_hostOps0_16 (in_seg 30 rfl)) rfl (by decide +kernel)
  unfold h_v117 h_c_34
  exact h

theorem h_v118_eq (V : 𝕍) : h_v118 V = shapeCast S256 (h_v88 V) shapeCasts_S32x8_S256 := by
  have h := readR host_writes host_nodup V 194 (y := main_v118) (in_hostOps0_16 (in_seg 31 rfl)) rfl (by decide +kernel)
  unfold h_v118 h_v88
  exact h

theorem h_c_35_eq (V : 𝕍) : h_c_35 V = (constantI S_ 32 0#32) := by
  have h := read0 host_writes host_nodup V 195 (y := main_c_35) (in_hostOps0_16 (in_seg 32 rfl)) rfl (by decide +kernel)
  unfold h_c_35
  exact h

theorem h_v119_eq (V : 𝕍) : h_v119 V = ((broadcastInDim S256 ![] bcast_S_S256) : (⟨S_, .i32⟩ : BufTy).Contents (Elt F) → (⟨S256, .i32⟩ : BufTy).Contents (Elt F)) (h_c_35 V) := by
  have h := read1 host_writes host_nodup V 196 (y := main_v119) (in_hostOps0_16 (in_seg 33 rfl)) rfl (by decide +kernel)
  unfold h_v119 h_c_35
  exact h

theorem h_v120_eq (V : 𝕍) : h_v120 V = ((cmpi .slt) : (⟨S256, .i32⟩ : BufTy).Contents (Elt F) → (⟨S256, .i32⟩ : BufTy).Contents (Elt F) → (⟨S256, .i1⟩ : BufTy).Contents (Elt F)) (h_v94 V) (h_v119 V) := by
  have h := read2 host_writes host_nodup V 197 (y := main_v120) (in_hostOps0_16 (in_seg 34 rfl)) rfl (by decide +kernel)
  unfold h_v120 h_v94 h_v119
  exact h

theorem h_c_36_eq (V : 𝕍) : h_c_36 V = (constantI S_ 32 39#32) := by
  have h := read0 host_writes host_nodup V 198 (y := main_c_36) (in_hostOps0_16 (in_seg 35 rfl)) rfl (by decide +kernel)
  unfold h_c_36
  exact h

theorem h_v121_eq (V : 𝕍) : h_v121 V = ((broadcastInDim S256 ![] bcast_S_S256) : (⟨S_, .i32⟩ : BufTy).Contents (Elt F) → (⟨S256, .i32⟩ : BufTy).Contents (Elt F)) (h_c_36 V) := by
  have h := read1 host_writes host_nodup V 199 (y := main_v121) (in_hostOps0_16 (in_seg 36 rfl)) rfl (by decide +kernel)
  unfold h_v121 h_c_36
  exact h

theorem h_v122_eq (V : 𝕍) : h_v122 V = (addi : (⟨S256, .i32⟩ : BufTy).Contents (Elt F) → (⟨S256, .i32⟩ : BufTy).Contents (Elt F) → (⟨S256, .i32⟩ : BufTy).Contents (Elt F)) (h_v94 V) (h_v121 V) := by
  have h := read2 host_writes host_nodup V 200 (y := main_v122) (in_hostOps0_16 (in_seg 37 rfl)) rfl (by decide +kernel)
  unfold h_v122 h_v94 h_v121
  exact h

theorem h_v123_eq (V : 𝕍) : h_v123 V = (select : (⟨S256, .i1⟩ : BufTy).Contents (Elt F) → (⟨S256, .i32⟩ : BufTy).Contents (Elt F) → (⟨S256, .i32⟩ : BufTy).Contents (Elt F) → (⟨S256, .i32⟩ : BufTy).Contents (Elt F)) (h_v120 V) (h_v122 V) (h_v94 V) := by
  have h := read3 host_writes host_nodup V 201 (y := main_v123) (in_hostOps0_16 (in_seg 38 rfl)) rfl (by decide +kernel)
  unfold h_v123 h_v120 h_v122 h_v94
  exact h

theorem h_v124_eq (V : 𝕍) : h_v124 V = ((broadcastInDim S256x1 ![0] bcast_S256_S256x1_0) : (⟨S256, .i32⟩ : BufTy).Contents (Elt F) → (⟨S256x1, .i32⟩ : BufTy).Contents (Elt F)) (h_v123 V) := by
  have h := read1 host_writes host_nodup V 202 (y := main_v124) (in_hostOps0_16 (in_seg 39 rfl)) rfl (by decide +kernel)
  unfold h_v124 h_v123
  exact h

theorem h_v125_eq (V : 𝕍) : h_v125 V = ((fun x i u => Host.scatter scatter_S39_S256x1_S256_n_0_0_1 (fun _ b => b) x i u) : (⟨S39, .i32⟩ : BufTy).Contents (Elt F) → (⟨S256x1, .i32⟩ : BufTy).Contents (Elt F) → (⟨S256, .i32⟩ : BufTy).Contents (Elt F) → (⟨S39, .i32⟩ : BufTy).Contents (Elt F)) (h_v117 V) (h_v124 V) (h_v118 V) := by
  have h := read3 host_writes host_nodup V 203 (y := main_v125) (in_hostOps0_16 (in_seg 40 rfl)) rfl (by decide +kernel)
  unfold h_v125 h_v117 h_v124 h_v118
  exact h

theorem h_v126_eq (V : 𝕍) : h_v126 V = (iotaInDim S39 32 0) := by
  have h := read0 host_writes host_nodup V 204 (y := main_v126) (in_hostOps0_16 (in_seg 41 rfl)) rfl (by decide +kernel)
  unfold h_v126
  exact h

theorem h_c_37_eq (V : 𝕍) : h_c_37 V = (constantI S_ 32 1#32) := by
  have h := read0 host_writes host_nodup V 205 (y := main_c_37) (in_hostOps0_16 (in_seg 42 rfl)) rfl (by decide +kernel)
  unfold h_c_37
  exact h

theorem h_v127_eq (V : 𝕍) : h_v127 V = (subi : (⟨S_, .i32⟩ : BufTy).Contents (Elt F) → (⟨S_, .i32⟩ : BufTy).Contents (Elt F) → (⟨S_, .i32⟩ : BufTy).Contents (Elt F)) (h_v96 V) (h_c_37 V) := by
  have h := read2 host_writes host_nodup V 206 (y := main_v127) (in_hostOps0_16 (in_seg 43 rfl)) rfl (by decide +kernel)
  unfold h_v127 h_v96 h_c_37
  exact h

theorem h_v128_eq (V : 𝕍) : h_v128 V = ((broadcastInDim S39 ![] bcast_S_S39) : (⟨S_, .i32⟩ : BufTy).Contents (Elt F) → (⟨S39, .i32⟩ : BufTy).Contents (Elt F)) (h_v127 V) := by
  have h := read1 host_writes host_nodup V 207 (y := main_v128) (in_hostOps0_16 (in_seg 44 rfl)) rfl (by decide +kernel)
  unfold h_v128 h_v127
  exact h

theorem h_v129_eq (V : 𝕍) : h_v129 V = (minsi : (⟨S39, .i32⟩ : BufTy).Contents (Elt F) → (⟨S39, .i32⟩ : BufTy).Contents (Elt F) → (⟨S39, .i32⟩ : BufTy).Contents (Elt F)) (h_v126 V) (h_v128 V) := by
  have h := read2 host_writes host_nodup V 208 (y := main_v129) (in_hostOps0_16 (in_seg 45 rfl)) rfl (by decide +kernel)
  unfold h_v129 h_v126 h_v128
  exact h

theorem h_c_38_eq (V : 𝕍) : h_c_38 V = (constantI S_ 32 0#32) := by
  have h := read0 host_writes host_nodup V 209 (y := main_c_38) (in_hostOps0_16 (in_seg 46 rfl)) rfl (by decide +kernel)
  unfold h_c_38
  exact h

theorem h_v130_eq (V : 𝕍) : h_v130 V = ((broadcastInDim S39 ![] bcast_S_S39) : (⟨S_, .i32⟩ : BufTy).Contents (Elt F) → (⟨S39, .i32⟩ : BufTy).Contents (Elt F)) (h_c_38 V) := by
  have h := read1 host_writes host_nodup V 210 (y := main_v130) (in_hostOps0_16 (in_seg 47 rfl)) rfl (by decide +kernel)
  unfold h_v130 h_c_38
  exact h

theorem h_v131_eq (V : 𝕍) : h_v131 V = ((cmpi .slt) : (⟨S39, .i32⟩ : BufTy).Contents (Elt F) → (⟨S39, .i32⟩ : BufTy).Contents (Elt F) → (⟨S39, .i1⟩ : BufTy).Contents (Elt F)) (h_v129 V) (h_v130 V) := by
  have h := read2 host_writes host_nodup V 211 (y := main_v131) (in_hostOps0_16 (in_seg 48 rfl)) rfl (by decide +kernel)
  unfold h_v131 h_v129 h_v130
  exact h

theorem h_c_39_eq (V : 𝕍) : h_c_39 V = (constantI S_ 32 39#32) := by
  have h := read0 host_writes host_nodup V 212 (y := main_c_39) (in_hostOps0_16 (in_seg 49 rfl)) rfl (by decide +kernel)
  unfold h_c_39
  exact h

theorem h_v132_eq (V : 𝕍) : h_v132 V = ((broadcastInDim S39 ![] bcast_S_S39) : (⟨S_, .i32⟩ : BufTy).Contents (Elt F) → (⟨S39, .i32⟩ : BufTy).Contents (Elt F)) (h_c_39 V) := by
  have h := read1 host_writes host_nodup V 213 (y := main_v132) (in_hostOps0_16 (in_seg 50 rfl)) rfl (by decide +kernel)
  unfold h_v132 h_c_39
  exact h

theorem h_v133_eq (V : 𝕍) : h_v133 V = (addi : (⟨S39, .i32⟩ : BufTy).Contents (Elt F) → (⟨S39, .i32⟩ : BufTy).Contents (Elt F) → (⟨S39, .i32⟩ : BufTy).Contents (Elt F)) (h_v129 V) (h_v132 V) := by
  have h := read2 host_writes host_nodup V 214 (y := main_v133) (in_hostOps0_16 (in_seg 51 rfl)) rfl (by decide +kernel)
  unfold h_v133 h_v129 h_v132
  exact h

theorem h_v134_eq (V : 𝕍) : h_v134 V = (select : (⟨S39, .i1⟩ : BufTy).Contents (Elt F) → (⟨S39, .i32⟩ : BufTy).Contents (Elt F) → (⟨S39, .i32⟩ : BufTy).Contents (Elt F) → (⟨S39, .i32⟩ : BufTy).Contents (Elt F)) (h_v131 V) (h_v133 V) (h_v129 V) := by
  have h := read3 host_writes host_nodup V 215 (y := main_v134) (in_hostOps0_16 (in_seg 52 rfl)) rfl (by decide +kernel)
  unfold h_v134 h_v131 h_v133 h_v129
  exact h

theorem h_v135_eq (V : 𝕍) : h_v135 V = ((broadcastInDim S39x1 ![0] bcast_S39_S39x1_0) : (⟨S39, .i32⟩ : BufTy).Contents (Elt F) → (⟨S39x1, .i32⟩ : BufTy).Contents (Elt F)) (h_v134 V) := by
  have h := read1 host_writes host_nodup V 216 (y := main_v135) (in_hostOps0_16 (in_seg 53 rfl)) rfl (by decide +kernel)
  unfold h_v135 h_v134
  exact h

theorem h_v136_eq (V : 𝕍) : h_v136 V = ((fun x i => Host.gather gather_S39_S39x1_S39_n_0_n_n_0_1_1 x i) : (⟨S39, .i32⟩ : BufTy).Contents (Elt F) → (⟨S39x1, .i32⟩ : BufTy).Contents (Elt F) → (⟨S39, .i32⟩ : BufTy).Contents (Elt F)) (h_v125 V) (h_v135 V) := by
  have h := read2 host_writes host_nodup V 217 (y := main_v136) (in_hostOps0_16 (in_seg 54 rfl)) rfl (by decide +kernel)
  unfold h_v136 h_v125 h_v135
  exact h

theorem h_c_40_eq (V : 𝕍) : h_c_40 V = (constantI S_ 32 0#32) := by
  have h := read0 host_writes host_nodup V 218 (y := main_c_40) (in_hostOps0_16 (in_seg 55 rfl)) rfl (by decide +kernel)
  unfold h_c_40
  exact h

theorem h_v137_eq (V : 𝕍) : h_v137 V = ((broadcastInDim S39 ![] bcast_S_S39) : (⟨S_, .i32⟩ : BufTy).Contents (Elt F) → (⟨S39, .i32⟩ : BufTy).Contents (Elt F)) (h_c_40 V) := by
  have h := read1 host_writes host_nodup V 219 (y := main_v137) (in_hostOps0_16 (in_seg 56 rfl)) rfl (by decide +kernel)
  unfold h_v137 h_c_40
  exact h

theorem h_v138_eq (V : 𝕍) : h_v138 V = shapeCast S256 (h_v81 V) shapeCasts_S32x8_S256 := by
  have h := readR host_writes host_nodup V 220 (y := main_v138) (in_hostOps0_16 (in_seg 57 rfl)) rfl (by decide +kernel)
  unfold h_v138 h_v81
  exact h

theorem h_c_41_eq (V : 𝕍) : h_c_41 V = (constantI S_ 32 0#32) := by
  have h := read0 host_writes host_nodup V 221 (y := main_c_41) (in_hostOps0_16 (in_seg 58 rfl)) rfl (by decide +kernel)
  unfold h_c_41
  exact h

theorem h_v139_eq (V : 𝕍) : h_v139 V = ((broadcastInDim S256 ![] bcast_S_S256) : (⟨S_, .i32⟩ : BufTy).Contents (Elt F) → (⟨S256, .i32⟩ : BufTy).Contents (Elt F)) (h_c_41 V) := by
  have h := read1 host_writes host_nodup V 222 (y := main_v139) (in_hostOps0_16 (in_seg 59 rfl)) rfl (by decide +kernel)
  unfold h_v139 h_c_41
  exact h

theorem h_v140_eq (V : 𝕍) : h_v140 V = ((cmpi .slt) : (⟨S256, .i32⟩ : BufTy).Contents (Elt F) → (⟨S256, .i32⟩ : BufTy).Contents (Elt F) → (⟨S256, .i1⟩ : BufTy).Contents (Elt F)) (h_v94 V) (h_v139 V) := by
  have h := read2 host_writes host_nodup V 223 (y := main_v140) (in_hostOps0_16 (in_seg 60 rfl)) rfl (by decide +kernel)
  unfold h_v140 h_v94 h_v139
  exact h

theorem h_c_42_eq (V : 𝕍) : h_c_42 V = (constantI S_ 32 39#32) := by
  have h := read0 host_writes host_nodup V 224 (y := main_c_42) (in_hostOps0_16 (in_seg 61 rfl)) rfl (by decide +kernel)
  unfold h_c_42
  exact h

theorem h_v141_eq (V : 𝕍) : h_v141 V = ((broadcastInDim S256 ![] bcast_S_S256) : (⟨S_, .i32⟩ : BufTy).Contents (Elt F) → (⟨S256, .i32⟩ : BufTy).Contents (Elt F)) (h_c_42 V) := by
  have h := read1 host_writes host_nodup V 225 (y := main_v141) (in_hostOps0_16 (in_seg 62 rfl)) rfl (by decide +kernel)
  unfold h_v141 h_c_42
  exact h

theorem h_v142_eq (V : 𝕍) : h_v142 V = (addi : (⟨S256, .i32⟩ : BufTy).Contents (Elt F) → (⟨S256, .i32⟩ : BufTy).Contents (Elt F) → (⟨S256, .i32⟩ : BufTy).Contents (Elt F)) (h_v94 V) (h_v141 V) := by
  have h := read2 host_writes host_nodup V 226 (y := main_v142) (in_hostOps0_16 (in_seg 63 rfl)) rfl (by decide +kernel)
  unfold h_v142 h_v94 h_v141
  exact h

theorem h_v143_eq (V : 𝕍) : h_v143 V = (select : (⟨S256, .i1⟩ : BufTy).Contents (Elt F) → (⟨S256, .i32⟩ : BufTy).Contents (Elt F) → (⟨S256, .i32⟩ : BufTy).Contents (Elt F) → (⟨S256, .i32⟩ : BufTy).Contents (Elt F)) (h_v140 V) (h_v142 V) (h_v94 V) := by
  have h := read3 host_writes host_nodup V 227 (y := main_v143) (in_hostOps0_16 (in_seg 64 rfl)) rfl (by decide +kernel)
  unfold h_v143 h_v140 h_v142 h_v94
  exact h

theorem h_v144_eq (V : 𝕍) : h_v144 V = ((broadcastInDim S256x1 ![0] bcast_S256_S256x1_0) : (⟨S256, .i32⟩ : BufTy).Contents (Elt F) → (⟨S256x1, .i32⟩ : BufTy).Contents (Elt F)) (h_v143 V) := by
  have h := read1 host_writes host_nodup V 228 (y := main_v144) (in_hostOps0_16 (in_seg 65 rfl)) rfl (by decide +kernel)
  unfold h_v144 h_v143
  exact h

theorem h_v145_eq (V : 𝕍) : h_v145 V = ((fun x i u => Host.scatter scatter_S39_S256x1_S256_n_0_0_1 (fun _ b => b) x i u) : (⟨S39, .i32⟩ : BufTy).Contents (Elt F) → (⟨S256x1, .i32⟩ : BufTy).Contents (Elt F) → (⟨S256, .i32⟩ : BufTy).Contents (Elt F) → (⟨S39, .i32⟩ : BufTy).Contents (Elt F)) (h_v137 V) (h_v144 V) (h_v138 V) := by
  have h := read3 host_writes host_nodup V 229 (y := main_v145) (in_hostOps0_16 (in_seg 66 rfl)) rfl (by decide +kernel)
  unfold h_v145 h_v137 h_v144 h_v138
  exact h

theorem h_v146_eq (V : 𝕍) : h_v146 V = (iotaInDim S39 32 0) := by
  have h := read0 host_writes host_nodup V 230 (y := main_v146) (in_hostOps0_16 (in_seg 67 rfl)) rfl (by decide +kernel)
  unfold h_v146
  exact h

theorem h_c_43_eq (V : 𝕍) : h_c_43 V = (constantI S_ 32 1#32) := by
  have h := read0 host_writes host_nodup V 231 (y := main_c_43) (in_hostOps0_16 (in_seg 68 rfl)) rfl (by decide +kernel)
  unfold h_c_43
  exact h

theorem h_v147_eq (V : 𝕍) : h_v147 V = (subi : (⟨S_, .i32⟩ : BufTy).Contents (Elt F) → (⟨S_, .i32⟩ : BufTy).Contents (Elt F) → (⟨S_, .i32⟩ : BufTy).Contents (Elt F)) (h_v96 V) (h_c_43 V) := by
  have h := read2 host_writes host_nodup V 232 (y := main_v147) (in_hostOps0_16 (in_seg 69 rfl)) rfl (by decide +kernel)
  unfold h_v147 h_v96 h_c_43
  exact h

theorem h_v148_eq (V : 𝕍) : h_v148 V = ((broadcastInDim S39 ![] bcast_S_S39) : (⟨S_, .i32⟩ : BufTy).Contents (Elt F) → (⟨S39, .i32⟩ : BufTy).Contents (Elt F)) (h_v147 V) := by
  have h := read1 host_writes host_nodup V 233 (y := main_v148) (in_hostOps0_16 (in_seg 70 rfl)) rfl (by decide +kernel)
  unfold h_v148 h_v147
  exact h

theorem h_v149_eq (V : 𝕍) : h_v149 V = (minsi : (⟨S39, .i32⟩ : BufTy).Contents (Elt F) → (⟨S39, .i32⟩ : BufTy).Contents (Elt F) → (⟨S39, .i32⟩ : BufTy).Contents (Elt F)) (h_v146 V) (h_v148 V) := by
  have h := read2 host_writes host_nodup V 234 (y := main_v149) (in_hostOps0_16 (in_seg 71 rfl)) rfl (by decide +kernel)
  unfold h_v149 h_v146 h_v148
  exact h

theorem h_c_44_eq (V : 𝕍) : h_c_44 V = (constantI S_ 32 0#32) := by
  have h := read0 host_writes host_nodup V 235 (y := main_c_44) (in_hostOps0_16 (in_seg 72 rfl)) rfl (by decide +kernel)
  unfold h_c_44
  exact h

theorem h_v150_eq (V : 𝕍) : h_v150 V = ((broadcastInDim S39 ![] bcast_S_S39) : (⟨S_, .i32⟩ : BufTy).Contents (Elt F) → (⟨S39, .i32⟩ : BufTy).Contents (Elt F)) (h_c_44 V) := by
  have h := read1 host_writes host_nodup V 236 (y := main_v150) (in_hostOps0_16 (in_seg 73 rfl)) rfl (by decide +kernel)
  unfold h_v150 h_c_44
  exact h

theorem h_v151_eq (V : 𝕍) : h_v151 V = ((cmpi .slt) : (⟨S39, .i32⟩ : BufTy).Contents (Elt F) → (⟨S39, .i32⟩ : BufTy).Contents (Elt F) → (⟨S39, .i1⟩ : BufTy).Contents (Elt F)) (h_v149 V) (h_v150 V) := by
  have h := read2 host_writes host_nodup V 237 (y := main_v151) (in_hostOps0_16 (in_seg 74 rfl)) rfl (by decide +kernel)
  unfold h_v151 h_v149 h_v150
  exact h

theorem h_c_45_eq (V : 𝕍) : h_c_45 V = (constantI S_ 32 39#32) := by
  have h := read0 host_writes host_nodup V 238 (y := main_c_45) (in_hostOps0_16 (in_seg 75 rfl)) rfl (by decide +kernel)
  unfold h_c_45
  exact h

theorem h_v152_eq (V : 𝕍) : h_v152 V = ((broadcastInDim S39 ![] bcast_S_S39) : (⟨S_, .i32⟩ : BufTy).Contents (Elt F) → (⟨S39, .i32⟩ : BufTy).Contents (Elt F)) (h_c_45 V) := by
  have h := read1 host_writes host_nodup V 239 (y := main_v152) (in_hostOps0_16 (in_seg 76 rfl)) rfl (by decide +kernel)
  unfold h_v152 h_c_45
  exact h

theorem h_v153_eq (V : 𝕍) : h_v153 V = (addi : (⟨S39, .i32⟩ : BufTy).Contents (Elt F) → (⟨S39, .i32⟩ : BufTy).Contents (Elt F) → (⟨S39, .i32⟩ : BufTy).Contents (Elt F)) (h_v149 V) (h_v152 V) := by
  have h := read2 host_writes host_nodup V 240 (y := main_v153) (in_hostOps0_16 (in_seg 77 rfl)) rfl (by decide +kernel)
  unfold h_v153 h_v149 h_v152
  exact h

theorem h_v154_eq (V : 𝕍) : h_v154 V = (select : (⟨S39, .i1⟩ : BufTy).Contents (Elt F) → (⟨S39, .i32⟩ : BufTy).Contents (Elt F) → (⟨S39, .i32⟩ : BufTy).Contents (Elt F) → (⟨S39, .i32⟩ : BufTy).Contents (Elt F)) (h_v151 V) (h_v153 V) (h_v149 V) := by
  have h := read3 host_writes host_nodup V 241 (y := main_v154) (in_hostOps0_16 (in_seg 78 rfl)) rfl (by decide +kernel)
  unfold h_v154 h_v151 h_v153 h_v149
  exact h

theorem h_v155_eq (V : 𝕍) : h_v155 V = ((broadcastInDim S39x1 ![0] bcast_S39_S39x1_0) : (⟨S39, .i32⟩ : BufTy).Contents (Elt F) → (⟨S39x1, .i32⟩ : BufTy).Contents (Elt F)) (h_v154 V) := by
  have h := read1 host_writes host_nodup V 242 (y := main_v155) (in_hostOps0_16 (in_seg 79 rfl)) rfl (by decide +kernel)
  unfold h_v155 h_v154
  exact h

theorem h_v156_eq (V : 𝕍) : h_v156 V = ((fun x i => Host.gather gather_S39_S39x1_S39_n_0_n_n_0_1_1 x i) : (⟨S39, .i32⟩ : BufTy).Contents (Elt F) → (⟨S39x1, .i32⟩ : BufTy).Contents (Elt F) → (⟨S39, .i32⟩ : BufTy).Contents (Elt F)) (h_v145 V) (h_v155 V) := by
  have h := read2 host_writes host_nodup V 243 (y := main_v156) (in_hostOps0_16 (in_seg 80 rfl)) rfl (by decide +kernel)
  unfold h_v156 h_v145 h_v155
  exact h

theorem h_c_46_eq (V : 𝕍) : h_c_46 V = (constantI S_ 32 0#32) := by
  have h := read0 host_writes host_nodup V 244 (y := main_c_46) (in_hostOps0_16 (in_seg 81 rfl)) rfl (by decide +kernel)
  unfold h_c_46
  exact h

theorem h_v157_eq (V : 𝕍) : h_v157 V = ((broadcastInDim S39 ![] bcast_S_S39) : (⟨S_, .i32⟩ : BufTy).Contents (Elt F) → (⟨S39, .i32⟩ : BufTy).Contents (Elt F)) (h_c_46 V) := by
  have h := read1 host_writes host_nodup V 245 (y := main_v157) (in_hostOps0_16 (in_seg 82 rfl)) rfl (by decide +kernel)
  unfold h_v157 h_c_46
  exact h

theorem h_v158_eq (V : 𝕍) : h_v158 V = shapeCast S256 (h_v85 V) shapeCasts_S32x8_S256 := by
  have h := readR host_writes host_nodup V 246 (y := main_v158) (in_hostOps0_16 (in_seg 83 rfl)) rfl (by decide +kernel)
  unfold h_v158 h_v85
  exact h

theorem h_c_47_eq (V : 𝕍) : h_c_47 V = (constantI S_ 32 0#32) := by
  have h := read0 host_writes host_nodup V 247 (y := main_c_47) (in_hostOps0_16 (in_seg 84 rfl)) rfl (by decide +kernel)
  unfold h_c_47
  exact h

theorem h_v159_eq (V : 𝕍) : h_v159 V = ((broadcastInDim S256 ![] bcast_S_S256) : (⟨S_, .i32⟩ : BufTy).Contents (Elt F) → (⟨S256, .i32⟩ : BufTy).Contents (Elt F)) (h_c_47 V) := by
  have h := read1 host_writes host_nodup V 248 (y := main_v159) (in_hostOps0_16 (in_seg 85 rfl)) rfl (by decide +kernel)
  unfold h_v159 h_c_47
  exact h

theorem h_v160_eq (V : 𝕍) : h_v160 V = ((cmpi .slt) : (⟨S256, .i32⟩ : BufTy).Contents (Elt F) → (⟨S256, .i32⟩ : BufTy).Contents (Elt F) → (⟨S256, .i1⟩ : BufTy).Contents (Elt F)) (h_v94 V) (h_v159 V) := by
  have h := read2 host_writes host_nodup V 249 (y := main_v160) (in_hostOps0_16 (in_seg 86 rfl)) rfl (by decide +kernel)
  unfold h_v160 h_v94 h_v159
  exact h

theorem h_c_48_eq (V : 𝕍) : h_c_48 V = (constantI S_ 32 39#32) := by
  have h := read0 host_writes host_nodup V 250 (y := main_c_48) (in_hostOps0_16 (in_seg 87 rfl)) rfl (by decide +kernel)
  unfold h_c_48
  exact h

theorem h_v161_eq (V : 𝕍) : h_v161 V = ((broadcastInDim S256 ![] bcast_S_S256) : (⟨S_, .i32⟩ : BufTy).Contents (Elt F) → (⟨S256, .i32⟩ : BufTy).Contents (Elt F)) (h_c_48 V) := by
  have h := read1 host_writes host_nodup V 251 (y := main_v161) (in_hostOps0_16 (in_seg 88 rfl)) rfl (by decide +kernel)
  unfold h_v161 h_c_48
  exact h

theorem h_v162_eq (V : 𝕍) : h_v162 V = (addi : (⟨S256, .i32⟩ : BufTy).Contents (Elt F) → (⟨S256, .i32⟩ : BufTy).Contents (Elt F) → (⟨S256, .i32⟩ : BufTy).Contents (Elt F)) (h_v94 V) (h_v161 V) := by
  have h := read2 host_writes host_nodup V 252 (y := main_v162) (in_hostOps0_16 (in_seg 89 rfl)) rfl (by decide +kernel)
  unfold h_v162 h_v94 h_v161
  exact h

theorem h_v163_eq (V : 𝕍) : h_v163 V = (select : (⟨S256, .i1⟩ : BufTy).Contents (Elt F) → (⟨S256, .i32⟩ : BufTy).Contents (Elt F) → (⟨S256, .i32⟩ : BufTy).Contents (Elt F) → (⟨S256, .i32⟩ : BufTy).Contents (Elt F)) (h_v160 V) (h_v162 V) (h_v94 V) := by
  have h := read3 host_writes host_nodup V 253 (y := main_v163) (in_hostOps0_16 (in_seg 90 rfl)) rfl (by decide +kernel)
  unfold h_v163 h_v160 h_v162 h_v94
  exact h

theorem h_v164_eq (V : 𝕍) : h_v164 V = ((broadcastInDim S256x1 ![0] bcast_S256_S256x1_0) : (⟨S256, .i32⟩ : BufTy).Contents (Elt F) → (⟨S256x1, .i32⟩ : BufTy).Contents (Elt F)) (h_v163 V) := by
  have h := read1 host_writes host_nodup V 254 (y := main_v164) (in_hostOps0_16 (in_seg 91 rfl)) rfl (by decide +kernel)
  unfold h_v164 h_v163
  exact h

theorem h_v165_eq (V : 𝕍) : h_v165 V = ((fun x i u => Host.scatter scatter_S39_S256x1_S256_n_0_0_1 (fun _ b => b) x i u) : (⟨S39, .i32⟩ : BufTy).Contents (Elt F) → (⟨S256x1, .i32⟩ : BufTy).Contents (Elt F) → (⟨S256, .i32⟩ : BufTy).Contents (Elt F) → (⟨S39, .i32⟩ : BufTy).Contents (Elt F)) (h_v157 V) (h_v164 V) (h_v158 V) := by
  have h := read3 host_writes host_nodup V 255 (y := main_v165) (in_hostOps0_16 (in_seg 92 rfl)) rfl (by decide +kernel)
  unfold h_v165 h_v157 h_v164 h_v158
  exact h

theorem h_v166_eq (V : 𝕍) : h_v166 V = (iotaInDim S39 32 0) := by
  have h := read0 host_writes host_nodup V 256 (y := main_v166) (in_hostOps0_16 (in_seg 93 rfl)) rfl (by decide +kernel)
  unfold h_v166
  exact h

theorem h_c_49_eq (V : 𝕍) : h_c_49 V = (constantI S_ 32 1#32) := by
  have h := read0 host_writes host_nodup V 257 (y := main_c_49) (in_hostOps0_16 (in_seg 94 rfl)) rfl (by decide +kernel)
  unfold h_c_49
  exact h

theorem h_v167_eq (V : 𝕍) : h_v167 V = (subi : (⟨S_, .i32⟩ : BufTy).Contents (Elt F) → (⟨S_, .i32⟩ : BufTy).Contents (Elt F) → (⟨S_, .i32⟩ : BufTy).Contents (Elt F)) (h_v96 V) (h_c_49 V) := by
  have h := read2 host_writes host_nodup V 258 (y := main_v167) (in_hostOps0_16 (in_seg 95 rfl)) rfl (by decide +kernel)
  unfold h_v167 h_v96 h_c_49
  exact h

theorem h_v168_eq (V : 𝕍) : h_v168 V = ((broadcastInDim S39 ![] bcast_S_S39) : (⟨S_, .i32⟩ : BufTy).Contents (Elt F) → (⟨S39, .i32⟩ : BufTy).Contents (Elt F)) (h_v167 V) := by
  have h := read1 host_writes host_nodup V 259 (y := main_v168) (in_hostOps0_16 (in_seg 96 rfl)) rfl (by decide +kernel)
  unfold h_v168 h_v167
  exact h

end Cert.KernelIdeal.Own

end
-- ==== Proof.HostVals6.lean ====
/- What the host operations before the Pallas call leave in each buffer, one equation per operation. -/
module

public import proofs.«01_k».proof.Proof.HostDefs
public import proofs.«01_k».proof.Proof.Ssa

@[expose] public section

set_option maxRecDepth 8000
set_option maxHeartbeats 2000000

noncomputable section

namespace Cert.KernelIdeal.Own

open Idealize.ShloMosaic Idealize.ShloMosaic.TcCoe Idealize.SL.Sem Cert.Own Cert.KernelIdeal.Gen

variable {F : FTy → Type} [FloatOps F]

local notation "𝕍" => Valuation τ sig (Elt F)

theorem h_v169_eq (V : 𝕍) : h_v169 V = (minsi : (⟨S39, .i32⟩ : BufTy).Contents (Elt F) → (⟨S39, .i32⟩ : BufTy).Contents (Elt F) → (⟨S39, .i32⟩ : BufTy).Contents (Elt F)) (h_v166 V) (h_v168 V) := by
  have h := read2 host_writes host_nodup V 260 (y := main_v169) (in_hostOps0_16 (in_seg 97 rfl)) rfl (by decide +kernel)
  unfold h_v169 h_v166 h_v168
  exact h

theorem h_c_50_eq (V : 𝕍) : h_c_50 V = (constantI S_ 32 0#32) := by
  have h := read0 host_writes host_nodup V 261 (y := main_c_50) (in_hostOps0_16 (in_seg 98 rfl)) rfl (by decide +kernel)
  unfold h_c_50
  exact h

theorem h_v170_eq (V : 𝕍) : h_v170 V = ((broadcastInDim S39 ![] bcast_S_S39) : (⟨S_, .i32⟩ : BufTy).Contents (Elt F) → (⟨S39, .i32⟩ : BufTy).Contents (Elt F)) (h_c_50 V) := by
  have h := read1 host_writes host_nodup V 262 (y := main_v170) (in_hostOps0_16 (in_seg 99 rfl)) rfl (by decide +kernel)
  unfold h_v170 h_c_50
  exact h

theorem h_v171_eq (V : 𝕍) : h_v171 V = ((cmpi .slt) : (⟨S39, .i32⟩ : BufTy).Contents (Elt F) → (⟨S39, .i32⟩ : BufTy).Contents (Elt F) → (⟨S39, .i1⟩ : BufTy).Contents (Elt F)) (h_v169 V) (h_v170 V) := by
  have h := read2 host_writes host_nodup V 263 (y := main_v171) (in_hostOps0_16 (in_seg 100 rfl)) rfl (by decide +kernel)
  unfold h_v171 h_v169 h_v170
  exact h

theorem h_c_51_eq (V : 𝕍) : h_c_51 V = (constantI S_ 32 39#32) := by
  have h := read0 host_writes host_nodup V 264 (y := main_c_51) (in_hostOps0_16 (in_seg 101 rfl)) rfl (by decide +kernel)
  unfold h_c_51
  exact h

theorem h_v172_eq (V : 𝕍) : h_v172 V = ((broadcastInDim S39 ![] bcast_S_S39) : (⟨S_, .i32⟩ : BufTy).Contents (Elt F) → (⟨S39, .i32⟩ : BufTy).Contents (Elt F)) (h_c_51 V) := by
  have h := read1 host_writes host_nodup V 265 (y := main_v172) (in_hostOps0_16 (in_seg 102 rfl)) rfl (by decide +kernel)
  unfold h_v172 h_c_51
  exact h

theorem h_v173_eq (V : 𝕍) : h_v173 V = (addi : (⟨S39, .i32⟩ : BufTy).Contents (Elt F) → (⟨S39, .i32⟩ : BufTy).Contents (Elt F) → (⟨S39, .i32⟩ : BufTy).Contents (Elt F)) (h_v169 V) (h_v172 V) := by
  have h := read2 host_writes host_nodup V 266 (y := main_v173) (in_hostOps0_16 (in_seg 103 rfl)) rfl (by decide +kernel)
  unfold h_v173 h_v169 h_v172
  exact h

theorem h_v174_eq (V : 𝕍) : h_v174 V = (select : (⟨S39, .i1⟩ : BufTy).Contents (Elt F) → (⟨S39, .i32⟩ : BufTy).Contents (Elt F) → (⟨S39, .i32⟩ : BufTy).Contents (Elt F) → (⟨S39, .i32⟩ : BufTy).Contents (Elt F)) (h_v171 V) (h_v173 V) (h_v169 V) := by
  have h := read3 host_writes host_nodup V 267 (y := main_v174) (in_hostOps0_16 (in_seg 104 rfl)) rfl (by decide +kernel)
  unfold h_v174 h_v171 h_v173 h_v169
  exact h

theorem h_v175_eq (V : 𝕍) : h_v175 V = ((broadcastInDim S39x1 ![0] bcast_S39_S39x1_0) : (⟨S39, .i32⟩ : BufTy).Contents (Elt F) → (⟨S39x1, .i32⟩ : BufTy).Contents (Elt F)) (h_v174 V) := by
  have h := read1 host_writes host_nodup V 268 (y := main_v175) (in_hostOps0_16 (in_seg 105 rfl)) rfl (by decide +kernel)
  unfold h_v175 h_v174
  exact h

theorem h_v176_eq (V : 𝕍) : h_v176 V = ((fun x i => Host.gather gather_S39_S39x1_S39_n_0_n_n_0_1_1 x i) : (⟨S39, .i32⟩ : BufTy).Contents (Elt F) → (⟨S39x1, .i32⟩ : BufTy).Contents (Elt F) → (⟨S39, .i32⟩ : BufTy).Contents (Elt F)) (h_v165 V) (h_v175 V) := by
  have h := read2 host_writes host_nodup V 269 (y := main_v176) (in_hostOps0_16 (in_seg 106 rfl)) rfl (by decide +kernel)
  unfold h_v176 h_v165 h_v175
  exact h

theorem h_c_52_eq (V : 𝕍) : h_c_52 V = (constantI S_ 32 0#32) := by
  have h := read0 host_writes host_nodup V 270 (y := main_c_52) (in_hostOps0_16 (in_seg 107 rfl)) rfl (by decide +kernel)
  unfold h_c_52
  exact h

theorem h_v177_eq (V : 𝕍) : h_v177 V = ((broadcastInDim S39 ![] bcast_S_S39) : (⟨S_, .i32⟩ : BufTy).Contents (Elt F) → (⟨S39, .i32⟩ : BufTy).Contents (Elt F)) (h_c_52 V) := by
  have h := read1 host_writes host_nodup V 271 (y := main_v177) (in_hostOps0_16 (in_seg 108 rfl)) rfl (by decide +kernel)
  unfold h_v177 h_c_52
  exact h

theorem h_v178_eq (V : 𝕍) : h_v178 V = ((cmpi .eq) : (⟨S39, .i32⟩ : BufTy).Contents (Elt F) → (⟨S39, .i32⟩ : BufTy).Contents (Elt F) → (⟨S39, .i1⟩ : BufTy).Contents (Elt F)) (h_v156 V) (h_v177 V) := by
  have h := read2 host_writes host_nodup V 272 (y := main_v178) (in_hostOps0_16 (in_seg 109 rfl)) rfl (by decide +kernel)
  unfold h_v178 h_v156 h_v177
  exact h

theorem h_v179_eq (V : 𝕍) : h_v179 V = ((extui 32 · natLt_1_32) : (⟨S39, .i1⟩ : BufTy).Contents (Elt F) → (⟨S39, .i32⟩ : BufTy).Contents (Elt F)) (h_v178 V) := by
  have h := read1 host_writes host_nodup V 273 (y := main_v179) (in_hostOps0_16 (in_seg 110 rfl)) rfl (by decide +kernel)
  unfold h_v179 h_v178
  exact h

theorem h_call8_c_eq (V : 𝕍) : h_call8_c V = (constantI S_ 32 0#32) := by
  have h := read0 host_writes host_nodup V 274 (y := main_call8_c) (in_hostOps0_17 (in_seg 0 rfl)) rfl (by decide +kernel)
  unfold h_call8_c
  exact h

theorem h_call8_v0_eq (V : 𝕍) : h_call8_v0 V = ((broadcastInDim S16384 ![] bcast_S_S16384) : (⟨S_, .i32⟩ : BufTy).Contents (Elt F) → (⟨S16384, .i32⟩ : BufTy).Contents (Elt F)) (h_call8_c V) := by
  have h := read1 host_writes host_nodup V 275 (y := main_call8_v0) (in_hostOps0_17 (in_seg 1 rfl)) rfl (by decide +kernel)
  unfold h_call8_v0 h_call8_c
  exact h

theorem h_call8_v1_eq (V : 𝕍) : h_call8_v1 V = ((cmpi .slt) : (⟨S16384, .i32⟩ : BufTy).Contents (Elt F) → (⟨S16384, .i32⟩ : BufTy).Contents (Elt F) → (⟨S16384, .i1⟩ : BufTy).Contents (Elt F)) (h_v39 V) (h_call8_v0 V) :=
  readT2 host_writes host_nodup V 276 (in_hostOps0_17 (in_seg 2 rfl)) rfl (by decide +kernel) (ofBuf_of (.of main_v39 : StableHlo.TRef sig ⟨S16384, .i32⟩) (HEq.refl (h_v39 V))) (ofBuf_of (.of main_call8_v0 : StableHlo.TRef sig ⟨S16384, .i32⟩) (HEq.refl (h_call8_v0 V))) (ofBuf_of (.of main_call8_v1 : StableHlo.TRef sig ⟨S16384, .i1⟩) (HEq.refl (h_call8_v1 V)))

theorem h_call8_c_0_eq (V : 𝕍) : h_call8_c_0 V = (constantI S_ 32 8192#32) := by
  have h := read0 host_writes host_nodup V 277 (y := main_call8_c_0) (in_hostOps0_17 (in_seg 3 rfl)) rfl (by decide +kernel)
  unfold h_call8_c_0
  exact h

theorem h_call8_v2_eq (V : 𝕍) : h_call8_v2 V = ((broadcastInDim S16384 ![] bcast_S_S16384) : (⟨S_, .i32⟩ : BufTy).Contents (Elt F) → (⟨S16384, .i32⟩ : BufTy).Contents (Elt F)) (h_call8_c_0 V) := by
  have h := read1 host_writes host_nodup V 278 (y := main_call8_v2) (in_hostOps0_17 (in_seg 4 rfl)) rfl (by decide +kernel)
  unfold h_call8_v2 h_call8_c_0
  exact h

theorem h_call8_v3_eq (V : 𝕍) : h_call8_v3 V = addi (h_v39 V) (h_call8_v2 V) :=
  readT2 host_writes host_nodup V 279 (in_hostOps0_17 (in_seg 5 rfl)) rfl (by decide +kernel) (ofBuf_of (.of main_v39 : StableHlo.TRef sig ⟨S16384, .i32⟩) (HEq.refl (h_v39 V))) (ofBuf_of (.of main_call8_v2 : StableHlo.TRef sig ⟨S16384, .i32⟩) (HEq.refl (h_call8_v2 V))) (ofBuf_of (.of main_call8_v3 : StableHlo.TRef sig ⟨S16384, .i32⟩) (HEq.refl (h_call8_v3 V)))

theorem h_call8_v4_eq (V : 𝕍) : h_call8_v4 V = select (h_call8_v1 V) (h_call8_v3 V) (h_v39 V) :=
  readT3 host_writes host_nodup V 280 (in_hostOps0_17 (in_seg 6 rfl)) rfl (by decide +kernel) (ofBuf_of (.of main_call8_v1 : StableHlo.TRef sig ⟨S16384, .i1⟩) (HEq.refl (h_call8_v1 V))) (ofBuf_of (.of main_call8_v3 : StableHlo.TRef sig ⟨S16384, .i32⟩) (HEq.refl (h_call8_v3 V))) (ofBuf_of (.of main_v39 : StableHlo.TRef sig ⟨S16384, .i32⟩) (HEq.refl (h_v39 V))) (ofBuf_of (.of main_call8_v4 : StableHlo.TRef sig ⟨S16384, .i32⟩) (HEq.refl (h_call8_v4 V)))

theorem h_call8_v5_eq (V : 𝕍) : h_call8_v5 V = ((broadcastInDim S16384x1 ![0] bcast_S16384_S16384x1_0) : (⟨S16384, .i32⟩ : BufTy).Contents (Elt F) → (⟨S16384x1, .i32⟩ : BufTy).Contents (Elt F)) (h_call8_v4 V) := by
  have h := read1 host_writes host_nodup V 281 (y := main_call8_v5) (in_hostOps0_17 (in_seg 7 rfl)) rfl (by decide +kernel)
  unfold h_call8_v5 h_call8_v4
  exact h

theorem h_call8_c_1_eq (V : 𝕍) : h_call8_c_1 V = (constantI S1 32 8191#32) := by
  have h := read0 host_writes host_nodup V 282 (y := main_call8_c_1) (in_hostOps0_17 (in_seg 8 rfl)) rfl (by decide +kernel)
  unfold h_call8_c_1
  exact h

theorem h_call8_c_2_eq (V : 𝕍) : h_call8_c_2 V = (constantI S_ 32 0#32) := by
  have h := read0 host_writes host_nodup V 283 (y := main_call8_c_2) (in_hostOps0_17 (in_seg 9 rfl)) rfl (by decide +kernel)
  unfold h_call8_c_2
  exact h

theorem h_call8_v6_eq (V : 𝕍) : h_call8_v6 V = ((broadcastInDim S16384x1 ![] bcast_S_S16384x1) : (⟨S_, .i32⟩ : BufTy).Contents (Elt F) → (⟨S16384x1, .i32⟩ : BufTy).Contents (Elt F)) (h_call8_c_2 V) := by
  have h := read1 host_writes host_nodup V 284 (y := main_call8_v6) (in_hostOps0_17 (in_seg 10 rfl)) rfl (by decide +kernel)
  unfold h_call8_v6 h_call8_c_2
  exact h

theorem h_call8_v7_eq (V : 𝕍) : h_call8_v7 V = ((cmpi .sge) : (⟨S16384x1, .i32⟩ : BufTy).Contents (Elt F) → (⟨S16384x1, .i32⟩ : BufTy).Contents (Elt F) → (⟨S16384x1, .i1⟩ : BufTy).Contents (Elt F)) (h_call8_v5 V) (h_call8_v6 V) :=
  readT2 host_writes host_nodup V 285 (in_hostOps0_17 (in_seg 11 rfl)) rfl (by decide +kernel) (ofBuf_of (.of main_call8_v5 : StableHlo.TRef sig ⟨S16384x1, .i32⟩) (HEq.refl (h_call8_v5 V))) (ofBuf_of (.of main_call8_v6 : StableHlo.TRef sig ⟨S16384x1, .i32⟩) (HEq.refl (h_call8_v6 V))) (ofBuf_of (.of main_call8_v7 : StableHlo.TRef sig ⟨S16384x1, .i1⟩) (HEq.refl (h_call8_v7 V)))

theorem h_call8_v8_eq (V : 𝕍) : h_call8_v8 V = ((broadcastInDim S1x1 ![1] bcast_S1_S1x1_1) : (⟨S1, .i32⟩ : BufTy).Contents (Elt F) → (⟨S1x1, .i32⟩ : BufTy).Contents (Elt F)) (h_call8_c_1 V) := by
  have h := read1 host_writes host_nodup V 286 (y := main_call8_v8) (in_hostOps0_17 (in_seg 12 rfl)) rfl (by decide +kernel)
  unfold h_call8_v8 h_call8_c_1
  exact h

theorem h_call8_v9_eq (V : 𝕍) : h_call8_v9 V = ((broadcastInDim S16384x1 ![0, 1] bcast_S1x1_S16384x1_0_1) : (⟨S1x1, .i32⟩ : BufTy).Contents (Elt F) → (⟨S16384x1, .i32⟩ : BufTy).Contents (Elt F)) (h_call8_v8 V) := by
  have h := read1 host_writes host_nodup V 287 (y := main_call8_v9) (in_hostOps0_17 (in_seg 13 rfl)) rfl (by decide +kernel)
  unfold h_call8_v9 h_call8_v8
  exact h

theorem h_call8_v10_eq (V : 𝕍) : h_call8_v10 V = ((cmpi .sle) : (⟨S16384x1, .i32⟩ : BufTy).Contents (Elt F) → (⟨S16384x1, .i32⟩ : BufTy).Contents (Elt F) → (⟨S16384x1, .i1⟩ : BufTy).Contents (Elt F)) (h_call8_v5 V) (h_call8_v9 V) :=
  readT2 host_writes host_nodup V 288 (in_hostOps0_17 (in_seg 14 rfl)) rfl (by decide +kernel) (ofBuf_of (.of main_call8_v5 : StableHlo.TRef sig ⟨S16384x1, .i32⟩) (HEq.refl (h_call8_v5 V))) (ofBuf_of (.of main_call8_v9 : StableHlo.TRef sig ⟨S16384x1, .i32⟩) (HEq.refl (h_call8_v9 V))) (ofBuf_of (.of main_call8_v10 : StableHlo.TRef sig ⟨S16384x1, .i1⟩) (HEq.refl (h_call8_v10 V)))

theorem h_call8_v11_eq (V : 𝕍) : h_call8_v11 V = andi (h_call8_v7 V) (h_call8_v10 V) :=
  readT2 host_writes host_nodup V 289 (in_hostOps0_17 (in_seg 15 rfl)) rfl (by decide +kernel) (ofBuf_of (.of main_call8_v7 : StableHlo.TRef sig ⟨S16384x1, .i1⟩) (HEq.refl (h_call8_v7 V))) (ofBuf_of (.of main_call8_v10 : StableHlo.TRef sig ⟨S16384x1, .i1⟩) (HEq.refl (h_call8_v10 V))) (ofBuf_of (.of main_call8_v11 : StableHlo.TRef sig ⟨S16384x1, .i1⟩) (HEq.refl (h_call8_v11 V)))

theorem h_call8_c_3_eq (V : 𝕍) : h_call8_c_3 V = (constantI S_ 1 1#1) := by
  have h := read0 host_writes host_nodup V 290 (y := main_call8_c_3) (in_hostOps0_17 (in_seg 16 rfl)) rfl (by decide +kernel)
  unfold h_call8_c_3
  exact h

theorem h_call8_v12_eq (V : 𝕍) : h_call8_v12 V = ((fun x v => Host.reduce IntOp.andi x v reducesTo_S16384x1_S16384_d1 h_S_) : (⟨S16384x1, .i1⟩ : BufTy).Contents (Elt F) → (⟨S_, .i1⟩ : BufTy).Contents (Elt F) → (⟨S16384, .i1⟩ : BufTy).Contents (Elt F)) (h_call8_v11 V) (h_call8_c_3 V) :=
  readT2 host_writes host_nodup V 291 (in_hostOps0_17 (in_seg 17 rfl)) rfl (by decide +kernel) (ofBuf_of (.of main_call8_v11 : StableHlo.TRef sig ⟨S16384x1, .i1⟩) (HEq.refl (h_call8_v11 V))) (ofBuf_of (.of main_call8_c_3 : StableHlo.TRef sig ⟨S_, .i1⟩) (HEq.refl (h_call8_c_3 V))) (ofBuf_of (.of main_call8_v12 : StableHlo.TRef sig ⟨S16384, .i1⟩) (HEq.refl (h_call8_v12 V)))

theorem h_call8_v13_eq (V : 𝕍) : h_call8_v13 V = ((fun x i => Host.gather gather_S8192x2048_S16384x1_S16384x2048_1_0_n_n_0_1_12048 x i) : (⟨S8192x2048, .f32⟩ : BufTy).Contents (Elt F) → (⟨S16384x1, .i32⟩ : BufTy).Contents (Elt F) → (⟨S16384x2048, .f32⟩ : BufTy).Contents (Elt F)) (h_v0 V) (h_call8_v5 V) :=
  readT2 host_writes host_nodup V 292 (in_hostOps0_17 (in_seg 18 rfl)) rfl (by decide +kernel) (ofBuf_of (.of main_v0 : StableHlo.TRef sig ⟨S8192x2048, .f32⟩) (HEq.refl (h_v0 V))) (ofBuf_of (.of main_call8_v5 : StableHlo.TRef sig ⟨S16384x1, .i32⟩) (HEq.refl (h_call8_v5 V))) (ofBuf_of (.of main_call8_v13 : StableHlo.TRef sig ⟨S16384x2048, .f32⟩) (HEq.refl (h_call8_v13 V)))

theorem h_call8_v14_eq (V : 𝕍) : h_call8_v14 V = ((broadcastInDim S16384x2048 ![0] bcast_S16384_S16384x2048_0) : (⟨S16384, .i1⟩ : BufTy).Contents (Elt F) → (⟨S16384x2048, .i1⟩ : BufTy).Contents (Elt F)) (h_call8_v12 V) := by
  have h := read1 host_writes host_nodup V 293 (y := main_call8_v14) (in_hostOps0_17 (in_seg 19 rfl)) rfl (by decide +kernel)
  unfold h_call8_v14 h_call8_v12
  exact h

theorem h_call8_cst_eq (V : 𝕍) : h_call8_cst V = (constant S_ .f32 0x7FC00000#32) := by
  have h := read0 host_writes host_nodup V 294 (y := main_call8_cst) (in_hostOps0_17 (in_seg 20 rfl)) rfl (by decide +kernel)
  unfold h_call8_cst
  exact h

theorem h_call8_v15_eq (V : 𝕍) : h_call8_v15 V = ((broadcastInDim S16384x2048 ![] bcast_S_S16384x2048) : (⟨S_, .f32⟩ : BufTy).Contents (Elt F) → (⟨S16384x2048, .f32⟩ : BufTy).Contents (Elt F)) (h_call8_cst V) := by
  have h := read1 host_writes host_nodup V 295 (y := main_call8_v15) (in_hostOps0_17 (in_seg 21 rfl)) rfl (by decide +kernel)
  unfold h_call8_v15 h_call8_cst
  exact h

theorem h_v180_eq (V : 𝕍) : h_v180 V = select (h_call8_v14 V) (h_call8_v13 V) (h_call8_v15 V) :=
  readT3 host_writes host_nodup V 296 (in_hostOps0_17 (in_seg 22 rfl)) rfl (by decide +kernel) (ofBuf_of (.of main_call8_v14 : StableHlo.TRef sig ⟨S16384x2048, .i1⟩) (HEq.refl (h_call8_v14 V))) (ofBuf_of (.of main_call8_v13 : StableHlo.TRef sig ⟨S16384x2048, .f32⟩) (HEq.refl (h_call8_v13 V))) (ofBuf_of (.of main_call8_v15 : StableHlo.TRef sig ⟨S16384x2048, .f32⟩) (HEq.refl (h_call8_v15 V))) (ofBuf_of (.of main_v180 : StableHlo.TRef sig ⟨S16384x2048, .f32⟩) (HEq.refl (h_v180 V)))

theorem h_v181_eq (V : 𝕍) : h_v181 V = ((truncf .bf16 · bitsLt_bf16_f32) : (⟨S16384x2048, .f32⟩ : BufTy).Contents (Elt F) → (⟨S16384x2048, .bf16⟩ : BufTy).Contents (Elt F)) (h_v180 V) := by
  have h := read1 host_writes host_nodup V 297 (y := main_v181) (in_hostOps0_18 (in_seg 0 rfl)) rfl (by decide +kernel)
  unfold h_v181 h_v180
  exact h

theorem h_v182_eq (V : 𝕍) : h_v182 V = ((truncf .bf16 · bitsLt_bf16_f32) : (⟨S8x2048x5632, .f32⟩ : BufTy).Contents (Elt F) → (⟨S8x2048x5632, .bf16⟩ : BufTy).Contents (Elt F)) (h_arg2 V) := by
  have h := read1 host_writes host_nodup V 298 (y := main_v182) (in_hostOps0_18 (in_seg 1 rfl)) rfl (by decide +kernel)
  unfold h_v182 h_arg2
  exact h

theorem h_v183_eq (V : 𝕍) : h_v183 V = ((truncf .bf16 · bitsLt_bf16_f32) : (⟨S8x2048x5632, .f32⟩ : BufTy).Contents (Elt F) → (⟨S8x2048x5632, .bf16⟩ : BufTy).Contents (Elt F)) (h_arg3 V) := by
  have h := read1 host_writes host_nodup V 299 (y := main_v183) (in_hostOps0_18 (in_seg 2 rfl)) rfl (by decide +kernel)
  unfold h_v183 h_arg3
  exact h

theorem h_v184_eq (V : 𝕍) : h_v184 V = ((truncf .bf16 · bitsLt_bf16_f32) : (⟨S8x5632x2048, .f32⟩ : BufTy).Contents (Elt F) → (⟨S8x5632x2048, .bf16⟩ : BufTy).Contents (Elt F)) (h_arg4 V) := by
  have h := read1 host_writes host_nodup V 300 (y := main_v184) (in_hostOps0_18 (in_seg 3 rfl)) rfl (by decide +kernel)
  unfold h_v184 h_arg4
  exact h

end Cert.KernelIdeal.Own

end
-- ==== Proof.HostVals.lean ====
/- All the equations of the host operations before the Pallas call. -/
module

public import proofs.«01_k».proof.Proof.HostVals1
public import proofs.«01_k».proof.Proof.HostVals2
public import proofs.«01_k».proof.Proof.HostVals3
public import proofs.«01_k».proof.Proof.HostVals4
public import proofs.«01_k».proof.Proof.HostVals5
public import proofs.«01_k».proof.Proof.HostVals6
-- ==== Proof.IFrame.Points.lean ====
/- The idealized program: the staging memrefs at a grid point and the body there. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map reads a prefetched table, so where it is fetched or written back depends on the tables' contents
-- window 1: no schedule fact — its index map reads a prefetched table, so where it is fetched or written back depends on the tables' contents
-- window 2: no schedule fact — its index map reads a prefetched table, so where it is fetched or written back depends on the tables' contents
-- window 3: no schedule fact — its index map reads a prefetched table, so where it is fetched or written back depends on the tables' contents
-- window 4: no schedule fact — its index map reads a prefetched table, so where it is fetched or written back depends on the tables' contents

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__ffn_body (grid0.coords t) (Memref.whole main_v116) (Memref.isWhole_whole _) (Memref.whole main_v136) (Memref.isWhole_whole _) (Memref.whole main_v156) (Memref.isWhole_whole _) (Memref.whole main_v176) (Memref.isWhole_whole _) (Memref.whole main_v179) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

end Cert.KernelIdeal.Gen

end
-- ==== Proof.IFrame.Runs.lean ====
/- The idealized program's frame: the host code around the Pallas call, the body's branch conditions over the grid,
   the staging and scratch memrefs, and the tables' halves handed to the body. -/
module

public import proofs.«01_k».proof.Proof.Gen.KernelIdeal.Launch
public import proofs.«01_k».proof.Proof.Gen.KernelIdeal.Skeleton
public import proofs.«01_k».proof.Proof.IFrame.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- rectangles of full size (`View.cover_of_tiled`) need the deeper recursion
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`, `hostOps0_17`, `hostOps0_18`). -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 270000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_c_53, main_c_54, main_c_55, main_c_56, main_v186, main_v187, main_v188, main_v189, main_v190, main_v191, main_v192, main_v193, main_v194, main_v195, main_v196, main_v197, main_v198, main_v199, main_v200, main_v201, main_v202, main_v203, main_v204, main_v205, main_v206, main_v207, main_v208}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 5) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S39 .i32 := Memref.whole main_v116
abbrev htbM0_0 : tbM0_0.IsWhole := Memref.isWhole_whole _
abbrev tbM0_1 : Memref sig .tc .smem S39 .i32 := Memref.whole main_v136
abbrev htbM0_1 : tbM0_1.IsWhole := Memref.isWhole_whole _
abbrev tbM0_2 : Memref sig .tc .smem S39 .i32 := Memref.whole main_v156
abbrev htbM0_2 : tbM0_2.IsWhole := Memref.isWhole_whole _
abbrev tbM0_3 : Memref sig .tc .smem S39 .i32 := Memref.whole main_v176
abbrev htbM0_3 : tbM0_3.IsWhole := Memref.isWhole_whole _
abbrev tbM0_4 : Memref sig .tc .smem S39 .i32 := Memref.whole main_v179
abbrev htbM0_4 : tbM0_4.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg4 = m ((c : Thread nD τ).loc main_arg4) := by
  unfold Pipeline.afterTail
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0 \ T0)).trans (V_main_arg0 m c),
      ((h c).2 main_arg1 (by decide : main_arg1 ∈ Pipeline.restRefs sig spec0 \ T0)).trans (V_main_arg1 m c),
      ((h c).2 main_arg2 (by decide : main_arg2 ∈ Pipeline.restRefs sig spec0 \ T0)).trans (V_main_arg2 m c),
      ((h c).2 main_arg3 (by decide : main_arg3 ∈ Pipeline.restRefs sig spec0 \ T0)).trans (V_main_arg3 m c),
      ((h c).2 main_arg4 (by decide : main_arg4 ∈ Pipeline.restRefs sig spec0 \ T0)).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 11) — by arithmetic of the point. -/
theorem hcond0_0 : ∀ t : Fin grid0.N, cond0_0 (grid0.coords t) ↔ t.val % 11 = 0 :=
  (fun t => by
    have ht : t.val < 429 := Nat.lt_of_lt_of_eq t.isLt N_0
    have e0 : (grid0.coords t 0).val = t.val / 11 % 39 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := k0_cond2 i = 1#1
/-- It holds at the points ≡ 10 (mod 11) — by arithmetic of the point. -/
theorem hcond0_1 : ∀ t : Fin grid0.N, cond0_1 (grid0.coords t) ↔ t.val % 11 = 10 :=
  (fun t => by
    have ht : t.val < 429 := Nat.lt_of_lt_of_eq t.isLt N_0
    have e0 : (grid0.coords t 0).val = t.val / 11 % 39 := Pipeline.Grid.coords_val t 0 (by decide) rfl
    have e1 : (grid0.coords t 1).val = t.val / 1 % 11 := Pipeline.Grid.coords_val t 1 (by decide) rfl
    simp only [cond0_1, k0_cond2, e0, e1]
    word_cmp
   : ∀ t : Fin grid0.N, cond0_1 (grid0.coords t) ↔ t.val % 11 = 10)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x2048 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x2048 .f32 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S512x2048 .f32 := Memref.whole cc0_scratch0
/-- The scratch `arg12` the kernel carries between points, as a view: what it holds is stated through it. -/
abbrev VS0_0 : View sig .tc .vmem S512x2048 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Own

end
-- ==== Proof.Tables.lean ====
/- The Kernel program's prefetched tables name tiles below 32 and experts below 8, so every block lies inside its array. -/
module

public import proofs.«01_k».proof.Proof.HostVals
public import proofs.«01_k».proof.Proof.IFrame.Runs
public import proofs.«01_k».proof.Proof.Range

@[expose] public section

noncomputable section

namespace Cert.KernelIdeal.Own

open Cert.KernelIdeal.Gen Cert.Own
open Idealize.ShloMosaic Idealize.ShloMosaic.TcCoe

variable {F : FTy → Type} [FloatOps F]
variable (m : (ℓ : Loc nD τ sig) → Buf (Elt F) ℓ)

/-- The launch contents of a device as a valuation. -/
abbrev launchV (c : Dev nD) : Valuation τ sig (Elt F) := fun b => m (c, b)

/-- Every tile word is below 32. -/
theorem tile_lt (V : Valuation τ sig (Elt F)) (i : S39.Idx) : (h_v116 V i : BitVec 32).toNat < 32 := by
  rw [h_v116_eq, h_v105_eq]
  refine placed_forall _ _ (fun b => b.toNat < 32) _ _ _ _ (fun j => ?_) (fun j => ?_) i
  · rw [h_v97_eq, h_c_28_eq]; exact (by decide : (0#32).toNat < 32)
  · rw [h_v98_eq]
    refine cast_forall (fun b => b.toNat < 32) _ _ (fun k => ?_) j
    rw [h_v89_eq, h_v62_eq, h_v61_eq]
    refine bcast_forall (fun b => b.toNat < 32) _ _ _ (bcast_forall (fun b => b.toNat < 32) _ _ _ fun q => ?_) k
    show (BitVec.ofNat 32 (q 0).val).toNat < 32
    have := (q 0).isLt
    rw [BitVec.toNat_ofNat]
    exact lt_of_le_of_lt (Nat.mod_le _ _) this

/-- Every expert word is below 8. -/
theorem expert_lt (V : Valuation τ sig (Elt F)) (i : S39.Idx) : (h_v136 V i : BitVec 32).toNat < 8 := by
  rw [h_v136_eq, h_v125_eq]
  refine placed_forall _ _ (fun b => b.toNat < 8) _ _ _ _ (fun j => ?_) (fun j => ?_) i
  · rw [h_v117_eq, h_c_34_eq]; exact (by decide : (0#32).toNat < 8)
  · rw [h_v118_eq]
    refine cast_forall (fun b => b.toNat < 8) _ _ (fun k => ?_) j
    rw [h_v88_eq, h_v87_eq, h_v86_eq]
    refine bcast_forall (fun b => b.toNat < 8) _ _ _ (bcast_forall (fun b => b.toNat < 8) _ _ _ fun q => ?_) k
    show (BitVec.ofNat 32 (q 0).val).toNat < 8
    have := (q 0).isLt
    rw [BitVec.toNat_ofNat]
    exact lt_of_le_of_lt (Nat.mod_le _ _) this

/-- What the region finds in a buffer is what the host operations left there. -/
theorem V_left (c : Dev nD) (b : Ref sig .tc) : V m c b = left (launchV m c) b := by
  unfold left hostAll
  rfl

/-- The tile table is the host's. -/
theorem tbl_0 : tbl m 0 = h_v116 (launchV m 0) := V_left m 0 main_v116

/-- The expert table is the host's. -/
theorem tbl_1 : tbl m 1 = h_v136 (launchV m 0) := V_left m 0 main_v136

/-- A block of an even number of rows starts and ends on whole words of a type packed in pairs. -/
theorem words_even {s : Shape} (h2 : 2 ≤ s.rank) (size : Fin s.rank → ℕ) (ix : Fin s.rank → ℕ) (h : ∀ a, (ix a + 1) * size a ≤ s.size a)
    (he : 2 ∣ size (s.rowAx h2)) : (Rect.block (s := s) size ix h).WholeWords 2 :=
  .inl (.inr ⟨h2, rfl, .inl ⟨Dvd.dvd.mul_left he _, he⟩⟩)

/-- The blocks the tables name lie inside the arrays, on whole words. -/
theorem ok_of {t : pre0.Contents (Elt F)} (h0 : ∀ j, (t 0 j : BitVec 32).toNat < 32) (h1 : ∀ j, (t 1 j : BitVec 32).toNat < 8) : ok0 t := by
  refine ⟨fun i => ?_, fun i => ?_, fun i => ?_, fun i => ?_, fun i => ?_⟩
  · refine ⟨fun a => ?_, .inr (words_even (by decide) _ _ _ (by decide))⟩
    have hp : cc0_transform_0 k0_off1_inb numel1_S1 t i 0 < 32 := h0 _
    match a with
    | ⟨0, _⟩ => show (cc0_transform_0 k0_off1_inb numel1_S1 t i 0 + 1) * 512 ≤ 16384; omega
    | ⟨1, _⟩ => show (0 + 1) * 2048 ≤ 2048; omega
  · refine ⟨fun a => ?_, .inr (words_even (by decide) _ _ _ (by decide))⟩
    have hp : cc0_transform_1 k0_off1_inb numel1_S1 t i 0 < 8 := h1 _
    have hb := (i 1).isLt
    have hq : cc0_transform_1 k0_off1_inb numel1_S1 t i 2 ≤ (i 1).val := Nat.mod_le _ _
    match a with
    | ⟨0, _⟩ => show (cc0_transform_1 k0_off1_inb numel1_S1 t i 0 + 1) * 1 ≤ 8; omega
    | ⟨1, _⟩ => show (0 + 1) * 2048 ≤ 2048; omega
    | ⟨2, _⟩ => show (cc0_transform_1 k0_off1_inb numel1_S1 t i 2 + 1) * 512 ≤ 5632; have : (i 1).val < 11 := hb; omega
  · refine ⟨fun a => ?_, .inr (words_even (by decide) _ _ _ (by decide))⟩
    have hp : cc0_transform_2 k0_off1_inb numel1_S1 t i 0 < 8 := h1 _
    have hb := (i 1).isLt
    have hq : cc0_transform_2 k0_off1_inb numel1_S1 t i 2 ≤ (i 1).val := Nat.mod_le _ _
    match a with
    | ⟨0, _⟩ => show (cc0_transform_2 k0_off1_inb numel1_S1 t i 0 + 1) * 1 ≤ 8; omega
    | ⟨1, _⟩ => show (0 + 1) * 2048 ≤ 2048; omega
    | ⟨2, _⟩ => show (cc0_transform_2 k0_off1_inb numel1_S1 t i 2 + 1) * 512 ≤ 5632; have : (i 1).val < 11 := hb; omega
  · refine ⟨fun a => ?_, .inr (words_even (by decide) _ _ _ (by decide))⟩
    have hp : cc0_transform_3 k0_off1_inb numel1_S1 t i 0 < 8 := h1 _
    have hb := (i 1).isLt
    have hq : cc0_transform_3 k0_off1_inb numel1_S1 t i 1 ≤ (i 1).val := Nat.mod_le _ _
    match a with
    | ⟨0, _⟩ => show (cc0_transform_3 k0_off1_inb numel1_S1 t i 0 + 1) * 1 ≤ 8; omega
    | ⟨1, _⟩ => show (cc0_transform_3 k0_off1_inb numel1_S1 t i 1 + 1) * 512 ≤ 5632; have : (i 1).val < 11 := hb; omega
    | ⟨2, _⟩ => show (0 + 1) * 2048 ≤ 2048; omega
  · refine ⟨fun a => ?_, .inl rfl⟩
    have hp : cc0_transform_4 k0_off1_inb numel1_S1 t i 0 < 32 := h0 _
    match a with
    | ⟨0, _⟩ => show (cc0_transform_4 k0_off1_inb numel1_S1 t i 0 + 1) * 512 ≤ 16384; omega
    | ⟨1, _⟩ => show (0 + 1) * 2048 ≤ 2048; omega

/-- The launch's tables name blocks inside the arrays. -/
theorem ok : Ok m :=
  ok_of (fun j => by rw [tbl_0]; exact tile_lt _ j) (fun j => by rw [tbl_1]; exact expert_lt _ j)

end Cert.KernelIdeal.Own

end
-- ==== Proof.IFrame.Steps.lean ====
/- The idealized body's three cases, each with what it leaves in the accumulator and in the output tile. -/
module

public import proofs.«01_k».proof.Proof.IFrame.Runs
public import Idealize.ShloMosaic.Lib.VecWindow

@[expose] public section

set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load of a whole memref's own sizes reads what it holds. -/
theorem load_whole {sp : Space} {s : Shape} {e : EltTy} (M : Memref sig .tc sp s e) (h : M.IsWhole) (x : s.Idx → Elt F e)
    {off : Fin s.rank → ℕ} (inb : ∀ a, off a + s.size a ≤ s.size a) :
    View.readAt (Elt F) M.view (Rect.unit off s.size inb).toLoadRect (h.unread x) = x :=
  (View.readAt_full _ _ inb).trans (h.read_unread x)

/-- The word of a prefetched table at a grid point's first coordinate, read as the body reads it. -/
abbrev wordAt {c : Dev nD} {M : Memref sig .tc .smem S39 .i32} (x : TbBuf0 (F := F) c M) (i : grid0.Coords) (h : cond0_1 i) : BitVec 32 :=
  View.readAt (Elt F) M.view (Rect.unit (s := S39) (k0_off2 i) S1.size (k0_off2_inb i h)).toLoadRect x
    (Shape.Idx.first (by have h1 : 0 < S1.numel := by decide
                         exact h1))

/-- First hidden block: the accumulator is cleared and then gains its block product; the output tile stays. -/
theorem stepA (c : Dev nD) (i : grid0.Coords) (arg7 : Memref sig .tc .vmem S512x2048 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x512x2048 .bf16) (harg10 : arg10.IsWhole) (arg11 : Memref sig .tc .vmem S512x2048 .f32) (harg11 : arg11.IsWhole) (arg12 : Memref sig .tc .vmem S512x2048 .f32) (harg12 : arg12.IsWhole) (hc0 : cond0_0 i) (hc1 : ¬cond0_1 i)
    (x0 : Vec F S512x2048 .bf16) (x1 : Vec F S1x2048x512 .bf16) (x2 : Vec F S1x2048x512 .bf16) (x3 : Vec F S1x512x2048 .bf16) (d4 : Vec F S512x2048 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (E : Set ℕ) (K : PUnit → sProp 𝕄) :
    iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare d4 ∗ (∃ d, owns (c : Thread nD τ) arg12 fullShare d) ∗ tbPt0 c tbM0_0 xt0 ∗ tbPt0 c tbM0_1 xt1 ∗ tbPt0 c tbM0_2 xt2 ∗ tbPt0 c tbM0_3 xt3 ∗ tbPt0 c tbM0_4 xt4
        ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare d4 ∗ owns (c : Thread nD τ) arg12 fullShare (k0_pay2 x0 x1 x2 (k0_pay1 (F := F)) x3) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
      ⊢ wp frame (wpE (defs₀ (F := F)) Variants.none c none) E (cc0__ffn_body i tbM0_0 htbM0_0 tbM0_1 htbM0_1 tbM0_2 htbM0_2 tbM0_3 htbM0_3 tbM0_4 htbM0_4 arg7 harg7 arg8 harg8 arg9 harg9 arg10 harg10 arg11 harg11 arg12 harg12) K := by
  simp only [cc0__ffn_body_eq_skeleton]; unfold cc0__ffn_body_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, %hfs0, HS0⟩, HT0, HT1, HT2, HT3, HT4, Hk⟩
  obtain rfl := harg7.eq_unread hf0; obtain rfl := harg8.eq_unread hf1; obtain rfl := harg9.eq_unread hf2; obtain rfl := harg10.eq_unread hf3; obtain rfl := harg11.eq_unread hf4
  sl_exec (disch := first | sl_exact hc0 | sl_exact hc1)
  sl_step
  iapply Hk
  isplitl [H0]
  · iexists _; isplitr; · ipureintro; exact harg7.read_unread _
    iexact H0
  isplitl [H1]
  · iexists _; isplitr; · ipureintro; exact harg8.read_unread _
    iexact H1
  isplitl [H2]
  · iexists _; isplitr; · ipureintro; exact harg9.read_unread _
    iexact H2
  isplitl [H3]
  · iexists _; isplitr; · ipureintro; exact harg10.read_unread _
    iexact H3
  isplitl [H4]
  · iexists _; isplitr; swap; · iexact H4
    ipureintro
    exact harg11.read_unread _
  isplitl [HS0]
  · iexists _; isplitr; swap; · iexact HS0
    ipureintro
    refine (View.read_writes_full _ _ _ _ _).trans ?_
    rw [load_whole arg7 harg7, load_whole arg8 harg8, load_whole arg9 harg9, load_whole arg10 harg10]
    unfold stepA.sl.v15 stepA.sl.HS0_1; exact congrArg (fun a => k0_pay2 x0 x1 x2 a x3) (View.readCov_full _ _ _ _ _)
  isplitl [HT0]; · iexact HT0
  isplitl [HT1]; · iexact HT1
  isplitl [HT2]; · iexact HT2
  isplitl [HT3]; · iexact HT3
  iexact HT4

/-- A middle hidden block: the accumulator gains its block product; the output tile stays. -/
theorem stepB (c : Dev nD) (i : grid0.Coords) (arg7 : Memref sig .tc .vmem S512x2048 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x512x2048 .bf16) (harg10 : arg10.IsWhole) (arg11 : Memref sig .tc .vmem S512x2048 .f32) (harg11 : arg11.IsWhole) (arg12 : Memref sig .tc .vmem S512x2048 .f32) (harg12 : arg12.IsWhole) (hc0 : ¬cond0_0 i) (hc1 : ¬cond0_1 i)
    (x0 : Vec F S512x2048 .bf16) (x1 : Vec F S1x2048x512 .bf16) (x2 : Vec F S1x2048x512 .bf16) (x3 : Vec F S1x512x2048 .bf16) (d4 : Vec F S512x2048 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xs0 : Vec F S512x2048 .f32) (E : Set ℕ) (K : PUnit → sProp 𝕄) :
    iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare d4 ∗ owns (c : Thread nD τ) arg12 fullShare xs0 ∗ tbPt0 c tbM0_0 xt0 ∗ tbPt0 c tbM0_1 xt1 ∗ tbPt0 c tbM0_2 xt2 ∗ tbPt0 c tbM0_3 xt3 ∗ tbPt0 c tbM0_4 xt4
        ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare d4 ∗ owns (c : Thread nD τ) arg12 fullShare (k0_pay2 x0 x1 x2 xs0 x3) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
      ⊢ wp frame (wpE (defs₀ (F := F)) Variants.none c none) E (cc0__ffn_body i tbM0_0 htbM0_0 tbM0_1 htbM0_1 tbM0_2 htbM0_2 tbM0_3 htbM0_3 tbM0_4 htbM0_4 arg7 harg7 arg8 harg8 arg9 harg9 arg10 harg10 arg11 harg11 arg12 harg12) K := by
  simp only [cc0__ffn_body_eq_skeleton]; unfold cc0__ffn_body_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, HT2, HT3, HT4, Hk⟩
  obtain rfl := harg7.eq_unread hf0; obtain rfl := harg8.eq_unread hf1; obtain rfl := harg9.eq_unread hf2; obtain rfl := harg10.eq_unread hf3; obtain rfl := harg11.eq_unread hf4; obtain rfl := harg12.eq_unread hfs0
  sl_exec (disch := first | sl_exact hc0 | sl_exact hc1)
  sl_step
  iapply Hk
  isplitl [H0]
  · iexists _; isplitr; · ipureintro; exact harg7.read_unread _
    iexact H0
  isplitl [H1]
  · iexists _; isplitr; · ipureintro; exact harg8.read_unread _
    iexact H1
  isplitl [H2]
  · iexists _; isplitr; · ipureintro; exact harg9.read_unread _
    iexact H2
  isplitl [H3]
  · iexists _; isplitr; · ipureintro; exact harg10.read_unread _
    iexact H3
  isplitl [H4]
  · iexists _; isplitr; swap; · iexact H4
    ipureintro
    exact harg11.read_unread _
  isplitl [HS0]
  · iexists _; isplitr; swap; · iexact HS0
    ipureintro
    refine (View.read_writes_full _ _ _ _ _).trans ?_
    rw [load_whole arg7 harg7, load_whole arg8 harg8, load_whole arg9 harg9, load_whole arg10 harg10, load_whole arg12 harg12]
  isplitl [HT0]; · iexact HT0
  isplitl [HT1]; · iexact HT1
  isplitl [HT2]; · iexact HT2
  isplitl [HT3]; · iexact HT3
  iexact HT4

/-- Last hidden block: the accumulator gains its block product, and the output tile takes it on the masked rows. -/
theorem stepC (c : Dev nD) (i : grid0.Coords) (arg7 : Memref sig .tc .vmem S512x2048 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x512x2048 .bf16) (harg10 : arg10.IsWhole) (arg11 : Memref sig .tc .vmem S512x2048 .f32) (harg11 : arg11.IsWhole) (arg12 : Memref sig .tc .vmem S512x2048 .f32) (harg12 : arg12.IsWhole) (hc0 : ¬cond0_0 i) (hc1 : cond0_1 i)
    (x0 : Vec F S512x2048 .bf16) (x1 : Vec F S1x2048x512 .bf16) (x2 : Vec F S1x2048x512 .bf16) (x3 : Vec F S1x512x2048 .bf16) (d4 : Vec F S512x2048 .f32) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4) (xs0 : Vec F S512x2048 .f32) (E : Set ℕ) (K : PUnit → sProp 𝕄) :
    iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare d4 ∗ owns (c : Thread nD τ) arg12 fullShare xs0 ∗ tbPt0 c tbM0_0 xt0 ∗ tbPt0 c tbM0_1 xt1 ∗ tbPt0 c tbM0_2 xt2 ∗ tbPt0 c tbM0_3 xt3 ∗ tbPt0 c tbM0_4 xt4
        ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare (k0_pay3 (wordAt xt2 i hc1) (wordAt xt3 i hc1) (wordAt xt4 i hc1) d4 (k0_pay2 x0 x1 x2 xs0 x3)) ∗ owns (c : Thread nD τ) arg12 fullShare (k0_pay2 x0 x1 x2 xs0 x3) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
      ⊢ wp frame (wpE (defs₀ (F := F)) Variants.none c none) E (cc0__ffn_body i tbM0_0 htbM0_0 tbM0_1 htbM0_1 tbM0_2 htbM0_2 tbM0_3 htbM0_3 tbM0_4 htbM0_4 arg7 harg7 arg8 harg8 arg9 harg9 arg10 harg10 arg11 harg11 arg12 harg12) K := by
  simp only [cc0__ffn_body_eq_skeleton]; unfold cc0__ffn_body_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, HT2, HT3, HT4, Hk⟩
  obtain rfl := harg7.eq_unread hf0; obtain rfl := harg8.eq_unread hf1; obtain rfl := harg9.eq_unread hf2; obtain rfl := harg10.eq_unread hf3; obtain rfl := harg11.eq_unread hf4; obtain rfl := harg12.eq_unread hfs0
  sl_exec (disch := first | sl_exact hc0 | sl_exact hc1)
  sl_step
  iapply Hk
  isplitl [H0]
  · iexists _; isplitr; · ipureintro; exact harg7.read_unread _
    iexact H0
  isplitl [H1]
  · iexists _; isplitr; · ipureintro; exact harg8.read_unread _
    iexact H1
  isplitl [H2]
  · iexists _; isplitr; · ipureintro; exact harg9.read_unread _
    iexact H2
  isplitl [H3]
  · iexists _; isplitr; · ipureintro; exact harg10.read_unread _
    iexact H3
  isplitl [H4]
  · iexists _; isplitr; swap; · iexact H4
    ipureintro
    refine (View.read_writes_full _ _ _ _ _).trans ?_
    unfold stepC.sl.v43 stepC.sl.HS0_1 stepC.sl.r stepC.sl.r_1 stepC.sl.r_2
    rw [load_whole arg11 harg11]
    refine congrArg (k0_pay3 (wordAt xt2 i hc1) (wordAt xt3 i hc1) (wordAt xt4 i hc1) d4) ((View.readCov_full _ _ _ _ _).trans ?_)
    rw [load_whole arg7 harg7, load_whole arg8 harg8, load_whole arg9 harg9, load_whole arg10 harg10, load_whole arg12 harg12]
  isplitl [HS0]
  · iexists _; isplitr; swap; · iexact HS0
    ipureintro
    unfold stepC.sl.HS0_1
    refine (View.read_writes_full _ _ _ _ _).trans ?_
    rw [load_whole arg7 harg7, load_whole arg8 harg8, load_whole arg9 harg9, load_whole arg10 harg10, load_whole arg12 harg12]
  isplitl [HT0]; · iexact HT0
  isplitl [HT1]; · iexact HT1
  isplitl [HT2]; · iexact HT2
  isplitl [HT3]; · iexact HT3
  iexact HT4

end Cert.KernelIdeal.Own

end
-- ==== Proof.IFrame.Words.lean ====
/- The words of the prefetched tables, read at a grid point: the point's first coordinate picks the entry. -/
module

public import proofs.«01_k».proof.Proof.IFrame.Steps
public import Idealize.ShloMosaic.Lib.Pipeline.TableIdle

@[expose] public section

noncomputable section

namespace Cert.KernelIdeal.Own

open Cert.KernelIdeal.Gen
open Idealize.ShloMosaic Idealize.ShloMosaic.TcCoe
open Idealize.ShloMosaic.Pipeline (Dat Cfg Window)

variable {F : FTy → Type} [FloatOps F]

/-- The table position of entry `n`. -/
abbrev slot39 (n : ℕ) (h : n < 39) : S39.Idx := fun | ⟨0, _⟩ => ⟨n, h⟩

/-- The entry a grid point belongs to. -/
abbrev entryOf (i : grid0.Coords) : S39.Idx := slot39 (i 0).val (i 0).isLt

/-- The one position of a one-word rectangle of a table. -/
theorem word_pos (off : Fin 1 → ℕ) (inb : ∀ a, off a + S1.size a ≤ S39.size a) (i : grid0.Coords) (h : off = ![(i 0).val]) (j : S1.Idx) :
    (Rect.unit (s := S39) off S1.size inb).emb j = entryOf i := by
  subst h
  funext a
  match a with
  | ⟨0, _⟩ =>
    refine Fin.ext ?_
    have hj : (j ⟨0, by decide⟩).val = 0 := by have := (j ⟨0, by decide⟩).isLt; have e : S1.size ⟨0, by decide⟩ = 1 := rfl; omega
    show (i 0).val + 1 * (j ⟨0, by decide⟩).val = (i 0).val
    rw [hj]; omega

/-- The word the body reads. -/
theorem wordAt_eq {c : Dev nD} (k : Fin 5) (x : S39.Idx → BitVec 32) (i : grid0.Coords) (h : cond0_1 i) :
    (wordAt (F := F) (c := c) (M := tbM0_2) x i h = x (entryOf i))
    ∧ (wordAt (F := F) (c := c) (M := tbM0_3) x i h = x (entryOf i))
    ∧ (wordAt (F := F) (c := c) (M := tbM0_4) x i h = x (entryOf i)) := by
  have e := fun j => word_pos (k0_off2 i) (k0_off2_inb i h) i (k0_off2_eq i) j
  refine ⟨?_, ?_, ?_⟩ <;> exact congrArg x (e _)

/-- The word an index map reads. -/
theorem at_eq (t : pre0.Contents (Elt F)) (i : grid0.Coords) (off : Fin 1 → ℕ) (inb : ∀ a, off a + S1.size a ≤ S39.size a)
    (ho : off = ![(i 0).val]) :
    t.at 0 (Rect.unit (s := S39) off S1.size inb) numel1_S1 = t 0 (entryOf i)
    ∧ t.at 1 (Rect.unit (s := S39) off S1.size inb) numel1_S1 = t 1 (entryOf i) := by
  have e := fun j => word_pos off inb i ho j
  refine ⟨?_, ?_⟩
  · exact congrArg (t 0) (e _)
  · exact congrArg (t 1) (e _)

/-- The blocks the five index maps name at a point. -/
theorem map0_eq (t : pre0.Contents (Elt F)) (i : grid0.Coords) :
    cc0_transform_0 k0_off1_inb numel1_S1 t i = ![(t 0 (entryOf i) : BitVec 32).toNat, 0] := by
  have e := (at_eq t i _ (k0_off1_inb i) (k0_off1_eq i)).1
  exact congrArg (fun w : BitVec 32 => ![w.toNat, 0]) e
theorem map1_eq (t : pre0.Contents (Elt F)) (i : grid0.Coords) :
    cc0_transform_1 k0_off1_inb numel1_S1 t i = ![(t 1 (entryOf i) : BitVec 32).toNat, 0, (i 1).val] := by
  have h : (BitVec.ofNat 32 (i 1).val).toNat = (i 1).val := by
    have : (i 1).val < 11 := (i 1).isLt
    rw [BitVec.toNat_ofNat]; exact Nat.mod_eq_of_lt (by omega)
  have e := (at_eq t i _ (k0_off1_inb i) (k0_off1_eq i)).2
  have e2 := congrArg (fun w : BitVec 32 => ![w.toNat, 0, (BitVec.ofNat 32 (i 1).val).toNat]) e
  simp only [h] at e2
  rw [← e2, ← h]; rfl
theorem map2_eq (t : pre0.Contents (Elt F)) (i : grid0.Coords) :
    cc0_transform_2 k0_off1_inb numel1_S1 t i = ![(t 1 (entryOf i) : BitVec 32).toNat, 0, (i 1).val] := map1_eq t i
theorem map3_eq (t : pre0.Contents (Elt F)) (i : grid0.Coords) :
    cc0_transform_3 k0_off1_inb numel1_S1 t i = ![(t 1 (entryOf i) : BitVec 32).toNat, (i 1).val, 0] := by
  have h : (BitVec.ofNat 32 (i 1).val).toNat = (i 1).val := by
    have : (i 1).val < 11 := (i 1).isLt
    rw [BitVec.toNat_ofNat]; exact Nat.mod_eq_of_lt (by omega)
  have e := (at_eq t i _ (k0_off1_inb i) (k0_off1_eq i)).2
  have e2 := congrArg (fun w : BitVec 32 => ![w.toNat, (BitVec.ofNat 32 (i 1).val).toNat, 0]) e
  simp only [h] at e2
  rw [← e2, ← h]; rfl
theorem map4_eq (t : pre0.Contents (Elt F)) (i : grid0.Coords) :
    cc0_transform_4 k0_off1_inb numel1_S1 t i = ![(t 0 (entryOf i) : BitVec 32).toNat, 0] := map0_eq t i

/-- The entry of point `t`. -/
theorem entryOf_coords (t : Fin grid0.N) : (grid0.coords t 0).val = t.val / 11 := by
  have ht : t.val < 429 := Nat.lt_of_lt_of_eq t.isLt N_0
  have e0 : (grid0.coords t 0).val = t.val / 11 % 39 := Pipeline.Grid.coords_val t 0 (by decide) rfl
  omega
theorem block_coords (t : Fin grid0.N) : (grid0.coords t 1).val = t.val % 11 := by
  have e1 : (grid0.coords t 1).val = t.val / 1 % 11 := Pipeline.Grid.coords_val t 1 (by decide) rfl
  omega

/-- The output's block index at a point, at any admissible tables. -/
theorem index4_of (a : (pcfg0 (F := F)).Adm) (t : Fin grid0.N) :
    ((cfg0 a).win 4).index t = cc0_transform_4 k0_off1_inb numel1_S1 a.1 (grid0.coords t) := rfl

/-- The output's block index at a point. -/
theorem index4 (a : (pcfg0 (F := F)).Adm) (t : Fin grid0.N) :
    ((cfg0 a).win 4).index t = ![(a.1 0 (entryOf (grid0.coords t)) : BitVec 32).toNat, 0] :=
  (index4_of a t).trans (map4_eq a.1 (grid0.coords t))

/-- The output is written back at a point that is the last, or whose next point names another block. -/
theorem flush4 (a : (pcfg0 (F := F)).Adm) (t : Fin (cfg0 a).N) (h : ((cfg0 a).win 4).flush t = true) : t.val % 11 = 10 := by
  rw [Window.flush_eq_flushF] at h
  unfold Window.flushF at h
  have ht : t.val < 429 := Nat.lt_of_lt_of_eq t.isLt N_0
  rcases Bool.or_eq_true _ _ ▸ (Bool.and_eq_true _ _ ▸ h).2 with h | h
  · have : t.val + 1 = 429 := (of_decide_eq_true h).trans N_0
    omega
  · obtain ⟨h1, b, hb⟩ := of_decide_eq_true h
    by_contra hne
    apply hb
    rw [index4, index4]
    have : entryOf (grid0.coords ⟨t.val + 1, h1⟩) = entryOf (grid0.coords t) := by
      have a1 := entryOf_coords ⟨t.val + 1, h1⟩
      have a2 := entryOf_coords t
      simp only at a1
      have a3 : (grid0.coords ⟨t.val + 1, h1⟩ 0).val = (grid0.coords t 0).val := by rw [a1, a2]; omega
      unfold entryOf; congr 1
    rw [this]

/-- Nor does it happen between two entries of one tile. -/
theorem noflush4 (a : (pcfg0 (F := F)).Adm) (t : Fin (cfg0 a).N) (h1 : t.val + 1 < 429)
    (he : a.1 0 (entryOf (grid0.coords ⟨t.val + 1, Nat.lt_of_lt_of_eq h1 N_0.symm⟩)) = a.1 0 (entryOf (grid0.coords t))) :
    ((cfg0 a).win 4).flush t = false := by
  rw [Window.flush_eq_flushF]
  unfold Window.flushF
  rw [Bool.and_eq_false_iff]; right
  rw [Bool.or_eq_false_iff]
  refine ⟨decide_eq_false fun h => ?_, decide_eq_false ?_⟩
  · have : t.val + 1 = 429 := h.trans N_0
    omega
  · rintro ⟨h2, b, hb⟩
    apply hb
    rw [index4, index4, he]

/-- The output is idle before an entry's last hidden block, and not at it. -/
theorem idle4 (a : (pcfg0 (F := F)).Adm) (t : Fin grid0.N) : (cfg0 a).idle 4 (grid0.coords t) = !decide (t.val % 11 = 10) := by
  have e : (cfg0 a).idle 4 (grid0.coords t) = !(k0_cond2 (grid0.coords t) == 1#1) := rfl
  have h : (k0_cond2 (grid0.coords t) = 1#1) ↔ t.val % 11 = 10 := hcond0_1 t
  rw [e]
  congr 1
  by_cases h2 : t.val % 11 = 10
  · rw [decide_eq_true h2, h.mpr h2]; rfl
  · rw [decide_eq_false h2]; exact beq_eq_false_iff_ne.mpr fun h3 => h2 (h.mp h3)

/-- At the last hidden block of an entry whose tile the entry before already had, the output's buffer holds what that entry left. -/
theorem fresh4 (a : (pcfg0 (F := F)).Adm) (n : ℕ) (h : n + 1 < 39)
    (he : a.1 0 (slot39 (n + 1) h) = a.1 0 (slot39 n (by omega))) :
    ∀ k, k < 11 → (cfg0 a).fresh 4 (11 * (n + 1) + k) = false
  | 0, _ => by
    have hN : 11 * n + 10 < grid0.N := by rw [N_0]; omega
    have hN1 : 11 * n + 10 + 1 < grid0.N := by rw [N_0]; omega
    rw [show 11 * (n + 1) + 0 = (11 * n + 10) + 1 by omega, Cfg.fresh_succ (cfg0 a) 4 (11 * n + 10) hN]
    have e1 := entryOf_coords ⟨11 * n + 10 + 1, hN1⟩
    have e2 := entryOf_coords ⟨11 * n + 10, hN⟩
    have i1 : (cfg0 a).idle 4 ((cfg0 a).grid.coords ⟨11 * n + 10, hN⟩) = false :=
      (idle4 a ⟨11 * n + 10, hN⟩).trans (by rw [decide_eq_true (by show (11 * n + 10) % 11 = 10; omega)]; rfl)
    rw [i1, noflush4 a ⟨11 * n + 10, hN⟩ (by show 11 * n + 10 + 1 < 429; omega) ?_]
    · rfl
    · have a1 : entryOf (grid0.coords ⟨11 * n + 10 + 1, hN1⟩) = slot39 (n + 1) h := by
        unfold entryOf; congr 1; rw [e1]; show (11 * n + 10 + 1) / 11 = n + 1; omega
      have a2 : entryOf (grid0.coords ⟨11 * n + 10, hN⟩) = slot39 n (by omega) := by
        unfold entryOf; congr 1; rw [e2]; show (11 * n + 10) / 11 = n; omega
      rw [a1, a2, he]
  | k + 1, hk => by
    have hN : 11 * (n + 1) + k < grid0.N := by rw [N_0]; omega
    rw [show 11 * (n + 1) + (k + 1) = (11 * (n + 1) + k) + 1 by omega, Cfg.fresh_succ (cfg0 a) 4 _ hN, fresh4 a n h he k (by omega)]
    have hf : ((cfg0 a).win 4).flush ⟨11 * (n + 1) + k, hN⟩ = false := by
      by_contra hc
      have := flush4 a ⟨11 * (n + 1) + k, hN⟩ (by simpa using hc)
      simp only at this
      omega
    rw [hf, Bool.and_false]; rfl

/-- An entry not marked first finds the tile the entry before left, when every such entry follows one of the same tile. -/
theorem fresh_chained (a : (pcfg0 (F := F)).Adm)
    (hB : ∀ n (h : n < 39), a.1 4 (slot39 n h) ≠ (1#32 : BitVec 32) → ∃ _ : 0 < n, a.1 0 (slot39 n h) = a.1 0 (slot39 (n - 1) (by omega)))
    (t : Fin grid0.N) (h : t.val % 11 = 10) (h4 : a.1 4 (entryOf (grid0.coords t)) ≠ (1#32 : BitVec 32)) : (cfg0 a).fresh 4 t.val = false := by
  have ht : t.val < 429 := Nat.lt_of_lt_of_eq t.isLt N_0
  have e : entryOf (grid0.coords t) = slot39 (t.val / 11) (by omega) := by
    have e1 := entryOf_coords t
    unfold entryOf
    congr 1
  rw [e] at h4
  obtain ⟨hn, he⟩ := hB (t.val / 11) (by omega) h4
  obtain ⟨k, hk⟩ : ∃ k, t.val / 11 = k + 1 := ⟨t.val / 11 - 1, by omega⟩
  have hk2 : k + 1 < 39 := by omega
  have e2 : slot39 (t.val / 11) (by omega) = slot39 (k + 1) hk2 := by congr 1
  have e3 : slot39 (t.val / 11 - 1) (by omega) = slot39 k (by omega) := by congr 1; omega
  rw [e2, e3] at he
  have := fresh4 a k hk2 he 10 (by omega)
  rwa [show 11 * (k + 1) + 10 = t.val by omega] at this

end Cert.KernelIdeal.Own

end
-- ==== Proof.IFrame.RegionData.lean ====
/- The idealized kernel's run with its output named: after each point the accumulator and the output tile are those of a recursion over the points. -/
module

public import proofs.«01_k».proof.Proof.IFrame.Words
public import Idealize.ShloMosaic.Lib.Claim

@[expose] public section

-- rectangles of full size (`View.cover_of_tiled`) need the deeper recursion
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point number `t` of the grid. -/
def point (t : ℕ) : Fin grid0.N := if h : t < grid0.N then ⟨t, h⟩ else ⟨0, by rw [N_0]; omega⟩

theorem point_val (t : Fin grid0.N) : point t.val = t := by unfold point; rw [dif_pos t.isLt]

/-- The words of the last three tables at point `t`'s entry. -/
def word2 (a : (pcfg0 (F := F)).Adm) (t : Fin grid0.N) : BitVec 32 := a.1 2 (entryOf (grid0.coords t))
@[inherit_doc word2] def word3 (a : (pcfg0 (F := F)).Adm) (t : Fin grid0.N) : BitVec 32 := a.1 3 (entryOf (grid0.coords t))
@[inherit_doc word2] def word4 (a : (pcfg0 (F := F)).Adm) (t : Fin grid0.N) : BitVec 32 := a.1 4 (entryOf (grid0.coords t))

/-- The body's loads read those words. -/
theorem word_load {c : Dev nD} (a : (pcfg0 (F := F)).Adm) (t : Fin grid0.N) (h : cond0_1 (grid0.coords t)) :
    (wordAt (F := F) (c := c) (M := tbM0_2) (a.1 2) (grid0.coords t) h = word2 a t)
    ∧ (wordAt (F := F) (c := c) (M := tbM0_3) (a.1 3) (grid0.coords t) h = word3 a t)
    ∧ (wordAt (F := F) (c := c) (M := tbM0_4) (a.1 4) (grid0.coords t) h = word4 a t) :=
  ⟨(wordAt_eq (F := F) (c := c) 0 (a.1 2) (grid0.coords t) h).1, (wordAt_eq (F := F) (c := c) 0 (a.1 3) (grid0.coords t) h).2.1,
    (wordAt_eq (F := F) (c := c) 0 (a.1 4) (grid0.coords t) h).2.2⟩

/-- One accumulation step at point `t` from accumulator `a`. -/
abbrev step (hO : Ok m) (c : Dev nD) (a : Vec F S512x2048 .f32) (t : Fin grid0.N) : Vec F S512x2048 .f32 :=
  k0_pay2 (iblk m hO c 0 t) (iblk m hO c 1 t) (iblk m hO c 2 t) a (iblk m hO c 3 t)

/-- The accumulator after point `t`. -/
def accT (hO : Ok m) (c : Dev nD) : ℕ → Vec F S512x2048 .f32
  | 0 => step m hO c (k0_pay1 (F := F)) (point 0)
  | t + 1 => step m hO c (if (t + 1) % 11 = 0 then k0_pay1 (F := F) else accT hO c t) (point (t + 1))

/-- The output tile's buffer after point `t`. -/
def outT (hO : Ok m) (c : Dev nD) : ℕ → Vec F S512x2048 .f32
  | 0 => k0_pay1 (F := F)
  | t + 1 => if (t + 1) % 11 = 10 then
      k0_pay3 (word2 (adm m hO) (point (t + 1))) (word3 (adm m hO) (point (t + 1))) (word4 (adm m hO) (point (t + 1))) (outT hO c t) (accT m hO c (t + 1))
    else outT hO c t

theorem accT_first (hO : Ok m) (c : Dev nD) (t : Fin grid0.N) (h : t.val % 11 = 0) :
    accT m hO c t.val = step m hO c (k0_pay1 (F := F)) t := by
  have e := point_val t
  cases hv : t.val with
  | zero => rw [hv] at e; exact congrArg _ e
  | succ n => rw [hv] at e; show step m hO c _ _ = _; rw [if_pos (hv ▸ h), e]

theorem accT_next (hO : Ok m) (c : Dev nD) (t : Fin grid0.N) (h : ¬t.val % 11 = 0) :
    accT m hO c t.val = step m hO c (accT m hO c (t.val - 1)) t := by
  have e := point_val t
  cases hv : t.val with
  | zero => rw [hv] at h; exact absurd rfl h
  | succ n => rw [hv] at e; show step m hO c _ _ = _; rw [if_neg (hv ▸ h), e]; rfl

theorem outT_last (hO : Ok m) (c : Dev nD) (t : Fin grid0.N) (h : t.val % 11 = 10) :
    outT m hO c t.val = k0_pay3 (word2 (adm m hO) t) (word3 (adm m hO) t) (word4 (adm m hO) t) (outT m hO c (t.val - 1)) (accT m hO c t.val) := by
  have e := point_val t
  cases hv : t.val with
  | zero => rw [hv] at h; omega
  | succ n => rw [hv] at e; show (if _ then _ else _) = _; rw [if_pos (hv ▸ h), e]; rfl

theorem outT_idle (hO : Ok m) (c : Dev nD) (t : ℕ) (h0 : t ≠ 0) (h : ¬t % 11 = 10) :
    outT m hO c t = outT m hO c (t - 1) := by
  cases t with
  | zero => exact absurd rfl h0
  | succ n => show (if _ then _ else _) = _; rw [if_neg h]; rfl

/-- What the accumulator holds before point `n`: at an entry's first point, anything. -/
def PhiS (hO : Ok m) (c : Dev nD) (n : ℕ) : sProp 𝕄 :=
  if n % 11 = 0 then iprop(∃ d, owns (c : Thread nD τ) scM0_0 fullShare d)
  else iprop(owns (c : Thread nD τ) scM0_0 fullShare (accT m hO c (n - 1)))

/-- The proof data of the one pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outT m hO c t.val
  Φ t := iprop((PhiS m hO c t.val ∗ (∃ r, prngReg c r)) ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl

theorem after0_4 (hO : Ok m) (c : Dev nD) (t : Fin (cfgM m hO).N) : (dats m hO 0 c).after 4 t = outT m hO c t.val := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- The output's buffer before point `t`. -/
theorem before0_4 (hO : Ok m) (c : Dev nD) (t : Fin (cfgM m hO).N) (d) :
    (dats m hO 0 c).before 4 t d = if (cfgM m hO).fresh 4 t.val then d else outT m hO c (t.val - 1) := by
  have h := (dats m hO 0 c).before_out_traj 4 rfl (fun _ _ => rfl) (fun t ht hi _ => by
    rw [after0_4, after0_4]
    have hi' := (idle4 (adm m hO) t).symm.trans hi
    exact outT_idle m hO c t.val ht (by simpa using hi')) t.val t rfl d
  rw [h, after0_4]

/-- The entry rule: an entry not marked first follows one of the same tile. -/
def Chained (a : (pcfg0 (F := F)).Adm) : Prop := ∀ n (h : n < 39), a.1 4 (slot39 n h) ≠ (1#32 : BitVec 32) →
  ∃ _ : 0 < n, a.1 0 (slot39 n h) = a.1 0 (slot39 (n - 1) (by omega))

/-- An entry marked first does not read what the output's buffer held. -/
theorem pay3_first (a b d : BitVec 32) (h : d = 1#32) (x y z : Vec F S512x2048 .f32) : k0_pay3 (F := F) a b d x z = k0_pay3 a b d y z := by
  subst h
  rfl

/-- What an entry's last point leaves in the output's buffer. -/
theorem leave4 (hO : Ok m) (hB : Chained (adm m hO)) (c : Dev nD) (t : Fin (cfgM m hO).N) (h : t.val % 11 = 10) (d : Vec F S512x2048 .f32) :
    k0_pay3 (word2 (adm m hO) t) (word3 (adm m hO) t) (word4 (adm m hO) t) ((if (cfgM m hO).fresh 4 t.val then d else outT m hO c (t.val - 1)) : Vec F S512x2048 .f32) (accT m hO c t.val)
      = outT m hO c t.val := by
  rw [outT_last m hO c t h]
  by_cases h1 : (word4 (adm m hO) t : BitVec 32) = 1#32
  · exact pay3_first _ _ _ h1 _ _ _
  · rw [show (cfgM m hO).fresh 4 t.val = false from fresh_chained (adm m hO) hB t h h1]
    rfl

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

/-- The same, in the words the body's load reads. -/
theorem tile_left (hO : Ok m) (hB : Chained (adm m hO)) (c : Dev nD) (t : Fin (cfgM m hO).N) (h0 : ¬t.val % 11 = 0) (h1 : t.val % 11 = 10) (d4 : Vec F S512x2048 .f32) :
    k0_pay3 (wordAt (F := F) (c := c) (M := tbM0_2) ((adm m hO).1 2) (grid0.coords t) ((hcond0_1 t).mpr h1)) (wordAt (F := F) (c := c) (M := tbM0_3) ((adm m hO).1 3) (grid0.coords t) ((hcond0_1 t).mpr h1)) (wordAt (F := F) (c := c) (M := tbM0_4) ((adm m hO).1 4) (grid0.coords t) ((hcond0_1 t).mpr h1))
      ((dats m hO 0 c).before 4 t d4) (step m hO c (accT m hO c (t.val - 1)) t) = outT m hO c t.val := by
  obtain ⟨e2, e3, e4⟩ := word_load (c := c) (adm m hO) t ((hcond0_1 t).mpr h1)
  rw [e2, e3, e4, ← accT_next m hO c t h0]
  refine Eq.trans ?_ (leave4 m hO hB c t h1 d4)
  exact congrArg (fun z => k0_pay3 (word2 (adm m hO) t) (word3 (adm m hO) t) (word4 (adm m hO) t) z (accT m hO c t.val)) (before0_4 m hO c t d4)

/-- At an idle point the output's buffer is handed back as found. -/
theorem leaves4_idle (hO : Ok m) (c : Dev nD) (t : Fin (cfgM m hO).N) (h : ¬t.val % 11 = 10) :
    (dats m hO 0 c).leavesExact 4 t = (iprop(∃ d, owns (c : Thread nD τ) (ms0_4 m hO t) fullShare ((dats m hO 0 c).before 4 t d)) : sProp 𝕄) := by
  have i1 : (cfgM m hO).idle 4 ((cfgM m hO).grid.coords t) = true := (idle4 (adm m hO) t).trans (by rw [decide_eq_false h]; rfl)
  have f1 : ((cfgM m hO).win 4).flush t = false := by
    by_contra hc
    exact h (flush4 (adm m hO) t (by simpa using hc))
  unfold Dat.leavesExact; rw [i1, f1]; rfl

/-- At an entry's last point it holds the entry's tile. -/
theorem leaves4_last (hO : Ok m) (c : Dev nD) (t : Fin (cfgM m hO).N) (h : t.val % 11 = 10) :
    (dats m hO 0 c).leavesExact 4 t = (owns (c : Thread nD τ) (ms0_4 m hO t) fullShare (outT m hO c t.val) : sProp 𝕄) := by
  have i1 : (cfgM m hO).idle 4 ((cfgM m hO).grid.coords t) = false := (idle4 (adm m hO) t).trans (by rw [decide_eq_true h]; rfl)
  unfold Dat.leavesExact; rw [i1]
  exact congrArg (owns (c : Thread nD τ) (ms0_4 m hO t) fullShare) (after0_4 m hO c t)

end Cert.KernelIdeal.Own

end
-- ==== Proof.Math.Route.lean ====
/- The router's picks and their stable sort by expert: the two picks of a token are different experts below 8, and the sort
   lists the picks of each expert together, expert by expert. -/
module

public import Idealize.ShloMosaic.Lib.SortFacts
public import Idealize.ShloMosaic.Lib.Routing.Ops
public import Idealize.ShloMosaic.Lib.Routing.OpsSet
public import Idealize.ShloMosaic.Lib.Routing.OpsSearch
public import Idealize.ShloMosaic.Lib.Routing.OpsPair
public import Idealize.ShloMosaic.Lib.Routing.OpsOne
public import Idealize.ShloMosaic.Lib.Routing.Words
public import Idealize.ShloMosaic.Lib.SortNet.HostSort
public import Idealize.ShloMosaic.Lib.ValueIdxCore

@[expose] public section

noncomputable section

namespace Cert.Route

open Idealize.ShloMosaic Idealize.ShloMosaic.ValueIdx

/-- A two-axis index moved along its second axis. -/
theorem along_second {a b : ℕ} (i : Fin a) (c q : Fin b) (h : 1 < (⟨2, ![a, b]⟩ : Shape).rank) :
    (ix2 i c : (⟨2, ![a, b]⟩ : Shape).Idx).along ⟨1, h⟩ q = ix2 i q := by
  funext k
  match k with
  | ⟨0, _⟩ => rfl
  | ⟨1, _⟩ => rfl

/-- The top two of eight: each row's picks are the first two values of an injection of positions. -/
theorem topk_spec {α : Type} (gt : α → α → BitVec 1) (x : (⟨2, ![8192, 8]⟩ : Shape).Idx → α)
    (h : (⟨2, ![8192, 8]⟩ : Shape).Slices (fun _ => 0) ⟨2, ![8192, 2]⟩) :
    ∃ σ : Fin 8192 → Fin 8 → Fin 8, (∀ t, Function.Injective (σ t)) ∧ ∀ t (k : Fin 2),
      (Host.topK ⟨2, ![8192, 2]⟩ 1 gt x h).2 (ix2 t k) = BitVec.ofNat 32 (σ t ⟨k.val, by omega⟩).val := by
  refine ⟨fun t => sortedFrom fun a b => gt (x (ix2 t a)) (x (ix2 t b)) == 1#1, fun t => sortedFrom_injective _, fun t k => ?_⟩
  have h1 : 1 < (⟨2, ![8192, 8]⟩ : Shape).rank := by decide
  have e : ∀ q : Fin 8, (ix2 t (⟨0 + k.val, by omega⟩ : Fin 8) : (⟨2, ![8192, 8]⟩ : Shape).Idx).along ⟨1, h1⟩ q = ix2 t q :=
    fun q => along_second t _ q _
  have hs : (Host.topK ⟨2, ![8192, 2]⟩ 1 gt x h).2 (ix2 t k)
      = (Host.sort2 (⟨2, ![8192, 8]⟩ : Shape) 1 (fun l r => gt l.1 r.1) x (fun i : (⟨2, ![8192, 8]⟩ : Shape).Idx => (iotaInDim (⟨2, ![8192, 8]⟩ : Shape) 32 ⟨1, by decide⟩ i : BitVec 32))).2
        (ix2 t (⟨0 + k.val, by omega⟩ : Fin 8)) := by
    unfold Host.topK
    simp only [dif_pos (show 1 < (⟨2, ![8192, 8]⟩ : Shape).rank by decide)]
    refine congrArg (Host.sort2 (⟨2, ![8192, 8]⟩ : Shape) 1 (fun l r => gt l.1 r.1) x (fun i : (⟨2, ![8192, 8]⟩ : Shape).Idx => (iotaInDim (⟨2, ![8192, 8]⟩ : Shape) 32 ⟨1, by decide⟩ i : BitVec 32))).2 ?_
    funext q
    match q with
    | ⟨0, _⟩ => exact Fin.ext (Nat.zero_add _)
    | ⟨1, _⟩ => rfl
  rw [hs]
  unfold Host.sort2
  rw [dif_pos (show 1 < (⟨2, ![8192, 8]⟩ : Shape).rank by decide)]
  show (iotaInDim (⟨2, ![8192, 8]⟩ : Shape) 32 ⟨1, by decide⟩ ((ix2 t (⟨0 + k.val, by omega⟩ : Fin 8) : (⟨2, ![8192, 8]⟩ : Shape).Idx).along ⟨1, by decide⟩ _) : BitVec 32) = _
  refine (congrArg (iotaInDim (⟨2, ![8192, 8]⟩ : Shape) 32 ⟨1, by decide⟩) (e _)).trans ?_
  show BitVec.ofNat 32 (sortedFrom _ (⟨0 + k.val, _⟩ : Fin 8)).val = _
  have e2 : (⟨0 + k.val, by omega⟩ : Fin 8) = ⟨k.val, by omega⟩ := Fin.ext (Nat.zero_add _)
  rw [e2]
  exact congrArg (fun f : Fin 8 → Fin 8 → Bool => BitVec.ofNat 32 (sortedFrom f (⟨k.val, by omega⟩ : Fin 8)).val)
    (funext fun a => funext fun b => congrArg₂ (fun p q => gt (x p) (x q) == 1#1) (along_second t _ a h1) (along_second t _ b h1))

/-- The stable sort of words below `2 ^ 31` with their positions: a permutation of the positions along which the words do
    not decrease. -/
theorem argsort_spec {n : ℕ} (cmp : BitVec 32 × BitVec 32 → BitVec 32 × BitVec 32 → BitVec 1)
    (hc : ∀ l r, cmp l r = IntOp.cmpi .slt l.1 r.1) (x : IVec ⟨1, ![n]⟩ 32) (f : Fin n → ℕ) (hf : ∀ i, x (ix1 i) = BitVec.ofNat 32 (f i))
    (hlt : ∀ i, f i < 2 ^ 31) :
    ∃ π : Fin n → Fin n, Function.Bijective π ∧ (∀ i j, i < j → f (π i) ≤ f (π j)) ∧ ∀ i,
      (Host.sort2 ⟨1, ![n]⟩ 0 cmp x (iotaInDim ⟨1, ![n]⟩ 32 0)).2 (ix1 i) = BitVec.ofNat 32 (π i).val := by
  have hk : ∀ i j : Fin n, (cmp (x (ix1 i), BitVec.ofNat 32 i.val) (x (ix1 j), BitVec.ofNat 32 j.val) == 1#1) = decide (f i < f j) := by
    intro i j
    rw [hc]
    show (IntOp.cmpi .slt (x (ix1 i)) (x (ix1 j)) == 1#1) = _
    rw [hf, hf]
    show (BitVec.ofBool ((BitVec.ofNat 32 (f i)).slt (BitVec.ofNat 32 (f j))) == 1#1) = _
    rw [Routing.slt_ofNat32 (hlt i) (hlt j)]
    cases decide (f i < f j) <;> rfl
  refine ⟨sortedFrom fun i j => decide (f i < f j), ⟨sortedFrom_injective _, sortedFrom_surjective _⟩, fun i j hij => ?_, fun i => ?_⟩
  · have := sortedFrom_noInversion (fun i j => decide (f i < f j)) (fun i j => decide (f i < f j))
      (fun a b h => by simp only [decide_eq_true_eq, decide_eq_false_iff_not] at *; omega)
      (fun a b h => h)
      (fun a b c h1 h2 => by simp only [decide_eq_false_iff_not] at *; omega) i j hij
    simp only [decide_eq_false_iff_not] at this
    omega
  · have h0 : 0 < (⟨1, ![n]⟩ : Shape).rank := Nat.one_pos
    have e : ∀ (j : (⟨1, ![n]⟩ : Shape).Idx) (q : Fin n), j.along ⟨0, h0⟩ q = ix1 q := by
      intro j q
      funext k
      match k with
      | ⟨0, _⟩ => rfl
    unfold Host.sort2
    rw [dif_pos h0]
    show (iotaInDim (⟨1, ![n]⟩ : Shape) 32 0 ((ix1 i : (⟨1, ![n]⟩ : Shape).Idx).along ⟨0, h0⟩ _) : BitVec 32) = _
    refine (congrArg (iotaInDim (⟨1, ![n]⟩ : Shape) 32 0) (e _ _)).trans ?_
    show BitVec.ofNat 32 (sortedFrom _ i).val = _
    refine congrArg (fun f : Fin n → Fin n → Bool => BitVec.ofNat 32 (sortedFrom f i).val) (funext fun a => funext fun b => ?_)
    refine Eq.trans ?_ (hk a b)
    exact congrArg₂ (fun p q => cmp (x p, (iotaInDim (⟨1, ![n]⟩ : Shape) 32 0 p : BitVec 32)) (x q, (iotaInDim (⟨1, ![n]⟩ : Shape) 32 0 q : BitVec 32)) == 1#1) (e _ a) (e _ b)

end Cert.Route

end
-- ==== Proof.Math.Lands.lean ====
/- Scatters into a short vector: where an update lands, and how a scatter of ones counts. -/
module

public import proofs.«01_k».proof.Proof.Math.Route

@[expose] public section

noncomputable section

namespace Cert.Route

open Idealize.ShloMosaic Idealize.ShloMosaic.ValueIdx Idealize.ShloMosaic.Routing

/-- An update of a one-axis scatter lands on the element its index word names. -/
theorem lands {N U : ℕ} (d : ScatterDims (shape1 N) (shape2 U 1) (shape1 U)) (hiw : d.insertedWindowDims = [0])
    (hsd : d.scatterDimsToOperandDims = [0]) (hivd : d.indexVectorDim = 1) (idx : IVec (shape2 U 1) 32) (i : Fin U) (x : Fin N) :
    d.resultIdx? (ix1 i) idx = some (ix1 x) ↔ (idx (ix2 i (0 : Fin 1))).toInt = (x.val : ℤ) := by
  have mem : (0 : Fin 1) ∈ d.scatterDimsToOperandDims := hsd ▸ List.mem_singleton.2 rfl
  have w0 : d.window (ix1 i) 0 = 0 := by
    unfold ScatterDims.window
    refine dif_neg fun h => ?_
    have := (List.mem_filter.1 h).2
    rw [hiw] at this
    simp at this
  have c0 : ∀ X : Fin 1, (ix1 i X).val = i.val := fun X => by rw [Fin.eq_zero X]
  have ixs : d.siIdx (ix1 i) ⟨d.scatterDimsToOperandDims.idxOf 0, List.idxOf_lt_length_iff.2 mem⟩ = ix2 i (0 : Fin 1) := by
    funext q
    refine Fin.ext ?_
    match q with
    | ⟨0, _⟩ =>
      unfold ScatterDims.siIdx
      rw [dif_neg (by rw [hivd]; exact Nat.zero_ne_one)]
      unfold ScatterDims.siCoord
      exact c0 _
    | ⟨1, _⟩ =>
      unfold ScatterDims.siIdx
      rw [dif_pos (by rw [hivd])]
      change List.idxOf (0 : Fin 1) d.scatterDimsToOperandDims = 0
      rw [hsd]
      rfl
  have s0 : d.start (ix1 i) idx 0 = (idx (ix2 i (0 : Fin 1))).toInt := by
    unfold ScatterDims.start
    rw [dif_pos mem, ixs]
  rw [resultIdx?_ix1, s0, w0]
  simp

/-- The word of a small number as a signed integer. -/
theorem toInt_small {n : ℕ} (h : n < 2 ^ 31) : (BitVec.ofNat 32 n).toInt = (n : ℤ) := by
  have h1 : (BitVec.ofNat 32 n).toNat = n := by rw [BitVec.toNat_ofNat]; omega
  rw [BitVec.toInt_eq_toNat_of_lt (by rw [h1]; omega), h1]

/-- A scatter of ones into zeros counts the updates naming each element. -/
theorem histogram {N U : ℕ} (d : ScatterDims (shape1 N) (shape2 U 1) (shape1 U)) (hiw : d.insertedWindowDims = [0])
    (hsd : d.scatterDimsToOperandDims = [0]) (hivd : d.indexVectorDim = 1) (x0 : IVec (shape1 N) 32) (hx : ∀ i, x0 i = 0#32)
    (idx : IVec (shape2 U 1) 32) (upd : IVec (shape1 U) 32) (hu : ∀ i, upd i = 1#32) (f : Fin U → ℕ) (hf : ∀ i, f i < 2 ^ 31)
    (hi : ∀ i, idx (ix2 i (0 : Fin 1)) = BitVec.ofNat 32 (f i)) (x : Fin N) :
    Host.scatter d IntOp.addi x0 idx upd (ix1 x) = BitVec.ofNat 32 (Finset.univ.filter fun i => f i = x.val).card := by
  rw [scatter_at]
  have hit : ∀ n : Fin (shape1 U).numel, d.resultIdx? ((shape1 U).rowMajor.symm n) idx = some (ix1 x)
      ↔ f ((shape1 U).rowMajor.symm n 0) = x.val := by
    intro n
    obtain ⟨i, e⟩ : ∃ i : Fin U, (shape1 U).rowMajor.symm n = ix1 i := ⟨(shape1 U).rowMajor.symm n 0, by
      funext q
      match q with
      | ⟨0, _⟩ => rfl⟩
    rw [e, lands d hiw hsd hivd, hi, toInt_small (hf _)]
    exact Int.natCast_inj
  have key := foldl_count (ι := Fin (shape1 U).numel) (I := Unit)
    (fun r n _ => if d.resultIdx? ((shape1 U).rowMajor.symm n) idx = some (ix1 x) then IntOp.addi (r ()) (upd ((shape1 U).rowMajor.symm n)) else r ())
    () (fun n => decide (f ((shape1 U).rowMajor.symm n 0) = x.val))
    (fun r n => by simp only [hit, hu, decide_eq_true_eq]) (List.finRange (shape1 U).numel) (fun _ => x0 (ix1 x)) 0 (hx _)
  have fold : ∀ (l : List (Fin (shape1 U).numel)) (a : BitVec 32),
      l.foldl (fun a n => if d.resultIdx? ((shape1 U).rowMajor.symm n) idx = some (ix1 x) then IntOp.addi a (upd ((shape1 U).rowMajor.symm n)) else a) a
        = l.foldl (fun (r : Unit → BitVec 32) n _ => if d.resultIdx? ((shape1 U).rowMajor.symm n) idx = some (ix1 x) then IntOp.addi (r ()) (upd ((shape1 U).rowMajor.symm n)) else r ()) (fun _ => a) () := by
    intro l
    induction l with
    | nil => intro a; rfl
    | cons n l ih => intro a; rw [List.foldl_cons, List.foldl_cons, ih]
  rw [fold, key, Nat.zero_add]
  congr 1
  rw [List.countP_eq_length_filter]
  have c1 : ((List.finRange (shape1 U).numel).filter fun n => decide (f ((shape1 U).rowMajor.symm n 0) = x.val)).length
      = (Finset.univ.filter fun n : Fin (shape1 U).numel => f ((shape1 U).rowMajor.symm n 0) = x.val).card := by
    rw [← List.toFinset_card_of_nodup ((List.nodup_finRange _).filter _)]
    congr 1
    ext n
    simp
  rw [c1]
  refine Finset.card_bij (fun n _ => (shape1 U).rowMajor.symm n 0) (fun n hn => ?_) (fun a _ b _ h => ?_) (fun i hi => ?_)
  · exact Finset.mem_filter.2 ⟨Finset.mem_univ _, (Finset.mem_filter.1 hn).2⟩
  · refine (shape1 U).rowMajor.symm.injective (funext fun q => ?_)
    match q with
    | ⟨0, _⟩ => exact h
  · refine ⟨(shape1 U).rowMajor (ix1 i), ?_, ?_⟩
    · simp only [Finset.mem_filter, Finset.mem_univ, true_and, Equiv.symm_apply_apply] at hi ⊢
      exact hi
    · simp only [Equiv.symm_apply_apply]
      rfl

/-- In a list that does not decrease, the elements below a bound come first. -/
theorem below_first {n : ℕ} (a : Fin n → ℕ) (ha : ∀ i j, i < j → a i ≤ a j) (e c : ℕ) (hc : (Finset.univ.filter fun i => a i < e).card = c)
    (g : Fin n) : g.val < c ↔ a g < e := by
  have mono : ∀ i j, i ≤ j → a i ≤ a j := fun i j h => h.lt_or_eq.elim (ha i j) fun h => h ▸ le_rfl
  constructor
  · intro h
    by_contra hn
    have sub : (Finset.univ.filter fun i => a i < e) ⊆ Finset.Iio g := by
      intro i hi
      rw [Finset.mem_filter] at hi
      rw [Finset.mem_Iio]
      by_contra hg
      have := mono g i (not_lt.1 hg)
      omega
    have := Finset.card_le_card sub
    rw [hc, Fin.card_Iio] at this
    omega
  · intro h
    have sub : Finset.Iic g ⊆ Finset.univ.filter fun i => a i < e := by
      intro i hi
      rw [Finset.mem_Iic] at hi
      exact Finset.mem_filter.2 ⟨Finset.mem_univ _, lt_of_le_of_lt (mono i g hi) h⟩
    have := Finset.card_le_card sub
    rw [hc, Fin.card_Iic] at this
    omega

end Cert.Route

end
-- ==== Proof.Math.Sched.lean ====
/- The grouped schedule over the natural numbers: which (tile, expert) pairs meet, their listing in order, and what
   a sweep over the listing that patches each tile's rows leaves in every tile. -/
module

public import Mathlib.Data.Nat.Count
public import Mathlib.Algebra.BigOperators.Intervals
public import Mathlib.Algebra.Order.BigOperators.Group.Finset
public import Mathlib.Tactic.Ring
public import Mathlib.Tactic.Linarith

@[expose] public section

namespace Cert.Sched

/-- Where expert `k`'s rows start: the rows of the experts before it. -/
def st (cnt : ℕ → ℕ) (k : ℕ) : ℕ := ∑ j ∈ Finset.range k, cnt j

/-- Pair `p = 8 m + e` meets: tile `m` and expert `e`'s rows overlap or touch inside. -/
def act (cnt : ℕ → ℕ) (p : ℕ) : Prop := st cnt (p % 8) < 512 * (p / 8 + 1) ∧ 512 * (p / 8) < st cnt (p % 8 + 1)

instance (cnt : ℕ → ℕ) : DecidablePred (act cnt) := fun _ => inferInstanceAs (Decidable (_ ∧ _))

variable {cnt : ℕ → ℕ}

theorem st_succ (k : ℕ) : st cnt (k + 1) = st cnt k + cnt k := Finset.sum_range_succ _ _

theorem st_zero : st cnt 0 = 0 := rfl

theorem st_mono {a b : ℕ} (h : a ≤ b) : st cnt a ≤ st cnt b :=
  Finset.sum_le_sum_of_subset (Finset.range_mono h)

/-- A number's place in the listing of a predicate's members, turned back: below the count every place is taken. -/
theorem exists_count (P : ℕ → Prop) [DecidablePred P] : ∀ N i, i < Nat.count P N → ∃ p, p < N ∧ P p ∧ Nat.count P p = i
  | 0, i, h => by simp at h
  | N + 1, i, h => by
    rw [Nat.count_succ] at h
    by_cases hi : i < Nat.count P N
    · obtain ⟨p, hp, h1, h2⟩ := exists_count P N i hi
      exact ⟨p, by omega, h1, h2⟩
    · by_cases hN : P N
      · rw [if_pos hN] at h
        exact ⟨N, by omega, hN, by omega⟩
      · rw [if_neg hN] at h; omega

/-- Two members with the same place are the same. -/
theorem count_inj (P : ℕ → Prop) [DecidablePred P] {p q : ℕ} (hp : P p) (hq : P q) (h : Nat.count P p = Nat.count P q) : p = q :=
  Nat.count_injective hp hq h

/-- Members are placed in order. -/
theorem count_lt (P : ℕ → Prop) [DecidablePred P] {p q : ℕ} (hp : P p) (h : p < q) : Nat.count P p < Nat.count P q := by
  have := Nat.count_monotone P (show p + 1 ≤ q from h)
  rw [Nat.count_succ, if_pos hp] at this
  omega

/-- Along meeting pairs the sum of tile and expert grows: so the place of a meeting pair is at most that sum. -/
theorem count_le_sum : ∀ p, p < 256 → act cnt p → Nat.count (act cnt) p ≤ p / 8 + p % 8 := by
  suffices h : ∀ n p, p ≤ n → p < 256 → act cnt p → Nat.count (act cnt) p ≤ p / 8 + p % 8 from fun p => h p p le_rfl
  intro n
  induction n with
  | zero => intro p hp _ _; obtain rfl : p = 0 := by omega
            simp
  | succ n ih =>
    intro p hp hlt ha
    by_cases h0 : Nat.count (act cnt) p = 0
    · omega
    · obtain ⟨q, hq, hqa, hqc⟩ := exists_count (act cnt) p (Nat.count (act cnt) p - 1) (by omega)
      have := ih q (by omega) (by omega) hqa
      have key : q / 8 + q % 8 < p / 8 + p % 8 := by
        obtain ⟨a1, a2⟩ := ha
        obtain ⟨b1, b2⟩ := hqa
        by_cases hm : q / 8 = p / 8
        · omega
        · have hm' : q / 8 + 1 ≤ p / 8 := by omega
          by_contra hc
          have he : p % 8 + 1 ≤ q % 8 := by omega
          have := st_mono (cnt := cnt) he
          have : 512 * (q / 8 + 1) ≤ 512 * (p / 8) := Nat.mul_le_mul_left _ hm'
          omega
      omega

/-- At most 39 pairs meet. -/
theorem count_all_le : Nat.count (act cnt) 256 ≤ 39 := by
  by_contra hc
  obtain ⟨p, hp, ha, h⟩ := exists_count (act cnt) 256 (Nat.count (act cnt) 256 - 1) (by omega)
  have := count_le_sum p hp ha
  omega

/-- Every tile meets an expert. -/
theorem exists_act (h8 : st cnt 8 = 16384) {m : ℕ} (hm : m < 32) : ∃ p, p < 256 ∧ p / 8 = m ∧ act cnt p := by
  have hex : ∃ e, 512 * m < st cnt (e + 1) := ⟨7, by rw [h8]; omega⟩
  classical
  let e := Nat.find hex
  have h1 : 512 * m < st cnt (e + 1) := Nat.find_spec hex
  have he : e ≤ 7 := Nat.find_min' hex (by rw [h8]; omega)
  have h2 : st cnt e ≤ 512 * m := by
    by_cases h0 : e = 0
    · rw [h0, st_zero]; omega
    · have := Nat.find_min hex (m := e - 1) (by show e - 1 < e; omega)
      rw [show e - 1 + 1 = e by omega] at this
      omega
  refine ⟨8 * m + e, by omega, by omega, ?_⟩
  have a1 : (8 * m + e) / 8 = m := by omega
  have a2 : (8 * m + e) % 8 = e := by omega
  unfold act
  rw [a1, a2]
  exact ⟨by omega, h1⟩

theorem count_pos (h8 : st cnt 8 = 16384) : 0 < Nat.count (act cnt) 256 := by
  obtain ⟨p, hp, _, ha⟩ := exists_act h8 (m := 0) (by omega)
  have := count_lt (act cnt) ha hp
  omega

/-- The listing: entry `i` is the `min i (n-1)`-th of the `n` meeting pairs. -/
structure Listing (cnt : ℕ → ℕ) (P : ℕ → ℕ) : Prop where
  act : ∀ i, P i < 256 ∧ act cnt (P i)
  place : ∀ i, Nat.count (Sched.act cnt) (P i) = min i (Nat.count (Sched.act cnt) 256 - 1)

theorem exists_listing (h8 : st cnt 8 = 16384) : ∃ P, Listing cnt P := by
  have h0 := count_pos h8
  have := fun i => exists_count (act cnt) 256 (min i (Nat.count (act cnt) 256 - 1)) (by omega)
  choose P h1 h2 h3 using this
  exact ⟨P, ⟨fun i => ⟨h1 i, h2 i⟩, h3⟩⟩

variable {P : ℕ → ℕ}

theorem Listing.lt_of_lt (L : Listing cnt P) {i j : ℕ} (h : P i < P j) : i < j := by
  have := count_lt (Sched.act cnt) (L.act i).2 h
  rw [L.place, L.place] at this
  omega

theorem Listing.le_of_le (L : Listing cnt P) {i j : ℕ} (h : i ≤ j) : P i ≤ P j := by
  by_contra hc
  have := L.lt_of_lt (show P j < P i by omega)
  omega

/-- Every meeting pair is listed, within the first 39. -/
theorem Listing.listed (L : Listing cnt P) {p : ℕ} (hp : p < 256) (ha : Sched.act cnt p) : ∃ i, i < 39 ∧ P i = p := by
  have h1 := count_lt (Sched.act cnt) ha hp
  have h2 := count_all_le (cnt := cnt)
  exact ⟨Nat.count (Sched.act cnt) p, by omega, count_inj (Sched.act cnt) (L.act _).2 ha (by rw [L.place]; omega)⟩

/-- The tile, expert, first row and row bound of entry `i`. -/
def tile (P : ℕ → ℕ) (i : ℕ) : ℕ := P i / 8
@[inherit_doc tile] def expert (P : ℕ → ℕ) (i : ℕ) : ℕ := P i % 8
/-- The first row of pair `p` inside its tile. -/
def lo (cnt : ℕ → ℕ) (p : ℕ) : ℕ := min (st cnt (p % 8) - 512 * (p / 8)) 512
/-- The row bound of pair `p` inside its tile. -/
def hi (cnt : ℕ → ℕ) (p : ℕ) : ℕ := min (st cnt (p % 8 + 1) - 512 * (p / 8)) 512

/-- An entry that does not start its tile follows one of the same tile, which ended where it starts or later. -/
theorem Listing.chained (L : Listing cnt P) (i : ℕ) (h : 0 < lo cnt (P i)) :
    0 < i ∧ P i / 8 = P (i - 1) / 8 ∧ lo cnt (P i) ≤ hi cnt (P (i - 1)) := by
  obtain ⟨hp, a1, a2⟩ := L.act i
  unfold lo at h
  have hs : 512 * (P i / 8) < st cnt (P i % 8) := by omega
  have he : P i % 8 ≠ 0 := fun h0 => by rw [h0, st_zero] at hs; omega
  have b1 : (P i - 1) / 8 = P i / 8 := by omega
  have b2 : (P i - 1) % 8 = P i % 8 - 1 := by omega
  have hm := st_mono (cnt := cnt) (show P i % 8 - 1 ≤ P i % 8 by omega)
  have ha : Sched.act cnt (P i - 1) := by
    unfold Sched.act
    rw [b1, b2, show P i % 8 - 1 + 1 = P i % 8 by omega]
    exact ⟨by omega, hs⟩
  obtain ⟨j, hj, hjp⟩ := L.listed (p := P i - 1) (by omega) ha
  have hji : j < i := L.lt_of_lt (by omega)
  have c1 := L.le_of_le (show j ≤ i - 1 by omega)
  have c2 := L.le_of_le (show i - 1 ≤ i by omega)
  have hcase : P (i - 1) = P i ∨ P (i - 1) = P i - 1 := by omega
  refine ⟨by omega, by rcases hcase with h | h <;> rw [h]; exact b1.symm, ?_⟩
  rcases hcase with h' | h'
  · rw [h']
    have := st_mono (cnt := cnt) (show P i % 8 ≤ P i % 8 + 1 by omega)
    unfold lo hi; omega
  · rw [h']
    unfold lo hi
    rw [b1, b2, show P i % 8 - 1 + 1 = P i % 8 by omega]

/-- The last entry of a tile ends at the tile's end. -/
theorem Listing.ends (L : Listing cnt P) (h8 : st cnt 8 = 16384) (i : ℕ) (h : i = 38 ∨ P (i + 1) / 8 ≠ P i / 8) (hi39 : i < 39) :
    hi cnt (P i) = 512 := by
  obtain ⟨hp, a1, a2⟩ := L.act i
  by_contra hc
  have hlt : st cnt (P i % 8 + 1) < 512 * (P i / 8 + 1) := by unfold hi at hc; omega
  have he : P i % 8 ≠ 7 := fun h7 => by rw [h7] at hlt; norm_num at hlt; omega
  have b1 : (P i + 1) / 8 = P i / 8 := by omega
  have b2 : (P i + 1) % 8 = P i % 8 + 1 := by omega
  have hm := st_mono (cnt := cnt) (show P i % 8 + 1 ≤ P i % 8 + 1 + 1 by omega)
  have ha : Sched.act cnt (P i + 1) := by
    unfold Sched.act
    rw [b1, b2]
    exact ⟨hlt, by omega⟩
  obtain ⟨j, hj, hjp⟩ := L.listed (p := P i + 1) (by omega) ha
  have hij : i < j := L.lt_of_lt (by omega)
  have c1 := L.le_of_le (show i + 1 ≤ j by omega)
  have c2 := L.le_of_le (show i ≤ i + 1 by omega)
  rcases h with h | h
  · omega
  · omega

/-- The sweep: each entry writes the rows `lo ≤ r < hi` of its tile and keeps the others. After it, every row below its
    bound holds the value its owner gives. -/
theorem Listing.sweep (L : Listing cnt P) {α : Type} (Z : ℕ → ℕ → α) (Y : ℕ → α)
    (hY : ∀ e g, e < 8 → st cnt e ≤ g → g < st cnt (e + 1) → Y g = Z e g) (O : ℕ → ℕ → α)
    (hO : ∀ i r, lo cnt (P i) ≤ r → r < hi cnt (P i) → O i r = Z (P i % 8) (512 * (P i / 8) + r))
    (hK : ∀ i r, 0 < i → lo cnt (P i) ≠ 0 → ¬(lo cnt (P i) ≤ r ∧ r < hi cnt (P i)) → O i r = O (i - 1) r) :
    ∀ i r, r < hi cnt (P i) → r < 512 → O i r = Y (512 * (P i / 8) + r) := by
  intro i
  induction i using Nat.strong_induction_on with
  | _ i ih =>
    intro r hr h512
    obtain ⟨hp, a1, a2⟩ := L.act i
    by_cases hl : lo cnt (P i) ≤ r
    · rw [hO i r hl hr]
      refine (hY (P i % 8) _ (by omega) ?_ ?_).symm
      · unfold lo at hl; omega
      · unfold hi at hr; omega
    · obtain ⟨h0, h1, h2⟩ := L.chained i (by omega)
      rw [hK i r h0 (by omega) (fun h => hl h.1), ih (i - 1) (by omega) r (by omega) h512, h1]

end Cert.Sched
-- ==== Proof.Math.Sorted.lean ====
/- The kernel's host operations up to the run bounds: each pick's expert, the sort of the picks by expert and its inverse,
   how many picks each expert has and where its run of sorted picks starts. -/
module

public import proofs.«01_k».proof.Proof.HostVals
public import proofs.«01_k».proof.Proof.Math.Lands
public import proofs.«01_k».proof.Proof.Math.Sched
public import Idealize.ShloMosaic.Lib.Routing.Model

@[expose] public section

noncomputable section

namespace Cert.KernelIdeal.Own

open Cert.KernelIdeal.Gen Cert.Own Cert.Route
open Idealize.ShloMosaic Idealize.ShloMosaic.ValueIdx Idealize.ShloMosaic.Routing

variable {F : FTy → Type} [FloatOps F]

/-- The expert of flat pick `p`: pick `p % 2` of token `p / 2`. -/
def eid (pick : Fin 8192 → Fin 2 → Fin 8) (p : Fin 16384) : ℕ := (pick ⟨p.val / 2, by omega⟩ ⟨p.val % 2, by omega⟩).val

/-- How many picks name expert `e`. -/
def cnt (pick : Fin 8192 → Fin 2 → Fin 8) (e : ℕ) : ℕ := (Finset.univ.filter fun p => eid pick p = e).card

/-- One more value below the bound. -/
theorem card_below_succ {ι : Type} [Fintype ι] (f : ι → ℕ) (e : ℕ) :
    (Finset.univ.filter fun i => f i < e + 1).card = (Finset.univ.filter fun i => f i < e).card + (Finset.univ.filter fun i => f i = e).card := by
  classical
  rw [← Finset.card_union_of_disjoint]
  · congr 1
    ext p
    simp only [Finset.mem_union, Finset.mem_filter, Finset.mem_univ, true_and]
    omega
  · rw [Finset.disjoint_left]
    intro p hp hq
    simp only [Finset.mem_filter, Finset.mem_univ, true_and] at hp hq
    omega

/-- The picks and their sort. -/
structure Picks (V : Valuation τ sig (Elt F)) (pick : Fin 8192 → Fin 2 → Fin 8) (π : Fin 16384 ≃ Fin 16384) : Prop where
  ne : ∀ t, pick t 0 ≠ pick t 1
  ids : ∀ t k, h_indices V (ix2 t k) = BitVec.ofNat 32 (pick t k).val
  mono : ∀ i j, i < j → eid pick (π i) ≤ eid pick (π j)
  perm : ∀ i, h_v38 V (ix1 i) = BitVec.ofNat 32 (π i).val

/-- A flat pick's word. -/
theorem flat_word {V : Valuation τ sig (Elt F)} {pick : Fin 8192 → Fin 2 → Fin 8} (hi : ∀ t k, h_indices V (ix2 t k) = BitVec.ofNat 32 (pick t k).val)
    (p : Fin 16384) : shapeCast S16384 (h_indices V) shapeCasts_S8192x2_S16384 (ix1 p) = BitVec.ofNat 32 (eid pick p) := by
  refine (cast21 (a := 8192) (b := 2) (n := 16384) (h_indices V) shapeCasts_S8192x2_S16384 ⟨p.val / 2, by omega⟩ ⟨p.val % 2, by omega⟩ p
    (by show p.val = p.val / 2 * 2 + p.val % 2; omega)).trans (hi _ _)

theorem eid_lt (pick : Fin 8192 → Fin 2 → Fin 8) (p : Fin 16384) : eid pick p < 8 := (pick _ _).isLt

/-- The picks exist. -/
theorem exists_picks (V : Valuation τ sig (Elt F)) : ∃ pick π, Picks V pick π := by
  obtain ⟨σ, inj, hσ⟩ := topk_spec (FloatOps.cmpfTotal .gt) (h_v12 V) sliceFits_S8192x8_S8192x2
  have hi : ∀ t (k : Fin 2), h_indices V (ix2 t k) = BitVec.ofNat 32 (σ t ⟨k.val, by omega⟩).val := by
    intro t k
    rw [h_indices_eq]
    exact hσ t k
  let pick : Fin 8192 → Fin 2 → Fin 8 := fun t k => σ t ⟨k.val, by omega⟩
  obtain ⟨π, bij, mono, hπ⟩ := argsort_spec (n := 16384) comparator_i32_i32_d0 (fun _ _ => rfl) (h_v37 V) (eid pick)
    (fun i => by rw [h_v37_eq]; exact flat_word (pick := pick) hi i) (fun i => lt_trans (eid_lt pick i) (by norm_num))
  refine ⟨pick, Equiv.ofBijective π bij, fun t h => ?_, hi, mono, fun i => ?_⟩
  · have := inj t h
    simp at this
  · rw [h_v38_eq, h_call1_v0_eq]
    exact hπ i

variable {V : Valuation τ sig (Elt F)} {pick : Fin 8192 → Fin 2 → Fin 8} {π : Fin 16384 ≃ Fin 16384} (R : Picks V pick π)

/-- The counts add up to all picks. -/
theorem st_card (e : ℕ) : Sched.st (cnt pick) e = (Finset.univ.filter fun i => eid pick (π i) < e).card := by
  have h : (Finset.univ.filter fun i => eid pick (π i) < e).card = (Finset.univ.filter fun p => eid pick p < e).card := by
    refine Finset.card_bij (fun i _ => π i) (fun i hi => ?_) (fun a _ b _ h => π.injective h) (fun p hp => ⟨π.symm p, ?_, π.apply_symm_apply p⟩)
    · exact Finset.mem_filter.2 ⟨Finset.mem_univ _, (Finset.mem_filter.1 hi).2⟩
    · refine Finset.mem_filter.2 ⟨Finset.mem_univ _, ?_⟩
      rw [π.apply_symm_apply]
      exact (Finset.mem_filter.1 hp).2
  rw [h]
  clear h
  induction e with
  | zero => simp [Sched.st_zero]
  | succ e ih => rw [Sched.st_succ, ih, card_below_succ]; rfl

theorem st_eight : Sched.st (cnt pick) 8 = 16384 := by
  rw [st_card (π := Equiv.refl _)]
  have : (Finset.univ.filter fun i => eid pick ((Equiv.refl (Fin 16384)) i) < 8) = Finset.univ :=
    Finset.filter_true_of_mem fun i _ => eid_lt pick _
  rw [this, Finset.card_univ, Fintype.card_fin]

theorem cnt_le (e : ℕ) : cnt pick e ≤ 16384 := by
  refine (Finset.card_le_univ _).trans ?_
  rw [Fintype.card_fin]

theorem st_le (e : ℕ) : Sched.st (cnt pick) e ≤ 16384 := by
  rw [st_card (π := Equiv.refl _)]
  refine (Finset.card_le_univ _).trans ?_
  rw [Fintype.card_fin]

include R in
/-- The sorted picks between an expert's bounds are that expert's. -/
theorem owner {e : ℕ} (g : Fin 16384) (h1 : Sched.st (cnt pick) e ≤ g.val) (h2 : g.val < Sched.st (cnt pick) (e + 1)) : eid pick (π g) = e := by
  have a1 := below_first (fun i => eid pick (π i)) R.mono e _ (st_card e).symm g
  have a2 := below_first (fun i => eid pick (π i)) R.mono (e + 1) _ (st_card (e + 1)).symm g
  have b1 := a2.1 h2
  by_contra hne
  have : eid pick (π g) < e := by omega
  have := a1.2 this
  omega

include R in
/-- The count of each expert's picks. -/
theorem count_word (e : Fin 8) : h_v27 V (ix1 e) = BitVec.ofNat 32 (cnt pick e.val) := by
  rw [h_v27_eq]
  refine histogram _ rfl rfl rfl _ (fun i => by rw [h_v18_eq, h_c_eq]; rfl) _ _ (fun i => by rw [h_v26_eq, h_c_6_eq]; rfl) (eid pick)
    (fun i => lt_trans (eid_lt pick i) (by norm_num)) (fun i => ?_) e
  rw [h_v25_eq]
  refine (bcCol _ _ i).trans ?_
  have w : h_v19 V (ix1 i) = BitVec.ofNat 32 (eid pick i) := by
    rw [h_v19_eq, h_call0_v1_eq, h_call0_v0_eq, h_c_3_eq, h_v17_eq]
    show IntOp.maxsi 0#32 (shapeCast S16384 (h_indices V) shapeCasts_S8192x2_S16384 (ix1 i)) = _
    rw [flat_word R.ids]
    exact maxsi_zero_left (lt_trans (eid_lt pick i) (by norm_num))
  rw [h_v24_eq, h_v21_eq, h_v20_eq, h_c_4_eq]
  show Scalar.select (IntOp.cmpi .slt (h_v19 V (ix1 i)) 0#32) (h_v23 V (ix1 i)) (h_v19 V (ix1 i)) = _
  rw [wrap_of_lt, w]
  rw [w, BitVec.toNat_ofNat]
  exact lt_of_le_of_lt (Nat.mod_le _ _) (lt_trans (eid_lt pick i) (by norm_num))

include R in
/-- Where each expert's run starts. -/
theorem start_word (e : Fin 8) : h_v59 V (ix1 e) = BitVec.ofNat 32 (Sched.st (cnt pick) e.val) := by
  have c : h_v58 V (ix1 e) = BitVec.ofNat 32 (((List.range (e.val + 1)).map (cnt pick)).sum) := by
    rw [h_v58_eq]
    exact cumsum1 (N := 8) (Nm1 := 7) rfl (h_v27 V) (cnt pick) (count_word R) _ (by rw [h_call3_call0_v0_eq, h_call3_call0_c_eq]; rfl) _ _ e
  have s : ((List.range (e.val + 1)).map (cnt pick)).sum = Sched.st (cnt pick) (e.val + 1) := rfl
  rw [h_v59_eq]
  show h_v58 V (ix1 e) - h_v27 V (ix1 e) = _
  rw [c, s, count_word R e, Sched.st_succ]
  rw [ofNat32_sub (Nat.le_add_left _ _), Nat.add_sub_cancel]

include R in
/-- Where each expert's run ends. -/
theorem end_word (e : Fin 8) : h_v60 V (ix1 e) = BitVec.ofNat 32 (Sched.st (cnt pick) (e.val + 1)) := by
  rw [h_v60_eq]
  show h_v59 V (ix1 e) + h_v27 V (ix1 e) = _
  rw [start_word R, count_word R, Sched.st_succ, BitVec.ofNat_add]

include R in
/-- A sorted pick's word is not negative, so its wrap leaves it. -/
theorem perm_wrap (i : Fin 16384) (a : BitVec 32) : Scalar.select (IntOp.cmpi .slt (h_v38 V (ix1 i)) 0#32) a (h_v38 V (ix1 i)) = BitVec.ofNat 32 (π i).val := by
  rw [wrap_of_lt, R.perm]
  rw [R.perm, BitVec.toNat_ofNat]
  have := (π i).isLt
  exact lt_of_le_of_lt (Nat.mod_le _ _) (by norm_num; omega)

include R in
/-- The token of each sorted pick. -/
theorem token_word (i : Fin 16384) : h_v39 V (ix1 i) = BitVec.ofNat 32 ((π i).val / 2) := by
  have e : h_v39 V = pyDiv bcast_S_S16384 (h_v38 V) (constantI S_ 32 2#32) := by
    rw [h_v39_eq, h_call2_v11_eq, h_call2_v13_eq, h_call2_v2_eq, h_call2_v6_eq, h_call2_v10_eq, h_call2_v12_eq, h_call2_v1_eq, h_call2_v3_eq, h_call2_v5_eq,
      h_call2_v8_eq, h_call2_v9_eq, h_call2_v7_eq, h_call2_v4_eq, h_call2_c_0_eq, h_call2_c_eq, h_call2_v0_eq, h_c_12_eq]
    rfl
  rw [e]
  have := (π i).isLt
  exact pyDiv_ap bcast_S_S16384 _ _ (ix1 i) (b := 2) (R.perm i) rfl (by omega) (by norm_num) (by norm_num)

include R in
/-- The weight of each sorted pick. -/
theorem weight_sorted (i : Fin 16384) : h_v47 V (ix1 i) = h_v16 V (ix2 (⟨(π i).val / 2, by omega⟩ : Fin 8192) (⟨(π i).val % 2, by omega⟩ : Fin 2)) := by
  rw [h_v47_eq]
  refine (gather_take1 (N := 16384) (n := 16384) _ rfl rfl rfl rfl _ _ i (π i) ?_ (by norm_num)).trans ?_
  · rw [h_v46_eq]
    refine (bcCol _ _ i).trans ?_
    rw [h_v45_eq, h_v42_eq, h_v41_eq, h_c_13_eq]
    exact perm_wrap R i _
  · rw [h_v40_eq]
    exact cast21 (a := 8192) (b := 2) (n := 16384) (h_v16 V) shapeCasts_S8192x2_S16384 _ _ (π i)
      (by show (π i).val = (π i).val / 2 * 2 + (π i).val % 2; omega)

include R in
/-- Where each pick stands in the sort. -/
theorem inverse_word (t : Fin 8192) (k : Fin 2) :
    h_v57 V (ix2 t k) = BitVec.ofNat 32 (π.symm ⟨2 * t.val + k.val, by omega⟩).val := by
  rw [h_v57_eq]
  refine (cast12 (a := 8192) (b := 2) (n := 16384) (h_v56 V) shapeCasts_S16384_S8192x2 t k ⟨2 * t.val + k.val, by omega⟩ (by show 2 * t.val + k.val = t.val * 2 + k.val; omega)).trans ?_
  generalize hp : (⟨2 * t.val + k.val, by omega⟩ : Fin 16384) = p
  rw [h_v56_eq]
  refine (scatter_set (N := 16384) _ rfl rfl rfl _ _ _ (fun i => if h : i < 16384 then (π ⟨i, h⟩).val else 0) (fun i => ?_) (fun i => ?_) p
    (BitVec.ofNat 32 (π.symm p).val) (fun i hi => ?_)).1 ⟨π.symm p, ?_⟩
  · rw [h_v55_eq]
    refine (bcCol _ _ i).trans ?_
    rw [h_v54_eq, h_v51_eq, h_v50_eq, h_c_16_eq, dif_pos i.isLt]
    exact perm_wrap R i _
  · rw [dif_pos i.isLt]
    have := (π i).isLt
    show (π i).val < _
    omega
  · rw [dif_pos i.isLt] at hi
    have e : π i = p := Fin.ext hi
    rw [← e, π.symm_apply_apply, h_v49_eq]
    rfl
  · rw [dif_pos (π.symm p).isLt]
    show (π (π.symm p)).val = _
    rw [π.apply_symm_apply]

end Cert.KernelIdeal.Own

end
-- ==== Proof.Math.TablesInt.lean ====
/- The five tables of the schedule: entry `i` holds the tile, the expert, the first and last row and the opening flag of the
   `i`-th pair of a tile and an expert that meet. -/
module

public import proofs.«01_k».proof.Proof.Math.Sorted

@[expose] public section

noncomputable section

namespace Cert.KernelIdeal.Own

open Cert.KernelIdeal.Gen Cert.Own Cert.Route
open Idealize.ShloMosaic Idealize.ShloMosaic.ValueIdx Idealize.ShloMosaic.Routing

/-- The smaller of two small words. -/
theorem min_word {a b : ℕ} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · rw [if_pos (decide_eq_true h), min_eq_left h.le]
  · rw [if_neg (by simpa using h), min_eq_right (not_lt.1 h)]

/-- A difference of small words, clipped below at 0 and above at 512. -/
theorem clip_diff {a b : ℕ} (ha : a < 2 ^ 30) (hb : b < 2 ^ 30) :
    IntOp.minsi 512#32 (IntOp.maxsi 0#32 (BitVec.ofNat 32 a - BitVec.ofNat 32 b)) = BitVec.ofNat 32 (min (a - b) 512) := by
  by_cases h : b ≤ a
  · rw [ofNat32_sub h]
    have := clip_word (x := a - b) (lo := 0) (hi := 512) (by omega) (by norm_num) (by norm_num)
    rw [Nat.max_zero] at this
    exact this
  · have n : (BitVec.ofNat 32 a - BitVec.ofNat 32 b).toNat = 2 ^ 32 - b + a := by
      rw [BitVec.toNat_sub, BitVec.toNat_ofNat, BitVec.toNat_ofNat]
      omega
    have s : (BitVec.ofNat 32 a - BitVec.ofNat 32 b).slt 0#32 = true := by
      rw [BitVec.slt_iff_toInt_lt, BitVec.toInt_eq_toNat_cond, n, if_neg (by omega)]
      simp only [BitVec.toInt_zero]
      omega
    unfold IntOp.maxsi
    rw [s, if_pos rfl, Nat.sub_eq_zero_of_le (by omega)]
    exact min_word (a := 512) (b := 0) (by norm_num) (by norm_num)

/-- A listed table: the values of the pairs that meet, set in order, read in order with the last one repeated. -/
theorem listed_table {cnt P : ℕ → ℕ} (L : Sched.Listing cnt P) (h39 : Nat.count (Sched.act cnt) 256 ≤ 39)
    (d : ScatterDims (shape1 39) (shape2 256 1) (shape1 256)) (hiw : d.insertedWindowDims = [0])
    (hsd : d.scatterDimsToOperandDims = [0]) (hivd : d.indexVectorDim = 1)
    (dg : GatherDims (shape1 39) (shape2 39 1) (shape1 39)) (hcoll : dg.collapsedSliceDims = [0]) (hob : dg.operandBatchingDims = [])
    (hsim : dg.startIndexMap = [0]) (hgi : dg.indexVectorDim = 1)
    (z : IVec (shape1 39) 32) (idx : IVec (shape2 256 1) 32) (val : IVec (shape1 256) 32) (v : ℕ → BitVec 32) (hv : ∀ p : Fin 256, val (ix1 p) = v p.val)
    (hidx : ∀ p : Fin 256, idx (ix2 p (0 : Fin 1)) = if Sched.act cnt p.val then BitVec.ofNat 32 (Nat.count (Sched.act cnt) p.val) else 40#32)
    (sel : IVec (shape2 39 1) 32) (hsel : ∀ i : Fin 39, sel (ix2 i (0 : Fin 1)) = BitVec.ofNat 32 (min i.val (Nat.count (Sched.act cnt) 256 - 1)))
    (i : Fin 39) : Host.gather dg (Host.scatter d (fun _ b => b) z idx val) sel (ix1 i) = v (P i.val) := by
  have hp := L.act i.val
  have hb : min i.val (Nat.count (Sched.act cnt) 256 - 1) < 39 := by omega
  refine (gather_take1 dg hcoll hob hsim hgi _ sel i ⟨_, hb⟩ (hsel i) (by norm_num)).trans ?_
  have word : ∀ p : Fin 256, Sched.act cnt p.val → (idx (ix2 p (0 : Fin 1))).toInt = (Nat.count (Sched.act cnt) p.val : ℤ) := by
    intro p ha
    have : Nat.count (Sched.act cnt) p.val ≤ 256 := le_trans (Nat.count_le _) p.isLt.le
    rw [hidx, if_pos ha, toInt_small (by omega)]
  refine scatter_set_hit d z idx val _ (v (P i.val)) (fun k hk => ?_) (ix1 ⟨P i.val, hp.1⟩) ?_
  · obtain ⟨p, rfl⟩ : ∃ p : Fin 256, k = ix1 p := ⟨k 0, by
      funext q
      match q with
      | ⟨0, _⟩ => rfl⟩
    rw [lands d hiw hsd hivd] at hk
    by_cases ha : Sched.act cnt p.val
    · rw [word p ha] at hk
      have e : Nat.count (Sched.act cnt) p.val = Nat.count (Sched.act cnt) (P i.val) := by
        rw [L.place]
        exact_mod_cast hk
      rw [hv, Sched.count_inj _ ha hp.2 e]
    · rw [hidx, if_neg ha] at hk
      have : (40#32 : BitVec 32).toInt = 40 := by decide
      rw [this] at hk
      simp only at hk
      omega
  · rw [lands d hiw hsd hivd, word _ hp.2, L.place]

variable {F : FTy → Type} [FloatOps F]
variable {V : Valuation τ sig (Elt F)} {pick : Fin 8192 → Fin 2 → Fin 8} {π : Fin 16384 ≃ Fin 16384} (R : Picks V pick π)

/-- A row word: `512 m`. -/
theorem row_word (p : Fin 32) (q : Fin 8) : h_v79 V (ix2 p q) = BitVec.ofNat 32 (512 * p.val) := by
  have e : h_v64 V (ix2 p (0 : Fin 1)) = BitVec.ofNat 32 (512 * p.val) := by
    rw [h_v64_eq, h_v62_eq, h_v63_eq, h_v61_eq, h_c_18_eq]
    show BitVec.ofNat 32 p.val * 512#32 = _
    rw [Nat.mul_comm, BitVec.ofNat_mul]
  rw [← e, h_v79_eq]
  exact congrArg (h_v64 V) (funext fun a => by match a with | ⟨0, _⟩ => rfl | ⟨1, _⟩ => rfl)

/-- The next tile's row word: `512 (m + 1)`. -/
theorem row_word_next (p : Fin 32) (q : Fin 8) : h_v72 V (ix2 p q) = BitVec.ofNat 32 (512 * (p.val + 1)) := by
  have e : h_v68 V (ix2 p (0 : Fin 1)) = BitVec.ofNat 32 (512 * (p.val + 1)) := by
    rw [h_v68_eq, h_v66_eq, h_v62_eq, h_v67_eq, h_v65_eq, h_v61_eq, h_c_20_eq, h_c_19_eq]
    show (BitVec.ofNat 32 p.val + 1#32) * 512#32 = _
    rw [Nat.mul_comm, BitVec.ofNat_mul, BitVec.ofNat_add]
  rw [← e, h_v72_eq]
  exact congrArg (h_v68 V) (funext fun a => by match a with | ⟨0, _⟩ => rfl | ⟨1, _⟩ => rfl)

include R in
theorem start_at (p : Fin 32) (q : Fin 8) : h_v71 V (ix2 p q) = BitVec.ofNat 32 (Sched.st (cnt pick) q.val) := by
  rw [h_v71_eq, h_v69_eq]
  exact (bcCols (n := 32) (m := 8) _ _ (h_v59 V) p q).trans (start_word R q)

include R in
theorem end_at (p : Fin 32) (q : Fin 8) : h_v74 V (ix2 p q) = BitVec.ofNat 32 (Sched.st (cnt pick) (q.val + 1)) := by
  rw [h_v74_eq, h_v70_eq]
  exact (bcCols (n := 32) (m := 8) _ _ (h_v60 V) p q).trans (end_word R q)

include R in
/-- Which pairs meet. -/
theorem active_bit (p : Fin 256) : h_v90 V (ix1 p) = BitVec.ofBool (decide (Sched.act (cnt pick) p.val)) := by
  rw [h_v90_eq]
  refine (cast21 (a := 32) (b := 8) (n := 256) (h_v77 V) shapeCasts_S32x8_S256 ⟨p.val / 8, by omega⟩ ⟨p.val % 8, by omega⟩ p
    (by show p.val = p.val / 8 * 8 + p.val % 8; omega)).trans ?_
  have e75 : h_v75 V = h_v79 V := by rw [h_v75_eq, h_v79_eq]
  rw [h_v77_eq, h_v73_eq, h_v76_eq]
  show IntOp.andi (IntOp.cmpi .slt (h_v71 V _) (h_v72 V _)) (IntOp.cmpi .sgt (h_v74 V _) (h_v75 V _)) = _
  rw [e75, start_at R, end_at R, row_word, row_word_next]
  show BitVec.ofBool ((BitVec.ofNat 32 _).slt (BitVec.ofNat 32 _)) &&& BitVec.ofBool ((BitVec.ofNat 32 _).slt (BitVec.ofNat 32 _)) = _
  have b1 := st_le (pick := pick) (p.val % 8)
  have b2 := st_le (pick := pick) (p.val % 8 + 1)
  have := p.isLt
  rw [slt_ofNat32 (by simp only; omega) (by simp only; omega), slt_ofNat32 (by simp only; omega) (by simp only; omega)]
  have e : decide (Sched.act (cnt pick) p.val)
      = (decide (Sched.st (cnt pick) (p.val % 8) < 512 * (p.val / 8 + 1)) && decide (512 * (p.val / 8) < Sched.st (cnt pick) (p.val % 8 + 1))) := by
    rw [Bool.eq_iff_iff, decide_eq_true_eq, Bool.and_eq_true, decide_eq_true_eq, decide_eq_true_eq]
    rfl
  rw [e]
  show BitVec.ofBool (decide (Sched.st (cnt pick) (p.val % 8) < 512 * (p.val / 8 + 1))) &&& BitVec.ofBool (decide (512 * (p.val / 8) < Sched.st (cnt pick) (p.val % 8 + 1))) = _
  cases decide (Sched.st (cnt pick) (p.val % 8) < 512 * (p.val / 8 + 1)) <;> cases decide (512 * (p.val / 8) < Sched.st (cnt pick) (p.val % 8 + 1)) <;> rfl

theorem sum_range_ite (a : ℕ → Prop) [DecidablePred a] (n : ℕ) : ((List.range n).map fun p => if a p then 1 else 0).sum = Nat.count a n := by
  induction n with
  | zero => rfl
  | succ n ih => rw [List.range_succ, List.map_append, List.sum_append, ih, Nat.count_succ]; simp

include R in
theorem active_word (p : Fin 256) : h_call6_v0 V (ix1 p) = BitVec.ofNat 32 (if Sched.act (cnt pick) p.val then 1 else 0) := by
  rw [h_call6_v0_eq]
  show (h_v90 V (ix1 p)).setWidth 32 = _
  rw [active_bit R]
  exact setWidth_ofBool _

include R in
/-- Where each pair that meets is listed. -/
theorem place_word (p : Fin 256) : h_v94 V (ix1 p)
    = if Sched.act (cnt pick) p.val then BitVec.ofNat 32 (Nat.count (Sched.act (cnt pick)) p.val) else 40#32 := by
  have c : h_v91 V (ix1 p) = BitVec.ofNat 32 (Nat.count (Sched.act (cnt pick)) (p.val + 1)) := by
    rw [h_v91_eq, ← sum_range_ite]
    exact cumsum1 (N := 256) (Nm1 := 255) rfl (h_call6_v0 V) (fun p => if Sched.act (cnt pick) p then 1 else 0) (active_word R) _
      (by rw [h_call6_call0_v0_eq, h_call6_call0_c_eq]; rfl) _ _ p
  rw [h_v94_eq, h_v93_eq, h_call7_v1_eq, h_call7_v0_eq, h_c_26_eq, h_v92_eq, h_c_25_eq]
  show Scalar.select (h_v90 V (ix1 p)) (h_v91 V (ix1 p) - 1#32) 40#32 = _
  rw [active_bit R, c, Nat.count_succ]
  by_cases h : Sched.act (cnt pick) p.val
  · rw [if_pos h, if_pos h, decide_eq_true h, BitVec.ofNat_add, BitVec.add_sub_cancel]
    rfl
  · rw [if_neg h, if_neg h, decide_eq_false h]
    rfl

include R in
/-- The number of pairs that meet. -/
theorem total_word : h_v96 V ValueIdx.ix0 = BitVec.ofNat 32 (Nat.count (Sched.act (cnt pick)) 256) := by
  rw [h_v96_eq, h_c_27_eq, ← sum_range_ite]
  refine reduce_sum (N := 256) (h_v95 V) (fun p => if Sched.act (cnt pick) p then 1 else 0) (fun p => ?_) _ _
  rw [← active_word R p, h_call6_v0_eq, h_v95_eq]

theorem below_39 : Nat.count (Sched.act (cnt pick)) 256 ≤ 39 := Sched.count_all_le

include R in
/-- The position word of a pair after its wrap. -/
theorem place_wrapped (p : Fin 256) (a : BitVec 32) : Scalar.select (IntOp.cmpi .slt (h_v94 V (ix1 p)) 0#32) a (h_v94 V (ix1 p))
    = if Sched.act (cnt pick) p.val then BitVec.ofNat 32 (Nat.count (Sched.act (cnt pick)) p.val) else 40#32 := by
  rw [wrap_of_lt, place_word R]
  rw [place_word R]
  have : Nat.count (Sched.act (cnt pick)) p.val ≤ 256 := le_trans (Nat.count_le _) p.isLt.le
  split
  · rw [BitVec.toNat_ofNat]
    exact lt_of_le_of_lt (Nat.mod_le _ _) (by norm_num; omega)
  · decide

include R in
/-- Entry `i` reads listed pair `min i (n - 1)`. -/
theorem sel_word (i : Fin 39) : h_v109 V (ix1 i) = BitVec.ofNat 32 (min i.val (Nat.count (Sched.act (cnt pick)) 256 - 1)) := by
  rw [h_v109_eq, h_v106_eq, h_v108_eq, h_v107_eq, h_c_31_eq]
  show IntOp.minsi (BitVec.ofNat 32 i.val) (h_v96 V ValueIdx.ix0 - 1#32) = _
  have h1 := Sched.count_pos (cnt := cnt pick) st_eight
  have h2 := below_39 (pick := pick)
  rw [total_word R, ofNat32_sub (b := 1) h1, min_word (by omega) (by omega)]

include R in
theorem sel_wrapped (i : Fin 39) (a : BitVec 32) : Scalar.select (IntOp.cmpi .slt (h_v109 V (ix1 i)) 0#32) a (h_v109 V (ix1 i))
    = BitVec.ofNat 32 (min i.val (Nat.count (Sched.act (cnt pick)) 256 - 1)) := by
  rw [wrap_of_lt, sel_word R]
  rw [sel_word R, BitVec.toNat_ofNat]
  exact lt_of_le_of_lt (Nat.mod_le _ _) (by have := i.isLt; norm_num; omega)

include R in
/-- A clipped bound of a run inside a tile. -/
theorem lo_word (p : Fin 256) : h_v138 V (ix1 p) = BitVec.ofNat 32 (Sched.lo (cnt pick) p.val) := by
  rw [h_v138_eq]
  refine (cast21 (a := 32) (b := 8) (n := 256) (h_v81 V) shapeCasts_S32x8_S256 ⟨p.val / 8, by omega⟩ ⟨p.val % 8, by omega⟩ p
    (by show p.val = p.val / 8 * 8 + p.val % 8; omega)).trans ?_
  have e : h_v78 V = h_v71 V := by rw [h_v78_eq, h_v71_eq]
  rw [h_v81_eq, h_call4_v4_eq, h_call4_v3_eq, h_c_22_eq, h_call4_v2_eq, h_call4_v1_eq, h_call4_v0_eq, h_c_21_eq, h_v80_eq, e]
  show IntOp.minsi 512#32 (IntOp.maxsi 0#32 (h_v71 V _ - h_v79 V _)) = _
  rw [start_at R, row_word]
  have b1 := st_le (pick := pick) (p.val % 8)
  have := p.isLt
  exact clip_diff (by simp only; omega) (by simp only; omega)

include R in
theorem hi_word (p : Fin 256) : h_v158 V (ix1 p) = BitVec.ofNat 32 (Sched.hi (cnt pick) p.val) := by
  rw [h_v158_eq]
  refine (cast21 (a := 32) (b := 8) (n := 256) (h_v85 V) shapeCasts_S32x8_S256 ⟨p.val / 8, by omega⟩ ⟨p.val % 8, by omega⟩ p
    (by show p.val = p.val / 8 * 8 + p.val % 8; omega)).trans ?_
  have e : h_v82 V = h_v74 V := by rw [h_v82_eq, h_v74_eq]
  have e' : h_v83 V = h_v79 V := by rw [h_v83_eq, h_v79_eq]
  rw [h_v85_eq, h_call5_v4_eq, h_call5_v3_eq, h_c_24_eq, h_call5_v2_eq, h_call5_v1_eq, h_call5_v0_eq, h_c_23_eq, h_v84_eq, e, e']
  show IntOp.minsi 512#32 (IntOp.maxsi 0#32 (h_v74 V _ - h_v79 V _)) = _
  rw [end_at R, row_word]
  have b1 := st_le (pick := pick) (p.val % 8 + 1)
  have := p.isLt
  exact clip_diff (by simp only; omega) (by simp only; omega)

theorem tile_word (p : Fin 256) : h_v98 V (ix1 p) = BitVec.ofNat 32 (p.val / 8) := by
  rw [h_v98_eq]
  refine (cast21 (a := 32) (b := 8) (n := 256) (h_v89 V) shapeCasts_S32x8_S256 ⟨p.val / 8, by omega⟩ ⟨p.val % 8, by omega⟩ p
    (by show p.val = p.val / 8 * 8 + p.val % 8; omega)).trans ?_
  rw [h_v89_eq, h_v62_eq, h_v61_eq]
  exact bcRows (n := 32) (m := 8) _ _ (iotaInDim S32 32 0) _ _

theorem expert_word (p : Fin 256) : h_v118 V (ix1 p) = BitVec.ofNat 32 (p.val % 8) := by
  rw [h_v118_eq]
  refine (cast21 (a := 32) (b := 8) (n := 256) (h_v88 V) shapeCasts_S32x8_S256 ⟨p.val / 8, by omega⟩ ⟨p.val % 8, by omega⟩ p
    (by show p.val = p.val / 8 * 8 + p.val % 8; omega)).trans ?_
  rw [h_v88_eq, h_v87_eq, h_v86_eq]
  exact bcCols (n := 32) (m := 8) _ _ (iotaInDim S8 32 0) _ _

include R in
/-- The tile of each entry. -/
theorem tile_table {P : ℕ → ℕ} (L : Sched.Listing (cnt pick) P) (i : Fin 39) : h_v116 V (ix1 i) = BitVec.ofNat 32 (P i.val / 8) := by
  rw [h_v116_eq, h_v105_eq]
  refine listed_table L below_39 _ rfl rfl rfl _ rfl rfl rfl rfl _ _ _ (fun p => BitVec.ofNat 32 (p / 8)) (tile_word) (fun p => ?_) _ (fun i => ?_) i
  · rw [h_v104_eq]
    refine (bcCol _ _ p).trans ?_
    rw [h_v103_eq, h_v100_eq, h_v99_eq, h_c_29_eq]
    exact place_wrapped R p _
  · rw [h_v115_eq]
    refine (bcCol _ _ i).trans ?_
    have e : h_v109 V = h_v109 V := by rfl
    rw [h_v114_eq, h_v111_eq, h_v110_eq, h_c_32_eq, e]
    exact sel_wrapped R i _

include R in
/-- The expert of each entry. -/
theorem expert_table {P : ℕ → ℕ} (L : Sched.Listing (cnt pick) P) (i : Fin 39) : h_v136 V (ix1 i) = BitVec.ofNat 32 (P i.val % 8) := by
  rw [h_v136_eq, h_v125_eq]
  refine listed_table L below_39 _ rfl rfl rfl _ rfl rfl rfl rfl _ _ _ (fun p => BitVec.ofNat 32 (p % 8)) (expert_word) (fun p => ?_) _ (fun i => ?_) i
  · rw [h_v124_eq]
    refine (bcCol _ _ p).trans ?_
    rw [h_v123_eq, h_v120_eq, h_v119_eq, h_c_35_eq]
    exact place_wrapped R p _
  · rw [h_v135_eq]
    refine (bcCol _ _ i).trans ?_
    have e : h_v129 V = h_v109 V := by rw [h_v129_eq, h_v126_eq, h_v128_eq, h_v127_eq, h_c_37_eq, h_v109_eq, h_v106_eq, h_v108_eq, h_v107_eq, h_c_31_eq]
    rw [h_v134_eq, h_v131_eq, h_v130_eq, h_c_38_eq, e]
    exact sel_wrapped R i _

include R in
/-- The first row of each entry. -/
theorem lo_table {P : ℕ → ℕ} (L : Sched.Listing (cnt pick) P) (i : Fin 39) : h_v156 V (ix1 i) = BitVec.ofNat 32 (Sched.lo (cnt pick) (P i.val)) := by
  rw [h_v156_eq, h_v145_eq]
  refine listed_table L below_39 _ rfl rfl rfl _ rfl rfl rfl rfl _ _ _ (fun p => BitVec.ofNat 32 (Sched.lo (cnt pick) p)) (lo_word R) (fun p => ?_) _ (fun i => ?_) i
  · rw [h_v144_eq]
    refine (bcCol _ _ p).trans ?_
    rw [h_v143_eq, h_v140_eq, h_v139_eq, h_c_41_eq]
    exact place_wrapped R p _
  · rw [h_v155_eq]
    refine (bcCol _ _ i).trans ?_
    have e : h_v149 V = h_v109 V := by rw [h_v149_eq, h_v146_eq, h_v148_eq, h_v147_eq, h_c_43_eq, h_v109_eq, h_v106_eq, h_v108_eq, h_v107_eq, h_c_31_eq]
    rw [h_v154_eq, h_v151_eq, h_v150_eq, h_c_44_eq, e]
    exact sel_wrapped R i _

include R in
/-- The end row of each entry. -/
theorem hi_table {P : ℕ → ℕ} (L : Sched.Listing (cnt pick) P) (i : Fin 39) : h_v176 V (ix1 i) = BitVec.ofNat 32 (Sched.hi (cnt pick) (P i.val)) := by
  rw [h_v176_eq, h_v165_eq]
  refine listed_table L below_39 _ rfl rfl rfl _ rfl rfl rfl rfl _ _ _ (fun p => BitVec.ofNat 32 (Sched.hi (cnt pick) p)) (hi_word R) (fun p => ?_) _ (fun i => ?_) i
  · rw [h_v164_eq]
    refine (bcCol _ _ p).trans ?_
    rw [h_v163_eq, h_v160_eq, h_v159_eq, h_c_47_eq]
    exact place_wrapped R p _
  · rw [h_v175_eq]
    refine (bcCol _ _ i).trans ?_
    have e : h_v169 V = h_v109 V := by rw [h_v169_eq, h_v166_eq, h_v168_eq, h_v167_eq, h_c_49_eq, h_v109_eq, h_v106_eq, h_v108_eq, h_v107_eq, h_c_31_eq]
    rw [h_v174_eq, h_v171_eq, h_v170_eq, h_c_50_eq, e]
    exact sel_wrapped R i _

include R in
/-- The opening flag of each entry. -/
theorem flag_table {P : ℕ → ℕ} (L : Sched.Listing (cnt pick) P) (i : Fin 39) :
    h_v179 V (ix1 i) = BitVec.ofNat 32 (if Sched.lo (cnt pick) (P i.val) = 0 then 1 else 0) := by
  rw [h_v179_eq, h_v178_eq, h_v177_eq, h_c_52_eq]
  show (BitVec.ofBool (h_v156 V (ix1 i) == 0#32)).setWidth 32 = _
  rw [lo_table R L i]
  have hb : Sched.lo (cnt pick) (P i.val) ≤ 512 := min_le_right _ _
  have e : (BitVec.ofNat 32 (Sched.lo (cnt pick) (P i.val)) == 0#32) = decide (Sched.lo (cnt pick) (P i.val) = 0) := by
    rw [Bool.eq_iff_iff, beq_iff_eq, decide_eq_true_eq]
    constructor
    · intro h
      have := congrArg BitVec.toNat h
      rw [BitVec.toNat_ofNat, BitVec.toNat_ofNat] at this
      omega
    · intro h
      rw [h]
  rw [e]
  exact setWidth_ofBool _

end Cert.KernelIdeal.Own

end
-- ==== Proof.Math.Ffn.lean ====
/- One row of the SwiGLU network and the kernel's two block payloads over the extended reals. -/
module

public import proofs.«01_k».proof.Proof.Gen.KernelIdeal.Skeleton
public import Idealize.ShloMosaic.Lib.MatmulPlain
public import Idealize.ShloMosaic.Lib.IdealHost
public import Idealize.ShloMosaic.Lib.Layout
public import Idealize.ShloMosaic.Lib.Pipeline.Value
public import Idealize.ShloMosaic.Lib.Routing.BitFacts

@[expose] public section

noncomputable section

namespace Cert.Net

open Idealize.ShloMosaic Idealize.ShloMosaic.ValueIdx

/-- One hidden unit: the gate's product with its logistic, times the second projection. -/
def unit (g u : EReal) : EReal := g * Ideal.logistic g * u

/-- Hidden unit `j` of a row `x`. -/
def hid (x : Fin 2048 → EReal) (w1 w3 : Fin 2048 → Fin 5632 → EReal) (j : Fin 5632) : EReal :=
  unit (∑ k, x k * w1 k j) (∑ k, x k * w3 k j)

/-- Output `q` of a row `x`. -/
def ffn (x : Fin 2048 → EReal) (w1 w3 : Fin 2048 → Fin 5632 → EReal) (w2 : Fin 5632 → Fin 2048 → EReal) (q : Fin 2048) : EReal :=
  ∑ j, hid x w1 w3 j * w2 j q

/-- A sum over `n` blocks of `b` terms. -/
theorem sum_blocks (T : ℕ → EReal) (b n : ℕ) :
    ∑ h ∈ Finset.range n, ∑ j ∈ Finset.range b, T (b * h + j) = ∑ j ∈ Finset.range (b * n), T j := by
  induction n with
  | zero => simp
  | succ n ih => rw [Finset.sum_range_succ, ih, Nat.mul_succ, Finset.sum_range_add]

open Cert.KernelIdeal Cert.KernelIdeal.Gen

/-- The zero tile. -/
theorem pay1_ap (i : S512x2048.Idx) : k0_pay1 (F := Ideal) i = 0 := by
  unfold k0_pay1
  show Ideal.ofBits .f32 0x00000000#32 = 0
  simp [Ideal.ofBits, Ideal.ieee]

/-- A leading axis of one row dropped. -/
theorem drop_axis {a b : ℕ} (x : (⟨3, ![1, a, b]⟩ : Shape).Idx → EReal) (h : (⟨3, ![1, a, b]⟩ : Shape).ShapeCasts ⟨2, ![a, b]⟩) (i : Fin a) (j : Fin b) :
    shapeCast ⟨2, ![a, b]⟩ x h (ix2 i j) = x (ix3 (0 : Fin 1) i j) := by
  refine (shapeCast_dropUnit_apply ![a, b] x h (ix2 i j)).trans (congrArg x (funext fun q => ?_))
  match q with
  | ⟨0, _⟩ => rfl
  | ⟨1, _⟩ => rfl
  | ⟨2, _⟩ => rfl

/-- One block's contribution to the accumulator. -/
theorem pay2_ap (v3 : Vec Ideal S512x2048 .bf16) (v5 v8 : Vec Ideal S1x2048x512 .bf16) (v15 : Vec Ideal S512x2048 .f32) (v16 : Vec Ideal S1x512x2048 .bf16)
    (r : Fin 512) (q : Fin 2048) :
    k0_pay2 (F := Ideal) v3 v5 v8 v15 v16 (ix2 r q) = v15 (ix2 r q)
      + ∑ j : Fin 512, unit (∑ k : Fin 2048, v3 (ix2 r k) * v5 (ix3 (0 : Fin 1) k j)) (∑ k : Fin 2048, v3 (ix2 r k) * v8 (ix3 (0 : Fin 1) k j)) * v16 (ix3 (0 : Fin 1) j q) := by
  have z : ∀ i : S512x512.Idx, (constant S512x512 .f32 0x00000000#32 : FVec Ideal S512x512 .f32) i = 0 := fun i => by
    show Ideal.ofBits .f32 0x00000000#32 = 0
    simp [Ideal.ofBits, Ideal.ieee]
  have z2 : ∀ i : S512x2048.Idx, (constant S512x2048 .f32 0x00000000#32 : FVec Ideal S512x2048 .f32) i = 0 := fun i => by
    show Ideal.ofBits .f32 0x00000000#32 = 0
    simp [Ideal.ofBits, Ideal.ieee]
  have m1 : ∀ (w : Vec Ideal S1x2048x512 .bf16) (j : Fin 512),
      matmul (φ₁ := .bf16) (φ₂ := .bf16) dot_S512x2048_S2048x512_S512x512_1_0_0_1_n_n none v3 (shapeCast S2048x512 w shapeCasts_S1x2048x512_S2048x512)
        (constant S512x512 .f32 0x00000000#32 : FVec Ideal S512x512 .f32) (ix2 r j) = ∑ k : Fin 2048, v3 (ix2 r k) * w (ix3 (0 : Fin 1) k j) := by
    intro w j
    refine (Ideal.matmul_plain_apply (M := 512) (K := 2048) (N := 512) none v3 _ _ r j).trans ?_
    rw [z, zero_add]
    exact Finset.sum_congr rfl fun k _ => congrArg _ (drop_axis w _ k j)
  unfold k0_pay2
  simp only [shapeCast_self]
  refine congrArg (v15 (ix2 r q) + ·) ?_
  refine (Ideal.matmul_plain_apply (M := 512) (K := 512) (N := 2048) none _ _ _ r q).trans ?_
  rw [z2, zero_add]
  refine Finset.sum_congr rfl fun j _ => ?_
  refine congrArg₂ (· * ·) ?_ (drop_axis v16 _ j q)
  exact congrArg₂ unit (m1 v5 j) (m1 v8 j)

/-- The masked write-back: rows from `a` up to `b` take the accumulator, the rest keep what the tile held. -/
theorem pay3_ap {a b : ℕ} (ha : a ≤ 512) (hb : b ≤ 512) (d : BitVec 32) (x y : Vec Ideal S512x2048 .f32) (r : Fin 512) (q : Fin 2048) :
    (a ≤ r.val ∧ r.val < b → k0_pay3 (F := Ideal) (BitVec.ofNat 32 a) (BitVec.ofNat 32 b) d x y (ix2 r q) = y (ix2 r q))
    ∧ (¬(a ≤ r.val ∧ r.val < b) → d ≠ 1#32 → k0_pay3 (F := Ideal) (BitVec.ofNat 32 a) (BitVec.ofNat 32 b) d x y (ix2 r q) = x (ix2 r q)) := by
  have c : k0_pay3 (F := Ideal) (BitVec.ofNat 32 a) (BitVec.ofNat 32 b) d x y (ix2 r q)
      = Scalar.select (IntOp.andi (IntOp.cmpi .sge (BitVec.ofNat 32 r.val) (BitVec.ofNat 32 a)) (IntOp.cmpi .slt (BitVec.ofNat 32 r.val) (BitVec.ofNat 32 b)))
        (y (ix2 r q)) ((Scalar.select (Scalar.cmpi .eq d 1#32) (broadcast S512x2048 (Scalar.ofBits .f32 0x00000000#32 : Ideal .f32)) x : FVec Ideal S512x2048 .f32) (ix2 r q)) := by
    unfold k0_pay3
    simp only [shapeCast_self]
    have i0 : iota .tc S512x2048 32 [0] iota_S512x2048_d0_w32 (ix2 r q) = BitVec.ofNat 32 r.val := iota_single_apply _ _ _ _ _ _
    show Scalar.select (IntOp.andi (IntOp.cmpi .sge (iota .tc S512x2048 32 [0] iota_S512x2048_d0_w32 (ix2 r q)) _)
      (IntOp.cmpi .slt (iota .tc S512x2048 32 [0] iota_S512x2048_d0_w32 (ix2 r q)) _)) _ _ = _
    rw [i0]
    rfl
  have s1 : IntOp.cmpi .sge (BitVec.ofNat 32 r.val) (BitVec.ofNat 32 a) = BitVec.ofBool (decide (a ≤ r.val)) :=
    congrArg BitVec.ofBool (Routing.sle_ofNat32 (by omega) (by have := r.isLt; omega))
  have s2 : IntOp.cmpi .slt (BitVec.ofNat 32 r.val) (BitVec.ofNat 32 b) = BitVec.ofBool (decide (r.val < b)) :=
    congrArg BitVec.ofBool (Routing.slt_ofNat32 (by have := r.isLt; omega) (by omega))
  rw [c, s1, s2]
  constructor
  · rintro ⟨h1, h2⟩
    rw [decide_eq_true h1, decide_eq_true h2]
    rfl
  · intro h hd
    have e : Scalar.cmpi .eq d 1#32 = 0#1 := by
      show BitVec.ofBool (d == 1#32) = 0#1
      rw [beq_eq_false_iff_ne.2 hd]
      rfl
    rw [e]
    by_cases h1 : a ≤ r.val
    · rw [decide_eq_true h1, decide_eq_false (fun h2 => h ⟨h1, h2⟩)]
      rfl
    · rw [decide_eq_false h1]
      cases decide (r.val < b) <;> rfl

end Cert.Net

end
-- ==== Proof.IFrame.Net.lean ====
/- The idealized kernel's region in values: the blocks each point reads, and the rule that lets entries of one tile follow one another. -/
module

public import proofs.«01_k».proof.Proof.IFrame.RegionData
public import proofs.«01_k».proof.Proof.Tables
public import proofs.«01_k».proof.Proof.Math.TablesInt
public import proofs.«01_k».proof.Proof.Math.Ffn
public import Idealize.ShloMosaic.Lib.Pipeline.ValueKit.Geometry

@[expose] public section

noncomputable section

namespace Cert.KernelIdeal.Own

open Cert.KernelIdeal.Gen Cert.Own
open Idealize.ShloMosaic Idealize.ShloMosaic.TcCoe Idealize.ShloMosaic.ValueIdx
open Idealize.ShloMosaic.Pipeline (Dat Cfg Window)

variable {F : FTy → Type} [FloatOps F]
variable (m : (ℓ : Loc nD τ sig) → Buf (Elt F) ℓ)

/-- The first-row table is the host's. -/
theorem tbl_2 : tbl m 2 = h_v156 (launchV m 0) := V_left m 0 main_v156
/-- The row-bound table is the host's. -/
theorem tbl_3 : tbl m 3 = h_v176 (launchV m 0) := V_left m 0 main_v176
/-- The table of first entries is the host's. -/
theorem tbl_4 : tbl m 4 = h_v179 (launchV m 0) := V_left m 0 main_v179

/-- A table position as an index. -/
theorem slot_ix (n : ℕ) (h : n < 39) : slot39 n h = ix1 (⟨n, h⟩ : Fin 39) := by
  funext a
  match a with
  | ⟨0, _⟩ => rfl

/-- The entry of a point as a table position. -/
theorem entry_ix (t : Fin grid0.N) (i : Fin 39) (h : t.val / 11 = i.val) : entryOf (grid0.coords t) = ix1 i := by
  have e1 := entryOf_coords t
  refine Eq.trans ?_ (slot_ix i.val i.isLt)
  unfold entryOf
  congr 1
  omega

/-- The tables hold listing `P` over counts `n`. -/
structure Listed (a : (pcfg0 (F := F)).Adm) (n : ℕ → ℕ) (P : ℕ → ℕ) : Prop where
  tile : ∀ i : Fin 39, a.1 0 (ix1 i) = BitVec.ofNat 32 (P i.val / 8)
  expert : ∀ i : Fin 39, a.1 1 (ix1 i) = BitVec.ofNat 32 (P i.val % 8)
  lo : ∀ i : Fin 39, a.1 2 (ix1 i) = BitVec.ofNat 32 (Sched.lo n (P i.val))
  hi : ∀ i : Fin 39, a.1 3 (ix1 i) = BitVec.ofNat 32 (Sched.hi n (P i.val))
  flag : ∀ i : Fin 39, a.1 4 (ix1 i) = BitVec.ofNat 32 (if Sched.lo n (P i.val) = 0 then 1 else 0)

/-- An entry not marked first follows one of the same tile. -/
theorem chained_of {a : (pcfg0 (F := F)).Adm} {n P : ℕ → ℕ} (H : Listed a n P) (L : Sched.Listing n P) : Chained a := by
  intro i h h4
  rw [slot_ix, H.flag] at h4
  have hlo : 0 < Sched.lo n (P i) := by
    by_contra hc
    apply h4
    have e : Sched.lo n (P i) = 0 := by omega
    show BitVec.ofNat 32 (if Sched.lo n (P i) = 0 then 1 else 0) = 1#32
    rw [if_pos e]
  obtain ⟨h0, h1, _⟩ := L.chained i hlo
  refine ⟨h0, ?_⟩
  rw [slot_ix, slot_ix, H.tile, H.tile]
  exact congrArg (BitVec.ofNat 32) h1

/-- Tables that are the given functions hold what those hold. -/
theorem listed_gen (a : (pcfg0 (F := F)).Adm) (t : pre0.Contents (Elt F)) (ht : a.1 = t) (n P : ℕ → ℕ) (f0 f1 f2 f3 f4 : S39.Idx → BitVec 32) (h0 : t 0 = f0) (h1 : t 1 = f1) (h2 : t 2 = f2)
    (h3 : t 3 = f3) (h4 : t 4 = f4) (k0 : ∀ i : Fin 39, f0 (ix1 i) = BitVec.ofNat 32 (P i.val / 8)) (k1 : ∀ i : Fin 39, f1 (ix1 i) = BitVec.ofNat 32 (P i.val % 8))
    (k2 : ∀ i : Fin 39, f2 (ix1 i) = BitVec.ofNat 32 (Sched.lo n (P i.val))) (k3 : ∀ i : Fin 39, f3 (ix1 i) = BitVec.ofNat 32 (Sched.hi n (P i.val)))
    (k4 : ∀ i : Fin 39, f4 (ix1 i) = BitVec.ofNat 32 (if Sched.lo n (P i.val) = 0 then 1 else 0)) : Listed a n P where
  tile i := (congrFun ((congrFun ht 0).trans h0) _).trans (k0 i)
  expert i := (congrFun ((congrFun ht 1).trans h1) _).trans (k1 i)
  lo i := (congrFun ((congrFun ht 2).trans h2) _).trans (k2 i)
  hi i := (congrFun ((congrFun ht 3).trans h3) _).trans (k3 i)
  flag i := (congrFun ((congrFun ht 4).trans h4) _).trans (k4 i)

/-- The launch's tables hold the listing of its picks. -/
theorem listed_of {pick : Fin 8192 → Fin 2 → Fin 8} {π : Fin 16384 ≃ Fin 16384} (R : Picks (launchV m 0) pick π)
    {P : ℕ → ℕ} (L : Sched.Listing (cnt pick) P) (hO : Ok m) : Listed (adm m hO) (cnt pick) P :=
  listed_gen (adm m hO) (tbl m) rfl (cnt pick) P (h_v116 (launchV m 0)) (h_v136 (launchV m 0)) (h_v156 (launchV m 0)) (h_v176 (launchV m 0)) (h_v179 (launchV m 0))
    (tbl_0 m) (tbl_1 m) (tbl_2 m) (tbl_3 m) (tbl_4 m) (tile_table R L) (expert_table R L) (lo_table R L) (hi_table R L) (flag_table R L)

/-- What the first window's block reads of its array `X` at a point. -/
theorem read_0 (a : (pcfg0 (F := F)).Adm) (t : Fin grid0.N) (e : Fin 32) (h : (a.1 0 (entryOf (grid0.coords t)) : BitVec 32) = BitVec.ofNat 32 e.val)
    (r : Fin 512) (k : Fin 2048) (g : Fin 16384) (hg : g.val = 512 * e.val + r.val) (X : S16384x2048.Idx → Elt F .bf16) :
    (((cfg0 a).win 0).blk t).view.read (Elt F) X (ix2 r k) = X (ix2 g k) := by
  have hi : ((cfg0 a).win 0).index t = ![e.val, 0] := by
    refine (map0_eq a.1 (grid0.coords t)).trans ?_
    rw [h, BitVec.toNat_ofNat, Nat.mod_eq_of_lt (by have := e.isLt; omega)]
  refine congrArg X (funext fun z => Fin.ext ?_)
  refine (Pipeline.Window.rect_emb_val _ _ _ _).trans ?_
  rw [hi]
  match z with
  | ⟨0, _⟩ => show e.val * 512 + r.val = g.val; omega
  | ⟨1, _⟩ => show 0 * 2048 + k.val = k.val; omega

/-- What the second window's block reads of its array `X` at a point. -/
theorem read_1 (a : (pcfg0 (F := F)).Adm) (t : Fin grid0.N) (e : Fin 8) (h : (a.1 1 (entryOf (grid0.coords t)) : BitVec 32) = BitVec.ofNat 32 e.val)
    (k : Fin 2048) (j : Fin 512) (b : Fin 5632) (hb : b.val = 512 * (t.val % 11) + j.val) (X : S8x2048x5632.Idx → Elt F .bf16) :
    (((cfg0 a).win 1).blk t).view.read (Elt F) X (ix3 (0 : Fin 1) k j) = X (ix3 e k b) := by
  have hi : ((cfg0 a).win 1).index t = ![e.val, 0, t.val % 11] := by
    refine (map1_eq a.1 (grid0.coords t)).trans ?_
    rw [h, BitVec.toNat_ofNat, Nat.mod_eq_of_lt (by have := e.isLt; omega), block_coords]
  refine congrArg X (funext fun z => Fin.ext ?_)
  refine (Pipeline.Window.rect_emb_val _ _ _ _).trans ?_
  rw [hi]
  match z with
  | ⟨0, _⟩ => show e.val * 1 + 0 = e.val; omega
  | ⟨1, _⟩ => show 0 * 2048 + k.val = k.val; omega
  | ⟨2, _⟩ => show t.val % 11 * 512 + j.val = b.val; omega

/-- What the third window's block reads of its array `X` at a point. -/
theorem read_2 (a : (pcfg0 (F := F)).Adm) (t : Fin grid0.N) (e : Fin 8) (h : (a.1 1 (entryOf (grid0.coords t)) : BitVec 32) = BitVec.ofNat 32 e.val)
    (k : Fin 2048) (j : Fin 512) (b : Fin 5632) (hb : b.val = 512 * (t.val % 11) + j.val) (X : S8x2048x5632.Idx → Elt F .bf16) :
    (((cfg0 a).win 2).blk t).view.read (Elt F) X (ix3 (0 : Fin 1) k j) = X (ix3 e k b) := by
  have hi : ((cfg0 a).win 2).index t = ![e.val, 0, t.val % 11] := by
    refine (map2_eq a.1 (grid0.coords t)).trans ?_
    rw [h, BitVec.toNat_ofNat, Nat.mod_eq_of_lt (by have := e.isLt; omega), block_coords]
  refine congrArg X (funext fun z => Fin.ext ?_)
  refine (Pipeline.Window.rect_emb_val _ _ _ _).trans ?_
  rw [hi]
  match z with
  | ⟨0, _⟩ => show e.val * 1 + 0 = e.val; omega
  | ⟨1, _⟩ => show 0 * 2048 + k.val = k.val; omega
  | ⟨2, _⟩ => show t.val % 11 * 512 + j.val = b.val; omega

/-- What the fourth window's block reads of its array `X` at a point. -/
theorem read_3 (a : (pcfg0 (F := F)).Adm) (t : Fin grid0.N) (e : Fin 8) (h : (a.1 1 (entryOf (grid0.coords t)) : BitVec 32) = BitVec.ofNat 32 e.val)
    (j : Fin 512) (q : Fin 2048) (b : Fin 5632) (hb : b.val = 512 * (t.val % 11) + j.val) (X : S8x5632x2048.Idx → Elt F .bf16) :
    (((cfg0 a).win 3).blk t).view.read (Elt F) X (ix3 (0 : Fin 1) j q) = X (ix3 e b q) := by
  have hi : ((cfg0 a).win 3).index t = ![e.val, t.val % 11, 0] := by
    refine (map3_eq a.1 (grid0.coords t)).trans ?_
    rw [h, BitVec.toNat_ofNat, Nat.mod_eq_of_lt (by have := e.isLt; omega), block_coords]
  refine congrArg X (funext fun z => Fin.ext ?_)
  refine (Pipeline.Window.rect_emb_val _ _ _ _).trans ?_
  rw [hi]
  match z with
  | ⟨0, _⟩ => show e.val * 1 + 0 = e.val; omega
  | ⟨1, _⟩ => show t.val % 11 * 512 + j.val = b.val; omega
  | ⟨2, _⟩ => show 0 * 2048 + q.val = q.val; omega

end Cert.KernelIdeal.Own

end
-- ==== Proof.IFrame.Acc.lean ====
/- The idealized kernel's accumulator and output tile in values: an entry's accumulator is the network's output, and a finished tile holds each row's own expert's output. -/
module

public import proofs.«01_k».proof.Proof.IFrame.Net

@[expose] public section

noncomputable section

namespace Cert.KernelIdeal.Own

open Cert.KernelIdeal.Gen Cert.Own Cert.Net
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-- The `j`-th addend of expert `e`'s output `q` on row `g`. -/
def part (X : S16384x2048.Idx → EReal) (A B : S8x2048x5632.Idx → EReal) (C : S8x5632x2048.Idx → EReal) (g : Fin 16384) (e : Fin 8) (q : Fin 2048) (j : Fin 5632) : EReal :=
  hid (fun k => X (ix2 g k)) (fun k b => A (ix3 e k b)) (fun k b => B (ix3 e k b)) j * C (ix3 e j q)

/-- The same, with the places past the last filled by zeros. -/
def partN (X : S16384x2048.Idx → EReal) (A B : S8x2048x5632.Idx → EReal) (C : S8x5632x2048.Idx → EReal) (g : Fin 16384) (e : Fin 8) (q : Fin 2048) (j : ℕ) : EReal :=
  if h : j < 5632 then part X A B C g e q ⟨j, h⟩ else 0

/-- Expert `e`'s output `q` on row `g`. -/
def net (X : S16384x2048.Idx → EReal) (A B : S8x2048x5632.Idx → EReal) (C : S8x5632x2048.Idx → EReal) (g : Fin 16384) (e : Fin 8) (q : Fin 2048) : EReal :=
  ffn (fun k => X (ix2 g k)) (fun k b => A (ix3 e k b)) (fun k b => B (ix3 e k b)) (fun b q => C (ix3 e b q)) q

section Entry

variable {m}
variable {hO : Ok m} {c : Dev nD} {X : S16384x2048.Idx → EReal} {A B : S8x2048x5632.Idx → EReal} {C : S8x5632x2048.Idx → EReal}
variable (hX : V m c main_v181 = X) (hA : V m c main_v182 = A) (hB : V m c main_v183 = B) (hC : V m c main_v184 = C)

include hX hA hB hC

/-- One step adds one block of addends. -/
theorem step_ap (t : Fin grid0.N) (T : Fin 32) (hT : ((adm m hO).1 0 (entryOf (grid0.coords t)) : BitVec 32) = BitVec.ofNat 32 T.val)
    (e : Fin 8) (he : ((adm m hO).1 1 (entryOf (grid0.coords t)) : BitVec 32) = BitVec.ofNat 32 e.val) (a : Vec Ideal S512x2048 .f32) (r : Fin 512) (q : Fin 2048)
    (g : Fin 16384) (hg : g.val = 512 * T.val + r.val) :
    step m hO c a t (ix2 r q) = a (ix2 r q) + ∑ j ∈ Finset.range 512, partN X A B C g e q (512 * (t.val % 11) + j) := by
  refine (pay2_ap _ _ _ _ _ r q).trans (congrArg (a (ix2 r q) + ·) ?_)
  refine Eq.trans ?_ (Finset.sum_range _).symm
  refine Finset.sum_congr rfl fun j _ => ?_
  have hj : 512 * (t.val % 11) + j.val < 5632 := by have := j.isLt; omega
  have e0 : ∀ k : Fin 2048, iblk m hO c 0 t (ix2 r k) = X (ix2 g k) := fun k =>
    (read_0 (adm m hO) t T hT r k g hg (V m c main_v181)).trans (congrFun hX _)
  have e1 : ∀ k : Fin 2048, iblk m hO c 1 t (ix3 (0 : Fin 1) k j) = A (ix3 e k ⟨_, hj⟩) := fun k =>
    (read_1 (adm m hO) t e he k j ⟨_, hj⟩ rfl (V m c main_v182)).trans (congrFun hA _)
  have e2 : ∀ k : Fin 2048, iblk m hO c 2 t (ix3 (0 : Fin 1) k j) = B (ix3 e k ⟨_, hj⟩) := fun k =>
    (read_2 (adm m hO) t e he k j ⟨_, hj⟩ rfl (V m c main_v183)).trans (congrFun hB _)
  have e3 : iblk m hO c 3 t (ix3 (0 : Fin 1) j q) = C (ix3 e ⟨_, hj⟩ q) :=
    (read_3 (adm m hO) t e he j q ⟨_, hj⟩ rfl (V m c main_v184)).trans (congrFun hC _)
  refine Eq.trans ?_ (dif_pos hj).symm
  refine congrArg₂ (· * ·) (congrArg₂ unit ?_ ?_) e3
  · exact Finset.sum_congr rfl fun k _ => congrArg₂ (· * ·) (e0 k) (e1 k)
  · exact Finset.sum_congr rfl fun k _ => congrArg₂ (· * ·) (e0 k) (e2 k)

/-- The accumulator after block `h` of an entry. -/
theorem acc_blocks (i : ℕ) (hi : i < 39) (T : Fin 32) (hT : ((adm m hO).1 0 (ix1 (⟨i, hi⟩ : Fin 39)) : BitVec 32) = BitVec.ofNat 32 T.val)
    (e : Fin 8) (he : ((adm m hO).1 1 (ix1 (⟨i, hi⟩ : Fin 39)) : BitVec 32) = BitVec.ofNat 32 e.val) (r : Fin 512) (q : Fin 2048)
    (g : Fin 16384) (hg : g.val = 512 * T.val + r.val) (h : ℕ) (hh : h < 11) :
    accT m hO c (11 * i + h) (ix2 r q) = ∑ b ∈ Finset.range (h + 1), ∑ j ∈ Finset.range 512, partN X A B C g e q (512 * b + j) := by
  have key : ∀ h, h < 11 → ∀ t : Fin grid0.N, t.val = 11 * i + h → ∀ a : Vec Ideal S512x2048 .f32,
      step m hO c a t (ix2 r q) = a (ix2 r q) + ∑ j ∈ Finset.range 512, partN X A B C g e q (512 * h + j) := by
    intro h hh t ht a
    have ei := entry_ix t ⟨i, hi⟩ (show t.val / 11 = i by omega)
    have := step_ap hX hA hB hC (hO := hO) t T (by rw [ei]; exact hT) e (by rw [ei]; exact he) a r q g hg
    rwa [show t.val % 11 = h by omega] at this
  induction h with
  | zero =>
    have hN : 11 * i + 0 < grid0.N := by rw [N_0]; omega
    have e1 := accT_first m hO c ⟨11 * i + 0, hN⟩ (by show (11 * i + 0) % 11 = 0; omega)
    refine (congrFun e1 (ix2 r q)).trans ?_
    rw [key 0 (by omega) _ rfl, Finset.sum_range_one, pay1_ap, zero_add]
  | succ h ih =>
    have hN : 11 * i + (h + 1) < grid0.N := by rw [N_0]; omega
    have e1 := accT_next m hO c ⟨11 * i + (h + 1), hN⟩ (by show ¬(11 * i + (h + 1)) % 11 = 0; omega)
    refine (congrFun e1 (ix2 r q)).trans ?_
    rw [key (h + 1) hh _ rfl, Finset.sum_range_succ (fun b => ∑ j ∈ Finset.range 512, partN X A B C g e q (512 * b + j)), ← ih (by omega)]
    rfl

/-- At an entry's last block the accumulator is the network's output. -/
theorem acc_net (i : ℕ) (hi : i < 39) (T : Fin 32) (hT : ((adm m hO).1 0 (ix1 (⟨i, hi⟩ : Fin 39)) : BitVec 32) = BitVec.ofNat 32 T.val)
    (e : Fin 8) (he : ((adm m hO).1 1 (ix1 (⟨i, hi⟩ : Fin 39)) : BitVec 32) = BitVec.ofNat 32 e.val) (r : Fin 512) (q : Fin 2048)
    (g : Fin 16384) (hg : g.val = 512 * T.val + r.val) :
    accT m hO c (11 * i + 10) (ix2 r q) = net X A B C g e q := by
  rw [acc_blocks hX hA hB hC i hi T hT e he r q g hg 10 (by omega), sum_blocks (partN X A B C g e q) 512 11, Finset.sum_range]
  unfold net ffn
  exact Finset.sum_congr rfl fun j _ => dif_pos j.isLt

end Entry

/-- Between two entries' last blocks the output tile's buffer does not change. -/
theorem out_idle (hO : Ok m) (c : Dev nD) (i k : ℕ) (hk : k < 10) : outT m hO c (11 * (i + 1) + k) = outT m hO c (11 * i + 10) := by
  induction k with
  | zero => exact outT_idle m hO c (11 * (i + 1) + 0) (by omega) (by omega)
  | succ k ih => exact (outT_idle m hO c (11 * (i + 1) + (k + 1)) (by omega) (by omega)).trans (ih (by omega))

section Tile

variable {m}
variable {hO : Ok m} {c : Dev nD} {X : S16384x2048.Idx → EReal} {A B : S8x2048x5632.Idx → EReal} {C : S8x5632x2048.Idx → EReal}
variable (hX : V m c main_v181 = X) (hA : V m c main_v182 = A) (hB : V m c main_v183 = B) (hC : V m c main_v184 = C)
variable {n P : ℕ → ℕ} (H : Listed (adm m hO) n P) (L : Sched.Listing n P)

include hX hA hB hC H L

/-- An entry's write-back, row by row. -/
theorem out_entry (i : ℕ) (hi : i < 39) (r : Fin 512) (q : Fin 2048) :
    (∀ (e : Fin 8) (g : Fin 16384), e.val = P i % 8 → g.val = 512 * (P i / 8) + r.val → Sched.lo n (P i) ≤ r.val → r.val < Sched.hi n (P i) →
      outT m hO c (11 * i + 10) (ix2 r q) = net X A B C g e q)
    ∧ (0 < i → Sched.lo n (P i) ≠ 0 → ¬(Sched.lo n (P i) ≤ r.val ∧ r.val < Sched.hi n (P i)) →
      outT m hO c (11 * i + 10) (ix2 r q) = outT m hO c (11 * (i - 1) + 10) (ix2 r q)) := by
  have hp := (L.act i).1
  have hN : 11 * i + 10 < grid0.N := by rw [N_0]; omega
  have hl : Sched.lo n (P i) ≤ 512 := Nat.min_le_right _ _
  have hh : Sched.hi n (P i) ≤ 512 := Nat.min_le_right _ _
  have ei := entry_ix ⟨11 * i + 10, hN⟩ ⟨i, hi⟩ (show (11 * i + 10) / 11 = i by omega)
  have w2 : word2 (adm m hO) ⟨11 * i + 10, hN⟩ = BitVec.ofNat 32 (Sched.lo n (P i)) := by unfold word2; rw [ei]; exact H.lo ⟨i, hi⟩
  have w3 : word3 (adm m hO) ⟨11 * i + 10, hN⟩ = BitVec.ofNat 32 (Sched.hi n (P i)) := by unfold word3; rw [ei]; exact H.hi ⟨i, hi⟩
  have w4 : word4 (adm m hO) ⟨11 * i + 10, hN⟩ = BitVec.ofNat 32 (if Sched.lo n (P i) = 0 then 1 else 0) := by unfold word4; rw [ei]; exact H.flag ⟨i, hi⟩
  have eo := outT_last m hO c ⟨11 * i + 10, hN⟩ (by show (11 * i + 10) % 11 = 10; omega)
  rw [w2, w3, w4] at eo
  have eo := congrFun eo (ix2 r q)
  constructor
  · intro e g he hg h1 h2
    refine eo.trans (((pay3_ap hl hh _ _ _ r q).1 ⟨h1, h2⟩).trans ?_)
    exact acc_net hX hA hB hC i hi ⟨P i / 8, by omega⟩ (H.tile ⟨i, hi⟩) e ((H.expert ⟨i, hi⟩).trans (congrArg (BitVec.ofNat 32) he.symm)) r q g hg
  · intro h0 h1 h2
    obtain ⟨k, rfl⟩ : ∃ k, i = k + 1 := ⟨i - 1, by omega⟩
    refine eo.trans (((pay3_ap hl hh _ _ _ r q).2 h2 ?_).trans ?_)
    · rw [if_neg h1]; decide
    · exact congrFun (out_idle m hO c k 9 (by omega)) _

/-- Rows of the output tile up to an entry's bound hold their own expert's output. -/
theorem out_rows (own : Fin 16384 → Fin 8) (h8 : Sched.st n 8 = 16384)
    (hown : ∀ e g, e < 8 → Sched.st n e ≤ (g : Fin 16384).val → g.val < Sched.st n (e + 1) → (own g).val = e)
    (i : ℕ) (hi : i < 39) (r : Fin 512) (q : Fin 2048) (hr : r.val < Sched.hi n (P i)) (g : Fin 16384) (hg : g.val = 512 * (P i / 8) + r.val) :
    outT m hO c (11 * i + 10) (ix2 r q) = net X A B C g (own g) q := by
  have last : ∀ i, 38 ≤ i → P i = P 38 := fun i h => by
    refine Sched.count_inj (Sched.act n) (L.act _).2 (L.act _).2 ?_
    have := Sched.count_all_le (cnt := n)
    rw [L.place, L.place]
    omega
  let Z : ℕ → ℕ → EReal := fun e g => if h : e < 8 ∧ g < 16384 then net X A B C ⟨g, h.2⟩ ⟨e, h.1⟩ q else 0
  let Y : ℕ → EReal := fun g => if h : g < 16384 then net X A B C ⟨g, h⟩ (own ⟨g, h⟩) q else 0
  let O : ℕ → ℕ → EReal := fun i r => if h : r < 512 then outT m hO c (11 * min i 38 + 10) (ix2 ⟨r, h⟩ q) else 0
  have hPm : ∀ i, P (min i 38) = P i := fun i => by
    rcases le_total i 38 with h | h
    · rw [min_eq_left h]
    · rw [min_eq_right h, last i h]
  have s := L.sweep Z Y (fun e g he h1 h2 => ?_) O (fun i r h1 h2 => ?_) (fun i r h0 h1 h2 => ?_) i r.val hr r.isLt
  · have hb : 512 * (P i / 8) + r.val < 16384 := hg ▸ g.isLt
    have hY : Y (512 * (P i / 8) + r.val) = net X A B C g (own g) q := by
      have eg : (⟨512 * (P i / 8) + r.val, hb⟩ : Fin 16384) = g := Fin.ext hg.symm
      refine (dif_pos hb).trans ?_
      rw [eg]
    have hOi : O i r.val = outT m hO c (11 * i + 10) (ix2 r q) := by
      refine (dif_pos r.isLt).trans ?_
      rw [min_eq_left (by omega)]
    rw [← hOi, s, hY]
  · have hg : g < 16384 := lt_of_lt_of_le h2 (h8 ▸ Sched.st_mono (show e + 1 ≤ 8 by omega))
    have ho : own ⟨g, hg⟩ = ⟨e, he⟩ := Fin.ext (hown e ⟨g, hg⟩ he h1 h2)
    refine (dif_pos hg).trans (Eq.trans ?_ (dif_pos (show e < 8 ∧ g < 16384 from ⟨he, hg⟩)).symm)
    rw [ho]
  · have hr : r < 512 := lt_of_lt_of_le h2 (Nat.min_le_right _ _)
    have hp := (L.act i).1
    have hq : P i % 8 < 8 ∧ 512 * (P i / 8) + r < 16384 := by constructor <;> omega
    refine (dif_pos hr).trans (Eq.trans ?_ (dif_pos hq).symm)
    refine (out_entry hX hA hB hC H L (min i 38) (by omega) ⟨r, hr⟩ q).1 _ _ ?_ ?_ ?_ ?_
    · rw [hPm]
    · rw [hPm]
    · rw [hPm]; exact h1
    · rw [hPm]; exact h2
  · show (if h : r < 512 then _ else _) = (if h : r < 512 then _ else _)
    by_cases hr : r < 512
    · rw [dif_pos hr, dif_pos hr]
      rcases Nat.lt_or_ge 38 i with h | h
      · rw [min_eq_right (by omega), min_eq_right (by omega)]
      · have := (out_entry hX hA hB hC H L (min i 38) (by omega) ⟨r, hr⟩ q).2 (by omega) (by rw [hPm]; exact h1) (by rw [hPm]; exact h2)
        rw [this, min_eq_left h, min_eq_left (by omega)]
    · rw [dif_neg hr, dif_neg hr]

end Tile

end Cert.KernelIdeal.Own

end
-- ==== Proof.IFrame.Final.lean ====
/- The idealized kernel's grouped output after the region: every row holds its own expert's output. -/
module

public import proofs.«01_k».proof.Proof.IFrame.Acc

@[expose] public section

noncomputable section

namespace Cert.KernelIdeal.Own

open Cert.KernelIdeal.Gen Cert.Own Cert.Net
open Idealize.ShloMosaic Idealize.ShloMosaic.TcCoe Idealize.ShloMosaic.ValueIdx
open Idealize.ShloMosaic.Pipeline (Dat Cfg Window)

/-- A two-axis index is a pair. -/
theorem split2 {a b : ℕ} (z : (⟨2, ![a, b]⟩ : Shape).Idx) : ∃ (r : Fin a) (q : Fin b), z = ix2 r q := ⟨z 0, z 1, eq_ix2 z⟩

section Flush

variable {F : FTy → Type} [FloatOps F]

/-- Where the output's block places its rows. -/
theorem emb_4 (a : (pcfg0 (F := F)).Adm) (t : Fin grid0.N) (e : Fin 32) (h : (a.1 0 (entryOf (grid0.coords t)) : BitVec 32) = BitVec.ofNat 32 e.val)
    (r : Fin 512) (k : Fin 2048) (g : Fin 16384) (hg : g.val = 512 * e.val + r.val) :
    (((cfg0 a).win 4).blk t).view.emb (ix2 r k) = (ix2 g k : S16384x2048.Idx) := by
  have hi : ((cfg0 a).win 4).index t = ![e.val, 0] := by
    refine (index4 a t).trans ?_
    rw [h, BitVec.toNat_ofNat, Nat.mod_eq_of_lt (by have := e.isLt; omega)]
  refine funext fun z => Fin.ext ?_
  refine (Pipeline.Window.rect_emb_val _ _ _ _).trans ?_
  rw [hi]
  match z with
  | ⟨0, _⟩ => show e.val * 512 + r.val = g.val; omega
  | ⟨1, _⟩ => show 0 * 2048 + k.val = k.val; omega

/-- A point written back ends the last entry, or one whose next entry names another tile. -/
theorem flush_next (a : (pcfg0 (F := F)).Adm) {n P : ℕ → ℕ} (H : Listed a n P) (t : Fin (cfg0 a).N) (hf : ((cfg0 a).win 4).flush t = true) :
    ∃ i, i < 39 ∧ t.val = 11 * i + 10 ∧ (i = 38 ∨ P (i + 1) / 8 ≠ P i / 8) := by
  have ht : t.val < 429 := Nat.lt_of_lt_of_eq t.isLt N_0
  have h10 := flush4 a t hf
  refine ⟨t.val / 11, by omega, by omega, ?_⟩
  by_contra hc
  push Not at hc
  obtain ⟨h1, h2⟩ := hc
  have h3 : t.val + 1 < 429 := by omega
  have := noflush4 a t h3 (by
    have e1 := entry_ix ⟨t.val + 1, Nat.lt_of_lt_of_eq h3 N_0.symm⟩ ⟨t.val / 11 + 1, by omega⟩ (show (t.val + 1) / 11 = t.val / 11 + 1 by omega)
    have e2 := entry_ix t ⟨t.val / 11, by omega⟩ rfl
    rw [e1]
    refine (H.tile _).trans (Eq.trans (congrArg (BitVec.ofNat 32) h2) ?_)
    rw [e2]
    exact (H.tile ⟨t.val / 11, by omega⟩).symm)
  rw [this] at hf
  exact absurd hf (by decide)

/-- The last entry's last point is written back, and that of an entry whose next entry names another tile. -/
theorem flush_at (a : (pcfg0 (F := F)).Adm) {n P : ℕ → ℕ} (H : Listed a n P) (L : Sched.Listing n P) (i : ℕ) (hi : i < 39) (hN : 11 * i + 10 < grid0.N)
    (h : i = 38 ∨ P (i + 1) / 8 ≠ P i / 8) : ((cfg0 a).win 4).flush ⟨11 * i + 10, hN⟩ = true := by
  rw [Window.flush_eq_flushF]
  unfold Window.flushF
  refine Bool.and_eq_true_iff.2 ⟨rfl, Bool.or_eq_true_iff.2 ?_⟩
  by_cases hl : i = 38
  · left
    refine decide_eq_true ?_
    refine Eq.trans ?_ N_0.symm
    show 11 * i + 10 + 1 = 429
    omega
  · right
    have h2 := h.resolve_left hl
    have h3 : 11 * i + 10 + 1 < grid0.N := by rw [N_0]; omega
    refine decide_eq_true ⟨h3, (0 : Fin 2), ?_⟩
    rw [index4, index4]
    have e1 := entry_ix ⟨11 * i + 10 + 1, h3⟩ ⟨i + 1, by omega⟩ (show (11 * i + 10 + 1) / 11 = i + 1 by omega)
    have e2 := entry_ix ⟨11 * i + 10, hN⟩ ⟨i, hi⟩ (show (11 * i + 10) / 11 = i by omega)
    have p1 := (L.act i).1
    have p2 := (L.act (i + 1)).1
    show (a.1 0 (entryOf (grid0.coords ⟨11 * i + 10 + 1, h3⟩)) : BitVec 32).toNat ≠ (a.1 0 (entryOf (grid0.coords ⟨11 * i + 10, hN⟩)) : BitVec 32).toNat
    rw [e1, e2, H.tile, H.tile, BitVec.toNat_ofNat, BitVec.toNat_ofNat]
    show P (i + 1) / 8 % 2 ^ 32 ≠ P i / 8 % 2 ^ 32
    omega

end Flush

variable {m : (ℓ : Loc nD τ sig) → Buf (Elt Ideal) ℓ}
variable {hO : Ok m} {c : Dev nD} {X : S16384x2048.Idx → EReal} {A B : S8x2048x5632.Idx → EReal} {C : S8x5632x2048.Idx → EReal}
variable (hX : V m c main_v181 = X) (hA : V m c main_v182 = A) (hB : V m c main_v183 = B) (hC : V m c main_v184 = C)
variable {n P : ℕ → ℕ} (H : Listed (adm m hO) n P) (L : Sched.Listing n P)

/-- The grouped output: row `g` through its own expert. -/
def grouped (X : S16384x2048.Idx → EReal) (A B : S8x2048x5632.Idx → EReal) (C : S8x5632x2048.Idx → EReal) (own : Fin 16384 → Fin 8) : S16384x2048.Idx → EReal :=
  fun i => net X A B C (i 0) (own (i 0)) (i 1)

include hX hA hB hC H L

/-- After the region the output array is the grouped output. -/
theorem final_of (own : Fin 16384 → Fin 8) (h8 : Sched.st n 8 = 16384)
    (hown : ∀ e g, e < 8 → Sched.st n e ≤ (g : Fin 16384).val → g.val < Sched.st n (e + 1) → (own g).val = e) :
    (dats m hO 0 c).arrAt 4 (cfgM m hO).N = grouped X A B C own := by
  have tileAt : ∀ (i : ℕ) (hi : i < 39) (t : Fin grid0.N), t.val = 11 * i + 10 →
      ((adm m hO).1 0 (entryOf (grid0.coords t)) : BitVec 32) = BitVec.ofNat 32 (⟨P i / 8, by have := (L.act i).1; omega⟩ : Fin 32).val := by
    intro i hi t ht
    rw [entry_ix t ⟨i, hi⟩ (show t.val / 11 = i by omega)]
    exact H.tile ⟨i, hi⟩
  refine (dats m hO 0 c).arrAt_eq_of_emb 4 (grouped X A B C own) (fun t hf y => ?_) (fun p => ?_)
  · obtain ⟨i, hi, ht, hn⟩ := flush_next (adm m hO) H t hf
    have hhi := L.ends h8 i hn hi
    obtain ⟨r, q, rfl⟩ : ∃ (r : Fin 512) (q : Fin 2048), y = (ix2 r q : S512x2048.Idx) := split2 y
    have hg : 512 * (P i / 8) + r.val < 16384 := by have := (L.act i).1; have := r.isLt; omega
    have e1 := emb_4 (adm m hO) t _ (tileAt i hi t ht) r q ⟨_, hg⟩ rfl
    refine Eq.trans ?_ (congrArg (grouped X A B C own) e1).symm
    refine Eq.trans (congrFun (after0_4 m hO c t) (ix2 r q)) ?_
    rw [ht]
    exact out_rows hX hA hB hC H L own h8 hown i hi r q (by rw [hhi]; exact r.isLt) ⟨_, hg⟩ rfl
  · obtain ⟨g, q, rfl⟩ : ∃ (g : Fin 16384) (q : Fin 2048), p = (ix2 g q : S16384x2048.Idx) := split2 p
    obtain ⟨pp, hp1, hp2, hp3⟩ := Sched.exists_act (cnt := n) h8 (m := g.val / 512) (by have := g.isLt; omega)
    obtain ⟨i0, hi0, hP0⟩ := L.listed hp1 hp3
    classical
    let Q : ℕ → Prop := fun i => P i / 8 = g.val / 512
    have hQ : Q i0 := by show P i0 / 8 = _; rw [hP0]; exact hp2
    let i := Nat.findGreatest Q 38
    have hi : i ≤ 38 := Nat.findGreatest_le 38
    have hQi : Q i := Nat.findGreatest_spec (P := Q) (show i0 ≤ 38 by omega) hQ
    have hn : i = 38 ∨ P (i + 1) / 8 ≠ P i / 8 := by
      by_cases h38 : i = 38
      · exact Or.inl h38
      · refine Or.inr fun he => ?_
        exact Nat.findGreatest_is_greatest (P := Q) (n := 38) (k := i + 1) (Nat.lt_succ_self i) (by omega) (he.trans hQi)
    have hN : 11 * i + 10 < grid0.N := by rw [N_0]; omega
    refine ⟨⟨11 * i + 10, hN⟩, flush_at (adm m hO) H L i (by omega) hN hn, ?_⟩
    have hQi' : P i / 8 = g.val / 512 := hQi
    have e1 := emb_4 (adm m hO) ⟨11 * i + 10, hN⟩ _ (tileAt i (by omega) ⟨11 * i + 10, hN⟩ rfl) ⟨g.val % 512, by omega⟩ q g
      (by show g.val = 512 * (P i / 8) + g.val % 512; omega)
    rw [← e1]
    exact View.emb_mem_set _ _

end Cert.KernelIdeal.Own

end
-- ==== Proof.IFrame.Region.lean ====
/- The idealized kernel's run with its output named: after each point the accumulator and the output tile are those of a recursion over the points. -/
module

public import proofs.«01_k».proof.Proof.IFrame.RegionData
public import Idealize.ShloMosaic.Lib.Claim

@[expose] public section

-- rectangles of full size (`View.cover_of_tiled`) need the deeper recursion
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The body at any point: its inputs hold their blocks, and it leaves the accumulator and the output tile at the next point's. -/
theorem sound_body (hO : Ok m) (hB : Chained (adm m hO)) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = iprop((PhiS m hO c (t.val + 1) ∗ (∃ r, prngReg c r)) ∗ Pipeline.ΦT pre0 (tbl m) c) from rfl,
    show (dats m hO 0 c).Φ t.castSucc = iprop((PhiS m hO c t.val ∗ (∃ r, prngReg c r)) ∗ Pipeline.ΦT pre0 (tbl m) c) from rfl, PhiT0_eq]
  rw [show (dats m hO 0 c).leavesExact 0 t = owns (c : Thread nD τ) (ms0_0 m hO t) fullShare ((dats m hO 0 c).after 0 t) from by
      unfold Dat.leavesExact; rw [liveAt0_0 m hO t]; try rfl, after0_0]
  rw [show (dats m hO 0 c).leavesExact 1 t = owns (c : Thread nD τ) (ms0_1 m hO t) fullShare ((dats m hO 0 c).after 1 t) from by
      unfold Dat.leavesExact; rw [liveAt0_1 m hO t]; try rfl, after0_1]
  rw [show (dats m hO 0 c).leavesExact 2 t = owns (c : Thread nD τ) (ms0_2 m hO t) fullShare ((dats m hO 0 c).after 2 t) from by
      unfold Dat.leavesExact; rw [liveAt0_2 m hO t]; try rfl, after0_2]
  rw [show (dats m hO 0 c).leavesExact 3 t = owns (c : Thread nD τ) (ms0_3 m hO t) fullShare ((dats m hO 0 c).after 3 t) from by
      unfold Dat.leavesExact; rw [liveAt0_3 m hO t]; try rfl, after0_3]
  by_cases h0 : t.val % 11 = 0
  · have h1 : ¬t.val % 11 = 10 := by omega
    rw [leaves4_idle m hO c t h1]
    rw [show PhiS m hO c t.val = iprop(∃ d, owns (c : Thread nD τ) scM0_0 fullShare d) from if_pos h0,
      show PhiS m hO c (t.val + 1) = iprop(owns (c : Thread nD τ) scM0_0 fullShare (accT m hO c t.val)) from if_neg (by omega)]
    rw [accT_first m hO c t h0]
    iintro ⟨⟨⟨HS0, Hg⟩, ⟨HT0, HT1, HT2, HT3, HT4⟩⟩, Ho, ⟨%d0, H0⟩, ⟨%d1, H1⟩, ⟨%d2, H2⟩, ⟨%d3, H3⟩, ⟨%d4, H4⟩⟩
    iapply (stepA c (grid0.coords t) _ (hs0_0 m hO t) _ (hs0_1 m hO t) _ (hs0_2 m hO t) _ (hs0_3 m hO t) _ (hs0_4 m hO t) _ (Memref.isWhole_whole _) ((hcond0_0 t).mpr h0) (fun h => h1 ((hcond0_1 t).mp h)) (iblk m hO c 0 t) (iblk m hO c 1 t) (iblk m hO c 2 t) (iblk m hO c 3 t) _ (tbl m 0) (tbl m 1) (tbl m 2) (tbl m 3) (tbl m 4) Set.univ _)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    isplitl [HT2]; · iexact HT2
    isplitl [HT3]; · iexact HT3
    isplitl [HT4]; · iexact HT4
    iintro ⟨H0, H1, H2, H3, H4, HS0, HT0, HT1, HT2, HT3, HT4⟩
    isplitl [HS0 Hg HT0 HT1 HT2 HT3 HT4]
    · isplitl [HS0 Hg]
      · isplitl [HS0]
        · iexact HS0
        iexact Hg
      isplitl [HT0]; · iexact HT0
      isplitl [HT1]; · iexact HT1
      isplitl [HT2]; · iexact HT2
      isplitl [HT3]; · iexact HT3
      iexact HT4
    isplitl [Ho]; · iexact Ho
    isplitl [H0]; · iexact H0
    isplitl [H1]; · iexact H1
    isplitl [H2]; · iexact H2
    isplitl [H3]; · iexact H3
    iexists d4; iexact H4
  · rw [show PhiS m hO c t.val = iprop(owns (c : Thread nD τ) scM0_0 fullShare (accT m hO c (t.val - 1))) from if_neg h0]
    by_cases h1 : t.val % 11 = 10
    · rw [leaves4_last m hO c t h1]
      rw [show PhiS m hO c (t.val + 1) = iprop(∃ d, owns (c : Thread nD τ) scM0_0 fullShare d) from if_pos (by omega)]
      iintro ⟨⟨⟨HS0, Hg⟩, ⟨HT0, HT1, HT2, HT3, HT4⟩⟩, Ho, ⟨%d0, H0⟩, ⟨%d1, H1⟩, ⟨%d2, H2⟩, ⟨%d3, H3⟩, ⟨%d4, H4⟩⟩
      iapply (stepC c (grid0.coords t) _ (hs0_0 m hO t) _ (hs0_1 m hO t) _ (hs0_2 m hO t) _ (hs0_3 m hO t) _ (hs0_4 m hO t) _ (Memref.isWhole_whole _) (fun h => h0 ((hcond0_0 t).mp h)) ((hcond0_1 t).mpr h1) (iblk m hO c 0 t) (iblk m hO c 1 t) (iblk m hO c 2 t) (iblk m hO c 3 t) _ (tbl m 0) (tbl m 1) (tbl m 2) (tbl m 3) (tbl m 4) (accT m hO c (t.val - 1)) Set.univ _)
      isplitl [H0]; · iexact H0
      isplitl [H1]; · iexact H1
      isplitl [H2]; · iexact H2
      isplitl [H3]; · iexact H3
      isplitl [H4]; · iexact H4
      isplitl [HS0]; · iexact HS0
      isplitl [HT0]; · iexact HT0
      isplitl [HT1]; · iexact HT1
      isplitl [HT2]; · iexact HT2
      isplitl [HT3]; · iexact HT3
      isplitl [HT4]; · iexact HT4
      iintro ⟨H0, H1, H2, H3, H4, HS0, HT0, HT1, HT2, HT3, HT4⟩
      isplitl [HS0 Hg HT0 HT1 HT2 HT3 HT4]
      · isplitl [HS0 Hg]
        · isplitl [HS0]
          · iexists _; iexact HS0
          iexact Hg
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      isplitl [H3]; · iexact H3
      rw [← tile_left m hO hB c t h0 h1 d4]
      iexact H4
    · rw [leaves4_idle m hO c t h1]
      rw [show PhiS m hO c (t.val + 1) = iprop(owns (c : Thread nD τ) scM0_0 fullShare (accT m hO c t.val)) from if_neg (by omega)]
      rw [accT_next m hO c t h0]
      iintro ⟨⟨⟨HS0, Hg⟩, ⟨HT0, HT1, HT2, HT3, HT4⟩⟩, Ho, ⟨%d0, H0⟩, ⟨%d1, H1⟩, ⟨%d2, H2⟩, ⟨%d3, H3⟩, ⟨%d4, H4⟩⟩
      iapply (stepB c (grid0.coords t) _ (hs0_0 m hO t) _ (hs0_1 m hO t) _ (hs0_2 m hO t) _ (hs0_3 m hO t) _ (hs0_4 m hO t) _ (Memref.isWhole_whole _) (fun h => h0 ((hcond0_0 t).mp h)) (fun h => h1 ((hcond0_1 t).mp h)) (iblk m hO c 0 t) (iblk m hO c 1 t) (iblk m hO c 2 t) (iblk m hO c 3 t) _ (tbl m 0) (tbl m 1) (tbl m 2) (tbl m 3) (tbl m 4) (accT m hO c (t.val - 1)) Set.univ _)
      isplitl [H0]; · iexact H0
      isplitl [H1]; · iexact H1
      isplitl [H2]; · iexact H2
      isplitl [H3]; · iexact H3
      isplitl [H4]; · iexact H4
      isplitl [HS0]; · iexact HS0
      isplitl [HT0]; · iexact HT0
      isplitl [HT1]; · iexact HT1
      isplitl [HT2]; · iexact HT2
      isplitl [HT3]; · iexact HT3
      isplitl [HT4]; · iexact HT4
      iintro ⟨H0, H1, H2, H3, H4, HS0, HT0, HT1, HT2, HT3, HT4⟩
      isplitl [HS0 Hg HT0 HT1 HT2 HT3 HT4]
      · isplitl [HS0 Hg]
        · isplitl [HS0]
          · iexact HS0
          iexact Hg
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      isplitl [H3]; · iexact H3
      iexists d4; iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (hB : Chained (adm m hO)) (c : Dev nD) : BodyObligation (dats (F := F) m hO 0 c) (defs₀ (F := F)) Variants.none () Set.univ := fun t => by
  rw [bigSep_W0, bigSep_W0, defs₀_row m hO]
  exact triple_restated (sound_body m hO hB c t) rfl .rfl fun _ => .rfl

/-- What the launch hands the region is the invariant. -/
theorem hin (hO : Ok m) (c : Dev nD) : iprop(Pipeline.ΦA spec0 c ∗ Pipeline.ΦT pre0 (tbl m) c) ⊢ (dats m hO 0 c).Φ 0 := by
  rw [show (dats m hO 0 c).Φ 0 = iprop((PhiS m hO c 0 ∗ (∃ r, prngReg c r)) ∗ Pipeline.ΦT pre0 (tbl m) c) from rfl, PhiA0_eq,
    show PhiS m hO c 0 = iprop(∃ d, owns (c : Thread nD τ) scM0_0 fullShare d) from if_pos rfl]

/-- After the last point the invariant gives the scoped rest back, the tables' halves dropped. -/
theorem hout (hO : Ok m) (c : Dev nD) : (dats m hO 0 c).Φ (Fin.last (cfgM m hO).N) ⊢ Pipeline.ΦA spec0 c := by
  rw [show (dats m hO 0 c).Φ (Fin.last (cfgM m hO).N) = iprop((PhiS m hO c grid0.N ∗ (∃ r, prngReg c r)) ∗ Pipeline.ΦT pre0 (tbl m) c) from rfl, PhiA0_eq,
    show PhiS m hO c grid0.N = iprop(∃ d, owns (c : Thread nD τ) scM0_0 fullShare d) from if_pos (by rw [N_0])]
  iintro ⟨H, -⟩
  iexact H

/-! ## The run -/

set_option backward.isDefEq.respectTransparency.types false in
set_option maxHeartbeats 1600000 in
/-- The launch: every run ends, with the arrays at what the points wrote back, every other buffer at what the host
    operations after the region leave of them, and every semaphore counter at zero. -/
theorem run_main_named (hO : Ok m) (hB : Chained (adm m hO)) : θ_run defs (onTc (τ := τ) (main (F := F))) (s₀ m ρ) (fun r =>
    Pipeline.FramePost (Pipeline.pin pcfgs fun _ => adm m hO) (dats m hO) 0 (Pipeline.afterTail pcfgs (fun _ => adm m hO) (dats m hO) 0 (V0 m) [hostOps1]) r ∧ r.2.sem = fun _ => 0) :=
  Pipeline.θ_run_frameP_around_track (Q' := _) pcfgs (fun _ => adm m hO) (dats m hO) (0 : Fin 1) launch0 defs₀ Variants.none m ρ main
    (hbody := fun c => (body_obligation m hO hB c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

end Cert.KernelIdeal.Own

end
-- ==== Proof.Suffix.lean ====
/- What the host operations after the region compute: each token's two sorted rows, weighted and added. -/
module

public import proofs.«01_k».proof.Proof.HostVals
public import Idealize.ShloMosaic.Lib.Routing.Ops
public import Idealize.ShloMosaic.Lib.Routing.OpsPair

@[expose] public section

set_option maxRecDepth 8000

noncomputable section

namespace Cert.KernelIdeal.Own

open Idealize.ShloMosaic Idealize.ShloMosaic.TcCoe Idealize.ShloMosaic.ValueIdx Idealize.ShloMosaic.Routing Idealize.SL.Sem Cert.Own Cert.KernelIdeal.Gen

variable {F : FTy → Type} [FloatOps F]

/-- The buffers the operations after the region write, in order. -/
def tailW : List (Ref sig .tc) := [main_v186, main_v187, main_v188, main_v189, main_v190, main_c_53, main_v191, main_v192, main_c_54, main_v193, main_v194, main_v195, main_v196, main_v197, main_v198, main_v199, main_c_55, main_v200, main_v201, main_c_56, main_v202, main_v203, main_v204, main_v205, main_v206, main_v207, main_v208]

theorem tail_writes : Writes (τ := τ) (Val := Elt F) hostOps1 tailW := by
  unfold Writes tailW hostOps1
  rfl

theorem tail_nodup : tailW.Nodup := by decide +kernel

/-- Rows of `y` at the words `z`, a negative word counted from the end. -/
def rowsAt (y : FVec F S16384x2048 .f32) (z : IVec S8192 32) : FVec F S8192x2048 .f32 :=
  Host.gather gather_S16384x2048_S8192x1_S8192x2048_1_0_n_n_0_1_12048 y (broadcastInDim S8192x1 ![0] bcast_S8192_S8192x1_0
    (select (cmpi .slt z (broadcastInDim S8192 ![] bcast_S_S8192 (constantI S_ 32 0#32)))
      (addi z (broadcastInDim S8192 ![] bcast_S_S8192 (constantI S_ 32 16384#32))) z))

/-- Every row of `y` times its weight. -/
def weighted (y : FVec F S16384x2048 .f32) (w : FVec F S16384 .f32) : FVec F S16384x2048 .f32 :=
  mulf y (broadcastInDim S16384x2048 ![0, 1] bcast_S16384x1_S16384x2048_0_1 (broadcastInDim S16384x1 ![0] bcast_S16384_S16384x1_0 w))

/-- The result of the operations after the region, before its last reshape. -/
def combined (y : FVec F S16384x2048 .f32) (w : FVec F S16384 .f32) (p : IVec S8192x2 32) : FVec F S8192x2048 .f32 :=
  addf (rowsAt (weighted y w) (shapeCast S8192 (extractStridedSlice S8192x1 ![0, 0] p slices_S8192x2_S8192x1_0_0) shapeCasts_S8192x1_S8192))
    (rowsAt (weighted y w) (shapeCast S8192 (extractStridedSlice S8192x1 ![0, 1] p slices_S8192x2_S8192x1_0_1) shapeCasts_S8192x1_S8192))

/-- The value of the last buffer. -/
theorem tail_value (V : Valuation τ sig (Elt F)) :
    StableHlo.after hostOps1 V (Proc.devRef .tc main_v208) = shapeCast S4x2048x2048 (combined (V (Proc.devRef .tc main_v185)) (V (Proc.devRef .tc main_v47)) (V (Proc.devRef .tc main_v57))) shapeCasts_S8192x2048_S4x2048x2048 := by
  have a_v185 := readArg tail_writes V (x := main_v185) (by decide +kernel)
  have a_v47 := readArg tail_writes V (x := main_v47) (by decide +kernel)
  have a_v57 := readArg tail_writes V (x := main_v57) (by decide +kernel)
  have e_v186 := read1 tail_writes tail_nodup V 0 (y := main_v186) (in_seg (seg := hostOps1) 0 rfl) rfl (by decide +kernel)
  have e_v187 := read1 tail_writes tail_nodup V 1 (y := main_v187) (in_seg (seg := hostOps1) 1 rfl) rfl (by decide +kernel)
  have e_v188 := read2 tail_writes tail_nodup V 2 (y := main_v188) (in_seg (seg := hostOps1) 2 rfl) rfl (by decide +kernel)
  have e_v189 := read1 tail_writes tail_nodup V 3 (y := main_v189) (in_seg (seg := hostOps1) 3 rfl) rfl (by decide +kernel)
  have e_v190 := readR tail_writes tail_nodup V 4 (y := main_v190) (in_seg (seg := hostOps1) 4 rfl) rfl (by decide +kernel)
  have e_c_53 := read0 tail_writes tail_nodup V 5 (y := main_c_53) (in_seg (seg := hostOps1) 5 rfl) rfl (by decide +kernel)
  have e_v191 := read1 tail_writes tail_nodup V 6 (y := main_v191) (in_seg (seg := hostOps1) 6 rfl) rfl (by decide +kernel)
  have e_v192 := read2 tail_writes tail_nodup V 7 (y := main_v192) (in_seg (seg := hostOps1) 7 rfl) rfl (by decide +kernel)
  have e_c_54 := read0 tail_writes tail_nodup V 8 (y := main_c_54) (in_seg (seg := hostOps1) 8 rfl) rfl (by decide +kernel)
  have e_v193 := read1 tail_writes tail_nodup V 9 (y := main_v193) (in_seg (seg := hostOps1) 9 rfl) rfl (by decide +kernel)
  have e_v194 := read2 tail_writes tail_nodup V 10 (y := main_v194) (in_seg (seg := hostOps1) 10 rfl) rfl (by decide +kernel)
  have e_v195 := read3 tail_writes tail_nodup V 11 (y := main_v195) (in_seg (seg := hostOps1) 11 rfl) rfl (by decide +kernel)
  have e_v196 := read1 tail_writes tail_nodup V 12 (y := main_v196) (in_seg (seg := hostOps1) 12 rfl) rfl (by decide +kernel)
  have e_v197 := read2 tail_writes tail_nodup V 13 (y := main_v197) (in_seg (seg := hostOps1) 13 rfl) rfl (by decide +kernel)
  have e_v198 := read1 tail_writes tail_nodup V 14 (y := main_v198) (in_seg (seg := hostOps1) 14 rfl) rfl (by decide +kernel)
  have e_v199 := readR tail_writes tail_nodup V 15 (y := main_v199) (in_seg (seg := hostOps1) 15 rfl) rfl (by decide +kernel)
  have e_c_55 := read0 tail_writes tail_nodup V 16 (y := main_c_55) (in_seg (seg := hostOps1) 16 rfl) rfl (by decide +kernel)
  have e_v200 := read1 tail_writes tail_nodup V 17 (y := main_v200) (in_seg (seg := hostOps1) 17 rfl) rfl (by decide +kernel)
  have e_v201 := read2 tail_writes tail_nodup V 18 (y := main_v201) (in_seg (seg := hostOps1) 18 rfl) rfl (by decide +kernel)
  have e_c_56 := read0 tail_writes tail_nodup V 19 (y := main_c_56) (in_seg (seg := hostOps1) 19 rfl) rfl (by decide +kernel)
  have e_v202 := read1 tail_writes tail_nodup V 20 (y := main_v202) (in_seg (seg := hostOps1) 20 rfl) rfl (by decide +kernel)
  have e_v203 := read2 tail_writes tail_nodup V 21 (y := main_v203) (in_seg (seg := hostOps1) 21 rfl) rfl (by decide +kernel)
  have e_v204 := read3 tail_writes tail_nodup V 22 (y := main_v204) (in_seg (seg := hostOps1) 22 rfl) rfl (by decide +kernel)
  have e_v205 := read1 tail_writes tail_nodup V 23 (y := main_v205) (in_seg (seg := hostOps1) 23 rfl) rfl (by decide +kernel)
  have e_v206 := read2 tail_writes tail_nodup V 24 (y := main_v206) (in_seg (seg := hostOps1) 24 rfl) rfl (by decide +kernel)
  have e_v207 := read2 tail_writes tail_nodup V 25 (y := main_v207) (in_seg (seg := hostOps1) 25 rfl) rfl (by decide +kernel)
  have e_v208 := readR tail_writes tail_nodup V 26 (y := main_v208) (in_seg (seg := hostOps1) 26 rfl) rfl (by decide +kernel)
  refine e_v208.trans ?_
  rw [e_v207, e_v206, e_v205, e_v204, e_v203, e_v202, e_c_56, e_v201, e_v200, e_c_55, e_v199, e_v198, e_v197, e_v196, e_v195, e_v194, e_v193, e_c_54, e_v192, e_v191, e_c_53, e_v190, e_v189, e_v188, e_v187, e_v186, a_v185, a_v47, a_v57]
  rfl

end Cert.KernelIdeal.Own

end
-- ==== Proof.Math.Rows.lean ====
/- The rows the region reads, and the rows the operations after it read back. -/
module

public import proofs.«01_k».proof.Proof.Math.Sorted
public import proofs.«01_k».proof.Proof.Suffix

@[expose] public section

set_option maxRecDepth 8000

noncomputable section

namespace Cert.KernelIdeal.Own

open Cert.KernelIdeal.Gen Cert.Own Cert.Route
open Idealize.ShloMosaic Idealize.ShloMosaic.ValueIdx Idealize.ShloMosaic.Routing

/-- A conjunction of ones is one. -/
theorem all_ones {s t u : Shape} {axes : List (Fin s.rank)} (x : s.Idx → BitVec 1) (init : u.Idx → BitVec 1) (h : s.ReducesTo axes t)
    (hu : 0 < u.numel) (hx : ∀ i, x i = 1#1) (hi : ∀ i, init i = 1#1) (j : t.Idx) : Host.reduce IntOp.andi x init h hu j = 1#1 := by
  unfold Host.reduce
  rw [hi]
  generalize ((List.finRange s.numel).filter fun n => h.drop (s.rowMajor.symm n) = j) = l
  induction l with
  | nil => rfl
  | cons a l ih =>
    rw [List.foldl_cons, hx]
    exact ih

/-- A selection at one index. -/
theorem select_ap {α : Type} {s : Shape} (c : IVec s 1) (a b : s.Idx → α) (i : s.Idx) : select c a b i = Scalar.select (c i) (a i) (b i) := rfl

/-- The rounding to fewer bits keeps an extended real. -/
theorem trunc_ap {s : Shape} (x : FVec Ideal s .f32) (h : FTy.bits .bf16 < FTy.bits .f32) : (truncf .bf16 x h : s.Idx → EReal) = x := rfl

variable {V : Valuation τ sig (Elt Ideal)} {pick : Fin 8192 → Fin 2 → Fin 8} {π : Equiv.Perm (Fin 16384)}

/-- The token of a sorted position. -/
def tok (π : Equiv.Perm (Fin 16384)) (g : Fin 16384) : Fin 8192 := ⟨(π g).val / 2, by have := (π g).isLt; omega⟩

/-- The word that picks the row of the tokens. -/
theorem pick_word (R : Picks V pick π) (g : Fin 16384) : h_call8_v5 V (ix2 g (0 : Fin 1)) = BitVec.ofNat 32 (tok π g).val := by
  have t := token_word R g
  have l : (tok π g).val < 8192 := (tok π g).isLt
  rw [h_call8_v5_eq]
  refine (bcCol _ _ _).trans ?_
  rw [h_call8_v4_eq]
  have z : h_call8_v1 V (ix1 g) = IntOp.cmpi .slt (h_v39 V (ix1 g)) 0#32 := by
    rw [h_call8_v1_eq, h_call8_v0_eq, h_call8_c_eq]
    rfl
  refine (congrArg₂ (fun a b => Scalar.select a (h_call8_v3 V (ix1 g)) b) z rfl).trans ?_
  rw [t]
  refine wrap_of_lt _ _ ?_
  rw [BitVec.toNat_ofNat]
  show (tok π g).val % 2 ^ 32 < _
  omega

/-- Row `g` of the sorted tokens is the row of the token behind position `g`. -/
theorem rows_in (R : Picks V pick π) (g : Fin 16384) (k : Fin 2048) : h_v181 V (ix2 g k) = h_v0 V (ix2 (tok π g) k) := by
  have w := pick_word R g
  have l : (tok π g).val < 8192 := (tok π g).isLt
  have m : h_call8_v14 V (ix2 g k) = 1#1 := by
    rw [h_call8_v14_eq]
    refine (broadcastInDim_apply _ _ _ _ (ix1 g) (fun a => ?_)).trans ?_
    · match a with
      | ⟨0, _⟩ => rfl
    rw [h_call8_v12_eq, h_call8_c_3_eq]
    refine all_ones (u := S_) _ _ _ _ (fun i => ?_) (fun _ => rfl) _
    obtain ⟨a, b, rfl⟩ : ∃ (a : Fin 16384) (b : Fin 1), i = ix2 a b := ⟨i 0, i 1, by funext d; match d with | ⟨0, _⟩ => rfl | ⟨1, _⟩ => rfl⟩
    obtain rfl : b = 0 := Subsingleton.elim _ _
    have wa := pick_word R a
    have la : (tok π a).val < 8192 := (tok π a).isLt
    have p : h_call8_v7 V (ix2 a (0 : Fin 1)) = IntOp.cmpi .sge (h_call8_v5 V (ix2 a (0 : Fin 1))) 0#32 := by
      rw [h_call8_v7_eq, h_call8_v6_eq, h_call8_c_2_eq]
      rfl
    have q : h_call8_v10 V (ix2 a (0 : Fin 1)) = IntOp.cmpi .sle (h_call8_v5 V (ix2 a (0 : Fin 1))) 8191#32 := by
      rw [h_call8_v10_eq, h_call8_v9_eq, h_call8_v8_eq, h_call8_c_1_eq]
      rfl
    rw [h_call8_v11_eq]
    refine (congrArg₂ IntOp.andi p q).trans ?_
    rw [wa]
    have i1 : (BitVec.ofNat 32 (tok π a).val).toInt = (tok π a).val := by
      rw [BitVec.toInt_eq_toNat_cond, BitVec.toNat_ofNat, if_pos (by omega)]
      omega
    have s1 : IntOp.cmpi .sge (BitVec.ofNat 32 (tok π a).val) 0#32 = 1#1 := by
      have : (0#32).sle (BitVec.ofNat 32 (tok π a).val) = true := by
        rw [BitVec.sle_iff_toInt_le, i1]
        simp
      show BitVec.ofBool ((0#32).sle _) = 1#1
      rw [this]
      rfl
    have s2 : IntOp.cmpi .sle (BitVec.ofNat 32 (tok π a).val) 8191#32 = 1#1 := by
      have : (BitVec.ofNat 32 (tok π a).val).sle 8191#32 = true := by
        rw [BitVec.sle_iff_toInt_le, i1]
        have : (8191#32).toInt = 8191 := by decide
        omega
      show BitVec.ofBool (BitVec.sle _ 8191#32) = 1#1
      rw [this]
      rfl
    rw [s1, s2]
    rfl
  have e : h_v181 V (ix2 g k) = Scalar.select (h_call8_v14 V (ix2 g k)) (h_call8_v13 V (ix2 g k)) (h_call8_v15 V (ix2 g k)) := by
    have t : h_v181 V = h_v180 V := by
      rw [h_v181_eq]
      exact trunc_ap _ _
    rw [t, h_v180_eq]
    exact select_ap _ _ _ _
  rw [e, m]
  refine Eq.trans (b := h_call8_v13 V (ix2 g k)) rfl ?_
  rw [h_call8_v13_eq]
  exact gather_row _ rfl rfl rfl rfl rfl _ _ _ _ _ w (by norm_num)

/-- The first weights are read as they are. -/
theorem weights_1 (V : Valuation τ sig (Elt Ideal)) : h_v182 V = h_arg2 V := by rw [h_v182_eq]; exact trunc_ap _ _

/-- The second weights are read as they are. -/
theorem weights_2 (V : Valuation τ sig (Elt Ideal)) : h_v183 V = h_arg3 V := by rw [h_v183_eq]; exact trunc_ap _ _

/-- The third weights are read as they are. -/
theorem weights_3 (V : Valuation τ sig (Elt Ideal)) : h_v184 V = h_arg4 V := by rw [h_v184_eq]; exact trunc_ap _ _

/-- A row read back. -/
theorem rows_at (y : FVec Ideal S16384x2048 .f32) (z : IVec S8192 32) (t : Fin 8192) (q : Fin 2048) (n : Fin 16384)
    (hz : z (ix1 t) = BitVec.ofNat 32 n.val) : rowsAt y z (ix2 t q) = y (ix2 n q) := by
  unfold rowsAt
  refine gather_row _ rfl rfl rfl rfl rfl _ _ _ _ _ ?_ (by norm_num)
  refine (bcCol _ _ _).trans ?_
  refine Eq.trans (b := Scalar.select (IntOp.cmpi .slt (z (ix1 t)) 0#32) (IntOp.addi (z (ix1 t)) 16384#32) (z (ix1 t))) rfl ?_
  rw [hz]
  have l := n.isLt
  refine wrap_of_lt _ _ ?_
  rw [BitVec.toNat_ofNat]
  show n.val % 2 ^ 32 < _
  omega

/-- A weighted row. -/
theorem weighted_at (y : FVec Ideal S16384x2048 .f32) (w : FVec Ideal S16384 .f32) (g : Fin 16384) (q : Fin 2048) :
    weighted y w (ix2 g q) = y (ix2 g q) * w (ix1 g) := by
  unfold weighted
  refine congrArg (fun a => y (ix2 g q) * a) ?_
  refine (broadcastInDim_apply _ _ _ _ (ix2 g (0 : Fin 1)) ?_).trans (bcCol _ _ _)
  intro a
  match a with
  | ⟨0, _⟩ => rfl
  | ⟨1, _⟩ => rfl

/-- Both rows of a token, weighted and added. -/
theorem combined_at (y : FVec Ideal S16384x2048 .f32) (w : FVec Ideal S16384 .f32) (p : IVec S8192x2 32) (t : Fin 8192) (q : Fin 2048)
    (n : Fin 2 → Fin 16384) (hn : ∀ k, p (ix2 t k) = BitVec.ofNat 32 (n k).val) :
    combined y w p (ix2 t q) = y (ix2 (n 0) q) * w (ix1 (n 0)) + y (ix2 (n 1) q) * w (ix1 (n 1)) := by
  have c0 : shapeCast S8192 (extractStridedSlice S8192x1 ![0, 0] p slices_S8192x2_S8192x1_0_0) shapeCasts_S8192x1_S8192 (ix1 t) = p (ix2 t 0) := by
    refine (cast21 _ _ t (0 : Fin 1) t (by simp)).trans ?_
    refine extractStridedSlice_apply _ _ _ _ _ ?_
    intro a
    match a with
    | ⟨0, _⟩ => exact (Nat.zero_add _).symm
    | ⟨1, _⟩ => rfl
  have c1 : shapeCast S8192 (extractStridedSlice S8192x1 ![0, 1] p slices_S8192x2_S8192x1_0_1) shapeCasts_S8192x1_S8192 (ix1 t) = p (ix2 t 1) := by
    refine (cast21 _ _ t (0 : Fin 1) t (by simp)).trans ?_
    refine extractStridedSlice_apply _ _ _ _ _ ?_
    intro a
    match a with
    | ⟨0, _⟩ => exact (Nat.zero_add _).symm
    | ⟨1, _⟩ => rfl
  unfold combined
  refine congrArg₂ (fun a b : EReal => a + b) ?_ ?_
  · exact (rows_at _ _ t q (n 0) (c0.trans (hn 0))).trans (weighted_at _ _ _ _)
  · exact (rows_at _ _ t q (n 1) (c1.trans (hn 1))).trans (weighted_at _ _ _ _)

end Cert.KernelIdeal.Own
-- ==== Proof.IFrame.Whole.lean ====
/- The idealized kernel's run: its two results and its unchanged arguments. -/
module

public import proofs.«01_k».proof.Proof.IFrame.Final
public import proofs.«01_k».proof.Proof.IFrame.Region
public import proofs.«01_k».proof.Proof.Math.Rows

@[expose] public section

set_option maxRecDepth 8000

noncomputable section

namespace Cert.KernelIdeal.Own

open Cert.KernelIdeal.Gen Cert.Own Cert.Net
open Idealize.ShloMosaic Idealize.ShloMosaic.TcCoe Idealize.ShloMosaic.ValueIdx Idealize.SL.Sem

variable (m : (ℓ : Loc nD τ sig) → Buf (Elt Ideal) ℓ) (hO : Ok m)

/-- No two windows share an array. -/
theorem arr_inj : Function.Injective (Pipeline.arrRef spec0) := by decide

/-- The contents after the region. -/
abbrev atRegion (c : Dev nD) : Valuation τ sig (Elt Ideal) :=
  Pipeline.withArrays (Pipeline.pin pcfgs (fun _ => adm m hO) 0).spec c (V0 m c) fun w => (dats m hO 0 c).arrAt w (Pipeline.pin pcfgs (fun _ => adm m hO) 0).N

/-- The grouped output after the region. -/
theorem region_out (c : Dev nD) : atRegion m hO c (Proc.devRef .tc main_v185) = (dats m hO 0 c).arrAt 4 (cfgM m hO).N :=
  Pipeline.withArrays_arr _ arr_inj c (V0 m c) (fun w => (dats m hO 0 c).arrAt w (Pipeline.pin pcfgs (fun _ => adm m hO) 0).N) 4

/-- A buffer that is no window's array is as the host operations before the region left it. -/
theorem region_rest (c : Dev nD) (b : Ref sig .tc) (hb : ∀ w, Pipeline.arrRef spec0 w ≠ b) : atRegion m hO c (Proc.devRef .tc b) = left (launchV m c) b :=
  (Pipeline.withArrays_of_ne _ c (V0 m c) _ b hb).trans (V_left m c b)

/-- What a buffer holds at the end. -/
theorem tail_eq (c : Dev nD) (b : Ref sig .tc) :
    Pipeline.afterTail pcfgs (fun _ => adm m hO) (dats m hO) 0 (V0 m) [hostOps1] c b = StableHlo.after hostOps1 (atRegion m hO c) (Proc.devRef .tc b) := by
  unfold Pipeline.afterTail
  rw [List.flatten_cons, List.flatten_nil, List.append_nil]

/-- The loss at the end is the host's. -/
theorem tail_loss (c : Dev nD) : Pipeline.afterTail pcfgs (fun _ => adm m hO) (dats m hO) 0 (V0 m) [hostOps1] c main_v36 = h_v36 (launchV m c) := by
  rw [tail_eq, readArg tail_writes (atRegion m hO c) (x := main_v36) (by decide +kernel)]
  exact region_rest m hO c main_v36 (by decide)

/-- The expert behind a sorted position. -/
def ownOf (pick : Fin 8192 → Fin 2 → Fin 8) (π : Equiv.Perm (Fin 16384)) (g : Fin 16384) : Fin 8 := ⟨eid pick (π g), eid_lt pick _⟩

variable {pick : Fin 8192 → Fin 2 → Fin 8} {π : Equiv.Perm (Fin 16384)}

/-- The rows at the end, before the last reshape. -/
theorem tail_rows (c : Dev nD) (R : Picks (launchV m c) pick π) (t : Fin 8192) (q : Fin 2048)
    (Y : FVec Ideal S16384x2048 .f32)
    (hY : Y = grouped (h_v181 (launchV m c)) (h_v182 (launchV m c)) (h_v183 (launchV m c)) (h_v184 (launchV m c)) (ownOf pick π)) :
    combined Y (h_v47 (launchV m c)) (h_v57 (launchV m c)) (ix2 t q)
      = ffn (fun k => h_v0 (launchV m c) (ix2 t k)) (fun k j => h_arg2 (launchV m c) (ix3 (pick t 0) k j)) (fun k j => h_arg3 (launchV m c) (ix3 (pick t 0) k j)) (fun j q => h_arg4 (launchV m c) (ix3 (pick t 0) j q)) q * h_v16 (launchV m c) (ix2 t 0)
        + ffn (fun k => h_v0 (launchV m c) (ix2 t k)) (fun k j => h_arg2 (launchV m c) (ix3 (pick t 1) k j)) (fun k j => h_arg3 (launchV m c) (ix3 (pick t 1) k j)) (fun j q => h_arg4 (launchV m c) (ix3 (pick t 1) j q)) q * h_v16 (launchV m c) (ix2 t 1) := by
  have one : ∀ k : Fin 2, Y (ix2 (π.symm ⟨2 * t.val + k.val, by omega⟩) q) * h_v47 (launchV m c) (ix1 (π.symm ⟨2 * t.val + k.val, by omega⟩))
      = ffn (fun l => h_v0 (launchV m c) (ix2 t l)) (fun l j => h_arg2 (launchV m c) (ix3 (pick t k) l j)) (fun l j => h_arg3 (launchV m c) (ix3 (pick t k) l j)) (fun j q => h_arg4 (launchV m c) (ix3 (pick t k) j q)) q * h_v16 (launchV m c) (ix2 t k) := by
    intro k
    have s : π (π.symm ⟨2 * t.val + k.val, by omega⟩) = ⟨2 * t.val + k.val, by omega⟩ := Equiv.apply_symm_apply _ _
    generalize π.symm ⟨2 * t.val + k.val, by omega⟩ = g at s
    have gt : tok π g = t := Fin.ext (by
      show (π g).val / 2 = t.val
      rw [s]
      show (2 * t.val + k.val) / 2 = t.val
      omega)
    have e : ownOf pick π g = pick t k := Fin.ext (by
      unfold ownOf eid
      show (pick _ _).val = _
      refine congrArg Fin.val (congrArg₂ pick gt (Fin.ext ?_))
      show (π g).val % 2 = k.val
      rw [s]
      show (2 * t.val + k.val) % 2 = k.val
      omega)
    refine congrArg₂ (fun a b : EReal => a * b) ?_ ?_
    · rw [hY]
      refine Eq.trans (b := net (h_v181 (launchV m c)) (h_v182 (launchV m c)) (h_v183 (launchV m c)) (h_v184 (launchV m c)) g (ownOf pick π g) q) rfl ?_
      rw [e, weights_1, weights_2, weights_3]
      unfold net
      refine congrArg (fun x => ffn x _ _ _ q) (funext fun l => ?_)
      rw [rows_in R, gt]
    · refine (weight_sorted R g).trans (congrArg _ (congrArg₂ ix2 gt (Fin.ext ?_)))
      show (π g).val % 2 = k.val
      rw [s]
      show (2 * t.val + k.val) % 2 = k.val
      omega
  rw [combined_at _ _ _ t q (fun k => π.symm ⟨2 * t.val + k.val, by omega⟩) (fun k => inverse_word R t k)]
  exact congrArg₂ (fun a b : EReal => a + b) (one 0) (one 1)

/-- The sorted rows the region finds. -/
theorem found_rows (c : Dev nD) : V m c main_v181 = h_v181 (launchV m c) := V_left m c main_v181

/-- The first weights the region finds. -/
theorem found_first (c : Dev nD) : V m c main_v182 = h_v182 (launchV m c) := V_left m c main_v182

/-- The second weights the region finds. -/
theorem found_second (c : Dev nD) : V m c main_v183 = h_v183 (launchV m c) := V_left m c main_v183

/-- The third weights the region finds. -/
theorem found_third (c : Dev nD) : V m c main_v184 = h_v184 (launchV m c) := V_left m c main_v184

/-- The region's array at its end. -/
theorem region_grouped (c : Dev nD) (R : Picks (launchV m c) pick π) {P : ℕ → ℕ} (L : Sched.Listing (cnt pick) P) (H : Listed (adm m hO) (cnt pick) P) :
    atRegion m hO c (Proc.devRef .tc main_v185)
      = grouped (h_v181 (launchV m c)) (h_v182 (launchV m c)) (h_v183 (launchV m c)) (h_v184 (launchV m c)) (ownOf pick π) := by
  refine (region_out m hO c).trans ?_
  have hown : ∀ e g, e < 8 → Sched.st (cnt pick) e ≤ (g : Fin 16384).val → g.val < Sched.st (cnt pick) (e + 1) → (ownOf pick π g).val = e :=
    fun e g _ h1 h2 => owner R g h1 h2
  exact final_of (m := m) (hO := hO) (c := c) (X := h_v181 (launchV m c)) (A := h_v182 (launchV m c)) (B := h_v183 (launchV m c)) (C := h_v184 (launchV m c))
    (found_rows m c) (found_first m c) (found_second m c) (found_third m c) H L (ownOf pick π) (st_eight (pick := pick)) hown

/-- The first result at the end. -/
theorem tail_result (c : Dev nD) (R : Picks (launchV m c) pick π) {P : ℕ → ℕ} (L : Sched.Listing (cnt pick) P) (H : Listed (adm m hO) (cnt pick) P) :
    Pipeline.afterTail pcfgs (fun _ => adm m hO) (dats m hO) 0 (V0 m) [hostOps1] c main_v208
      = shapeCast S4x2048x2048 (combined (grouped (h_v181 (launchV m c)) (h_v182 (launchV m c)) (h_v183 (launchV m c)) (h_v184 (launchV m c)) (ownOf pick π)) (h_v47 (launchV m c)) (h_v57 (launchV m c))) shapeCasts_S8192x2048_S4x2048x2048 := by
  have a := region_grouped m hO c R L H
  have b := region_rest m hO c main_v47 (by decide)
  have d := region_rest m hO c main_v57 (by decide)
  rw [tail_eq, tail_value, a, b, d]
  rfl

variable (ρ : Dev nD → PrngReg)

/-- The run: what the loss and the first result hold, and the arguments unchanged. -/
theorem whole : θ_run defs (onTc (τ := τ) (main (F := Ideal))) ⟨m, fun _ => 0, ρ⟩ (fun r => (∀ c : Dev nD,
      (∀ pick π, Picks (launchV m c) pick π → r.2.mem ((c.tc : Thread nD τ).loc main_v208)
        = shapeCast S4x2048x2048 (combined (grouped (h_v181 (launchV m c)) (h_v182 (launchV m c)) (h_v183 (launchV m c)) (h_v184 (launchV m c)) (ownOf pick π)) (h_v47 (launchV m c)) (h_v57 (launchV m c))) shapeCasts_S8192x2048_S4x2048x2048)
      ∧ r.2.mem ((c.tc : Thread nD τ).loc main_v36) = h_v36 (launchV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  obtain ⟨pick₀, π₀, R₀⟩ := exists_picks (launchV m 0)
  obtain ⟨P₀, L₀⟩ := Sched.exists_listing (st_eight (pick := pick₀))
  have hB : Chained (adm m (ok m)) := chained_of (listed_of m R₀ L₀ (ok m)) L₀
  refine (θ_run defs _ _).mono (fun r h => ⟨fun c => ?_, h.2⟩) (run_main_named m ρ (ok m) hB)
  have hc := h.1 c
  refine ⟨fun pick π R => ?_, ?_, ?_, ?_, ?_, ?_, ?_⟩
  · obtain ⟨P, L⟩ := Sched.exists_listing (st_eight (pick := pick))
    obtain rfl : c = 0 := Subsingleton.elim _ _
    exact (hc.2 main_v208 (by decide : main_v208 ∈ Pipeline.restRefs sig spec0)).trans (tail_result m (ok m) 0 R L (listed_of m R L (ok m)))
  · exact (hc.2 main_v36 (by decide : main_v36 ∈ Pipeline.restRefs sig spec0)).trans (tail_loss m (ok m) c)
  · exact (hc.2 main_arg0 (by decide : main_arg0 ∈ Pipeline.restRefs sig spec0)).trans (W_main_arg0 m (ok m) (dats m (ok m)) c)
  · exact (hc.2 main_arg1 (by decide : main_arg1 ∈ Pipeline.restRefs sig spec0)).trans (W_main_arg1 m (ok m) (dats m (ok m)) c)
  · exact (hc.2 main_arg2 (by decide : main_arg2 ∈ Pipeline.restRefs sig spec0)).trans (W_main_arg2 m (ok m) (dats m (ok m)) c)
  · exact (hc.2 main_arg3 (by decide : main_arg3 ∈ Pipeline.restRefs sig spec0)).trans (W_main_arg3 m (ok m) (dats m (ok m)) c)
  · exact (hc.2 main_arg4 (by decide : main_arg4 ∈ Pipeline.restRefs sig spec0)).trans (W_main_arg4 m (ok m) (dats m (ok m)) c)

end Cert.KernelIdeal.Own

end
-- ==== Proof.Frames.lean ====
/- The three programs run to the end, leave their arguments unchanged and every semaphore counter at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.TablesK
public import proofs.«01_k».proof.Proof.KFrame.Frame
public import proofs.«01_k».proof.Proof.Tables
public import proofs.«01_k».proof.Proof.IFrame.Whole
public import Idealize.ShloMosaic.Lib.Quiescent

@[expose] public section

noncomputable section

namespace Cert.Own

open Idealize.ShloMosaic Idealize.SL.Sem

/-- The kernel's frame. -/
theorem frame_k : Cert.quiescent_Kernel (hKernel := Cert.Kernel.Gen.facts) := fun m ρ _ =>
  Cert.Kernel.Own.frame m ρ (Cert.Kernel.Own.ok m)

/-- The idealized kernel's frame. -/
theorem frame_ki : Cert.quiescent_KernelIdeal (hKernelIdeal := Cert.KernelIdeal.Gen.facts) := fun m ρ _ =>
  (θ_run Cert.KernelIdeal.defs _ _).mono (fun _ h => ⟨fun c => (h.1 c).2.2, h.2⟩) (Cert.KernelIdeal.Own.whole m ρ)

/-- The reference's frame: it names no semaphore. -/
theorem frame_ri : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

end Cert.Own

end
-- ==== Proof.Math.Sums.lean ====
/- Sums over one axis at an index, over the extended reals. -/
module

public import Idealize.ShloMosaic.Lib.ValueIdx
public import Idealize.ShloMosaic.Lib.IdealHost
import Idealize.ShloMosaic.Lib.Pointwise.Reduce

@[expose] public section

namespace Cert.Net

open Idealize.ShloMosaic

/-- The zero constant. -/
theorem zero_const {s : Shape} (i : s.Idx) : (constant s .f32 0x00000000#32 : FVec Ideal s .f32) i = (0 : EReal) := by
  show Ideal.ofBits .f32 0x00000000#32 = 0
  simp [Ideal.ofBits, Ideal.ieee]

/-- A sum along the rows of a table. -/
theorem sum_row {a b : ℕ} {u : Shape} (x : FVec Ideal ⟨2, ![a, b]⟩ .f32) (h : (⟨2, ![a, b]⟩ : Shape).ReducesTo [1] ⟨1, ![a]⟩) (hu : 0 < u.numel) (i : Fin a) :
    Host.reduceAdd x (constant u .f32 0x00000000#32 : FVec Ideal u .f32) h hu (ValueIdx.ix1 i) = (∑ k : Fin b, x (ValueIdx.ix2 i k) : EReal) := by
  refine (ValueIdx.hostReduceAdd_apply _ _ _ _ _).trans ((Ideal.hostReduceAdd_r2_a1 h x _ _).trans ?_)
  rw [zero_const, zero_add]
  rfl

/-- A sum along the columns of a table. -/
theorem sum_col {a b : ℕ} {u : Shape} (x : FVec Ideal ⟨2, ![a, b]⟩ .f32) (h : (⟨2, ![a, b]⟩ : Shape).ReducesTo [0] ⟨1, ![b]⟩) (hu : 0 < u.numel) (j : Fin b) :
    Host.reduceAdd x (constant u .f32 0x00000000#32 : FVec Ideal u .f32) h hu (ValueIdx.ix1 j) = (∑ k : Fin a, x (ValueIdx.ix2 k j) : EReal) := by
  refine (ValueIdx.hostReduceAdd_apply _ _ _ _ _).trans ((Ideal.hostReduceAdd_r2_a0 h x _ _).trans ?_)
  rw [zero_const, zero_add]
  rfl

/-- A sum along the middle axis of a stack of tables. -/
theorem sum_mid {a b c : ℕ} {u : Shape} (x : FVec Ideal ⟨3, ![a, b, c]⟩ .f32) (h : (⟨3, ![a, b, c]⟩ : Shape).ReducesTo [1] ⟨2, ![a, c]⟩) (hu : 0 < u.numel)
    (i : Fin a) (j : Fin c) :
    Host.reduceAdd x (constant u .f32 0x00000000#32 : FVec Ideal u .f32) h hu (ValueIdx.ix2 i j) = (∑ k : Fin b, x (ValueIdx.ix3 i k j) : EReal) := by
  refine (ValueIdx.hostReduceAdd_apply _ _ _ _ _).trans ((Ideal.hostReduceAdd_r3_a1 h x _ _).trans ?_)
  rw [zero_const, zero_add]
  rfl

/-- A truth value as a number. -/
theorem bit_num {s : Shape} (a b : IVec s 32) (i : s.Idx) : (uitofp .f32 (cmpi .eq a b) : FVec Ideal s .f32) i = (if a i = b i then 1 else 0 : EReal) := by
  show (((BitVec.ofBool (a i == b i)).toNat : ℝ) : EReal) = _
  by_cases h : a i = b i
  · rw [if_pos h, h]
    simp
  · rw [if_neg h, beq_eq_false_iff_ne.2 h]
    simp

end Cert.Net
-- ==== Proof.RefValue.lean ====
/- The reference's two results over the extended reals, read at one index. -/
module

public import proofs.«01_k».proof.Proof.Gen.ReferenceIdeal.Run
public import proofs.«01_k».proof.Proof.Math.Sums
public import proofs.«01_k».proof.Proof.Math.Ffn
public import Idealize.ShloMosaic.Lib.StackMember
public import Idealize.ShloMosaic.Lib.Routing.Ops

@[expose] public section

set_option maxRecDepth 8000

noncomputable section

namespace Cert.ReferenceIdeal.Own

open Cert.ReferenceIdeal Cert.ReferenceIdeal.Gen Cert.ReferenceIdeal.Value Cert.Net
open Idealize.ShloMosaic Idealize.ShloMosaic.TcCoe Idealize.ShloMosaic.ValueIdx Idealize.ShloMosaic.Routing

/-- A row's product with one expert's table. -/
def proj (off : Fin 3 → ℕ) (hs : S8x2048x5632.Slices off S1x2048x5632) (X : FVec Ideal S8192x2048 .f32) (A : FVec Ideal S8x2048x5632 .f32) : FVec Ideal S8192x5632 .f32 :=
  Host.dotGeneral dot_S8192x2048_S2048x5632_S8192x5632_1_0_0_1_n_n none X (shapeCast _ (extractStridedSlice S1x2048x5632 off A hs) shapeCasts_S1x2048x5632_S2048x5632)

/-- The gate's product with its logistic, times the second projection. -/
def act (G U : FVec Ideal S8192x5632 .f32) : FVec Ideal S8192x5632 .f32 :=
  mulf (mulf G (Host.divf (broadcastInDim S8192x5632 ![] bcast_S_S8192x5632 (constant S_ .f32 0x3F800000#32)) (addf (broadcastInDim S8192x5632 ![] bcast_S_S8192x5632 (constant S_ .f32 0x3F800000#32)) (Host.exp (Host.negf G))))) U

/-- The weight every token gives the expert named by the word. -/
def share (wd : BitVec 32) (I : IVec S8192x2 32) (W : FVec Ideal S8192x2 .f32) : FVec Ideal S8192x2048 .f32 :=
  broadcastInDim S8192x2048 ![0, 1] bcast_S8192x1_S8192x2048_0_1 (broadcastInDim S8192x1 ![0] bcast_S8192_S8192x1_0 (Host.reduceAdd (mulf (uitofp .f32 (cmpi .eq I (broadcastInDim S8192x2 ![] bcast_S_S8192x2 (constantI S_ 32 wd)))) W) (constant S_ .f32 0x00000000#32) reducesTo_S8192x2_S8192_d1 h_S_))

/-- One expert's addend. -/
def addend (off : Fin 3 → ℕ) (hs : S8x2048x5632.Slices off S1x2048x5632) (ht : S8x5632x2048.Slices off S1x5632x2048) (wd : BitVec 32)
    (X : FVec Ideal S8192x2048 .f32) (A B : FVec Ideal S8x2048x5632 .f32) (C : FVec Ideal S8x5632x2048 .f32) (I : IVec S8192x2 32) (W : FVec Ideal S8192x2 .f32) :
    FVec Ideal S8192x2048 .f32 :=
  mulf (Host.dotGeneral dot_S8192x5632_S5632x2048_S8192x2048_1_0_0_1_n_n none (act (proj off hs X A) (proj off hs X B)) (shapeCast _ (extractStridedSlice S1x5632x2048 off C ht) shapeCasts_S1x5632x2048_S5632x2048)) (share wd I W)

/-- One expert's slab of a stack of tables. -/
theorem slab {a b : ℕ} (off : Fin 3 → ℕ) (e : Fin 8) (ho : off = ![e.val, 0, 0]) (A : (⟨3, ![8, a, b]⟩ : Shape).Idx → EReal) (hs : (⟨3, ![8, a, b]⟩ : Shape).Slices off ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ off A hs) hc (ix2 i j) = A (ix3 e i j) := by
  subst ho
  refine (drop_axis _ _ _ _).trans ?_
  refine extractStridedSlice_apply _ _ _ _ _ ?_
  intro q
  match q with
  | ⟨0, _⟩ => exact (Nat.add_zero _).symm
  | ⟨1, _⟩ => exact (Nat.zero_add _).symm
  | ⟨2, _⟩ => exact (Nat.zero_add _).symm

/-- A projection at an index. -/
theorem proj_ap (off : Fin 3 → ℕ) (e : Fin 8) (ho : off = ![e.val, 0, 0]) (hs : S8x2048x5632.Slices off S1x2048x5632) (X : FVec Ideal S8192x2048 .f32) (A : FVec Ideal S8x2048x5632 .f32)
    (t : Fin 8192) (j : Fin 5632) : proj off hs X A (ix2 t j) = ∑ k : Fin 2048, X (ix2 t k) * A (ix3 e k j) := by
  refine (StackMember.dotGeneral_plain_apply (m := 8192) (n := 5632) (k := 2048) none X _ t j).trans ?_
  exact Finset.sum_congr rfl fun k _ => congrArg _ (slab off e ho A hs _ k j)

/-- A hidden unit at an index. -/
theorem act_ap (G U : FVec Ideal S8192x5632 .f32) (i : S8192x5632.Idx) : act G U i = unit (G i) (U i) := by
  have o : (broadcastInDim S8192x5632 ![] bcast_S_S8192x5632 (constant S_ .f32 0x3F800000#32 : FVec Ideal S_ .f32)) i = (1 : EReal) := by
    show Ideal.ofBits .f32 0x3F800000#32 = 1
    exact Ideal.ofBits_one_f32
  show G i * Ideal.div _ (_ + Ideal.exp (-(G i))) * U i = _
  rw [o]
  rfl

/-- The share at an index. -/
theorem share_ap (wd : BitVec 32) (I : IVec S8192x2 32) (W : FVec Ideal S8192x2 .f32) (t : Fin 8192) (q : Fin 2048) :
    share wd I W (ix2 t q) = ∑ k : Fin 2, (if I (ix2 t k) = wd then 1 else 0 : EReal) * W (ix2 t k) := by
  unfold share
  refine (broadcastInDim_apply _ _ _ _ (ix2 t (0 : Fin 1)) ?_).trans ((bcCol _ _ _).trans ?_)
  · intro a
    match a with
    | ⟨0, _⟩ => rfl
    | ⟨1, _⟩ => rfl
  refine (sum_row _ _ _ _).trans ?_
  exact Finset.sum_congr rfl fun k _ => congrArg (· * W (ix2 t k)) (bit_num _ _ _)

/-- One expert's addend at an index. -/
theorem addend_ap (off : Fin 3 → ℕ) (e : Fin 8) (ho : off = ![e.val, 0, 0]) (hs : S8x2048x5632.Slices off S1x2048x5632) (ht : S8x5632x2048.Slices off S1x5632x2048) (wd : BitVec 32)
    (hw : wd = BitVec.ofNat 32 e.val)
    (X : FVec Ideal S8192x2048 .f32) (A B : FVec Ideal S8x2048x5632 .f32) (C : FVec Ideal S8x5632x2048 .f32) (I : IVec S8192x2 32) (W : FVec Ideal S8192x2 .f32)
    (pick : Fin 8192 → Fin 2 → Fin 8) (hI : ∀ t k, I (ix2 t k) = BitVec.ofNat 32 (pick t k).val) (t : Fin 8192) (q : Fin 2048) :
    addend off hs ht wd X A B C I W (ix2 t q)
      = ffn (fun k => X (ix2 t k)) (fun k j => A (ix3 e k j)) (fun k j => B (ix3 e k j)) (fun j q => C (ix3 e j q)) q
        * ((if pick t 0 = e then 1 else 0) * W (ix2 t 0) + (if pick t 1 = e then 1 else 0) * W (ix2 t 1)) := by
  unfold addend
  refine congrArg₂ (fun a b : EReal => a * b) ?_ ?_
  · refine (StackMember.dotGeneral_plain_apply (m := 8192) (n := 2048) (k := 5632) none _ _ t q).trans ?_
    refine Finset.sum_congr rfl fun j _ => ?_
    refine congrArg₂ (fun a b : EReal => a * b) ?_ (slab off e ho C ht _ j q)
    rw [act_ap, proj_ap off e ho, proj_ap off e ho]
    rfl
  · rw [share_ap, Fin.sum_univ_two]
    have c : ∀ k, (I (ix2 t k) = wd) = (pick t k = e) := by
      intro k
      rw [hI, hw]
      refine propext ⟨fun h => ?_, fun h => by rw [h]⟩
      have := congrArg BitVec.toNat h
      rw [BitVec.toNat_ofNat, BitVec.toNat_ofNat] at this
      have := (pick t k).isLt
      have := e.isLt
      exact Fin.ext (by omega)
    simp only [c]

/-- The eight addends keep the two a token picked. -/
theorem two_of_eight (f : Fin 8 → EReal) (w0 w1 : EReal) (p0 p1 : Fin 8) (h : p0 ≠ p1) :
    ∑ e, f e * ((if p0 = e then 1 else 0) * w0 + (if p1 = e then 1 else 0) * w1) = f p0 * w0 + f p1 * w1 := by
  have s : ∀ e, f e * ((if p0 = e then 1 else 0) * w0 + (if p1 = e then 1 else 0) * w1) = (if p0 = e then f e * w0 else 0) + (if p1 = e then f e * w1 else 0) := by
    intro e
    by_cases h0 : p0 = e
    · have h1 : p1 ≠ e := fun h1 => h (h0.trans h1.symm)
      rw [if_pos h0, if_neg h1, if_pos h0, if_neg h1, one_mul, zero_mul, add_zero, add_zero]
    · rw [if_neg h0, if_neg h0, zero_mul, zero_add, zero_add]
      by_cases h1 : p1 = e
      · rw [if_pos h1, if_pos h1, one_mul]
      · rw [if_neg h1, if_neg h1, zero_mul, mul_zero]
  rw [Finset.sum_congr rfl fun e _ => s e, Finset.sum_add_distrib]
  simp

/-- The reference's rows. -/
theorem ref_rows (V0 : Valuation τ sig (Elt Ideal)) (pick : Fin 8192 → Fin 2 → Fin 8) (hI : ∀ t k, res_main_indices V0 (ix2 t k) = BitVec.ofNat 32 (pick t k).val)
    (hne : ∀ t, pick t 0 ≠ pick t 1) (X : FVec Ideal S8192x2048 .f32) (A B : FVec Ideal S8x2048x5632 .f32) (C : FVec Ideal S8x5632x2048 .f32) (W : FVec Ideal S8192x2 .f32)
    (hX : res_main_v0 V0 = X) (hA : V0 (Proc.devRef .tc main_arg2) = A) (hB : V0 (Proc.devRef .tc main_arg3) = B) (hC : V0 (Proc.devRef .tc main_arg4) = C)
    (hW : res_main_v16 V0 = W) (t : Fin 8192) (q : Fin 2048) :
    res_main_v188 V0 (ix2 t q)
      = ffn (fun k => X (ix2 t k)) (fun k j => A (ix3 (pick t 0) k j)) (fun k j => B (ix3 (pick t 0) k j)) (fun j q => C (ix3 (pick t 0) j q)) q * W (ix2 t 0)
        + ffn (fun k => X (ix2 t k)) (fun k j => A (ix3 (pick t 1) k j)) (fun k j => B (ix3 (pick t 1) k j)) (fun j q => C (ix3 (pick t 1) j q)) q * W (ix2 t 1) := by
  subst hX hA hB hC hW
  refine Eq.trans ?_ (two_of_eight (fun e => ffn (fun k => res_main_v0 V0 (ix2 t k)) (fun k j => V0 (Proc.devRef .tc main_arg2) (ix3 e k j)) (fun k j => V0 (Proc.devRef .tc main_arg3) (ix3 e k j)) (fun j q => V0 (Proc.devRef .tc main_arg4) (ix3 e j q)) q)
    (res_main_v16 V0 (ix2 t 0)) (res_main_v16 V0 (ix2 t 1)) (pick t 0) (pick t 1) (hne t))
  rw [Fin.sum_univ_eight]
  refine congrArg₂ (fun a b : EReal => a + b) ?_ (addend_ap _ 7 rfl slices_S8x2048x5632_S1x2048x5632_7_0_0 slices_S8x5632x2048_S1x5632x2048_7_0_0 _ rfl _ _ _ _ _ _ pick hI t q)
  refine congrArg₂ (fun a b : EReal => a + b) ?_ (addend_ap _ 6 rfl slices_S8x2048x5632_S1x2048x5632_6_0_0 slices_S8x5632x2048_S1x5632x2048_6_0_0 _ rfl _ _ _ _ _ _ pick hI t q)
  refine congrArg₂ (fun a b : EReal => a + b) ?_ (addend_ap _ 5 rfl slices_S8x2048x5632_S1x2048x5632_5_0_0 slices_S8x5632x2048_S1x5632x2048_5_0_0 _ rfl _ _ _ _ _ _ pick hI t q)
  refine congrArg₂ (fun a b : EReal => a + b) ?_ (addend_ap _ 4 rfl slices_S8x2048x5632_S1x2048x5632_4_0_0 slices_S8x5632x2048_S1x5632x2048_4_0_0 _ rfl _ _ _ _ _ _ pick hI t q)
  refine congrArg₂ (fun a b : EReal => a + b) ?_ (addend_ap _ 3 rfl slices_S8x2048x5632_S1x2048x5632_3_0_0 slices_S8x5632x2048_S1x5632x2048_3_0_0 _ rfl _ _ _ _ _ _ pick hI t q)
  refine congrArg₂ (fun a b : EReal => a + b) ?_ (addend_ap _ 2 rfl slices_S8x2048x5632_S1x2048x5632_2_0_0 slices_S8x5632x2048_S1x5632x2048_2_0_0 _ rfl _ _ _ _ _ _ pick hI t q)
  refine congrArg₂ (fun a b : EReal => a + b) ?_ (addend_ap _ 1 rfl slices_S8x2048x5632_S1x2048x5632_1_0_0 slices_S8x5632x2048_S1x5632x2048_1_0_0 _ rfl _ _ _ _ _ _ pick hI t q)
  refine Eq.trans (congrArg₂ (fun a b : EReal => a + b) ?_ (addend_ap _ 0 rfl slices_S8x2048x5632_S1x2048x5632_0_0_0 slices_S8x5632x2048_S1x5632x2048_0_0_0 _ rfl _ _ _ _ _ _ pick hI t q)) (zero_add _)
  exact zero_const _

end Cert.ReferenceIdeal.Own
-- ==== Proof.Meet.lean ====
/- The kernel's router and its loss are the reference's. -/
module

public import proofs.«01_k».proof.Proof.RefValue
public import proofs.«01_k».proof.Proof.Math.Sorted

@[expose] public section

set_option maxRecDepth 8000

noncomputable section

namespace Cert.Meet

open Idealize.ShloMosaic Idealize.ShloMosaic.TcCoe Idealize.ShloMosaic.ValueIdx Idealize.ShloMosaic.Routing
open Cert.KernelIdeal.Own Cert.ReferenceIdeal.Value Cert.Net

/-- The same two arguments of the router. -/
structure Same (V : Valuation Cert.KernelIdeal.τ Cert.KernelIdeal.sig (Elt Ideal)) (V0 : Valuation Cert.ReferenceIdeal.τ Cert.ReferenceIdeal.sig (Elt Ideal)) : Prop where
  a0 : (V0 (Proc.devRef .tc Cert.ReferenceIdeal.main_arg0) : (⟨3, ![4, 2048, 2048]⟩ : Shape).Idx → EReal) = h_arg0 V
  a1 : (V0 (Proc.devRef .tc Cert.ReferenceIdeal.main_arg1) : (⟨2, ![2048, 8]⟩ : Shape).Idx → EReal) = h_arg1 V

variable {V : Valuation Cert.KernelIdeal.τ Cert.KernelIdeal.sig (Elt Ideal)} {V0 : Valuation Cert.ReferenceIdeal.τ Cert.ReferenceIdeal.sig (Elt Ideal)}

/-- The tokens. -/
theorem same_x (S : Same V V0) : res_main_v0 V0 = h_v0 V := by
  unfold res_main_v0
  rw [h_v0_eq]
  exact congrArg (fun x => shapeCast Cert.KernelIdeal.S8192x2048 x Cert.KernelIdeal.Gen.shapeCasts_S4x2048x2048_S8192x2048) S.a0

/-- The router's scores. -/
theorem same_scores (S : Same V V0) : res_main_v1 V0 = h_v1 V := by
  unfold res_main_v1
  rw [h_v1_eq, same_x S]
  exact congrArg (fun x => Host.dotGeneral Cert.KernelIdeal.dot_S8192x2048_S2048x8_S8192x8_1_0_0_1_n_n none (h_v0 V) x) S.a1

/-- The exponentials of the scores. -/
theorem same_exp (S : Same V V0) : res_main_v8 V0 = h_v8 V := by
  unfold res_main_v8
  rw [h_v8_eq, h_v7_eq, h_v6_eq, h_v5_eq, h_v4_eq, h_v3_eq, h_v2_eq, h_cst_eq, h_cst_0_eq, same_scores S]

/-- The router's probabilities. -/
theorem same_probs (S : Same V V0) : res_main_v12 V0 = h_v12 V := by
  unfold res_main_v12
  rw [h_v12_eq, h_v11_eq, h_v10_eq, h_v9_eq, h_cst_1_eq, same_exp S]

/-- The picks. -/
theorem same_picks (S : Same V V0) : res_main_indices V0 = h_indices V := by
  unfold res_main_indices
  rw [h_indices_eq, same_probs S]

/-- The picks' probabilities. -/
theorem same_values (S : Same V V0) : res_main_values V0 = h_values V := by
  unfold res_main_values
  rw [h_values_eq, same_probs S]

/-- The picks' weights. -/
theorem same_weights (S : Same V V0) : res_main_v16 V0 = h_v16 V := by
  unfold res_main_v16
  rw [h_v16_eq, h_v15_eq, h_v14_eq, h_v13_eq, h_cst_2_eq, same_values S]

/-- How many picks name an expert, counted token by token. -/
theorem cnt_sum (pick : Fin 8192 → Fin 2 → Fin 8) (e : Fin 8) :
    ((cnt pick e.val : ℕ) : EReal) = ∑ t : Fin 8192, ∑ k : Fin 2, (if pick t k = e then 1 else 0 : EReal) := by
  have c : cnt pick e.val = ∑ t : Fin 8192, ∑ k : Fin 2, (if pick t k = e then 1 else 0) := by
    unfold cnt
    rw [Finset.card_filter, ← Fintype.sum_prod_type' (f := fun (t : Fin 8192) (k : Fin 2) => if pick t k = e then 1 else 0)]
    refine Fintype.sum_equiv (finProdFinEquiv (m := 8192) (n := 2)).symm _ _ fun p => ?_
    refine if_congr ?_ rfl rfl
    unfold eid
    rw [Fin.ext_iff]
    exact Iff.rfl
  rw [c]
  simp only [Nat.cast_sum, Nat.cast_ite, Nat.cast_one, Nat.cast_zero]

/-- A natural number read as an integer, then as a real number. -/
theorem whole_num (n : ℕ) : (((n : ℤ) : ℝ) : EReal) = (n : EReal) := by simp

/-- The counts as numbers. -/
theorem same_counts (S : Same V V0) {pick : Fin 8192 → Fin 2 → Fin 8} {π : Equiv.Perm (Fin 16384)} (R : Picks V pick π) :
    (Host.reduceAdd (F := Ideal) (φ := .f32) (Host.reduceAdd (uitofp .f32 (cmpi .eq (broadcastInDim Cert.ReferenceIdeal.S8192x2x8 ![0, 1, 2] Cert.ReferenceIdeal.Gen.bcast_S8192x2x1_S8192x2x8_0_1_2 (broadcastInDim Cert.ReferenceIdeal.S8192x2x1 ![0, 1] Cert.ReferenceIdeal.Gen.bcast_S8192x2_S8192x2x1_0_1 (res_main_indices V0))) (broadcastInDim Cert.ReferenceIdeal.S8192x2x8 ![0, 1, 2] Cert.ReferenceIdeal.Gen.bcast_S1x1x8_S8192x2x8_0_1_2 (iotaInDim Cert.ReferenceIdeal.S1x1x8 32 2)))) (constant Cert.ReferenceIdeal.S_ .f32 0x00000000#32) Cert.ReferenceIdeal.Gen.reducesTo_S8192x2x8_S8192x8_d1 Cert.ReferenceIdeal.Gen.h_S_) (constant Cert.ReferenceIdeal.S_ .f32 0x00000000#32) Cert.ReferenceIdeal.Gen.reducesTo_S8192x8_S8_d0 Cert.ReferenceIdeal.Gen.h_S_)
      = h_v28 V := by
  rw [same_picks S]
  funext i
  obtain ⟨e, rfl⟩ : ∃ e : Fin 8, i = ix1 e := ⟨i 0, funext fun d => by match d with | ⟨0, _⟩ => rfl⟩
  refine (sum_col (a := 8192) (b := 8) _ _ _ e).trans ?_
  have r : h_v28 V (ix1 e) = ((cnt pick e.val : ℕ) : EReal) := by
    rw [h_v28_eq]
    refine Eq.trans (b := (((h_v27 V (ix1 e)).toInt : ℝ) : EReal)) rfl ?_
    rw [count_word R e]
    have l : cnt pick e.val ≤ 16384 := by
      unfold cnt
      exact (Finset.card_le_univ _).trans_eq (Fintype.card_fin _)
    rw [BitVec.toInt_eq_toNat_cond, BitVec.toNat_ofNat, if_pos (by omega), Nat.mod_eq_of_lt (by omega)]
    exact whole_num _
  rw [r, cnt_sum]
  refine Finset.sum_congr rfl fun t _ => ?_
  refine (sum_mid (a := 8192) (b := 2) (c := 8) _ _ _ t e).trans ?_
  refine Finset.sum_congr rfl fun k _ => ?_
  refine (bit_num _ _ _).trans ?_
  have p : broadcastInDim Cert.ReferenceIdeal.S8192x2x8 ![0, 1, 2] Cert.ReferenceIdeal.Gen.bcast_S8192x2x1_S8192x2x8_0_1_2 (broadcastInDim Cert.ReferenceIdeal.S8192x2x1 ![0, 1] Cert.ReferenceIdeal.Gen.bcast_S8192x2_S8192x2x1_0_1 (h_indices V)) (ix3 t k e) = BitVec.ofNat 32 (pick t k).val := by
    refine Eq.trans ?_ (R.ids t k)
    refine (broadcastInDim_apply _ _ _ _ (ix3 t k (0 : Fin 1)) ?_).trans (broadcastInDim_apply _ _ _ _ (ix2 t k) ?_)
    · intro a
      match a with
      | ⟨0, _⟩ => rfl
      | ⟨1, _⟩ => rfl
      | ⟨2, _⟩ => rfl
    · intro a
      match a with
      | ⟨0, _⟩ => rfl
      | ⟨1, _⟩ => rfl
  have q : broadcastInDim Cert.ReferenceIdeal.S8192x2x8 ![0, 1, 2] Cert.ReferenceIdeal.Gen.bcast_S1x1x8_S8192x2x8_0_1_2 (iotaInDim Cert.ReferenceIdeal.S1x1x8 32 2) (ix3 t k e) = BitVec.ofNat 32 e.val := by
    refine (broadcastInDim_apply _ _ _ _ (ix3 (0 : Fin 1) (0 : Fin 1) e) ?_).trans rfl
    intro a
    match a with
    | ⟨0, _⟩ => rfl
    | ⟨1, _⟩ => rfl
    | ⟨2, _⟩ => rfl
  refine if_congr ?_ rfl rfl
  refine (iff_of_eq (congrArg₂ (· = ·) p q)).trans ⟨fun h => ?_, fun h => by rw [h]⟩
  have := congrArg BitVec.toNat h
  rw [BitVec.toNat_ofNat, BitVec.toNat_ofNat] at this
  have := (pick t k).isLt
  have := e.isLt
  exact Fin.ext (by omega)

/-- The loss. -/
theorem same_loss (S : Same V V0) {pick : Fin 8192 → Fin 2 → Fin 8} {π : Equiv.Perm (Fin 16384)} (R : Picks V pick π) :
    (mulf (F := Ideal) (φ := .f32) (constant Cert.ReferenceIdeal.S_ .f32 0x41000000#32) (Host.reduceAdd (mulf (Host.divf (Host.reduceAdd (Host.reduceAdd (uitofp .f32 (cmpi .eq (broadcastInDim Cert.ReferenceIdeal.S8192x2x8 ![0, 1, 2] Cert.ReferenceIdeal.Gen.bcast_S8192x2x1_S8192x2x8_0_1_2 (broadcastInDim Cert.ReferenceIdeal.S8192x2x1 ![0, 1] Cert.ReferenceIdeal.Gen.bcast_S8192x2_S8192x2x1_0_1 (res_main_indices V0))) (broadcastInDim Cert.ReferenceIdeal.S8192x2x8 ![0, 1, 2] Cert.ReferenceIdeal.Gen.bcast_S1x1x8_S8192x2x8_0_1_2 (iotaInDim Cert.ReferenceIdeal.S1x1x8 32 2)))) (constant Cert.ReferenceIdeal.S_ .f32 0x00000000#32) Cert.ReferenceIdeal.Gen.reducesTo_S8192x2x8_S8192x8_d1 Cert.ReferenceIdeal.Gen.h_S_) (constant Cert.ReferenceIdeal.S_ .f32 0x00000000#32) Cert.ReferenceIdeal.Gen.reducesTo_S8192x8_S8_d0 Cert.ReferenceIdeal.Gen.h_S_) (broadcastInDim Cert.ReferenceIdeal.S8 ![] Cert.ReferenceIdeal.Gen.bcast_S_S8 (constant Cert.ReferenceIdeal.S_ .f32 0x46800000#32))) (Host.divf (Host.reduceAdd (res_main_v12 V0) (constant Cert.ReferenceIdeal.S_ .f32 0x00000000#32) Cert.ReferenceIdeal.Gen.reducesTo_S8192x8_S8_d0 Cert.ReferenceIdeal.Gen.h_S_) (broadcastInDim Cert.ReferenceIdeal.S8 ![] Cert.ReferenceIdeal.Gen.bcast_S_S8 (constant Cert.ReferenceIdeal.S_ .f32 0x46000000#32)))) (constant Cert.ReferenceIdeal.S_ .f32 0x00000000#32) Cert.ReferenceIdeal.Gen.reducesTo_S8_S_d0 Cert.ReferenceIdeal.Gen.h_S_))
      = h_v36 V := by
  rw [same_counts S R, same_probs S]
  rw [h_v36_eq, h_v35_eq, h_v34_eq, h_v33_eq, h_v32_eq, h_v31_eq, h_v30_eq, h_v29_eq, h_cst_7_eq, h_cst_8_eq, h_cst_9_eq, h_cst_10_eq, h_cst_11_eq]

end Cert.Meet
-- ==== Proof.Algebraic.lean ====
/- Over the extended reals the kernel and the reference end with equal results. -/
module

public import proofs.«01_k».proof.Proof.IFrame.Whole
public import proofs.«01_k».proof.Proof.Meet
public import proofs.«01_k».proof.Defs

@[expose] public section

set_option maxRecDepth 8000

noncomputable section

namespace Cert.Meet

open Idealize.ShloMosaic Idealize.ShloMosaic.TcCoe Idealize.ShloMosaic.ValueIdx Idealize.SL.Sem
open Cert.KernelIdeal.Own Cert.ReferenceIdeal.Value Cert.Net

/-- The same five arguments. -/
structure SameAll (V : Valuation Cert.KernelIdeal.τ Cert.KernelIdeal.sig (Elt Ideal)) (V0 : Valuation Cert.ReferenceIdeal.τ Cert.ReferenceIdeal.sig (Elt Ideal)) : Prop extends Same V V0 where
  a2 : (V0 (Proc.devRef .tc Cert.ReferenceIdeal.main_arg2) : (⟨3, ![8, 2048, 5632]⟩ : Shape).Idx → EReal) = h_arg2 V
  a3 : (V0 (Proc.devRef .tc Cert.ReferenceIdeal.main_arg3) : (⟨3, ![8, 2048, 5632]⟩ : Shape).Idx → EReal) = h_arg3 V
  a4 : (V0 (Proc.devRef .tc Cert.ReferenceIdeal.main_arg4) : (⟨3, ![8, 5632, 2048]⟩ : Shape).Idx → EReal) = h_arg4 V

/-- The rows of the two programs are equal. -/
theorem same_rows (m : (ℓ : Loc Cert.KernelIdeal.nD Cert.KernelIdeal.τ Cert.KernelIdeal.sig) → Buf (Elt Ideal) ℓ) (c : Dev Cert.KernelIdeal.nD)
    {V0 : Valuation Cert.ReferenceIdeal.τ Cert.ReferenceIdeal.sig (Elt Ideal)} (S : SameAll (launchV m c) V0)
    {pick : Fin 8192 → Fin 2 → Fin 8} {π : Equiv.Perm (Fin 16384)} (R : Picks (launchV m c) pick π) :
    combined (grouped (h_v181 (launchV m c)) (h_v182 (launchV m c)) (h_v183 (launchV m c)) (h_v184 (launchV m c)) (ownOf pick π)) (h_v47 (launchV m c)) (h_v57 (launchV m c))
      = res_main_v188 V0 := by
  funext i
  obtain ⟨t, q, rfl⟩ := split2 i
  refine (tail_rows m c R t q _ rfl).trans (Cert.ReferenceIdeal.Own.ref_rows V0 pick (fun t k => ?_) R.ne (h_v0 (launchV m c)) (h_arg2 (launchV m c)) (h_arg3 (launchV m c)) (h_arg4 (launchV m c)) (h_v16 (launchV m c))
    (same_x S.toSame) S.a2 S.a3 S.a4 (same_weights S.toSame) t q).symm
  rw [same_picks S.toSame]
  exact R.ids t k

/-- Argument 0 stays what it was. -/
theorem arg_0 (V : Valuation Cert.KernelIdeal.τ Cert.KernelIdeal.sig (Elt Ideal)) : h_arg0 V = V (Proc.devRef .tc Cert.KernelIdeal.main_arg0) := h_arg0_left V

/-- Argument 1 stays what it was. -/
theorem arg_1 (V : Valuation Cert.KernelIdeal.τ Cert.KernelIdeal.sig (Elt Ideal)) : h_arg1 V = V (Proc.devRef .tc Cert.KernelIdeal.main_arg1) := h_arg1_left V

/-- Argument 2 stays what it was. -/
theorem arg_2 (V : Valuation Cert.KernelIdeal.τ Cert.KernelIdeal.sig (Elt Ideal)) : h_arg2 V = V (Proc.devRef .tc Cert.KernelIdeal.main_arg2) := h_arg2_left V

/-- Argument 3 stays what it was. -/
theorem arg_3 (V : Valuation Cert.KernelIdeal.τ Cert.KernelIdeal.sig (Elt Ideal)) : h_arg3 V = V (Proc.devRef .tc Cert.KernelIdeal.main_arg3) := h_arg3_left V

/-- Argument 4 stays what it was. -/
theorem arg_4 (V : Valuation Cert.KernelIdeal.τ Cert.KernelIdeal.sig (Elt Ideal)) : h_arg4 V = V (Proc.devRef .tc Cert.KernelIdeal.main_arg4) := h_arg4_left V

/-- Launch memories that agree on the arguments hold the same five arguments. -/
theorem same_all (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hA : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)))
    (c : Dev Cert.KernelIdeal.nD) : SameAll (launchV m c) (StableHlo.launchContents m' c) := by
  obtain ⟨h0, h1, h2, h3, h4⟩ := hA c
  refine ⟨⟨?_, ?_⟩, ?_, ?_, ?_⟩
  · rw [arg_0]
    exact h0
  · rw [arg_1]
    exact h1
  · rw [arg_2]
    exact h2
  · rw [arg_3]
    exact h3
  · rw [arg_4]
    exact h4

/-- Both programs run, end with equal results, and leave their arguments unchanged. -/
theorem algebraic : Cert.algebraic_KernelIdeal_ReferenceIdeal (hKernelIdeal := Cert.KernelIdeal.Gen.facts) (hReferenceIdeal := Cert.ReferenceIdeal.Gen.facts) := by
  intro m g m' g' _ hA
  have S := same_all m m' hA
  refine ⟨fun c => shapeCast Cert.KernelIdeal.S4x2048x2048 (res_main_v188 (StableHlo.launchContents m' c)) Cert.KernelIdeal.Gen.shapeCasts_S8192x2048_S4x2048x2048,
    fun c => h_v36 (launchV m c), ?_, ?_⟩
  · refine (θ_run Cert.KernelIdeal.defs _ _).mono (fun r h c => ?_) (whole m g)
    obtain ⟨pick, π, R⟩ := exists_picks (launchV m c)
    have hc := h.1 c
    refine ⟨(hc.1 pick π R).trans ?_, hc.2⟩
    exact congrArg (fun x => shapeCast Cert.KernelIdeal.S4x2048x2048 x Cert.KernelIdeal.Gen.shapeCasts_S8192x2048_S4x2048x2048) (same_rows m c (S c) R)
  · refine (θ_run Cert.ReferenceIdeal.defs _ _).mono (fun r h c => ?_) (run (F := Ideal) m' g')
    obtain ⟨pick, π, R⟩ := exists_picks (launchV m c)
    have hc := h c
    exact ⟨hc.1, hc.2.1.trans (same_loss (S c).toSame R), hc.2.2⟩

end Cert.Meet

end
-- ==== Proof.lean ====
/- The claim: the frames of the three programs, that idealizing keeps the kernel's program, and that over the extended reals the
   kernel's results are the reference's. -/
module

public import proofs.«01_k».proof.Defs
public import proofs.«01_k».proof.Proof.Frames
public import proofs.«01_k».proof.Proof.Algebraic

@[expose] public section

noncomputable section

namespace Cert.Proof

open Idealize.ShloMosaic Idealize.SL.Sem Cert.Kernel

/-- The claim of this certificate. -/
theorem claim : Cert.Claim := ⟨Cert.Kernel.Gen.facts, Cert.KernelIdeal.Gen.facts, Cert.ReferenceIdeal.Gen.facts,
  Cert.Own.frame_k, Cert.Own.frame_ki, Cert.Own.frame_ri, trivial, Cert.Meet.algebraic⟩

end Cert.Proof

end
